-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9)
      ∧ r.2.mem ((c.tc : Thread Cert.Kernel13.nD Cert.Kernel13.τ).loc Cert.Kernel13.main_arg10) = m ((c.tc : Thread Cert.Kernel13.nD Cert.Kernel13.τ).loc Cert.Kernel13.main_arg10)
      ∧ r.2.mem ((c.tc : Thread Cert.Kernel13.nD Cert.Kernel13.τ).loc Cert.Kernel13.main_arg11) = m ((c.tc : Thread Cert.Kernel13.nD Cert.Kernel13.τ).loc Cert.Kernel13.main_arg11)
      ∧ r.2.mem ((c.tc : Thread Cert.Kernel13.nD Cert.Kernel13.τ).loc Cert.Kernel13.main_arg12) = m ((c.tc : Thread Cert.Kernel13.nD Cert.Kernel13.τ).loc Cert.Kernel13.main_arg12)
      ∧ r.2.mem ((c.tc : Thread Cert.Kernel13.nD Cert.Kernel13.τ).loc Cert.Kernel13.main_arg13) = m ((c.tc : Thread Cert.Kernel13.nD Cert.Kernel13.τ).loc Cert.Kernel13.main_arg13)
      ∧ r.2.mem ((c.tc : Thread Cert.Kernel13.nD Cert.Kernel13.τ).loc Cert.Kernel13.main_arg14) = m ((c.tc : Thread Cert.Kernel13.nD Cert.Kernel13.τ).loc Cert.Kernel13.main_arg14)
      ∧ r.2.mem ((c.tc : Thread Cert.Kernel13.nD Cert.Kernel13.τ).loc Cert.Kernel13.main_arg15) = m ((c.tc : Thread Cert.Kernel13.nD Cert.Kernel13.τ).loc Cert.Kernel13.main_arg15)
      ∧ r.2.mem ((c.tc : Thread Cert.Kernel13.nD Cert.Kernel13.τ).loc Cert.Kernel13.main_arg16) = m ((c.tc : Thread Cert.Kernel13.nD Cert.Kernel13.τ).loc Cert.Kernel13.main_arg16)
      ∧ r.2.mem ((c.tc : Thread Cert.Kernel13.nD Cert.Kernel13.τ).loc Cert.Kernel13.main_arg17) = m ((c.tc : Thread Cert.Kernel13.nD Cert.Kernel13.τ).loc Cert.Kernel13.main_arg17)
      ∧ r.2.mem ((c.tc : Thread Cert.Kernel13.nD Cert.Kernel13.τ).loc Cert.Kernel13.main_arg18) = m ((c.tc : Thread Cert.Kernel13.nD Cert.Kernel13.τ).loc Cert.Kernel13.main_arg18)
      ∧ r.2.mem ((c.tc : Thread Cert.Kernel13.nD Cert.Kernel13.τ).loc Cert.Kernel13.main_arg19) = m ((c.tc : Thread Cert.Kernel13.nD Cert.Kernel13.τ).loc Cert.Kernel13.main_arg19)
      ∧ r.2.mem ((c.tc : Thread Cert.Kernel13.nD Cert.Kernel13.τ).loc Cert.Kernel13.main_arg20) = m ((c.tc : Thread Cert.Kernel13.nD Cert.Kernel13.τ).loc Cert.Kernel13.main_arg20)
      ∧ r.2.mem ((c.tc : Thread Cert.Kernel13.nD Cert.Kernel13.τ).loc Cert.Kernel13.main_arg21) = m ((c.tc : Thread Cert.Kernel13.nD Cert.Kernel13.τ).loc Cert.Kernel13.main_arg21)
      ∧ r.2.mem ((c.tc : Thread Cert.Kernel13.nD Cert.Kernel13.τ).loc Cert.Kernel13.main_arg22) = m ((c.tc : Thread Cert.Kernel13.nD Cert.Kernel13.τ).loc Cert.Kernel13.main_arg22)
      ∧ r.2.mem ((c.tc : Thread Cert.Kernel13.nD Cert.Kernel13.τ).loc Cert.Kernel13.main_arg23) = m ((c.tc : Thread Cert.Kernel13.nD Cert.Kernel13.τ).loc Cert.Kernel13.main_arg23)
      ∧ r.2.mem ((c.tc : Thread Cert.Kernel13.nD Cert.Kernel13.τ).loc Cert.Kernel13.main_arg24) = m ((c.tc : Thread Cert.Kernel13.nD Cert.Kernel13.τ).loc Cert.Kernel13.main_arg24)
      ∧ r.2.mem ((c.tc : Thread Cert.Kernel13.nD Cert.Kernel13.τ).loc Cert.Kernel13.main_arg25) = m ((c.tc : Thread Cert.Kernel13.nD Cert.Kernel13.τ).loc Cert.Kernel13.main_arg25)
      ∧ r.2.mem ((c.tc : Thread Cert.Kernel13.nD Cert.Kernel13.τ).loc Cert.Kernel13.main_arg26) = m ((c.tc : Thread Cert.Kernel13.nD Cert.Kernel13.τ).loc Cert.Kernel13.main_arg26)
      ∧ r.2.mem ((c.tc : Thread Cert.Kernel13.nD Cert.Kernel13.τ).loc Cert.Kernel13.main_arg27) = m ((c.tc : Thread Cert.Kernel13.nD Cert.Kernel13.τ).loc Cert.Kernel13.main_arg27)
      ∧ r.2.mem ((c.tc : Thread Cert.Kernel13.nD Cert.Kernel13.τ).loc Cert.Kernel13.main_arg28) = m ((c.tc : Thread Cert.Kernel13.nD Cert.Kernel13.τ).loc Cert.Kernel13.main_arg28)
      ∧ r.2.mem ((c.tc : Thread Cert.Kernel13.nD Cert.Kernel13.τ).loc Cert.Kernel13.main_arg29) = m ((c.tc : Thread Cert.Kernel13.nD Cert.Kernel13.τ).loc Cert.Kernel13.main_arg29)
      ∧ r.2.mem ((c.tc : Thread Cert.Kernel13.nD Cert.Kernel13.τ).loc Cert.Kernel13.main_arg30) = m ((c.tc : Thread Cert.Kernel13.nD Cert.Kernel13.τ).loc Cert.Kernel13.main_arg30)
      ∧ r.2.mem ((c.tc : Thread Cert.Kernel13.nD Cert.Kernel13.τ).loc Cert.Kernel13.main_arg31) = m ((c.tc : Thread Cert.Kernel13.nD Cert.Kernel13.τ).loc Cert.Kernel13.main_arg31)
      ∧ r.2.mem ((c.tc : Thread Cert.Kernel13.nD Cert.Kernel13.τ).loc Cert.Kernel13.main_arg32) = m ((c.tc : Thread Cert.Kernel13.nD Cert.Kernel13.τ).loc Cert.Kernel13.main_arg32)
      ∧ r.2.mem ((c.tc : Thread Cert.Kernel13.nD Cert.Kernel13.τ).loc Cert.Kernel13.main_arg33) = m ((c.tc : Thread Cert.Kernel13.nD Cert.Kernel13.τ).loc Cert.Kernel13.main_arg33)
      ∧ r.2.mem ((c.tc : Thread Cert.Kernel13.nD Cert.Kernel13.τ).loc Cert.Kernel13.main_arg34) = m ((c.tc : Thread Cert.Kernel13.nD Cert.Kernel13.τ).loc Cert.Kernel13.main_arg34)
      ∧ r.2.mem ((c.tc : Thread Cert.Kernel13.nD Cert.Kernel13.τ).loc Cert.Kernel13.main_arg35) = m ((c.tc : Thread Cert.Kernel13.nD Cert.Kernel13.τ).loc Cert.Kernel13.main_arg35))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
      ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
      ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11)
      ∧ r.2.mem ((c.tc : Thread Cert.Kernel13Ideal.nD Cert.Kernel13Ideal.τ).loc Cert.Kernel13Ideal.main_arg12) = m ((c.tc : Thread Cert.Kernel13Ideal.nD Cert.Kernel13Ideal.τ).loc Cert.Kernel13Ideal.main_arg12)
      ∧ r.2.mem ((c.tc : Thread Cert.Kernel13Ideal.nD Cert.Kernel13Ideal.τ).loc Cert.Kernel13Ideal.main_arg13) = m ((c.tc : Thread Cert.Kernel13Ideal.nD Cert.Kernel13Ideal.τ).loc Cert.Kernel13Ideal.main_arg13)
      ∧ r.2.mem ((c.tc : Thread Cert.Kernel13Ideal.nD Cert.Kernel13Ideal.τ).loc Cert.Kernel13Ideal.main_arg14) = m ((c.tc : Thread Cert.Kernel13Ideal.nD Cert.Kernel13Ideal.τ).loc Cert.Kernel13Ideal.main_arg14)
      ∧ r.2.mem ((c.tc : Thread Cert.Kernel13Ideal.nD Cert.Kernel13Ideal.τ).loc Cert.Kernel13Ideal.main_arg15) = m ((c.tc : Thread Cert.Kernel13Ideal.nD Cert.Kernel13Ideal.τ).loc Cert.Kernel13Ideal.main_arg15)
      ∧ r.2.mem ((c.tc : Thread Cert.Kernel13Ideal.nD Cert.Kernel13Ideal.τ).loc Cert.Kernel13Ideal.main_arg16) = m ((c.tc : Thread Cert.Kernel13Ideal.nD Cert.Kernel13Ideal.τ).loc Cert.Kernel13Ideal.main_arg16)
      ∧ r.2.mem ((c.tc : Thread Cert.Kernel13Ideal.nD Cert.Kernel13Ideal.τ).loc Cert.Kernel13Ideal.main_arg17) = m ((c.tc : Thread Cert.Kernel13Ideal.nD Cert.Kernel13Ideal.τ).loc Cert.Kernel13Ideal.main_arg17)
      ∧ r.2.mem ((c.tc : Thread Cert.Kernel13Ideal.nD Cert.Kernel13Ideal.τ).loc Cert.Kernel13Ideal.main_arg18) = m ((c.tc : Thread Cert.Kernel13Ideal.nD Cert.Kernel13Ideal.τ).loc Cert.Kernel13Ideal.main_arg18)
      ∧ r.2.mem ((c.tc : Thread Cert.Kernel13Ideal.nD Cert.Kernel13Ideal.τ).loc Cert.Kernel13Ideal.main_arg19) = m ((c.tc : Thread Cert.Kernel13Ideal.nD Cert.Kernel13Ideal.τ).loc Cert.Kernel13Ideal.main_arg19)
      ∧ r.2.mem ((c.tc : Thread Cert.Kernel13Ideal.nD Cert.Kernel13Ideal.τ).loc Cert.Kernel13Ideal.main_arg20) = m ((c.tc : Thread Cert.Kernel13Ideal.nD Cert.Kernel13Ideal.τ).loc Cert.Kernel13Ideal.main_arg20)
      ∧ r.2.mem ((c.tc : Thread Cert.Kernel13Ideal.nD Cert.Kernel13Ideal.τ).loc Cert.Kernel13Ideal.main_arg21) = m ((c.tc : Thread Cert.Kernel13Ideal.nD Cert.Kernel13Ideal.τ).loc Cert.Kernel13Ideal.main_arg21)
      ∧ r.2.mem ((c.tc : Thread Cert.Kernel13Ideal.nD Cert.Kernel13Ideal.τ).loc Cert.Kernel13Ideal.main_arg22) = m ((c.tc : Thread Cert.Kernel13Ideal.nD Cert.Kernel13Ideal.τ).loc Cert.Kernel13Ideal.main_arg22)
      ∧ r.2.mem ((c.tc : Thread Cert.Kernel13Ideal.nD Cert.Kernel13Ideal.τ).loc Cert.Kernel13Ideal.main_arg23) = m ((c.tc : Thread Cert.Kernel13Ideal.nD Cert.Kernel13Ideal.τ).loc Cert.Kernel13Ideal.main_arg23)
      ∧ r.2.mem ((c.tc : Thread Cert.Kernel13Ideal.nD Cert.Kernel13Ideal.τ).loc Cert.Kernel13Ideal.main_arg24) = m ((c.tc : Thread Cert.Kernel13Ideal.nD Cert.Kernel13Ideal.τ).loc Cert.Kernel13Ideal.main_arg24)
      ∧ r.2.mem ((c.tc : Thread Cert.Kernel13Ideal.nD Cert.Kernel13Ideal.τ).loc Cert.Kernel13Ideal.main_arg25) = m ((c.tc : Thread Cert.Kernel13Ideal.nD Cert.Kernel13Ideal.τ).loc Cert.Kernel13Ideal.main_arg25)
      ∧ r.2.mem ((c.tc : Thread Cert.Kernel13Ideal.nD Cert.Kernel13Ideal.τ).loc Cert.Kernel13Ideal.main_arg26) = m ((c.tc : Thread Cert.Kernel13Ideal.nD Cert.Kernel13Ideal.τ).loc Cert.Kernel13Ideal.main_arg26)
      ∧ r.2.mem ((c.tc : Thread Cert.Kernel13Ideal.nD Cert.Kernel13Ideal.τ).loc Cert.Kernel13Ideal.main_arg27) = m ((c.tc : Thread Cert.Kernel13Ideal.nD Cert.Kernel13Ideal.τ).loc Cert.Kernel13Ideal.main_arg27)
      ∧ r.2.mem ((c.tc : Thread Cert.Kernel13Ideal.nD Cert.Kernel13Ideal.τ).loc Cert.Kernel13Ideal.main_arg28) = m ((c.tc : Thread Cert.Kernel13Ideal.nD Cert.Kernel13Ideal.τ).loc Cert.Kernel13Ideal.main_arg28)
      ∧ r.2.mem ((c.tc : Thread Cert.Kernel13Ideal.nD Cert.Kernel13Ideal.τ).loc Cert.Kernel13Ideal.main_arg29) = m ((c.tc : Thread Cert.Kernel13Ideal.nD Cert.Kernel13Ideal.τ).loc Cert.Kernel13Ideal.main_arg29)
      ∧ r.2.mem ((c.tc : Thread Cert.Kernel13Ideal.nD Cert.Kernel13Ideal.τ).loc Cert.Kernel13Ideal.main_arg30) = m ((c.tc : Thread Cert.Kernel13Ideal.nD Cert.Kernel13Ideal.τ).loc Cert.Kernel13Ideal.main_arg30)
      ∧ r.2.mem ((c.tc : Thread Cert.Kernel13Ideal.nD Cert.Kernel13Ideal.τ).loc Cert.Kernel13Ideal.main_arg31) = m ((c.tc : Thread Cert.Kernel13Ideal.nD Cert.Kernel13Ideal.τ).loc Cert.Kernel13Ideal.main_arg31)
      ∧ r.2.mem ((c.tc : Thread Cert.Kernel13Ideal.nD Cert.Kernel13Ideal.τ).loc Cert.Kernel13Ideal.main_arg32) = m ((c.tc : Thread Cert.Kernel13Ideal.nD Cert.Kernel13Ideal.τ).loc Cert.Kernel13Ideal.main_arg32)
      ∧ r.2.mem ((c.tc : Thread Cert.Kernel13Ideal.nD Cert.Kernel13Ideal.τ).loc Cert.Kernel13Ideal.main_arg33) = m ((c.tc : Thread Cert.Kernel13Ideal.nD Cert.Kernel13Ideal.τ).loc Cert.Kernel13Ideal.main_arg33)
      ∧ r.2.mem ((c.tc : Thread Cert.Kernel13Ideal.nD Cert.Kernel13Ideal.τ).loc Cert.Kernel13Ideal.main_arg34) = m ((c.tc : Thread Cert.Kernel13Ideal.nD Cert.Kernel13Ideal.τ).loc Cert.Kernel13Ideal.main_arg34)
      ∧ r.2.mem ((c.tc : Thread Cert.Kernel13Ideal.nD Cert.Kernel13Ideal.τ).loc Cert.Kernel13Ideal.main_arg35) = m ((c.tc : Thread Cert.Kernel13Ideal.nD Cert.Kernel13Ideal.τ).loc Cert.Kernel13Ideal.main_arg35))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9)
      ∧ r.2.mem ((c.tc : Thread Cert.Reference13Ideal.nD Cert.Reference13Ideal.τ).loc Cert.Reference13Ideal.main_arg10) = m ((c.tc : Thread Cert.Reference13Ideal.nD Cert.Reference13Ideal.τ).loc Cert.Reference13Ideal.main_arg10)
      ∧ r.2.mem ((c.tc : Thread Cert.Reference13Ideal.nD Cert.Reference13Ideal.τ).loc Cert.Reference13Ideal.main_arg11) = m ((c.tc : Thread Cert.Reference13Ideal.nD Cert.Reference13Ideal.τ).loc Cert.Reference13Ideal.main_arg11)
      ∧ r.2.mem ((c.tc : Thread Cert.Reference13Ideal.nD Cert.Reference13Ideal.τ).loc Cert.Reference13Ideal.main_arg12) = m ((c.tc : Thread Cert.Reference13Ideal.nD Cert.Reference13Ideal.τ).loc Cert.Reference13Ideal.main_arg12)
      ∧ r.2.mem ((c.tc : Thread Cert.Reference13Ideal.nD Cert.Reference13Ideal.τ).loc Cert.Reference13Ideal.main_arg13) = m ((c.tc : Thread Cert.Reference13Ideal.nD Cert.Reference13Ideal.τ).loc Cert.Reference13Ideal.main_arg13)
      ∧ r.2.mem ((c.tc : Thread Cert.Reference13Ideal.nD Cert.Reference13Ideal.τ).loc Cert.Reference13Ideal.main_arg14) = m ((c.tc : Thread Cert.Reference13Ideal.nD Cert.Reference13Ideal.τ).loc Cert.Reference13Ideal.main_arg14)
      ∧ r.2.mem ((c.tc : Thread Cert.Reference13Ideal.nD Cert.Reference13Ideal.τ).loc Cert.Reference13Ideal.main_arg15) = m ((c.tc : Thread Cert.Reference13Ideal.nD Cert.Reference13Ideal.τ).loc Cert.Reference13Ideal.main_arg15)
      ∧ r.2.mem ((c.tc : Thread Cert.Reference13Ideal.nD Cert.Reference13Ideal.τ).loc Cert.Reference13Ideal.main_arg16) = m ((c.tc : Thread Cert.Reference13Ideal.nD Cert.Reference13Ideal.τ).loc Cert.Reference13Ideal.main_arg16)
      ∧ r.2.mem ((c.tc : Thread Cert.Reference13Ideal.nD Cert.Reference13Ideal.τ).loc Cert.Reference13Ideal.main_arg17) = m ((c.tc : Thread Cert.Reference13Ideal.nD Cert.Reference13Ideal.τ).loc Cert.Reference13Ideal.main_arg17)
      ∧ r.2.mem ((c.tc : Thread Cert.Reference13Ideal.nD Cert.Reference13Ideal.τ).loc Cert.Reference13Ideal.main_arg18) = m ((c.tc : Thread Cert.Reference13Ideal.nD Cert.Reference13Ideal.τ).loc Cert.Reference13Ideal.main_arg18)
      ∧ r.2.mem ((c.tc : Thread Cert.Reference13Ideal.nD Cert.Reference13Ideal.τ).loc Cert.Reference13Ideal.main_arg19) = m ((c.tc : Thread Cert.Reference13Ideal.nD Cert.Reference13Ideal.τ).loc Cert.Reference13Ideal.main_arg19)
      ∧ r.2.mem ((c.tc : Thread Cert.Reference13Ideal.nD Cert.Reference13Ideal.τ).loc Cert.Reference13Ideal.main_arg20) = m ((c.tc : Thread Cert.Reference13Ideal.nD Cert.Reference13Ideal.τ).loc Cert.Reference13Ideal.main_arg20)
      ∧ r.2.mem ((c.tc : Thread Cert.Reference13Ideal.nD Cert.Reference13Ideal.τ).loc Cert.Reference13Ideal.main_arg21) = m ((c.tc : Thread Cert.Reference13Ideal.nD Cert.Reference13Ideal.τ).loc Cert.Reference13Ideal.main_arg21)
      ∧ r.2.mem ((c.tc : Thread Cert.Reference13Ideal.nD Cert.Reference13Ideal.τ).loc Cert.Reference13Ideal.main_arg22) = m ((c.tc : Thread Cert.Reference13Ideal.nD Cert.Reference13Ideal.τ).loc Cert.Reference13Ideal.main_arg22)
      ∧ r.2.mem ((c.tc : Thread Cert.Reference13Ideal.nD Cert.Reference13Ideal.τ).loc Cert.Reference13Ideal.main_arg23) = m ((c.tc : Thread Cert.Reference13Ideal.nD Cert.Reference13Ideal.τ).loc Cert.Reference13Ideal.main_arg23)
      ∧ r.2.mem ((c.tc : Thread Cert.Reference13Ideal.nD Cert.Reference13Ideal.τ).loc Cert.Reference13Ideal.main_arg24) = m ((c.tc : Thread Cert.Reference13Ideal.nD Cert.Reference13Ideal.τ).loc Cert.Reference13Ideal.main_arg24)
      ∧ r.2.mem ((c.tc : Thread Cert.Reference13Ideal.nD Cert.Reference13Ideal.τ).loc Cert.Reference13Ideal.main_arg25) = m ((c.tc : Thread Cert.Reference13Ideal.nD Cert.Reference13Ideal.τ).loc Cert.Reference13Ideal.main_arg25)
      ∧ r.2.mem ((c.tc : Thread Cert.Reference13Ideal.nD Cert.Reference13Ideal.τ).loc Cert.Reference13Ideal.main_arg26) = m ((c.tc : Thread Cert.Reference13Ideal.nD Cert.Reference13Ideal.τ).loc Cert.Reference13Ideal.main_arg26)
      ∧ r.2.mem ((c.tc : Thread Cert.Reference13Ideal.nD Cert.Reference13Ideal.τ).loc Cert.Reference13Ideal.main_arg27) = m ((c.tc : Thread Cert.Reference13Ideal.nD Cert.Reference13Ideal.τ).loc Cert.Reference13Ideal.main_arg27)
      ∧ r.2.mem ((c.tc : Thread Cert.Reference13Ideal.nD Cert.Reference13Ideal.τ).loc Cert.Reference13Ideal.main_arg28) = m ((c.tc : Thread Cert.Reference13Ideal.nD Cert.Reference13Ideal.τ).loc Cert.Reference13Ideal.main_arg28)
      ∧ r.2.mem ((c.tc : Thread Cert.Reference13Ideal.nD Cert.Reference13Ideal.τ).loc Cert.Reference13Ideal.main_arg29) = m ((c.tc : Thread Cert.Reference13Ideal.nD Cert.Reference13Ideal.τ).loc Cert.Reference13Ideal.main_arg29)
      ∧ r.2.mem ((c.tc : Thread Cert.Reference13Ideal.nD Cert.Reference13Ideal.τ).loc Cert.Reference13Ideal.main_arg30) = m ((c.tc : Thread Cert.Reference13Ideal.nD Cert.Reference13Ideal.τ).loc Cert.Reference13Ideal.main_arg30)
      ∧ r.2.mem ((c.tc : Thread Cert.Reference13Ideal.nD Cert.Reference13Ideal.τ).loc Cert.Reference13Ideal.main_arg31) = m ((c.tc : Thread Cert.Reference13Ideal.nD Cert.Reference13Ideal.τ).loc Cert.Reference13Ideal.main_arg31)
      ∧ r.2.mem ((c.tc : Thread Cert.Reference13Ideal.nD Cert.Reference13Ideal.τ).loc Cert.Reference13Ideal.main_arg32) = m ((c.tc : Thread Cert.Reference13Ideal.nD Cert.Reference13Ideal.τ).loc Cert.Reference13Ideal.main_arg32)
      ∧ r.2.mem ((c.tc : Thread Cert.Reference13Ideal.nD Cert.Reference13Ideal.τ).loc Cert.Reference13Ideal.main_arg33) = m ((c.tc : Thread Cert.Reference13Ideal.nD Cert.Reference13Ideal.τ).loc Cert.Reference13Ideal.main_arg33)
      ∧ r.2.mem ((c.tc : Thread Cert.Reference13Ideal.nD Cert.Reference13Ideal.τ).loc Cert.Reference13Ideal.main_arg34) = m ((c.tc : Thread Cert.Reference13Ideal.nD Cert.Reference13Ideal.τ).loc Cert.Reference13Ideal.main_arg34)
      ∧ r.2.mem ((c.tc : Thread Cert.Reference13Ideal.nD Cert.Reference13Ideal.τ).loc Cert.Reference13Ideal.main_arg35) = m ((c.tc : Thread Cert.Reference13Ideal.nD Cert.Reference13Ideal.τ).loc Cert.Reference13Ideal.main_arg35))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9_1)) (v1 : (c : Dev Cert.KernelIdeal.nD) → Buf (Elt Ideal) ((c.tc : Thread Cert.KernelIdeal.nD Cert.KernelIdeal.τ).loc Cert.KernelIdeal.main_v16_0)) (v2 : (c : Dev Cert.KernelIdeal.nD) → Buf (Elt Ideal) ((c.tc : Thread Cert.KernelIdeal.nD Cert.KernelIdeal.τ).loc Cert.KernelIdeal.main_v19)) (v3 : (c : Dev Cert.KernelIdeal.nD) → Buf (Elt Ideal) ((c.tc : Thread Cert.KernelIdeal.nD Cert.KernelIdeal.τ).loc Cert.KernelIdeal.main_v20)) (v4 : (c : Dev Cert.KernelIdeal.nD) → Buf (Elt Ideal) ((c.tc : Thread Cert.KernelIdeal.nD Cert.KernelIdeal.τ).loc Cert.KernelIdeal.main_v18)) (v5 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_1) = v0 c
          ∧ r.2.mem ((c.tc : Thread Cert.KernelIdeal.nD Cert.KernelIdeal.τ).loc Cert.KernelIdeal.main_v16_0) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_v20) = v3 c
          ∧ r.2.mem ((c.tc : Thread Cert.KernelIdeal.nD Cert.KernelIdeal.τ).loc Cert.KernelIdeal.main_v18) = v4 c
          ∧ r.2.mem ((c.tc : Thread Cert.KernelIdeal.nD Cert.KernelIdeal.τ).loc Cert.KernelIdeal.main_v21) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_v49) = v3 c
          ∧ r.2.mem ((c.tc : Thread Cert.ReferenceIdeal.nD Cert.ReferenceIdeal.τ).loc Cert.ReferenceIdeal.main_v72) = v4 c
          ∧ r.2.mem ((c.tc : Thread Cert.ReferenceIdeal.nD Cert.ReferenceIdeal.τ).loc Cert.ReferenceIdeal.main_v65) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4_1)) (v1 : (c : Dev Cert.Kernel2Ideal.nD) → Buf (Elt Ideal) ((c.tc : Thread Cert.Kernel2Ideal.nD Cert.Kernel2Ideal.τ).loc Cert.Kernel2Ideal.main_v7_0)) (v2 : (c : Dev Cert.Kernel2Ideal.nD) → Buf (Elt Ideal) ((c.tc : Thread Cert.Kernel2Ideal.nD Cert.Kernel2Ideal.τ).loc Cert.Kernel2Ideal.main_v8)) (v3 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_1) = v0 c
          ∧ r.2.mem ((c.tc : Thread Cert.Kernel2Ideal.nD Cert.Kernel2Ideal.τ).loc Cert.Kernel2Ideal.main_v7_0) = v1 c
          ∧ r.2.mem ((c.tc : Thread Cert.Kernel2Ideal.nD Cert.Kernel2Ideal.τ).loc Cert.Kernel2Ideal.main_v8) = v2 c
          ∧ r.2.mem ((c.tc : Thread Cert.Kernel2Ideal.nD Cert.Kernel2Ideal.τ).loc Cert.Kernel2Ideal.main_v10) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v41) = v1 c
          ∧ r.2.mem ((c.tc : Thread Cert.Reference2Ideal.nD Cert.Reference2Ideal.τ).loc Cert.Reference2Ideal.main_v26) = v2 c
          ∧ r.2.mem ((c.tc : Thread Cert.Reference2Ideal.nD Cert.Reference2Ideal.τ).loc Cert.Reference2Ideal.main_v19) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v74) = v0 c
          ∧ r.2.mem ((c.tc : Thread Cert.Reference3Ideal.nD Cert.Reference3Ideal.τ).loc Cert.Reference3Ideal.main_v75) = v1 c
          ∧ r.2.mem ((c.tc : Thread Cert.Reference3Ideal.nD Cert.Reference3Ideal.τ).loc Cert.Reference3Ideal.main_v76) = v2 c
          ∧ r.2.mem ((c.tc : Thread Cert.Reference3Ideal.nD Cert.Reference3Ideal.τ).loc Cert.Reference3Ideal.main_v77) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2_1)) (v1 : (c : Dev Cert.Kernel4Ideal.nD) → Buf (Elt Ideal) ((c.tc : Thread Cert.Kernel4Ideal.nD Cert.Kernel4Ideal.τ).loc Cert.Kernel4Ideal.main_v4_2)) (v2 : (c : Dev Cert.Kernel4Ideal.nD) → Buf (Elt Ideal) ((c.tc : Thread Cert.Kernel4Ideal.nD Cert.Kernel4Ideal.τ).loc Cert.Kernel4Ideal.main_v6)) (v3 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_1) = v0 c
          ∧ r.2.mem ((c.tc : Thread Cert.Kernel4Ideal.nD Cert.Kernel4Ideal.τ).loc Cert.Kernel4Ideal.main_v4_2) = v1 c
          ∧ r.2.mem ((c.tc : Thread Cert.Kernel4Ideal.nD Cert.Kernel4Ideal.τ).loc Cert.Kernel4Ideal.main_v6) = v2 c
          ∧ r.2.mem ((c.tc : Thread Cert.Kernel4Ideal.nD Cert.Kernel4Ideal.τ).loc Cert.Kernel4Ideal.main_v7) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v43) = v1 c
          ∧ r.2.mem ((c.tc : Thread Cert.Reference4Ideal.nD Cert.Reference4Ideal.τ).loc Cert.Reference4Ideal.main_v25) = v2 c
          ∧ r.2.mem ((c.tc : Thread Cert.Reference4Ideal.nD Cert.Reference4Ideal.τ).loc Cert.Reference4Ideal.main_v41) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4_1)) (v1 : (c : Dev Cert.Kernel6Ideal.nD) → Buf (Elt Ideal) ((c.tc : Thread Cert.Kernel6Ideal.nD Cert.Kernel6Ideal.τ).loc Cert.Kernel6Ideal.main_v7_0)) (v2 : (c : Dev Cert.Kernel6Ideal.nD) → Buf (Elt Ideal) ((c.tc : Thread Cert.Kernel6Ideal.nD Cert.Kernel6Ideal.τ).loc Cert.Kernel6Ideal.main_v8)) (v3 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_1) = v0 c
          ∧ r.2.mem ((c.tc : Thread Cert.Kernel6Ideal.nD Cert.Kernel6Ideal.τ).loc Cert.Kernel6Ideal.main_v7_0) = v1 c
          ∧ r.2.mem ((c.tc : Thread Cert.Kernel6Ideal.nD Cert.Kernel6Ideal.τ).loc Cert.Kernel6Ideal.main_v8) = v2 c
          ∧ r.2.mem ((c.tc : Thread Cert.Kernel6Ideal.nD Cert.Kernel6Ideal.τ).loc Cert.Kernel6Ideal.main_v10) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v42) = v0 c
          ∧ r.2.mem ((c.tc : Thread Cert.Reference6Ideal.nD Cert.Reference6Ideal.τ).loc Cert.Reference6Ideal.main_v41) = v1 c
          ∧ r.2.mem ((c.tc : Thread Cert.Reference6Ideal.nD Cert.Reference6Ideal.τ).loc Cert.Reference6Ideal.main_v26) = v2 c
          ∧ r.2.mem ((c.tc : Thread Cert.Reference6Ideal.nD Cert.Reference6Ideal.τ).loc Cert.Reference6Ideal.main_v19) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)) (v3 : (c : Dev Cert.Kernel7Ideal.nD) → Buf (Elt Ideal) ((c.tc : Thread Cert.Kernel7Ideal.nD Cert.Kernel7Ideal.τ).loc Cert.Kernel7Ideal.main_v4_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_v4_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_v25) = v1 c
          ∧ r.2.mem ((c.tc : Thread Cert.Reference7Ideal.nD Cert.Reference7Ideal.τ).loc Cert.Reference7Ideal.main_v26) = v2 c
          ∧ r.2.mem ((c.tc : Thread Cert.Reference7Ideal.nD Cert.Reference7Ideal.τ).loc Cert.Reference7Ideal.main_v27) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)) (v3 : (c : Dev Cert.Kernel8Ideal.nD) → Buf (Elt Ideal) ((c.tc : Thread Cert.Kernel8Ideal.nD Cert.Kernel8Ideal.τ).loc Cert.Kernel8Ideal.main_v4_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_v4_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v26) = v2 c
          ∧ r.2.mem ((c.tc : Thread Cert.Reference8Ideal.nD Cert.Reference8Ideal.τ).loc Cert.Reference8Ideal.main_v27) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)) (v2 : (c : Dev Cert.Kernel9Ideal.nD) → Buf (Elt Ideal) ((c.tc : Thread Cert.Kernel9Ideal.nD Cert.Kernel9Ideal.τ).loc Cert.Kernel9Ideal.main_v4_2)) (v3 : (c : Dev Cert.Kernel9Ideal.nD) → Buf (Elt Ideal) ((c.tc : Thread Cert.Kernel9Ideal.nD Cert.Kernel9Ideal.τ).loc Cert.Kernel9Ideal.main_v4_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_v4_2) = v2 c
          ∧ r.2.mem ((c.tc : Thread Cert.Kernel9Ideal.nD Cert.Kernel9Ideal.τ).loc Cert.Kernel9Ideal.main_v4_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v26) = v2 c
          ∧ r.2.mem ((c.tc : Thread Cert.Reference9Ideal.nD Cert.Reference9Ideal.τ).loc Cert.Reference9Ideal.main_v27) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)) (v3 : (c : Dev Cert.Kernel10Ideal.nD) → Buf (Elt Ideal) ((c.tc : Thread Cert.Kernel10Ideal.nD Cert.Kernel10Ideal.τ).loc Cert.Kernel10Ideal.main_v4_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_v4_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_v26) = v2 c
          ∧ r.2.mem ((c.tc : Thread Cert.Reference10Ideal.nD Cert.Reference10Ideal.τ).loc Cert.Reference10Ideal.main_v27) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)) (v2 : (c : Dev Cert.Kernel11Ideal.nD) → Buf (Elt Ideal) ((c.tc : Thread Cert.Kernel11Ideal.nD Cert.Kernel11Ideal.τ).loc Cert.Kernel11Ideal.main_v4_2)) (v3 : (c : Dev Cert.Kernel11Ideal.nD) → Buf (Elt Ideal) ((c.tc : Thread Cert.Kernel11Ideal.nD Cert.Kernel11Ideal.τ).loc Cert.Kernel11Ideal.main_v4_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_v4_2) = v2 c
          ∧ r.2.mem ((c.tc : Thread Cert.Kernel11Ideal.nD Cert.Kernel11Ideal.τ).loc Cert.Kernel11Ideal.main_v4_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v26) = v2 c
          ∧ r.2.mem ((c.tc : Thread Cert.Reference11Ideal.nD Cert.Reference11Ideal.τ).loc Cert.Reference11Ideal.main_v27) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)) (v2 : (c : Dev Cert.Kernel12Ideal.nD) → Buf (Elt Ideal) ((c.tc : Thread Cert.Kernel12Ideal.nD Cert.Kernel12Ideal.τ).loc Cert.Kernel12Ideal.main_v1_2)) (v3 : (c : Dev Cert.Kernel12Ideal.nD) → Buf (Elt Ideal) ((c.tc : Thread Cert.Kernel12Ideal.nD Cert.Kernel12Ideal.τ).loc Cert.Kernel12Ideal.main_v1_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_v1_2) = v2 c
          ∧ r.2.mem ((c.tc : Thread Cert.Kernel12Ideal.nD Cert.Kernel12Ideal.τ).loc Cert.Kernel12Ideal.main_v1_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_v24) = v1 c
          ∧ r.2.mem ((c.tc : Thread Cert.Reference12Ideal.nD Cert.Reference12Ideal.τ).loc Cert.Reference12Ideal.main_v5) = v2 c
          ∧ r.2.mem ((c.tc : Thread Cert.Reference12Ideal.nD Cert.Reference12Ideal.τ).loc Cert.Reference12Ideal.main_v11) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)
      ∧ m' ((c.tc : Thread Cert.Reference13Ideal.nD Cert.Reference13Ideal.τ).loc Cert.Reference13Ideal.main_arg10) = m ((c.tc : Thread Cert.Kernel13Ideal.nD Cert.Kernel13Ideal.τ).loc Cert.Kernel13Ideal.main_arg10)
      ∧ m' ((c.tc : Thread Cert.Reference13Ideal.nD Cert.Reference13Ideal.τ).loc Cert.Reference13Ideal.main_arg11) = m ((c.tc : Thread Cert.Kernel13Ideal.nD Cert.Kernel13Ideal.τ).loc Cert.Kernel13Ideal.main_arg11)
      ∧ m' ((c.tc : Thread Cert.Reference13Ideal.nD Cert.Reference13Ideal.τ).loc Cert.Reference13Ideal.main_arg12) = m ((c.tc : Thread Cert.Kernel13Ideal.nD Cert.Kernel13Ideal.τ).loc Cert.Kernel13Ideal.main_arg12)
      ∧ m' ((c.tc : Thread Cert.Reference13Ideal.nD Cert.Reference13Ideal.τ).loc Cert.Reference13Ideal.main_arg13) = m ((c.tc : Thread Cert.Kernel13Ideal.nD Cert.Kernel13Ideal.τ).loc Cert.Kernel13Ideal.main_arg13)
      ∧ m' ((c.tc : Thread Cert.Reference13Ideal.nD Cert.Reference13Ideal.τ).loc Cert.Reference13Ideal.main_arg14) = m ((c.tc : Thread Cert.Kernel13Ideal.nD Cert.Kernel13Ideal.τ).loc Cert.Kernel13Ideal.main_arg14)
      ∧ m' ((c.tc : Thread Cert.Reference13Ideal.nD Cert.Reference13Ideal.τ).loc Cert.Reference13Ideal.main_arg15) = m ((c.tc : Thread Cert.Kernel13Ideal.nD Cert.Kernel13Ideal.τ).loc Cert.Kernel13Ideal.main_arg15)
      ∧ m' ((c.tc : Thread Cert.Reference13Ideal.nD Cert.Reference13Ideal.τ).loc Cert.Reference13Ideal.main_arg16) = m ((c.tc : Thread Cert.Kernel13Ideal.nD Cert.Kernel13Ideal.τ).loc Cert.Kernel13Ideal.main_arg16)
      ∧ m' ((c.tc : Thread Cert.Reference13Ideal.nD Cert.Reference13Ideal.τ).loc Cert.Reference13Ideal.main_arg17) = m ((c.tc : Thread Cert.Kernel13Ideal.nD Cert.Kernel13Ideal.τ).loc Cert.Kernel13Ideal.main_arg17)
      ∧ m' ((c.tc : Thread Cert.Reference13Ideal.nD Cert.Reference13Ideal.τ).loc Cert.Reference13Ideal.main_arg18) = m ((c.tc : Thread Cert.Kernel13Ideal.nD Cert.Kernel13Ideal.τ).loc Cert.Kernel13Ideal.main_arg18)
      ∧ m' ((c.tc : Thread Cert.Reference13Ideal.nD Cert.Reference13Ideal.τ).loc Cert.Reference13Ideal.main_arg19) = m ((c.tc : Thread Cert.Kernel13Ideal.nD Cert.Kernel13Ideal.τ).loc Cert.Kernel13Ideal.main_arg19)
      ∧ m' ((c.tc : Thread Cert.Reference13Ideal.nD Cert.Reference13Ideal.τ).loc Cert.Reference13Ideal.main_arg20) = m ((c.tc : Thread Cert.Kernel13Ideal.nD Cert.Kernel13Ideal.τ).loc Cert.Kernel13Ideal.main_arg20)
      ∧ m' ((c.tc : Thread Cert.Reference13Ideal.nD Cert.Reference13Ideal.τ).loc Cert.Reference13Ideal.main_arg21) = m ((c.tc : Thread Cert.Kernel13Ideal.nD Cert.Kernel13Ideal.τ).loc Cert.Kernel13Ideal.main_arg21)
      ∧ m' ((c.tc : Thread Cert.Reference13Ideal.nD Cert.Reference13Ideal.τ).loc Cert.Reference13Ideal.main_arg22) = m ((c.tc : Thread Cert.Kernel13Ideal.nD Cert.Kernel13Ideal.τ).loc Cert.Kernel13Ideal.main_arg22)
      ∧ m' ((c.tc : Thread Cert.Reference13Ideal.nD Cert.Reference13Ideal.τ).loc Cert.Reference13Ideal.main_arg23) = m ((c.tc : Thread Cert.Kernel13Ideal.nD Cert.Kernel13Ideal.τ).loc Cert.Kernel13Ideal.main_arg23)
      ∧ m' ((c.tc : Thread Cert.Reference13Ideal.nD Cert.Reference13Ideal.τ).loc Cert.Reference13Ideal.main_arg24) = m ((c.tc : Thread Cert.Kernel13Ideal.nD Cert.Kernel13Ideal.τ).loc Cert.Kernel13Ideal.main_arg24)
      ∧ m' ((c.tc : Thread Cert.Reference13Ideal.nD Cert.Reference13Ideal.τ).loc Cert.Reference13Ideal.main_arg25) = m ((c.tc : Thread Cert.Kernel13Ideal.nD Cert.Kernel13Ideal.τ).loc Cert.Kernel13Ideal.main_arg25)
      ∧ m' ((c.tc : Thread Cert.Reference13Ideal.nD Cert.Reference13Ideal.τ).loc Cert.Reference13Ideal.main_arg26) = m ((c.tc : Thread Cert.Kernel13Ideal.nD Cert.Kernel13Ideal.τ).loc Cert.Kernel13Ideal.main_arg26)
      ∧ m' ((c.tc : Thread Cert.Reference13Ideal.nD Cert.Reference13Ideal.τ).loc Cert.Reference13Ideal.main_arg27) = m ((c.tc : Thread Cert.Kernel13Ideal.nD Cert.Kernel13Ideal.τ).loc Cert.Kernel13Ideal.main_arg27)
      ∧ m' ((c.tc : Thread Cert.Reference13Ideal.nD Cert.Reference13Ideal.τ).loc Cert.Reference13Ideal.main_arg28) = m ((c.tc : Thread Cert.Kernel13Ideal.nD Cert.Kernel13Ideal.τ).loc Cert.Kernel13Ideal.main_arg28)
      ∧ m' ((c.tc : Thread Cert.Reference13Ideal.nD Cert.Reference13Ideal.τ).loc Cert.Reference13Ideal.main_arg29) = m ((c.tc : Thread Cert.Kernel13Ideal.nD Cert.Kernel13Ideal.τ).loc Cert.Kernel13Ideal.main_arg29)
      ∧ m' ((c.tc : Thread Cert.Reference13Ideal.nD Cert.Reference13Ideal.τ).loc Cert.Reference13Ideal.main_arg30) = m ((c.tc : Thread Cert.Kernel13Ideal.nD Cert.Kernel13Ideal.τ).loc Cert.Kernel13Ideal.main_arg30)
      ∧ m' ((c.tc : Thread Cert.Reference13Ideal.nD Cert.Reference13Ideal.τ).loc Cert.Reference13Ideal.main_arg31) = m ((c.tc : Thread Cert.Kernel13Ideal.nD Cert.Kernel13Ideal.τ).loc Cert.Kernel13Ideal.main_arg31)
      ∧ m' ((c.tc : Thread Cert.Reference13Ideal.nD Cert.Reference13Ideal.τ).loc Cert.Reference13Ideal.main_arg32) = m ((c.tc : Thread Cert.Kernel13Ideal.nD Cert.Kernel13Ideal.τ).loc Cert.Kernel13Ideal.main_arg32)
      ∧ m' ((c.tc : Thread Cert.Reference13Ideal.nD Cert.Reference13Ideal.τ).loc Cert.Reference13Ideal.main_arg33) = m ((c.tc : Thread Cert.Kernel13Ideal.nD Cert.Kernel13Ideal.τ).loc Cert.Kernel13Ideal.main_arg33)
      ∧ m' ((c.tc : Thread Cert.Reference13Ideal.nD Cert.Reference13Ideal.τ).loc Cert.Reference13Ideal.main_arg34) = m ((c.tc : Thread Cert.Kernel13Ideal.nD Cert.Kernel13Ideal.τ).loc Cert.Kernel13Ideal.main_arg34)
      ∧ m' ((c.tc : Thread Cert.Reference13Ideal.nD Cert.Reference13Ideal.τ).loc Cert.Reference13Ideal.main_arg35) = m ((c.tc : Thread Cert.Kernel13Ideal.nD Cert.Kernel13Ideal.τ).loc Cert.Kernel13Ideal.main_arg35)) →
    ∃ (v0 : (c : Dev Cert.Kernel13Ideal.nD) → Buf (Elt Ideal) ((c.tc : Thread Cert.Kernel13Ideal.nD Cert.Kernel13Ideal.τ).loc Cert.Kernel13Ideal.main_v36_0)) (v1 : (c : Dev Cert.Kernel13Ideal.nD) → Buf (Elt Ideal) ((c.tc : Thread Cert.Kernel13Ideal.nD Cert.Kernel13Ideal.τ).loc Cert.Kernel13Ideal.main_v36_1)) (v2 : (c : Dev Cert.Kernel13Ideal.nD) → Buf (Elt Ideal) ((c.tc : Thread Cert.Kernel13Ideal.nD Cert.Kernel13Ideal.τ).loc Cert.Kernel13Ideal.main_v36_2)) (v3 : (c : Dev Cert.Kernel13Ideal.nD) → Buf (Elt Ideal) ((c.tc : Thread Cert.Kernel13Ideal.nD Cert.Kernel13Ideal.τ).loc Cert.Kernel13Ideal.main_v36_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v36_0) = v0 c
          ∧ r.2.mem ((c.tc : Thread Cert.Kernel13Ideal.nD Cert.Kernel13Ideal.τ).loc Cert.Kernel13Ideal.main_v36_1) = v1 c
          ∧ r.2.mem ((c.tc : Thread Cert.Kernel13Ideal.nD Cert.Kernel13Ideal.τ).loc Cert.Kernel13Ideal.main_v36_2) = v2 c
          ∧ r.2.mem ((c.tc : Thread Cert.Kernel13Ideal.nD Cert.Kernel13Ideal.τ).loc Cert.Kernel13Ideal.main_v36_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
          ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
          ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11)
          ∧ r.2.mem ((c.tc : Thread Cert.Kernel13Ideal.nD Cert.Kernel13Ideal.τ).loc Cert.Kernel13Ideal.main_arg12) = m ((c.tc : Thread Cert.Kernel13Ideal.nD Cert.Kernel13Ideal.τ).loc Cert.Kernel13Ideal.main_arg12)
          ∧ r.2.mem ((c.tc : Thread Cert.Kernel13Ideal.nD Cert.Kernel13Ideal.τ).loc Cert.Kernel13Ideal.main_arg13) = m ((c.tc : Thread Cert.Kernel13Ideal.nD Cert.Kernel13Ideal.τ).loc Cert.Kernel13Ideal.main_arg13)
          ∧ r.2.mem ((c.tc : Thread Cert.Kernel13Ideal.nD Cert.Kernel13Ideal.τ).loc Cert.Kernel13Ideal.main_arg14) = m ((c.tc : Thread Cert.Kernel13Ideal.nD Cert.Kernel13Ideal.τ).loc Cert.Kernel13Ideal.main_arg14)
          ∧ r.2.mem ((c.tc : Thread Cert.Kernel13Ideal.nD Cert.Kernel13Ideal.τ).loc Cert.Kernel13Ideal.main_arg15) = m ((c.tc : Thread Cert.Kernel13Ideal.nD Cert.Kernel13Ideal.τ).loc Cert.Kernel13Ideal.main_arg15)
          ∧ r.2.mem ((c.tc : Thread Cert.Kernel13Ideal.nD Cert.Kernel13Ideal.τ).loc Cert.Kernel13Ideal.main_arg16) = m ((c.tc : Thread Cert.Kernel13Ideal.nD Cert.Kernel13Ideal.τ).loc Cert.Kernel13Ideal.main_arg16)
          ∧ r.2.mem ((c.tc : Thread Cert.Kernel13Ideal.nD Cert.Kernel13Ideal.τ).loc Cert.Kernel13Ideal.main_arg17) = m ((c.tc : Thread Cert.Kernel13Ideal.nD Cert.Kernel13Ideal.τ).loc Cert.Kernel13Ideal.main_arg17)
          ∧ r.2.mem ((c.tc : Thread Cert.Kernel13Ideal.nD Cert.Kernel13Ideal.τ).loc Cert.Kernel13Ideal.main_arg18) = m ((c.tc : Thread Cert.Kernel13Ideal.nD Cert.Kernel13Ideal.τ).loc Cert.Kernel13Ideal.main_arg18)
          ∧ r.2.mem ((c.tc : Thread Cert.Kernel13Ideal.nD Cert.Kernel13Ideal.τ).loc Cert.Kernel13Ideal.main_arg19) = m ((c.tc : Thread Cert.Kernel13Ideal.nD Cert.Kernel13Ideal.τ).loc Cert.Kernel13Ideal.main_arg19)
          ∧ r.2.mem ((c.tc : Thread Cert.Kernel13Ideal.nD Cert.Kernel13Ideal.τ).loc Cert.Kernel13Ideal.main_arg20) = m ((c.tc : Thread Cert.Kernel13Ideal.nD Cert.Kernel13Ideal.τ).loc Cert.Kernel13Ideal.main_arg20)
          ∧ r.2.mem ((c.tc : Thread Cert.Kernel13Ideal.nD Cert.Kernel13Ideal.τ).loc Cert.Kernel13Ideal.main_arg21) = m ((c.tc : Thread Cert.Kernel13Ideal.nD Cert.Kernel13Ideal.τ).loc Cert.Kernel13Ideal.main_arg21)
          ∧ r.2.mem ((c.tc : Thread Cert.Kernel13Ideal.nD Cert.Kernel13Ideal.τ).loc Cert.Kernel13Ideal.main_arg22) = m ((c.tc : Thread Cert.Kernel13Ideal.nD Cert.Kernel13Ideal.τ).loc Cert.Kernel13Ideal.main_arg22)
          ∧ r.2.mem ((c.tc : Thread Cert.Kernel13Ideal.nD Cert.Kernel13Ideal.τ).loc Cert.Kernel13Ideal.main_arg23) = m ((c.tc : Thread Cert.Kernel13Ideal.nD Cert.Kernel13Ideal.τ).loc Cert.Kernel13Ideal.main_arg23)
          ∧ r.2.mem ((c.tc : Thread Cert.Kernel13Ideal.nD Cert.Kernel13Ideal.τ).loc Cert.Kernel13Ideal.main_arg24) = m ((c.tc : Thread Cert.Kernel13Ideal.nD Cert.Kernel13Ideal.τ).loc Cert.Kernel13Ideal.main_arg24)
          ∧ r.2.mem ((c.tc : Thread Cert.Kernel13Ideal.nD Cert.Kernel13Ideal.τ).loc Cert.Kernel13Ideal.main_arg25) = m ((c.tc : Thread Cert.Kernel13Ideal.nD Cert.Kernel13Ideal.τ).loc Cert.Kernel13Ideal.main_arg25)
          ∧ r.2.mem ((c.tc : Thread Cert.Kernel13Ideal.nD Cert.Kernel13Ideal.τ).loc Cert.Kernel13Ideal.main_arg26) = m ((c.tc : Thread Cert.Kernel13Ideal.nD Cert.Kernel13Ideal.τ).loc Cert.Kernel13Ideal.main_arg26)
          ∧ r.2.mem ((c.tc : Thread Cert.Kernel13Ideal.nD Cert.Kernel13Ideal.τ).loc Cert.Kernel13Ideal.main_arg27) = m ((c.tc : Thread Cert.Kernel13Ideal.nD Cert.Kernel13Ideal.τ).loc Cert.Kernel13Ideal.main_arg27)
          ∧ r.2.mem ((c.tc : Thread Cert.Kernel13Ideal.nD Cert.Kernel13Ideal.τ).loc Cert.Kernel13Ideal.main_arg28) = m ((c.tc : Thread Cert.Kernel13Ideal.nD Cert.Kernel13Ideal.τ).loc Cert.Kernel13Ideal.main_arg28)
          ∧ r.2.mem ((c.tc : Thread Cert.Kernel13Ideal.nD Cert.Kernel13Ideal.τ).loc Cert.Kernel13Ideal.main_arg29) = m ((c.tc : Thread Cert.Kernel13Ideal.nD Cert.Kernel13Ideal.τ).loc Cert.Kernel13Ideal.main_arg29)
          ∧ r.2.mem ((c.tc : Thread Cert.Kernel13Ideal.nD Cert.Kernel13Ideal.τ).loc Cert.Kernel13Ideal.main_arg30) = m ((c.tc : Thread Cert.Kernel13Ideal.nD Cert.Kernel13Ideal.τ).loc Cert.Kernel13Ideal.main_arg30)
          ∧ r.2.mem ((c.tc : Thread Cert.Kernel13Ideal.nD Cert.Kernel13Ideal.τ).loc Cert.Kernel13Ideal.main_arg31) = m ((c.tc : Thread Cert.Kernel13Ideal.nD Cert.Kernel13Ideal.τ).loc Cert.Kernel13Ideal.main_arg31)
          ∧ r.2.mem ((c.tc : Thread Cert.Kernel13Ideal.nD Cert.Kernel13Ideal.τ).loc Cert.Kernel13Ideal.main_arg32) = m ((c.tc : Thread Cert.Kernel13Ideal.nD Cert.Kernel13Ideal.τ).loc Cert.Kernel13Ideal.main_arg32)
          ∧ r.2.mem ((c.tc : Thread Cert.Kernel13Ideal.nD Cert.Kernel13Ideal.τ).loc Cert.Kernel13Ideal.main_arg33) = m ((c.tc : Thread Cert.Kernel13Ideal.nD Cert.Kernel13Ideal.τ).loc Cert.Kernel13Ideal.main_arg33)
          ∧ r.2.mem ((c.tc : Thread Cert.Kernel13Ideal.nD Cert.Kernel13Ideal.τ).loc Cert.Kernel13Ideal.main_arg34) = m ((c.tc : Thread Cert.Kernel13Ideal.nD Cert.Kernel13Ideal.τ).loc Cert.Kernel13Ideal.main_arg34)
          ∧ r.2.mem ((c.tc : Thread Cert.Kernel13Ideal.nD Cert.Kernel13Ideal.τ).loc Cert.Kernel13Ideal.main_arg35) = m ((c.tc : Thread Cert.Kernel13Ideal.nD Cert.Kernel13Ideal.τ).loc Cert.Kernel13Ideal.main_arg35))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v225) = v0 c
          ∧ r.2.mem ((c.tc : Thread Cert.Reference13Ideal.nD Cert.Reference13Ideal.τ).loc Cert.Reference13Ideal.main_v235) = v1 c
          ∧ r.2.mem ((c.tc : Thread Cert.Reference13Ideal.nD Cert.Reference13Ideal.τ).loc Cert.Reference13Ideal.main_v245) = v2 c
          ∧ r.2.mem ((c.tc : Thread Cert.Reference13Ideal.nD Cert.Reference13Ideal.τ).loc Cert.Reference13Ideal.main_v255) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9)
          ∧ r.2.mem ((c.tc : Thread Cert.Reference13Ideal.nD Cert.Reference13Ideal.τ).loc Cert.Reference13Ideal.main_arg10) = m' ((c.tc : Thread Cert.Reference13Ideal.nD Cert.Reference13Ideal.τ).loc Cert.Reference13Ideal.main_arg10)
          ∧ r.2.mem ((c.tc : Thread Cert.Reference13Ideal.nD Cert.Reference13Ideal.τ).loc Cert.Reference13Ideal.main_arg11) = m' ((c.tc : Thread Cert.Reference13Ideal.nD Cert.Reference13Ideal.τ).loc Cert.Reference13Ideal.main_arg11)
          ∧ r.2.mem ((c.tc : Thread Cert.Reference13Ideal.nD Cert.Reference13Ideal.τ).loc Cert.Reference13Ideal.main_arg12) = m' ((c.tc : Thread Cert.Reference13Ideal.nD Cert.Reference13Ideal.τ).loc Cert.Reference13Ideal.main_arg12)
          ∧ r.2.mem ((c.tc : Thread Cert.Reference13Ideal.nD Cert.Reference13Ideal.τ).loc Cert.Reference13Ideal.main_arg13) = m' ((c.tc : Thread Cert.Reference13Ideal.nD Cert.Reference13Ideal.τ).loc Cert.Reference13Ideal.main_arg13)
          ∧ r.2.mem ((c.tc : Thread Cert.Reference13Ideal.nD Cert.Reference13Ideal.τ).loc Cert.Reference13Ideal.main_arg14) = m' ((c.tc : Thread Cert.Reference13Ideal.nD Cert.Reference13Ideal.τ).loc Cert.Reference13Ideal.main_arg14)
          ∧ r.2.mem ((c.tc : Thread Cert.Reference13Ideal.nD Cert.Reference13Ideal.τ).loc Cert.Reference13Ideal.main_arg15) = m' ((c.tc : Thread Cert.Reference13Ideal.nD Cert.Reference13Ideal.τ).loc Cert.Reference13Ideal.main_arg15)
          ∧ r.2.mem ((c.tc : Thread Cert.Reference13Ideal.nD Cert.Reference13Ideal.τ).loc Cert.Reference13Ideal.main_arg16) = m' ((c.tc : Thread Cert.Reference13Ideal.nD Cert.Reference13Ideal.τ).loc Cert.Reference13Ideal.main_arg16)
          ∧ r.2.mem ((c.tc : Thread Cert.Reference13Ideal.nD Cert.Reference13Ideal.τ).loc Cert.Reference13Ideal.main_arg17) = m' ((c.tc : Thread Cert.Reference13Ideal.nD Cert.Reference13Ideal.τ).loc Cert.Reference13Ideal.main_arg17)
          ∧ r.2.mem ((c.tc : Thread Cert.Reference13Ideal.nD Cert.Reference13Ideal.τ).loc Cert.Reference13Ideal.main_arg18) = m' ((c.tc : Thread Cert.Reference13Ideal.nD Cert.Reference13Ideal.τ).loc Cert.Reference13Ideal.main_arg18)
          ∧ r.2.mem ((c.tc : Thread Cert.Reference13Ideal.nD Cert.Reference13Ideal.τ).loc Cert.Reference13Ideal.main_arg19) = m' ((c.tc : Thread Cert.Reference13Ideal.nD Cert.Reference13Ideal.τ).loc Cert.Reference13Ideal.main_arg19)
          ∧ r.2.mem ((c.tc : Thread Cert.Reference13Ideal.nD Cert.Reference13Ideal.τ).loc Cert.Reference13Ideal.main_arg20) = m' ((c.tc : Thread Cert.Reference13Ideal.nD Cert.Reference13Ideal.τ).loc Cert.Reference13Ideal.main_arg20)
          ∧ r.2.mem ((c.tc : Thread Cert.Reference13Ideal.nD Cert.Reference13Ideal.τ).loc Cert.Reference13Ideal.main_arg21) = m' ((c.tc : Thread Cert.Reference13Ideal.nD Cert.Reference13Ideal.τ).loc Cert.Reference13Ideal.main_arg21)
          ∧ r.2.mem ((c.tc : Thread Cert.Reference13Ideal.nD Cert.Reference13Ideal.τ).loc Cert.Reference13Ideal.main_arg22) = m' ((c.tc : Thread Cert.Reference13Ideal.nD Cert.Reference13Ideal.τ).loc Cert.Reference13Ideal.main_arg22)
          ∧ r.2.mem ((c.tc : Thread Cert.Reference13Ideal.nD Cert.Reference13Ideal.τ).loc Cert.Reference13Ideal.main_arg23) = m' ((c.tc : Thread Cert.Reference13Ideal.nD Cert.Reference13Ideal.τ).loc Cert.Reference13Ideal.main_arg23)
          ∧ r.2.mem ((c.tc : Thread Cert.Reference13Ideal.nD Cert.Reference13Ideal.τ).loc Cert.Reference13Ideal.main_arg24) = m' ((c.tc : Thread Cert.Reference13Ideal.nD Cert.Reference13Ideal.τ).loc Cert.Reference13Ideal.main_arg24)
          ∧ r.2.mem ((c.tc : Thread Cert.Reference13Ideal.nD Cert.Reference13Ideal.τ).loc Cert.Reference13Ideal.main_arg25) = m' ((c.tc : Thread Cert.Reference13Ideal.nD Cert.Reference13Ideal.τ).loc Cert.Reference13Ideal.main_arg25)
          ∧ r.2.mem ((c.tc : Thread Cert.Reference13Ideal.nD Cert.Reference13Ideal.τ).loc Cert.Reference13Ideal.main_arg26) = m' ((c.tc : Thread Cert.Reference13Ideal.nD Cert.Reference13Ideal.τ).loc Cert.Reference13Ideal.main_arg26)
          ∧ r.2.mem ((c.tc : Thread Cert.Reference13Ideal.nD Cert.Reference13Ideal.τ).loc Cert.Reference13Ideal.main_arg27) = m' ((c.tc : Thread Cert.Reference13Ideal.nD Cert.Reference13Ideal.τ).loc Cert.Reference13Ideal.main_arg27)
          ∧ r.2.mem ((c.tc : Thread Cert.Reference13Ideal.nD Cert.Reference13Ideal.τ).loc Cert.Reference13Ideal.main_arg28) = m' ((c.tc : Thread Cert.Reference13Ideal.nD Cert.Reference13Ideal.τ).loc Cert.Reference13Ideal.main_arg28)
          ∧ r.2.mem ((c.tc : Thread Cert.Reference13Ideal.nD Cert.Reference13Ideal.τ).loc Cert.Reference13Ideal.main_arg29) = m' ((c.tc : Thread Cert.Reference13Ideal.nD Cert.Reference13Ideal.τ).loc Cert.Reference13Ideal.main_arg29)
          ∧ r.2.mem ((c.tc : Thread Cert.Reference13Ideal.nD Cert.Reference13Ideal.τ).loc Cert.Reference13Ideal.main_arg30) = m' ((c.tc : Thread Cert.Reference13Ideal.nD Cert.Reference13Ideal.τ).loc Cert.Reference13Ideal.main_arg30)
          ∧ r.2.mem ((c.tc : Thread Cert.Reference13Ideal.nD Cert.Reference13Ideal.τ).loc Cert.Reference13Ideal.main_arg31) = m' ((c.tc : Thread Cert.Reference13Ideal.nD Cert.Reference13Ideal.τ).loc Cert.Reference13Ideal.main_arg31)
          ∧ r.2.mem ((c.tc : Thread Cert.Reference13Ideal.nD Cert.Reference13Ideal.τ).loc Cert.Reference13Ideal.main_arg32) = m' ((c.tc : Thread Cert.Reference13Ideal.nD Cert.Reference13Ideal.τ).loc Cert.Reference13Ideal.main_arg32)
          ∧ r.2.mem ((c.tc : Thread Cert.Reference13Ideal.nD Cert.Reference13Ideal.τ).loc Cert.Reference13Ideal.main_arg33) = m' ((c.tc : Thread Cert.Reference13Ideal.nD Cert.Reference13Ideal.τ).loc Cert.Reference13Ideal.main_arg33)
          ∧ r.2.mem ((c.tc : Thread Cert.Reference13Ideal.nD Cert.Reference13Ideal.τ).loc Cert.Reference13Ideal.main_arg34) = m' ((c.tc : Thread Cert.Reference13Ideal.nD Cert.Reference13Ideal.τ).loc Cert.Reference13Ideal.main_arg34)
          ∧ r.2.mem ((c.tc : Thread Cert.Reference13Ideal.nD Cert.Reference13Ideal.τ).loc Cert.Reference13Ideal.main_arg35) = m' ((c.tc : Thread Cert.Reference13Ideal.nD Cert.Reference13Ideal.τ).loc Cert.Reference13Ideal.main_arg35))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite2 : Cert.Pre_finite2.Facts) (hPre_finite4 : Cert.Pre_finite4.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1024 .f32) (main_arg2 : FVec F S1024 .f32) (main_arg3 : FVec F S1024x5632 .f32) (main_arg4 : FVec F S2816x1024 .f32) (main_arg5 : FVec F S4096x1024 .f32) : IVec S4096x1024 1 × IVec S1024 1 × IVec S1024 1 × IVec S1024x5632 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_finite2.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x3072 : S_.BroadcastsInDim S1024x3072 (![] : Fin 0 → Fin S1024x3072.rank)
  bitsLt_bf16_f32 : FTy.bits .bf16 < FTy.bits .f32
  bcast_S_S4096x3072 : S_.BroadcastsInDim S4096x3072 (![] : Fin 0 → Fin S4096x3072.rank)

variable [Facts]

def fn {F : FTy → Type} [FloatOps F] (main_arg0 : FVec F S4096x1024 .f32) (main_arg1 : FVec F S1024 .f32) (main_arg2 : FVec F S1024x3072 .f32) (main_arg3 : FVec F S4096x1024 .f32) (main_arg4 : FVec F S4096x3072 .bf16) : IVec S4096x1024 1 × IVec S1024 1 × IVec S1024x3072 1 × IVec S4096x1024 1 × IVec S4096x3072 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x3072 .f32 := Host.absf main_arg2
  let main_cst_1 : FVec F S_ .f32 := constant S_ .f32 0x7F800000#32
  let main_v7 : FVec F S1024x3072 .f32 := broadcastInDim S1024x3072 ![] bcast_S_S1024x3072 main_cst_1
  let main_v8 : IVec S1024x3072 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S4096x3072 .f32 := (extf .f32 · bitsLt_bf16_f32) main_arg4
  let main_v13 : FVec F S4096x3072 .f32 := Host.absf main_v12
  let main_cst_3 : FVec F S_ .f32 := constant S_ .f32 0x7F800000#32
  let main_v14 : FVec F S4096x3072 .f32 := broadcastInDim S4096x3072 ![] bcast_S_S4096x3072 main_cst_3
  let main_v15 : IVec S4096x3072 1 := cmpf .olt main_v13 main_v14
  (main_v2, main_v5, main_v8, main_v11, main_v15)
-- ==== Pre_finite4.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S4096x1024 .bf16) (main_arg1 : FVec F S1024x1024 .f32) (main_arg2 : FVec F S4096x1024 .f32) (main_arg3 : FVec F S1024 .f32) (main_arg4 : FVec F S4096x1024 .f32) : IVec S4096x1024 1 × IVec S1024x1024 1 × IVec S4096x1024 1 × IVec S1024 1 × IVec S4096x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_v7 : FVec F S4096x1024 .f32 := Host.absf main_arg2
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  let main_v10 : FVec F S1024 .f32 := Host.absf main_arg3
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_v13 : FVec F S4096x1024 .f32 := Host.absf main_arg4
  let main_cst_3 : FVec F S_ .f32 := constant S_ .f32 0x7F800000#32
  let main_v14 : FVec F S4096x1024 .f32 := broadcastInDim S4096x1024 ![] bcast_S_S4096x1024 main_cst_3
  let main_v15 : IVec S4096x1024 1 := cmpf .olt main_v13 main_v14
  (main_v3, main_v6, main_v9, main_v12, main_v15)
-- ==== Pre_finite6.lean ====
abbrev S4096x1024 : Shape := ⟨2, ![4096, 1024]⟩
abbrev S1024 : Shape := ⟨1, ![1024]⟩
abbrev S1024x2048 : Shape := ⟨2, ![1024, 2048]⟩
abbrev S4096x2048 : Shape := ⟨2, ![4096, 2048]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x2048 : S_.BroadcastsInDim S1024x2048 (![] : Fin 0 → Fin S1024x2048.rank)
  bitsLt_bf16_f32 : FTy.bits .bf16 < FTy.bits .f32
  bcast_S_S4096x2048 : S_.BroadcastsInDim S4096x2048 (![] : Fin 0 → Fin S4096x2048.rank)

variable [Facts]

def fn {F : FTy → Type} [FloatOps F] (main_arg0 : FVec F S4096x1024 .f32) (main_arg1 : FVec F S1024 .f32) (main_arg2 : FVec F S1024x2048 .f32) (main_arg3 : FVec F S4096x1024 .f32) (main_arg4 : FVec F S4096x2048 .bf16) : IVec S4096x1024 1 × IVec S1024 1 × IVec S1024x2048 1 × IVec S4096x1024 1 × IVec S4096x2048 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2048 .f32 := Host.absf main_arg2
  let main_cst_1 : FVec F S_ .f32 := constant S_ .f32 0x7F800000#32
  let main_v7 : FVec F S1024x2048 .f32 := broadcastInDim S1024x2048 ![] bcast_S_S1024x2048 main_cst_1
  let main_v8 : IVec S1024x2048 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S4096x2048 .f32 := (extf .f32 · bitsLt_bf16_f32) main_arg4
  let main_v13 : FVec F S4096x2048 .f32 := Host.absf main_v12
  let main_cst_3 : FVec F S_ .f32 := constant S_ .f32 0x7F800000#32
  let main_v14 : FVec F S4096x2048 .f32 := broadcastInDim S4096x2048 ![] bcast_S_S4096x2048 main_cst_3
  let main_v15 : IVec S4096x2048 1 := cmpf .olt main_v13 main_v14
  (main_v2, main_v5, main_v8, main_v11, main_v15)
-- ==== Kernel.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S4x704x1024 : Shape := ⟨3, ![4, 704, 1024]⟩
abbrev S1x1024 : Shape := ⟨2, ![1, 1024]⟩
abbrev S4096x5632 : Shape := ⟨2, ![4096, 5632]⟩
abbrev S4096x2816 : Shape := ⟨2, ![4096, 2816]⟩
abbrev S512x1024 : Shape := ⟨2, ![512, 1024]⟩
abbrev S512x5632 : Shape := ⟨2, ![512, 5632]⟩
abbrev S512x2816 : Shape := ⟨2, ![512, 2816]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩
abbrev S64x1024 : Shape := ⟨2, ![64, 1024]⟩
abbrev S8x1024 : Shape := ⟨2, ![8, 1024]⟩
abbrev S4096x1408 : Shape := ⟨2, ![4096, 1408]⟩
abbrev S2x704x1024 : Shape := ⟨3, ![2, 704, 1024]⟩
abbrev S1408x1024 : Shape := ⟨2, ![1408, 1024]⟩
abbrev S704x1024 : Shape := ⟨2, ![704, 1024]⟩
abbrev S1x704x1024 : Shape := ⟨3, ![1, 704, 1024]⟩
abbrev S_ : Shape := ⟨0, ![]⟩

abbrev nBuf : Space → Nat
  | .hbm => 36
  | .vmem => 56
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S4096x1024, .f32⟩
  | .hbm, ⟨6, _⟩ => ⟨S1024x5632, .bf16⟩
  | .hbm, ⟨7, _⟩ => ⟨S1024x4x1408, .bf16⟩
  | .hbm, ⟨8, _⟩ => ⟨S4x1024x1408, .bf16⟩
  | .hbm, ⟨9, _⟩ => ⟨S2816x1024, .bf16⟩
  | .hbm, ⟨10, _⟩ => ⟨S4x704x1024, .bf16⟩
  | .hbm, ⟨11, _⟩ => ⟨S1x1024, .f32⟩
  | .hbm, ⟨12, _⟩ => ⟨S4096x1024, .bf16⟩
  | .hbm, ⟨13, _⟩ => ⟨S4096x5632, .bf16⟩
  | .hbm, ⟨14, _⟩ => ⟨S4096x2816, .bf16⟩
  | .hbm, ⟨15, _⟩ => ⟨S2816x1024, .bf16⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S2816x1024, .bf16⟩
  | .hbm, ⟨20, _⟩ => ⟨S1x1024, .f32⟩
  | .hbm, ⟨21, _⟩ => ⟨S4096x1024, .bf16⟩
  | .hbm, ⟨22, _⟩ => ⟨S64x1024, .f32⟩
  | .hbm, ⟨23, _⟩ => ⟨S4096x5632, .bf16⟩
  | .hbm, ⟨24, _⟩ => ⟨S4x704x1024, .f32⟩
  | .hbm, ⟨25, _⟩ => ⟨S4x1024x1408, .f32⟩
  | .hbm, ⟨26, _⟩ => ⟨S1x1024, .f32⟩
  | .hbm, ⟨27, _⟩ => ⟨S4096x1024, .f32⟩
  | .hbm, ⟨28, _⟩ => ⟨S64x1024, .f32⟩
  | .hbm, ⟨29, _⟩ => ⟨S1024x4x1408, .f32⟩
  | .hbm, ⟨30, _⟩ => ⟨S1024x5632, .f32⟩
  | .hbm, ⟨31, _⟩ => ⟨S_, .f32⟩
  | .hbm, ⟨32, _⟩ => ⟨S1024, .f32⟩
  | .hbm, ⟨33, _⟩ => ⟨S_, .f32⟩
  | .hbm, ⟨34, _⟩ => ⟨S1024, .f32⟩
  | .hbm, ⟨35, _⟩ => ⟨S2816x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1408, .bf16⟩
  | .local _ .vmem, ⟨4, _⟩ => ⟨S512x1024, .bf16⟩
  | .local _ .vmem, ⟨5, _⟩ => ⟨S512x1024, .bf16⟩
  | .local _ .vmem, ⟨6, _⟩ => ⟨S512x5632, .bf16⟩
  | .local _ .vmem, ⟨7, _⟩ => ⟨S512x5632, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S2816x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | .local _ .vmem, ⟨25, _⟩ => ⟨S2816x1024, .bf16⟩
  | .local _ .vmem, ⟨26, _⟩ => ⟨S512x5632, .bf16⟩
  | .local _ .vmem, ⟨27, _⟩ => ⟨S512x5632, .bf16⟩
  | .local _ .vmem, ⟨28, _⟩ => ⟨S512x1024, .bf16⟩
  | .local _ .vmem, ⟨29, _⟩ => ⟨S512x1024, .bf16⟩
  | .local _ .vmem, ⟨30, _⟩ => ⟨S8x1024, .f32⟩
  | .local _ .vmem, ⟨31, _⟩ => ⟨S8x1024, .f32⟩
  | .local _ .vmem, ⟨32, _⟩ => ⟨S512x5632, .bf16⟩
  | .local _ .vmem, ⟨33, _⟩ => ⟨S512x5632, .bf16⟩
  | .local _ .vmem, ⟨34, _⟩ => ⟨S4096x1408, .bf16⟩
  | .local _ .vmem, ⟨35, _⟩ => ⟨S4096x1408, .bf16⟩
  | .local _ .vmem, ⟨36, _⟩ => ⟨S4096x1024, .bf16⟩
  | .local _ .vmem, ⟨37, _⟩ => ⟨S2x704x1024, .f32⟩
  | .local _ .vmem, ⟨38, _⟩ => ⟨S2x704x1024, .f32⟩
  | .local _ .vmem, ⟨39, _⟩ => ⟨S4096x1024, .bf16⟩
  | .local _ .vmem, ⟨40, _⟩ => ⟨S4096x1408, .bf16⟩
  | .local _ .vmem, ⟨41, _⟩ => ⟨S4096x1408, .bf16⟩
  | .local _ .vmem, ⟨42, _⟩ => ⟨S1x1024x1408, .f32⟩
  | .local _ .vmem, ⟨43, _⟩ => ⟨S1x1024x1408, .f32⟩
  | .local _ .vmem, ⟨44, _⟩ => ⟨S512x5632, .bf16⟩
  | .local _ .vmem, ⟨45, _⟩ => ⟨S512x5632, .bf16⟩
  | .local _ .vmem, ⟨46, _⟩ => ⟨S4x1024x1408, .bf16⟩
  | .local _ .vmem, ⟨47, _⟩ => ⟨S512x1024, .f32⟩
  | .local _ .vmem, ⟨48, _⟩ => ⟨S512x1024, .f32⟩
  | .local _ .vmem, ⟨49, _⟩ => ⟨S512x1024, .f32⟩
  | .local _ .vmem, ⟨50, _⟩ => ⟨S512x1024, .f32⟩
  | .local _ .vmem, ⟨51, _⟩ => ⟨S1x1024, .f32⟩
  | .local _ .vmem, ⟨52, _⟩ => ⟨S512x1024, .f32⟩
  | .local _ .vmem, ⟨53, _⟩ => ⟨S512x1024, .f32⟩
  | .local _ .vmem, ⟨54, _⟩ => ⟨S8x1024, .f32⟩
  | .local _ .vmem, ⟨55, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_cst_0 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg2_1 : Ref sig .tc := ⟨.vmem, 38, rfl⟩
abbrev cc4_stg0_0 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg2_1 : Ref sig .tc := ⟨.vmem, 48, rfl⟩
abbrev cc5_stg3_0 : Ref sig .tc := ⟨.vmem, 49, rfl⟩
abbrev cc5_stg3_1 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc5_stg6_0 : Ref sig .tc := ⟨.vmem, 54, rfl⟩
abbrev cc5_stg6_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem6_1 : DmaSem sig := 31
abbrev cc2_sem7_0 : DmaSem sig := 32
abbrev cc2_sem7_1 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem2_1 : DmaSem sig := 38
abbrev cc4_sem0_0 : DmaSem sig := 39
abbrev cc4_sem1_0 : DmaSem sig := 40
abbrev cc4_sem1_1 : DmaSem sig := 41
abbrev cc4_sem2_0 : DmaSem sig := 42
abbrev cc4_sem2_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem2_1 : DmaSem sig := 48
abbrev cc5_sem3_0 : DmaSem sig := 49
abbrev cc5_sem3_1 : DmaSem sig := 50
abbrev cc5_sem4_0 : DmaSem sig := 51
abbrev cc5_sem5_0 : DmaSem sig := 52
abbrev cc5_sem5_1 : DmaSem sig := 53
abbrev cc5_sem6_0 : DmaSem sig := 54
abbrev cc5_sem6_1 : DmaSem sig := 55

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2816x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x5632 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S8x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x5632 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨2, ![2, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S4096x1408 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S2x704x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![4, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 1 → Memref sig .tc .vmem S4096x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, false]

abbrev stage4_1 : Fin 2 → Memref sig .tc .vmem S4096x1408 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x1024x1408 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x5632 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S4x1024x1408 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S512x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S1x1024 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S512x1024 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S8x1024 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]
-- ==== ReferenceIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1024x2816 : Shape := ⟨2, ![1024, 2816]⟩
abbrev S5632x1024 : Shape := ⟨2, ![5632, 1024]⟩

abbrev nBuf : Space → Nat
  | .hbm => 136
  | .vmem => 0
  | .smem => 0
  | _ => 0

abbrev hbmTy0_0 (i : Nat) : BufTy := match i % 128 with
  | 0 => ⟨S4096x1024, .f32⟩
  | 1 => ⟨S1024, .f32⟩
  | 2 => ⟨S1024, .f32⟩
  | 3 => ⟨S1024x5632, .f32⟩
  | 4 => ⟨S2816x1024, .f32⟩
  | 5 => ⟨S4096x1024, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S1x1024, .f32⟩
  | 24 => ⟨S4096x1024, .f32⟩
  | 25 => ⟨S4096x1024, .f32⟩
  | 26 => ⟨S4096x5632, .f32⟩
  | 27 => ⟨S4096x2816, .f32⟩
  | 28 => ⟨S4096x2816, .f32⟩
  | 29 => ⟨S4096x2816, .f32⟩
  | 30 => ⟨S4096x2816, .f32⟩
  | 31 => ⟨S_, .f32⟩
  | 32 => ⟨S4096x2816, .f32⟩
  | 33 => ⟨S4096x2816, .f32⟩
  | 34 => ⟨S_, .f32⟩
  | 35 => ⟨S4096x2816, .f32⟩
  | 36 => ⟨S4096x2816, .f32⟩
  | 37 => ⟨S_, .f32⟩
  | 38 => ⟨S4096x2816, .f32⟩
  | 39 => ⟨S4096x2816, .f32⟩
  | 40 => ⟨S4096x2816, .f32⟩
  | 41 => ⟨S4096x2816, .f32⟩
  | 42 => ⟨S4096x2816, .f32⟩
  | 43 => ⟨S4096x1024, .f32⟩
  | 44 => ⟨S4096x1024, .f32⟩
  | 45 => ⟨S_, .f32⟩
  | 46 => ⟨S4096, .f32⟩
  | 47 => ⟨S4096x1, .f32⟩
  | 48 => ⟨S_, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x1024, .f32⟩
  | 60 => ⟨S4096x1024, .f32⟩
  | 61 => ⟨S1x1024, .f32⟩
  | 62 => ⟨S4096x1024, .f32⟩
  | 63 => ⟨S4096x1024, .f32⟩
  | 64 => ⟨S_, .f32⟩
  | 65 => ⟨S4096x1024, .f32⟩
  | 66 => ⟨S4096x1024, .f32⟩
  | 67 => ⟨S4096x1024, .f32⟩
  | 68 => ⟨S4096x1024, .f32⟩
  | 69 => ⟨S_, .f32⟩
  | 70 => ⟨S4096x1024, .f32⟩
  | 71 => ⟨S4096x1024, .f32⟩
  | 72 => ⟨S4096x1024, .f32⟩
  | 73 => ⟨S_, .f32⟩
  | 74 => ⟨S1024, .f32⟩
  | 75 => ⟨S1x1024, .f32⟩
  | 76 => ⟨S4096x1024, .f32⟩
  | 77 => ⟨S4096x1024, .f32⟩
  | 78 => ⟨S_, .f32⟩
  | 79 => ⟨S1024, .f32⟩
  | 80 => ⟨S4096x1024, .f32⟩
  | 81 => ⟨S_, .f32⟩
  | 82 => ⟨S4096, .f32⟩
  | 83 => ⟨S4096x1, .f32⟩
  | 84 => ⟨S4096x1024, .f32⟩
  | 85 => ⟨S4096x1024, .f32⟩
  | 86 => ⟨S4096x1, .f32⟩
  | 87 => ⟨S_, .f32⟩
  | 88 => ⟨S4096x1, .f32⟩
  | 89 => ⟨S4096x1, .f32⟩
  | 90 => ⟨S_, .f32⟩
  | 91 => ⟨S4096, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S1024x2816, .f32⟩
  | 98 => ⟨S2816x1024, .f32⟩
  | 99 => ⟨S4096x2816, .f32⟩
  | 100 => ⟨S4096x2816, .f32⟩
  | 101 => ⟨S4096x2816, .f32⟩
  | 102 => ⟨S4096x2816, .f32⟩
  | 103 => ⟨S4096x2816, .f32⟩
  | 104 => ⟨S4096x2816, .f32⟩
  | 105 => ⟨S4096x2816, .f32⟩
  | 106 => ⟨S4096x5632, .f32⟩
  | 107 => ⟨S5632x1024, .f32⟩
  | 108 => ⟨S1024x5632, .f32⟩
  | 109 => ⟨S4096x1024, .f32⟩
  | 110 => ⟨S4096x1024, .f32⟩
  | 111 => ⟨S_, .f32⟩
  | 112 => ⟨S1024, .f32⟩
  | 113 => ⟨S1x1024, .f32⟩
  | 114 => ⟨S4096x1024, .f32⟩
  | 115 => ⟨S4096x1024, .f32⟩
  | 116 => ⟨S_, .f32⟩
  | 117 => ⟨S1024, .f32⟩
  | 118 => ⟨S4096x1024, .f32⟩
  | 119 => ⟨S_, .f32⟩
  | 120 => ⟨S4096, .f32⟩
  | 121 => ⟨S4096x1, .f32⟩
  | 122 => ⟨S4096x1024, .f32⟩
  | 123 => ⟨S4096x1024, .f32⟩
  | 124 => ⟨S4096x1024, .f32⟩
  | 125 => ⟨S4096x1, .f32⟩
  | 126 => ⟨S_, .f32⟩
  | 127 => ⟨S4096x1, .f32⟩
  | _ => ⟨S4096x1024, .f32⟩

abbrev hbmTy0_1 (i : Nat) : BufTy := match i % 128 with
  | 0 => ⟨S4096x1, .f32⟩
  | 1 => ⟨S_, .f32⟩
  | 2 => ⟨S4096, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v19_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v19_1 : Ref sig .tc := ⟨.hbm, 40, rfl⟩
abbrev main_v19_0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_6 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_7 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_10 : Ref sig .tc := ⟨.hbm, 78, rfl⟩
abbrev main_v49 : Ref sig .tc := ⟨.hbm, 79, rfl⟩
abbrev main_v50 : Ref sig .tc := ⟨.hbm, 80, rfl⟩
abbrev main_cst_11 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_12 : Ref sig .tc := ⟨.hbm, 87, rfl⟩
abbrev main_v56 : Ref sig .tc := ⟨.hbm, 88, rfl⟩
abbrev main_v57 : Ref sig .tc := ⟨.hbm, 89, rfl⟩
abbrev main_cst_13 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_call1_v0 : Ref sig .tc := ⟨.hbm, 102, rfl⟩
abbrev main_call1_v1 : Ref sig .tc := ⟨.hbm, 103, rfl⟩
abbrev main_call1_v2 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_14 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_15 : Ref sig .tc := ⟨.hbm, 116, rfl⟩
abbrev main_v79 : Ref sig .tc := ⟨.hbm, 117, rfl⟩
abbrev main_v80 : Ref sig .tc := ⟨.hbm, 118, rfl⟩
abbrev main_cst_16 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_17 : Ref sig .tc := ⟨.hbm, 126, rfl⟩
abbrev main_v87 : Ref sig .tc := ⟨.hbm, 127, rfl⟩
abbrev main_v88 : Ref sig .tc := ⟨.hbm, 128, rfl⟩
abbrev main_cst_18 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S1024x4x768 : Shape := ⟨3, ![1024, 4, 768]⟩
abbrev S4x1024x768 : Shape := ⟨3, ![4, 1024, 768]⟩
abbrev S1x1024 : Shape := ⟨2, ![1, 1024]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1x1024x768 : Shape := ⟨3, ![1, 1024, 768]⟩
abbrev S1024x768 : Shape := ⟨2, ![1024, 768]⟩
abbrev S512x768 : Shape := ⟨2, ![512, 768]⟩
abbrev S4096x768 : Shape := ⟨2, ![4096, 768]⟩
abbrev S64x1024 : Shape := ⟨2, ![64, 1024]⟩
abbrev S8x1024 : Shape := ⟨2, ![8, 1024]⟩
abbrev S_ : Shape := ⟨0, ![]⟩

abbrev nBuf : Space → Nat
  | .hbm => 19
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x1024, .f32⟩
  | .hbm, ⟨4, _⟩ => ⟨S4096x3072, .bf16⟩
  | .hbm, ⟨5, _⟩ => ⟨S1024x3072, .bf16⟩
  | .hbm, ⟨6, _⟩ => ⟨S1024x4x768, .bf16⟩
  | .hbm, ⟨7, _⟩ => ⟨S4x1024x768, .bf16⟩
  | .hbm, ⟨8, _⟩ => ⟨S1x1024, .f32⟩
  | .hbm, ⟨9, _⟩ => ⟨S4096x1024, .bf16⟩
  | .hbm, ⟨10, _⟩ => ⟨S4096x3072, .bf16⟩
  | .hbm, ⟨11, _⟩ => ⟨S4x1024x768, .f32⟩
  | .hbm, ⟨12, _⟩ => ⟨S1x1024, .f32⟩
  | .hbm, ⟨13, _⟩ => ⟨S4096x1024, .f32⟩
  | .hbm, ⟨14, _⟩ => ⟨S64x1024, .f32⟩
  | .hbm, ⟨15, _⟩ => ⟨S_, .f32⟩
  | .hbm, ⟨16, _⟩ => ⟨S1024, .f32⟩
  | .hbm, ⟨17, _⟩ => ⟨S1024x4x768, .f32⟩
  | .hbm, ⟨18, _⟩ => ⟨S1024x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x768, .bf16⟩
  | .local _ .vmem, ⟨4, _⟩ => ⟨S512x1024, .bf16⟩
  | .local _ .vmem, ⟨5, _⟩ => ⟨S512x1024, .bf16⟩
  | .local _ .vmem, ⟨6, _⟩ => ⟨S512x3072, .bf16⟩
  | .local _ .vmem, ⟨7, _⟩ => ⟨S512x3072, .bf16⟩
  | .local _ .vmem, ⟨8, _⟩ => ⟨S4096x1024, .bf16⟩
  | .local _ .vmem, ⟨9, _⟩ => ⟨S4096x768, .bf16⟩
  | .local _ .vmem, ⟨10, _⟩ => ⟨S4096x768, .bf16⟩
  | .local _ .vmem, ⟨11, _⟩ => ⟨S1x1024x768, .f32⟩
  | .local _ .vmem, ⟨12, _⟩ => ⟨S1x1024x768, .f32⟩
  | .local _ .vmem, ⟨13, _⟩ => ⟨S512x3072, .bf16⟩
  | .local _ .vmem, ⟨14, _⟩ => ⟨S512x3072, .bf16⟩
  | .local _ .vmem, ⟨15, _⟩ => ⟨S4x1024x768, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S8x1024, .f32⟩
  | .local _ .vmem, ⟨24, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc2_stg6_0 : Ref sig .tc := ⟨.vmem, 23, rfl⟩
abbrev cc2_stg6_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem5_1 : DmaSem sig := 22
abbrev cc2_sem6_0 : DmaSem sig := 23
abbrev cc2_sem6_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S4096x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S4096x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x3072 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x1024x768 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S8x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== Reference2Ideal.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S3072x1024 : Shape := ⟨2, ![3072, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x1024, .f32⟩
  | .hbm, ⟨4, _⟩ => ⟨S4096x3072, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x3072, .f32⟩
  | .hbm, ⟨26, _⟩ => ⟨S4096x3072, .f32⟩
  | .hbm, ⟨27, _⟩ => ⟨S3072x1024, .f32⟩
  | .hbm, ⟨28, _⟩ => ⟨S1024x3072, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel3.lean ====
abbrev S4096x3072 : Shape := ⟨2, ![4096, 3072]⟩
abbrev S4096x1024 : Shape := ⟨2, ![4096, 1024]⟩
abbrev S3x1024 : Shape := ⟨2, ![3, 1024]⟩
abbrev S_ : Shape := ⟨0, ![]⟩
abbrev S8x1024 : Shape := ⟨2, ![8, 1024]⟩
abbrev S2048x256 : Shape := ⟨2, ![2048, 256]⟩
abbrev S8x256 : Shape := ⟨2, ![8, 256]⟩
abbrev S2048x1 : Shape := ⟨2, ![2048, 1]⟩
abbrev S1x256 : Shape := ⟨2, ![1, 256]⟩
abbrev S256 : Shape := ⟨1, ![256]⟩

abbrev nBuf : Space → Nat
  | .hbm => 10
  | .vmem => 18
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S3x1024, .f32⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S8x1024, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S8x256, .f32⟩
  | .local _ .vmem, ⟨9, _⟩ => ⟨S8x256, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S8x256, .f32⟩
  | .local _ .vmem, ⟨17, _⟩ => ⟨S8x256, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S4096x3072 : Shape := ⟨2, ![4096, 3072]⟩
abbrev S4096x1024 : Shape := ⟨2, ![4096, 1024]⟩
abbrev S3x1024 : Shape := ⟨2, ![3, 1024]⟩
abbrev S2x2048x1024 : Shape := ⟨3, ![2, 2048, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S2x1x1024 : Shape := ⟨3, ![2, 1, 1024]⟩
abbrev S2x2047x1024 : Shape := ⟨3, ![2, 2047, 1024]⟩
abbrev S2x2x1024 : Shape := ⟨3, ![2, 2, 1024]⟩
abbrev S2x2046x1024 : Shape := ⟨3, ![2, 2046, 1024]⟩
abbrev S8x1024 : Shape := ⟨2, ![8, 1024]⟩

abbrev nBuf : Space → Nat
  | .hbm => 98
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S3x1024, .f32⟩
  | .hbm, ⟨3, _⟩ => ⟨S4096x3072, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S2x2048x1024, .f32⟩
  | .hbm, ⟨9, _⟩ => ⟨S1x1024, .f32⟩
  | .hbm, ⟨10, _⟩ => ⟨S1024, .f32⟩
  | .hbm, ⟨11, _⟩ => ⟨S1x1x1024, .f32⟩
  | .hbm, ⟨12, _⟩ => ⟨S2x2048x1024, .f32⟩
  | .hbm, ⟨13, _⟩ => ⟨S2x2048x1024, .f32⟩
  | .hbm, ⟨14, _⟩ => ⟨S1x1024, .f32⟩
  | .hbm, ⟨15, _⟩ => ⟨S1024, .f32⟩
  | .hbm, ⟨16, _⟩ => ⟨S_, .f32⟩
  | .hbm, ⟨17, _⟩ => ⟨S2x1x1024, .f32⟩
  | .hbm, ⟨18, _⟩ => ⟨S2x2047x1024, .f32⟩
  | .hbm, ⟨19, _⟩ => ⟨S2x2048x1024, .f32⟩
  | .hbm, ⟨20, _⟩ => ⟨S_, .f32⟩
  | .hbm, ⟨21, _⟩ => ⟨S2x1x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S1x1024, .f32⟩
  | .hbm, ⟨27, _⟩ => ⟨S1024, .f32⟩
  | .hbm, ⟨28, _⟩ => ⟨S_, .f32⟩
  | .hbm, ⟨29, _⟩ => ⟨S2x2x1024, .f32⟩
  | .hbm, ⟨30, _⟩ => ⟨S2x2046x1024, .f32⟩
  | .hbm, ⟨31, _⟩ => ⟨S2x2048x1024, .f32⟩
  | .hbm, ⟨32, _⟩ => ⟨S_, .f32⟩
  | .hbm, ⟨33, _⟩ => ⟨S2x2x1024, .f32⟩
  | .hbm, ⟨34, _⟩ => ⟨S1x1x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S2x2048x1024, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S_, .f32⟩
  | .hbm, ⟨51, _⟩ => ⟨S1024, .f32⟩
  | .hbm, ⟨52, _⟩ => ⟨S2x2x1024, .f32⟩
  | .hbm, ⟨53, _⟩ => ⟨S2x2046x1024, .f32⟩
  | .hbm, ⟨54, _⟩ => ⟨S_, .f32⟩
  | .hbm, ⟨55, _⟩ => ⟨S2x2048x1024, .f32⟩
  | .hbm, ⟨56, _⟩ => ⟨S1x1024, .f32⟩
  | .hbm, ⟨57, _⟩ => ⟨S_, .f32⟩
  | .hbm, ⟨58, _⟩ => ⟨S3x1024, .f32⟩
  | .hbm, ⟨59, _⟩ => ⟨S2x2048x1024, .f32⟩
  | .hbm, ⟨60, _⟩ => ⟨S2x2048x1024, .f32⟩
  | .hbm, ⟨61, _⟩ => ⟨S2x2048x1024, .f32⟩
  | .hbm, ⟨62, _⟩ => ⟨S_, .f32⟩
  | .hbm, ⟨63, _⟩ => ⟨S1024, .f32⟩
  | .hbm, ⟨64, _⟩ => ⟨S1x1x1024, .f32⟩
  | .hbm, ⟨65, _⟩ => ⟨S_, .f32⟩
  | .hbm, ⟨66, _⟩ => ⟨S1024, .f32⟩
  | .hbm, ⟨67, _⟩ => ⟨S2x1x1024, .f32⟩
  | .hbm, ⟨68, _⟩ => ⟨S2x2047x1024, .f32⟩
  | .hbm, ⟨69, _⟩ => ⟨S_, .f32⟩
  | .hbm, ⟨70, _⟩ => ⟨S2x2048x1024, .f32⟩
  | .hbm, ⟨71, _⟩ => ⟨S2x2048x1024, .f32⟩
  | .hbm, ⟨72, _⟩ => ⟨S1x1024, .f32⟩
  | .hbm, ⟨73, _⟩ => ⟨S_, .f32⟩
  | .hbm, ⟨74, _⟩ => ⟨S3x1024, .f32⟩
  | .hbm, ⟨75, _⟩ => ⟨S3x1024, .f32⟩
  | .hbm, ⟨76, _⟩ => ⟨S2x2048x1024, .f32⟩
  | .hbm, ⟨77, _⟩ => ⟨S2x2048x1024, .f32⟩
  | .hbm, ⟨78, _⟩ => ⟨S2x2048x1024, .f32⟩
  | .hbm, ⟨79, _⟩ => ⟨S2x2048x1024, .f32⟩
  | .hbm, ⟨80, _⟩ => ⟨S_, .f32⟩
  | .hbm, ⟨81, _⟩ => ⟨S1024, .f32⟩
  | .hbm, ⟨82, _⟩ => ⟨S1x1x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S_, .f32⟩
  | .hbm, ⟨87, _⟩ => ⟨S3x1024, .f32⟩
  | .hbm, ⟨88, _⟩ => ⟨S3x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .bf16⟩
  | .hbm, ⟨93, _⟩ => ⟨S4096x1024, .bf16⟩
  | .hbm, ⟨94, _⟩ => ⟨S4096x1024, .bf16⟩
  | .hbm, ⟨95, _⟩ => ⟨S_, .i32⟩
  | .hbm, ⟨96, _⟩ => ⟨S_, .f32⟩
  | .hbm, ⟨97, _⟩ => ⟨S8x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_5 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_7 : Ref sig .tc := ⟨.hbm, 62, rfl⟩
abbrev main_v51 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_9 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_10 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_11 : Ref sig .tc := ⟨.hbm, 80, rfl⟩
abbrev main_v65 : Ref sig .tc := ⟨.hbm, 81, rfl⟩
abbrev main_v66 : Ref sig .tc := ⟨.hbm, 82, rfl⟩
abbrev main_cst_12 : Ref sig .tc := ⟨.hbm, 83, rfl⟩
abbrev main_v67 : Ref sig .tc := ⟨.hbm, 84, rfl⟩
abbrev main_v68 : Ref sig .tc := ⟨.hbm, 85, rfl⟩
abbrev main_cst_13 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_c : Ref sig .tc := ⟨.hbm, 95, rfl⟩
abbrev main_call0_v0 : Ref sig .tc := ⟨.hbm, 96, rfl⟩
abbrev main_v77 : Ref sig .tc := ⟨.hbm, 97, rfl⟩

abbrev nD : Nat := 1
abbrev τ : Topo := Topo.v7x

variable {F : FTy → Type} [FloatOps F]
-- ==== Kernel4.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S64x1024 : Shape := ⟨2, ![64, 1024]⟩
abbrev S8x1024 : Shape := ⟨2, ![8, 1024]⟩
abbrev S4x256x1024 : Shape := ⟨3, ![4, 256, 1024]⟩
abbrev S4096x256 : Shape := ⟨2, ![4096, 256]⟩
abbrev S1x256x1024 : Shape := ⟨3, ![1, 256, 1024]⟩
abbrev S256x1024 : Shape := ⟨2, ![256, 1024]⟩
abbrev S_ : Shape := ⟨0, ![]⟩

abbrev nBuf : Space → Nat
  | .hbm => 17
  | .vmem => 27
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x1024, .bf16⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S1x1024, .f32⟩
  | .hbm, ⟨10, _⟩ => ⟨S4096x1024, .bf16⟩
  | .hbm, ⟨11, _⟩ => ⟨S64x1024, .f32⟩
  | .hbm, ⟨12, _⟩ => ⟨S4096x1024, .bf16⟩
  | .hbm, ⟨13, _⟩ => ⟨S4x256x1024, .f32⟩
  | .hbm, ⟨14, _⟩ => ⟨S_, .f32⟩
  | .hbm, ⟨15, _⟩ => ⟨S1024, .f32⟩
  | .hbm, ⟨16, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1024x1024, .bf16⟩
  | .local _ .vmem, ⟨16, _⟩ => ⟨S512x1024, .bf16⟩
  | .local _ .vmem, ⟨17, _⟩ => ⟨S512x1024, .bf16⟩
  | .local _ .vmem, ⟨18, _⟩ => ⟨S8x1024, .f32⟩
  | .local _ .vmem, ⟨19, _⟩ => ⟨S8x1024, .f32⟩
  | .local _ .vmem, ⟨20, _⟩ => ⟨S512x1024, .bf16⟩
  | .local _ .vmem, ⟨21, _⟩ => ⟨S512x1024, .bf16⟩
  | .local _ .vmem, ⟨22, _⟩ => ⟨S4096x256, .bf16⟩
  | .local _ .vmem, ⟨23, _⟩ => ⟨S4096x256, .bf16⟩
  | .local _ .vmem, ⟨24, _⟩ => ⟨S4096x1024, .bf16⟩
  | .local _ .vmem, ⟨25, _⟩ => ⟨S1x256x1024, .f32⟩
  | .local _ .vmem, ⟨26, _⟩ => ⟨S1x256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S4096x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]
-- ==== Reference4Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1024x1024, .f32⟩
  | .hbm, ⟨55, _⟩ => ⟨S1024x1024, .f32⟩
  | .hbm, ⟨56, _⟩ => ⟨S4096x1024, .f32⟩
  | .hbm, ⟨57, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel5.lean ====
abbrev S4096x3072 : Shape := ⟨2, ![4096, 3072]⟩
abbrev S3x1024 : Shape := ⟨2, ![3, 1024]⟩
abbrev S_ : Shape := ⟨0, ![]⟩
abbrev S8x1024 : Shape := ⟨2, ![8, 1024]⟩
abbrev S4096x1024 : Shape := ⟨2, ![4096, 1024]⟩
abbrev S2048x256 : Shape := ⟨2, ![2048, 256]⟩
abbrev S8x256 : Shape := ⟨2, ![8, 256]⟩
abbrev S2048x1 : Shape := ⟨2, ![2048, 1]⟩
abbrev S1x256 : Shape := ⟨2, ![1, 256]⟩

abbrev nBuf : Space → Nat
  | .hbm => 6
  | .vmem => 10
  | .smem => 0
  | _ => 0

abbrev bufTy : (tb : Table) → Fin (tcTables nBuf tb) → BufTy
  | .hbm, ⟨0, _⟩ => ⟨S4096x3072, .bf16⟩
  | .hbm, ⟨1, _⟩ => ⟨S3x1024, .f32⟩
  | .hbm, ⟨2, _⟩ => ⟨S_, .i32⟩
  | .hbm, ⟨3, _⟩ => ⟨S_, .f32⟩
  | .hbm, ⟨4, _⟩ => ⟨S8x1024, .f32⟩
  | .hbm, ⟨5, _⟩ => ⟨S4096x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S8x256, .f32⟩
  | .local _ .vmem, ⟨7, _⟩ => ⟨S8x256, .f32⟩
  | .local _ .vmem, ⟨8, _⟩ => ⟨S2048x256, .bf16⟩
  | .local _ .vmem, ⟨9, _⟩ => ⟨S2048x256, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S4096x3072 : Shape := ⟨2, ![4096, 3072]⟩
abbrev S3x1024 : Shape := ⟨2, ![3, 1024]⟩
abbrev S4096x1024 : Shape := ⟨2, ![4096, 1024]⟩
abbrev S2x2048x1024 : Shape := ⟨3, ![2, 2048, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S2x1x1024 : Shape := ⟨3, ![2, 1, 1024]⟩
abbrev S2x2047x1024 : Shape := ⟨3, ![2, 2047, 1024]⟩
abbrev S2x2x1024 : Shape := ⟨3, ![2, 2, 1024]⟩
abbrev S2x2046x1024 : Shape := ⟨3, ![2, 2046, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3x1024, .f32⟩
  | .hbm, ⟨2, _⟩ => ⟨S4096x3072, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S2x2048x1024, .f32⟩
  | .hbm, ⟨8, _⟩ => ⟨S1x1024, .f32⟩
  | .hbm, ⟨9, _⟩ => ⟨S1024, .f32⟩
  | .hbm, ⟨10, _⟩ => ⟨S1x1x1024, .f32⟩
  | .hbm, ⟨11, _⟩ => ⟨S2x2048x1024, .f32⟩
  | .hbm, ⟨12, _⟩ => ⟨S2x2048x1024, .f32⟩
  | .hbm, ⟨13, _⟩ => ⟨S1x1024, .f32⟩
  | .hbm, ⟨14, _⟩ => ⟨S1024, .f32⟩
  | .hbm, ⟨15, _⟩ => ⟨S_, .f32⟩
  | .hbm, ⟨16, _⟩ => ⟨S2x1x1024, .f32⟩
  | .hbm, ⟨17, _⟩ => ⟨S2x2047x1024, .f32⟩
  | .hbm, ⟨18, _⟩ => ⟨S2x2048x1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S1x1024, .f32⟩
  | .hbm, ⟨24, _⟩ => ⟨S1024, .f32⟩
  | .hbm, ⟨25, _⟩ => ⟨S_, .f32⟩
  | .hbm, ⟨26, _⟩ => ⟨S2x2x1024, .f32⟩
  | .hbm, ⟨27, _⟩ => ⟨S2x2046x1024, .f32⟩
  | .hbm, ⟨28, _⟩ => ⟨S2x2048x1024, .f32⟩
  | .hbm, ⟨29, _⟩ => ⟨S1x1x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S4096x1024, .f32⟩
  | .hbm, ⟨34, _⟩ => ⟨S4096x1024, .f32⟩
  | .hbm, ⟨35, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_0 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩

abbrev nD : Nat := 1
abbrev τ : Topo := Topo.v7x

variable {F : FTy → Type} [FloatOps F]
-- ==== Kernel6.lean ====
abbrev S4096x1024 : Shape := ⟨2, ![4096, 1024]⟩
abbrev S1024 : Shape := ⟨1, ![1024]⟩
abbrev S1024x2048 : Shape := ⟨2, ![1024, 2048]⟩
abbrev S4096x2048 : Shape := ⟨2, ![4096, 2048]⟩
abbrev S1024x4x512 : Shape := ⟨3, ![1024, 4, 512]⟩
abbrev S4x1024x512 : Shape := ⟨3, ![4, 1024, 512]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S4096x512 : Shape := ⟨2, ![4096, 512]⟩
abbrev S64x1024 : Shape := ⟨2, ![64, 1024]⟩
abbrev S8x1024 : Shape := ⟨2, ![8, 1024]⟩
abbrev S_ : Shape := ⟨0, ![]⟩

abbrev nBuf : Space → Nat
  | .hbm => 19
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x1024, .f32⟩
  | .hbm, ⟨4, _⟩ => ⟨S4096x2048, .bf16⟩
  | .hbm, ⟨5, _⟩ => ⟨S1024x2048, .bf16⟩
  | .hbm, ⟨6, _⟩ => ⟨S1024x4x512, .bf16⟩
  | .hbm, ⟨7, _⟩ => ⟨S4x1024x512, .bf16⟩
  | .hbm, ⟨8, _⟩ => ⟨S1x1024, .f32⟩
  | .hbm, ⟨9, _⟩ => ⟨S4096x1024, .bf16⟩
  | .hbm, ⟨10, _⟩ => ⟨S4096x2048, .bf16⟩
  | .hbm, ⟨11, _⟩ => ⟨S4x1024x512, .f32⟩
  | .hbm, ⟨12, _⟩ => ⟨S1x1024, .f32⟩
  | .hbm, ⟨13, _⟩ => ⟨S4096x1024, .f32⟩
  | .hbm, ⟨14, _⟩ => ⟨S64x1024, .f32⟩
  | .hbm, ⟨15, _⟩ => ⟨S_, .f32⟩
  | .hbm, ⟨16, _⟩ => ⟨S1024, .f32⟩
  | .hbm, ⟨17, _⟩ => ⟨S1024x4x512, .f32⟩
  | .hbm, ⟨18, _⟩ => ⟨S1024x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x512, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S4096x1024, .bf16⟩
  | .local _ .vmem, ⟨9, _⟩ => ⟨S4096x512, .bf16⟩
  | .local _ .vmem, ⟨10, _⟩ => ⟨S4096x512, .bf16⟩
  | .local _ .vmem, ⟨11, _⟩ => ⟨S1x1024x512, .f32⟩
  | .local _ .vmem, ⟨12, _⟩ => ⟨S1x1024x512, .f32⟩
  | .local _ .vmem, ⟨13, _⟩ => ⟨S512x2048, .bf16⟩
  | .local _ .vmem, ⟨14, _⟩ => ⟨S512x2048, .bf16⟩
  | .local _ .vmem, ⟨15, _⟩ => ⟨S4x1024x512, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S8x1024, .f32⟩
  | .local _ .vmem, ⟨24, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc2_stg6_0 : Ref sig .tc := ⟨.vmem, 23, rfl⟩
abbrev cc2_stg6_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem5_1 : DmaSem sig := 22
abbrev cc2_sem6_0 : DmaSem sig := 23
abbrev cc2_sem6_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S4096x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x1024x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S8x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== Reference6Ideal.lean ====
abbrev S4096x1024 : Shape := ⟨2, ![4096, 1024]⟩
abbrev S1024 : Shape := ⟨1, ![1024]⟩
abbrev S1024x2048 : Shape := ⟨2, ![1024, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S2048x1024 : Shape := ⟨2, ![2048, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x1024, .f32⟩
  | .hbm, ⟨4, _⟩ => ⟨S4096x2048, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x2048, .f32⟩
  | .hbm, ⟨26, _⟩ => ⟨S4096x2048, .f32⟩
  | .hbm, ⟨27, _⟩ => ⟨S2048x1024, .f32⟩
  | .hbm, ⟨28, _⟩ => ⟨S1024x2048, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel7.lean ====
abbrev S2x1024x1408 : Shape := ⟨3, ![2, 1024, 1408]⟩
abbrev S2048x1408 : Shape := ⟨2, ![2048, 1408]⟩
abbrev S512x1408 : Shape := ⟨2, ![512, 1408]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S2048x1408, .f32⟩
  | .local _ .vmem, ⟨0, _⟩ => ⟨S512x1408, .f32⟩
  | .local _ .vmem, ⟨1, _⟩ => ⟨S512x1408, .f32⟩
  | .local _ .vmem, ⟨2, _⟩ => ⟨S512x1408, .f32⟩
  | .local _ .vmem, ⟨3, _⟩ => ⟨S512x1408, .f32⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .f32⟩
  | .local _ .vmem, ⟨11, _⟩ => ⟨S512x1408, .f32⟩
  | .local _ .vmem, ⟨12, _⟩ => ⟨S512x1408, .f32⟩
  | .local _ .vmem, ⟨13, _⟩ => ⟨S512x1408, .f32⟩
  | .local _ .vmem, ⟨14, _⟩ => ⟨S512x1408, .f32⟩
  | .local _ .vmem, ⟨15, _⟩ => ⟨S512x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S2x1024x1408 : Shape := ⟨3, ![2, 1024, 1408]⟩
abbrev S2048x1408 : Shape := ⟨2, ![2048, 1408]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S_, .f32⟩
  | .hbm, ⟨6, _⟩ => ⟨S2x1024x1408, .f32⟩
  | .hbm, ⟨7, _⟩ => ⟨S2x1024x1408, .f32⟩
  | .hbm, ⟨8, _⟩ => ⟨S_, .f32⟩
  | .hbm, ⟨9, _⟩ => ⟨S2x1024x1408, .f32⟩
  | .hbm, ⟨10, _⟩ => ⟨S2x1024x1408, .f32⟩
  | .hbm, ⟨11, _⟩ => ⟨S2x1024x1408, .f32⟩
  | .hbm, ⟨12, _⟩ => ⟨S_, .f32⟩
  | .hbm, ⟨13, _⟩ => ⟨S2x1024x1408, .f32⟩
  | .hbm, ⟨14, _⟩ => ⟨S2x1024x1408, .f32⟩
  | .hbm, ⟨15, _⟩ => ⟨S2x1024x1408, .f32⟩
  | .hbm, ⟨16, _⟩ => ⟨S_, .f32⟩
  | .hbm, ⟨17, _⟩ => ⟨S2x1024x1408, .f32⟩
  | .hbm, ⟨18, _⟩ => ⟨S2x1024x1408, .f32⟩
  | .hbm, ⟨19, _⟩ => ⟨S2x1024x1408, .f32⟩
  | .hbm, ⟨20, _⟩ => ⟨S_, .f32⟩
  | .hbm, ⟨21, _⟩ => ⟨S2x1024x1408, .f32⟩
  | .hbm, ⟨22, _⟩ => ⟨S2x1024x1408, .f32⟩
  | .hbm, ⟨23, _⟩ => ⟨S_, .f32⟩
  | .hbm, ⟨24, _⟩ => ⟨S2x1024x1408, .f32⟩
  | .hbm, ⟨25, _⟩ => ⟨S2x1024x1408, .f32⟩
  | .hbm, ⟨26, _⟩ => ⟨S2x1024x1408, .f32⟩
  | .hbm, ⟨27, _⟩ => ⟨S_, .f32⟩
  | .hbm, ⟨28, _⟩ => ⟨S2x1024x1408, .f32⟩
  | .hbm, ⟨29, _⟩ => ⟨S2x1024x1408, .f32⟩
  | .hbm, ⟨30, _⟩ => ⟨S2x1024x1408, .f32⟩
  | .hbm, ⟨31, _⟩ => ⟨S_, .f32⟩
  | .hbm, ⟨32, _⟩ => ⟨S2x1024x1408, .f32⟩
  | .hbm, ⟨33, _⟩ => ⟨S2x1024x1408, .f32⟩
  | .hbm, ⟨34, _⟩ => ⟨S2x1024x1408, .f32⟩
  | .hbm, ⟨35, _⟩ => ⟨S_, .f32⟩
  | .hbm, ⟨36, _⟩ => ⟨S2x1024x1408, .f32⟩
  | .hbm, ⟨37, _⟩ => ⟨S2x1024x1408, .f32⟩
  | .hbm, ⟨38, _⟩ => ⟨S2048x1408, .f32⟩
  | .hbm, ⟨39, _⟩ => ⟨S2048x1408, .f32⟩
  | .hbm, ⟨40, _⟩ => ⟨S2048x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel8.lean ====
abbrev S2x704x1024 : Shape := ⟨3, ![2, 704, 1024]⟩
abbrev S1408x1024 : Shape := ⟨2, ![1408, 1024]⟩
abbrev S352x1024 : Shape := ⟨2, ![352, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S2x704x1024 : Shape := ⟨3, ![2, 704, 1024]⟩
abbrev S1408x1024 : Shape := ⟨2, ![1408, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S_, .f32⟩
  | .hbm, ⟨6, _⟩ => ⟨S2x704x1024, .f32⟩
  | .hbm, ⟨7, _⟩ => ⟨S2x704x1024, .f32⟩
  | .hbm, ⟨8, _⟩ => ⟨S_, .f32⟩
  | .hbm, ⟨9, _⟩ => ⟨S2x704x1024, .f32⟩
  | .hbm, ⟨10, _⟩ => ⟨S2x704x1024, .f32⟩
  | .hbm, ⟨11, _⟩ => ⟨S2x704x1024, .f32⟩
  | .hbm, ⟨12, _⟩ => ⟨S_, .f32⟩
  | .hbm, ⟨13, _⟩ => ⟨S2x704x1024, .f32⟩
  | .hbm, ⟨14, _⟩ => ⟨S2x704x1024, .f32⟩
  | .hbm, ⟨15, _⟩ => ⟨S2x704x1024, .f32⟩
  | .hbm, ⟨16, _⟩ => ⟨S_, .f32⟩
  | .hbm, ⟨17, _⟩ => ⟨S2x704x1024, .f32⟩
  | .hbm, ⟨18, _⟩ => ⟨S2x704x1024, .f32⟩
  | .hbm, ⟨19, _⟩ => ⟨S2x704x1024, .f32⟩
  | .hbm, ⟨20, _⟩ => ⟨S_, .f32⟩
  | .hbm, ⟨21, _⟩ => ⟨S2x704x1024, .f32⟩
  | .hbm, ⟨22, _⟩ => ⟨S2x704x1024, .f32⟩
  | .hbm, ⟨23, _⟩ => ⟨S_, .f32⟩
  | .hbm, ⟨24, _⟩ => ⟨S2x704x1024, .f32⟩
  | .hbm, ⟨25, _⟩ => ⟨S2x704x1024, .f32⟩
  | .hbm, ⟨26, _⟩ => ⟨S2x704x1024, .f32⟩
  | .hbm, ⟨27, _⟩ => ⟨S_, .f32⟩
  | .hbm, ⟨28, _⟩ => ⟨S2x704x1024, .f32⟩
  | .hbm, ⟨29, _⟩ => ⟨S2x704x1024, .f32⟩
  | .hbm, ⟨30, _⟩ => ⟨S2x704x1024, .f32⟩
  | .hbm, ⟨31, _⟩ => ⟨S_, .f32⟩
  | .hbm, ⟨32, _⟩ => ⟨S2x704x1024, .f32⟩
  | .hbm, ⟨33, _⟩ => ⟨S2x704x1024, .f32⟩
  | .hbm, ⟨34, _⟩ => ⟨S2x704x1024, .f32⟩
  | .hbm, ⟨35, _⟩ => ⟨S_, .f32⟩
  | .hbm, ⟨36, _⟩ => ⟨S2x704x1024, .f32⟩
  | .hbm, ⟨37, _⟩ => ⟨S2x704x1024, .f32⟩
  | .hbm, ⟨38, _⟩ => ⟨S1408x1024, .f32⟩
  | .hbm, ⟨39, _⟩ => ⟨S1408x1024, .f32⟩
  | .hbm, ⟨40, _⟩ => ⟨S1408x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel9.lean ====
abbrev S1x1024x768 : Shape := ⟨3, ![1, 1024, 768]⟩
abbrev S1024x768 : Shape := ⟨2, ![1024, 768]⟩
abbrev S512x768 : Shape := ⟨2, ![512, 768]⟩

abbrev nBuf : Space → Nat
  | .hbm => 12
  | .vmem => 16
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S1024x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S1x1024x768 : Shape := ⟨3, ![1, 1024, 768]⟩
abbrev S1024x768 : Shape := ⟨2, ![1024, 768]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1024x768, .f32⟩
  | .hbm, ⟨5, _⟩ => ⟨S_, .f32⟩
  | .hbm, ⟨6, _⟩ => ⟨S1x1024x768, .f32⟩
  | .hbm, ⟨7, _⟩ => ⟨S1x1024x768, .f32⟩
  | .hbm, ⟨8, _⟩ => ⟨S_, .f32⟩
  | .hbm, ⟨9, _⟩ => ⟨S1x1024x768, .f32⟩
  | .hbm, ⟨10, _⟩ => ⟨S1x1024x768, .f32⟩
  | .hbm, ⟨11, _⟩ => ⟨S1x1024x768, .f32⟩
  | .hbm, ⟨12, _⟩ => ⟨S_, .f32⟩
  | .hbm, ⟨13, _⟩ => ⟨S1x1024x768, .f32⟩
  | .hbm, ⟨14, _⟩ => ⟨S1x1024x768, .f32⟩
  | .hbm, ⟨15, _⟩ => ⟨S1x1024x768, .f32⟩
  | .hbm, ⟨16, _⟩ => ⟨S_, .f32⟩
  | .hbm, ⟨17, _⟩ => ⟨S1x1024x768, .f32⟩
  | .hbm, ⟨18, _⟩ => ⟨S1x1024x768, .f32⟩
  | .hbm, ⟨19, _⟩ => ⟨S1x1024x768, .f32⟩
  | .hbm, ⟨20, _⟩ => ⟨S_, .f32⟩
  | .hbm, ⟨21, _⟩ => ⟨S1x1024x768, .f32⟩
  | .hbm, ⟨22, _⟩ => ⟨S1x1024x768, .f32⟩
  | .hbm, ⟨23, _⟩ => ⟨S_, .f32⟩
  | .hbm, ⟨24, _⟩ => ⟨S1x1024x768, .f32⟩
  | .hbm, ⟨25, _⟩ => ⟨S1x1024x768, .f32⟩
  | .hbm, ⟨26, _⟩ => ⟨S1x1024x768, .f32⟩
  | .hbm, ⟨27, _⟩ => ⟨S_, .f32⟩
  | .hbm, ⟨28, _⟩ => ⟨S1x1024x768, .f32⟩
  | .hbm, ⟨29, _⟩ => ⟨S1x1024x768, .f32⟩
  | .hbm, ⟨30, _⟩ => ⟨S1x1024x768, .f32⟩
  | .hbm, ⟨31, _⟩ => ⟨S_, .f32⟩
  | .hbm, ⟨32, _⟩ => ⟨S1x1024x768, .f32⟩
  | .hbm, ⟨33, _⟩ => ⟨S1x1024x768, .f32⟩
  | .hbm, ⟨34, _⟩ => ⟨S1x1024x768, .f32⟩
  | .hbm, ⟨35, _⟩ => ⟨S_, .f32⟩
  | .hbm, ⟨36, _⟩ => ⟨S1x1024x768, .f32⟩
  | .hbm, ⟨37, _⟩ => ⟨S1x1024x768, .f32⟩
  | .hbm, ⟨38, _⟩ => ⟨S1024x768, .f32⟩
  | .hbm, ⟨39, _⟩ => ⟨S1024x768, .f32⟩
  | .hbm, ⟨40, _⟩ => ⟨S1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel10.lean ====
abbrev S1x256x1024 : Shape := ⟨3, ![1, 256, 1024]⟩
abbrev S256x1024 : Shape := ⟨2, ![256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference10Ideal.lean ====
abbrev S1x256x1024 : Shape := ⟨3, ![1, 256, 1024]⟩
abbrev S256x1024 : Shape := ⟨2, ![256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S_, .f32⟩
  | .hbm, ⟨6, _⟩ => ⟨S1x256x1024, .f32⟩
  | .hbm, ⟨7, _⟩ => ⟨S1x256x1024, .f32⟩
  | .hbm, ⟨8, _⟩ => ⟨S_, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .hbm, ⟨12, _⟩ => ⟨S_, .f32⟩
  | .hbm, ⟨13, _⟩ => ⟨S1x256x1024, .f32⟩
  | .hbm, ⟨14, _⟩ => ⟨S1x256x1024, .f32⟩
  | .hbm, ⟨15, _⟩ => ⟨S1x256x1024, .f32⟩
  | .hbm, ⟨16, _⟩ => ⟨S_, .f32⟩
  | .hbm, ⟨17, _⟩ => ⟨S1x256x1024, .f32⟩
  | .hbm, ⟨18, _⟩ => ⟨S1x256x1024, .f32⟩
  | .hbm, ⟨19, _⟩ => ⟨S1x256x1024, .f32⟩
  | .hbm, ⟨20, _⟩ => ⟨S_, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S1x256x1024, .f32⟩
  | .hbm, ⟨27, _⟩ => ⟨S_, .f32⟩
  | .hbm, ⟨28, _⟩ => ⟨S1x256x1024, .f32⟩
  | .hbm, ⟨29, _⟩ => ⟨S1x256x1024, .f32⟩
  | .hbm, ⟨30, _⟩ => ⟨S1x256x1024, .f32⟩
  | .hbm, ⟨31, _⟩ => ⟨S_, .f32⟩
  | .hbm, ⟨32, _⟩ => ⟨S1x256x1024, .f32⟩
  | .hbm, ⟨33, _⟩ => ⟨S1x256x1024, .f32⟩
  | .hbm, ⟨34, _⟩ => ⟨S1x256x1024, .f32⟩
  | .hbm, ⟨35, _⟩ => ⟨S_, .f32⟩
  | .hbm, ⟨36, _⟩ => ⟨S1x256x1024, .f32⟩
  | .hbm, ⟨37, _⟩ => ⟨S1x256x1024, .f32⟩
  | .hbm, ⟨38, _⟩ => ⟨S256x1024, .f32⟩
  | .hbm, ⟨39, _⟩ => ⟨S256x1024, .f32⟩
  | .hbm, ⟨40, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel11.lean ====
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 12
  | .vmem => 16
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S1x1024x512 : Shape := ⟨3, ![1, 1024, 512]⟩
abbrev S1024x512 : Shape := ⟨2, ![1024, 512]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S1024x512, .f32⟩
  | .hbm, ⟨5, _⟩ => ⟨S_, .f32⟩
  | .hbm, ⟨6, _⟩ => ⟨S1x1024x512, .f32⟩
  | .hbm, ⟨7, _⟩ => ⟨S1x1024x512, .f32⟩
  | .hbm, ⟨8, _⟩ => ⟨S_, .f32⟩
  | .hbm, ⟨9, _⟩ => ⟨S1x1024x512, .f32⟩
  | .hbm, ⟨10, _⟩ => ⟨S1x1024x512, .f32⟩
  | .hbm, ⟨11, _⟩ => ⟨S1x1024x512, .f32⟩
  | .hbm, ⟨12, _⟩ => ⟨S_, .f32⟩
  | .hbm, ⟨13, _⟩ => ⟨S1x1024x512, .f32⟩
  | .hbm, ⟨14, _⟩ => ⟨S1x1024x512, .f32⟩
  | .hbm, ⟨15, _⟩ => ⟨S1x1024x512, .f32⟩
  | .hbm, ⟨16, _⟩ => ⟨S_, .f32⟩
  | .hbm, ⟨17, _⟩ => ⟨S1x1024x512, .f32⟩
  | .hbm, ⟨18, _⟩ => ⟨S1x1024x512, .f32⟩
  | .hbm, ⟨19, _⟩ => ⟨S1x1024x512, .f32⟩
  | .hbm, ⟨20, _⟩ => ⟨S_, .f32⟩
  | .hbm, ⟨21, _⟩ => ⟨S1x1024x512, .f32⟩
  | .hbm, ⟨22, _⟩ => ⟨S1x1024x512, .f32⟩
  | .hbm, ⟨23, _⟩ => ⟨S_, .f32⟩
  | .hbm, ⟨24, _⟩ => ⟨S1x1024x512, .f32⟩
  | .hbm, ⟨25, _⟩ => ⟨S1x1024x512, .f32⟩
  | .hbm, ⟨26, _⟩ => ⟨S1x1024x512, .f32⟩
  | .hbm, ⟨27, _⟩ => ⟨S_, .f32⟩
  | .hbm, ⟨28, _⟩ => ⟨S1x1024x512, .f32⟩
  | .hbm, ⟨29, _⟩ => ⟨S1x1024x512, .f32⟩
  | .hbm, ⟨30, _⟩ => ⟨S1x1024x512, .f32⟩
  | .hbm, ⟨31, _⟩ => ⟨S_, .f32⟩
  | .hbm, ⟨32, _⟩ => ⟨S1x1024x512, .f32⟩
  | .hbm, ⟨33, _⟩ => ⟨S1x1024x512, .f32⟩
  | .hbm, ⟨34, _⟩ => ⟨S1x1024x512, .f32⟩
  | .hbm, ⟨35, _⟩ => ⟨S_, .f32⟩
  | .hbm, ⟨36, _⟩ => ⟨S1x1024x512, .f32⟩
  | .hbm, ⟨37, _⟩ => ⟨S1x1024x512, .f32⟩
  | .hbm, ⟨38, _⟩ => ⟨S1024x512, .f32⟩
  | .hbm, ⟨39, _⟩ => ⟨S1024x512, .f32⟩
  | .hbm, ⟨40, _⟩ => ⟨S1024x512, .f32⟩
  | _, _ => ⟨S1x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel12.lean ====
abbrev S1024x516 : Shape := ⟨2, ![1024, 516]⟩
abbrev S1024x640 : Shape := ⟨2, ![1024, 640]⟩
abbrev S512x516 : Shape := ⟨2, ![512, 516]⟩

abbrev nBuf : Space → Nat
  | .hbm => 9
  | .vmem => 16
  | .smem => 0
  | _ => 0

abbrev bufTy : (tb : Table) → Fin (tcTables nBuf tb) → BufTy
  | .hbm, ⟨0, _⟩ => ⟨S1024x516, .f32⟩
  | .hbm, ⟨1, _⟩ => ⟨S1024x640, .f32⟩
  | .hbm, ⟨2, _⟩ => ⟨S1024x516, .f32⟩
  | .hbm, ⟨3, _⟩ => ⟨S1024x516, .f32⟩
  | .hbm, ⟨4, _⟩ => ⟨S1024x516, .f32⟩
  | .hbm, ⟨5, _⟩ => ⟨S1024x516, .f32⟩
  | .hbm, ⟨6, _⟩ => ⟨S1024x516, .f32⟩
  | .hbm, ⟨7, _⟩ => ⟨S1024x516, .f32⟩
  | .hbm, ⟨8, _⟩ => ⟨S1024x516, .f32⟩
  | .local _ .vmem, ⟨0, _⟩ => ⟨S512x516, .f32⟩
  | .local _ .vmem, ⟨1, _⟩ => ⟨S512x516, .f32⟩
  | .local _ .vmem, ⟨2, _⟩ => ⟨S512x516, .f32⟩
  | .local _ .vmem, ⟨3, _⟩ => ⟨S512x516, .f32⟩
  | .local _ .vmem, ⟨4, _⟩ => ⟨S512x516, .f32⟩
  | .local _ .vmem, ⟨5, _⟩ => ⟨S512x516, .f32⟩
  | .local _ .vmem, ⟨6, _⟩ => ⟨S512x516, .f32⟩
  | .local _ .vmem, ⟨7, _⟩ => ⟨S512x516, .f32⟩
  | .local _ .vmem, ⟨8, _⟩ => ⟨S512x516, .f32⟩
  | .local _ .vmem, ⟨9, _⟩ => ⟨S512x516, .f32⟩
  | .local _ .vmem, ⟨10, _⟩ => ⟨S512x516, .f32⟩
  | .local _ .vmem, ⟨11, _⟩ => ⟨S512x516, .f32⟩
  | .local _ .vmem, ⟨12, _⟩ => ⟨S512x516, .f32⟩
  | .local _ .vmem, ⟨13, _⟩ => ⟨S512x516, .f32⟩
  | .local _ .vmem, ⟨14, _⟩ => ⟨S512x516, .f32⟩
  | .local _ .vmem, ⟨15, _⟩ => ⟨S512x516, .f32⟩
  | _, _ => ⟨S1024x516, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x516 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x516 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x516 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x516 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x516 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x516 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x516 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x516 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S1024x516 : Shape := ⟨2, ![1024, 516]⟩
abbrev S1024x640 : Shape := ⟨2, ![1024, 640]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1024x516, .f32⟩
  | .hbm, ⟨1, _⟩ => ⟨S1024x640, .f32⟩
  | .hbm, ⟨2, _⟩ => ⟨S1024x516, .f32⟩
  | .hbm, ⟨3, _⟩ => ⟨S1024x516, .f32⟩
  | .hbm, ⟨4, _⟩ => ⟨S1024x516, .f32⟩
  | .hbm, ⟨5, _⟩ => ⟨S_, .f32⟩
  | .hbm, ⟨6, _⟩ => ⟨S1024x516, .f32⟩
  | .hbm, ⟨7, _⟩ => ⟨S1024x516, .f32⟩
  | .hbm, ⟨8, _⟩ => ⟨S_, .f32⟩
  | .hbm, ⟨9, _⟩ => ⟨S1024x516, .f32⟩
  | .hbm, ⟨10, _⟩ => ⟨S1024x516, .f32⟩
  | .hbm, ⟨11, _⟩ => ⟨S1024x516, .f32⟩
  | .hbm, ⟨12, _⟩ => ⟨S_, .f32⟩
  | .hbm, ⟨13, _⟩ => ⟨S1024x516, .f32⟩
  | .hbm, ⟨14, _⟩ => ⟨S1024x516, .f32⟩
  | .hbm, ⟨15, _⟩ => ⟨S1024x516, .f32⟩
  | .hbm, ⟨16, _⟩ => ⟨S_, .f32⟩
  | .hbm, ⟨17, _⟩ => ⟨S1024x516, .f32⟩
  | .hbm, ⟨18, _⟩ => ⟨S1024x516, .f32⟩
  | .hbm, ⟨19, _⟩ => ⟨S1024x516, .f32⟩
  | .hbm, ⟨20, _⟩ => ⟨S_, .f32⟩
  | .hbm, ⟨21, _⟩ => ⟨S1024x516, .f32⟩
  | .hbm, ⟨22, _⟩ => ⟨S1024x516, .f32⟩
  | .hbm, ⟨23, _⟩ => ⟨S_, .f32⟩
  | .hbm, ⟨24, _⟩ => ⟨S1024x516, .f32⟩
  | .hbm, ⟨25, _⟩ => ⟨S1024x516, .f32⟩
  | .hbm, ⟨26, _⟩ => ⟨S1024x516, .f32⟩
  | .hbm, ⟨27, _⟩ => ⟨S_, .f32⟩
  | .hbm, ⟨28, _⟩ => ⟨S1024x516, .f32⟩
  | .hbm, ⟨29, _⟩ => ⟨S1024x516, .f32⟩
  | .hbm, ⟨30, _⟩ => ⟨S1024x516, .f32⟩
  | .hbm, ⟨31, _⟩ => ⟨S_, .f32⟩
  | .hbm, ⟨32, _⟩ => ⟨S1024x516, .f32⟩
  | .hbm, ⟨33, _⟩ => ⟨S1024x516, .f32⟩
  | .hbm, ⟨34, _⟩ => ⟨S1024x516, .f32⟩
  | .hbm, ⟨35, _⟩ => ⟨S_, .f32⟩
  | .hbm, ⟨36, _⟩ => ⟨S1024x516, .f32⟩
  | .hbm, ⟨37, _⟩ => ⟨S1024x516, .f32⟩
  | _, _ => ⟨S1024x516, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel13.lean ====
abbrev S2x1024 : Shape := ⟨2, ![2, 1024]⟩
abbrev S1024 : Shape := ⟨1, ![1024]⟩
abbrev S16 : Shape := ⟨1, ![16]⟩
abbrev S1x3x256 : Shape := ⟨3, ![1, 3, 256]⟩
abbrev S_ : Shape := ⟨0, ![]⟩
abbrev S1x1024 : Shape := ⟨2, ![1, 1024]⟩
abbrev S3x1024 : Shape := ⟨2, ![3, 1024]⟩
abbrev S3x256 : Shape := ⟨2, ![3, 256]⟩
abbrev S20x1024 : Shape := ⟨2, ![20, 1024]⟩
abbrev S24x1024 : Shape := ⟨2, ![24, 1024]⟩

abbrev nBuf : Space → Nat
  | .hbm => 112
  | .vmem => 8
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S1024, .f32⟩
  | .hbm, ⟨7, _⟩ => ⟨S16, .f32⟩
  | .hbm, ⟨8, _⟩ => ⟨S1x3x256, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S1024, .f32⟩
  | .hbm, ⟨16, _⟩ => ⟨S16, .f32⟩
  | .hbm, ⟨17, _⟩ => ⟨S1x3x256, .f32⟩
  | .hbm, ⟨18, _⟩ => ⟨S2x1024, .f32⟩
  | .hbm, ⟨19, _⟩ => ⟨S2x1024, .f32⟩
  | .hbm, ⟨20, _⟩ => ⟨S2x1024, .f32⟩
  | .hbm, ⟨21, _⟩ => ⟨S2x1024, .f32⟩
  | .hbm, ⟨22, _⟩ => ⟨S2x1024, .f32⟩
  | .hbm, ⟨23, _⟩ => ⟨S2x1024, .f32⟩
  | .hbm, ⟨24, _⟩ => ⟨S1024, .f32⟩
  | .hbm, ⟨25, _⟩ => ⟨S16, .f32⟩
  | .hbm, ⟨26, _⟩ => ⟨S1x3x256, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S2x1024, .f32⟩
  | .hbm, ⟨31, _⟩ => ⟨S2x1024, .f32⟩
  | .hbm, ⟨32, _⟩ => ⟨S2x1024, .f32⟩
  | .hbm, ⟨33, _⟩ => ⟨S1024, .f32⟩
  | .hbm, ⟨34, _⟩ => ⟨S16, .f32⟩
  | .hbm, ⟨35, _⟩ => ⟨S1x3x256, .f32⟩
  | .hbm, ⟨36, _⟩ => ⟨S_, .i32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S_, .f32⟩
  | .hbm, ⟨41, _⟩ => ⟨S3x1024, .f32⟩
  | .hbm, ⟨42, _⟩ => ⟨S_, .i32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S3x256, .f32⟩
  | .hbm, ⟨47, _⟩ => ⟨S_, .i32⟩
  | .hbm, ⟨48, _⟩ => ⟨S_, .f32⟩
  | .hbm, ⟨49, _⟩ => ⟨S3x1024, .f32⟩
  | .hbm, ⟨50, _⟩ => ⟨S20x1024, .f32⟩
  | .hbm, ⟨51, _⟩ => ⟨S_, .i32⟩
  | .hbm, ⟨52, _⟩ => ⟨S_, .f32⟩
  | .hbm, ⟨53, _⟩ => ⟨S24x1024, .f32⟩
  | .hbm, ⟨54, _⟩ => ⟨S_, .i32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S3x1024, .f32⟩
  | .hbm, ⟨60, _⟩ => ⟨S_, .i32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S3x256, .f32⟩
  | .hbm, ⟨65, _⟩ => ⟨S_, .i32⟩
  | .hbm, ⟨66, _⟩ => ⟨S_, .f32⟩
  | .hbm, ⟨67, _⟩ => ⟨S3x1024, .f32⟩
  | .hbm, ⟨68, _⟩ => ⟨S20x1024, .f32⟩
  | .hbm, ⟨69, _⟩ => ⟨S_, .i32⟩
  | .hbm, ⟨70, _⟩ => ⟨S_, .f32⟩
  | .hbm, ⟨71, _⟩ => ⟨S24x1024, .f32⟩
  | .hbm, ⟨72, _⟩ => ⟨S_, .i32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S_, .f32⟩
  | .hbm, ⟨77, _⟩ => ⟨S3x1024, .f32⟩
  | .hbm, ⟨78, _⟩ => ⟨S_, .i32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S3x256, .f32⟩
  | .hbm, ⟨83, _⟩ => ⟨S_, .i32⟩
  | .hbm, ⟨84, _⟩ => ⟨S_, .f32⟩
  | .hbm, ⟨85, _⟩ => ⟨S3x1024, .f32⟩
  | .hbm, ⟨86, _⟩ => ⟨S20x1024, .f32⟩
  | .hbm, ⟨87, _⟩ => ⟨S_, .i32⟩
  | .hbm, ⟨88, _⟩ => ⟨S_, .f32⟩
  | .hbm, ⟨89, _⟩ => ⟨S24x1024, .f32⟩
  | .hbm, ⟨90, _⟩ => ⟨S_, .i32⟩
  | .hbm, ⟨91, _⟩ => ⟨S_, .f32⟩
  | .hbm, ⟨92, _⟩ => ⟨S1024, .f32⟩
  | .hbm, ⟨93, _⟩ => ⟨S1x1024, .f32⟩
  | .hbm, ⟨94, _⟩ => ⟨S_, .f32⟩
  | .hbm, ⟨95, _⟩ => ⟨S3x1024, .f32⟩
  | .hbm, ⟨96, _⟩ => ⟨S_, .i32⟩
  | .hbm, ⟨97, _⟩ => ⟨S_, .f32⟩
  | .hbm, ⟨98, _⟩ => ⟨S1024, .f32⟩
  | .hbm, ⟨99, _⟩ => ⟨S1x1024, .f32⟩
  | .hbm, ⟨100, _⟩ => ⟨S3x256, .f32⟩
  | .hbm, ⟨101, _⟩ => ⟨S_, .i32⟩
  | .hbm, ⟨102, _⟩ => ⟨S_, .f32⟩
  | .hbm, ⟨103, _⟩ => ⟨S3x1024, .f32⟩
  | .hbm, ⟨104, _⟩ => ⟨S20x1024, .f32⟩
  | .hbm, ⟨105, _⟩ => ⟨S_, .i32⟩
  | .hbm, ⟨106, _⟩ => ⟨S_, .f32⟩
  | .hbm, ⟨107, _⟩ => ⟨S24x1024, .f32⟩
  | .hbm, ⟨108, _⟩ => ⟨S24x1024, .f32⟩
  | .hbm, ⟨109, _⟩ => ⟨S24x1024, .f32⟩
  | .hbm, ⟨110, _⟩ => ⟨S24x1024, .f32⟩
  | .hbm, ⟨111, _⟩ => ⟨S24x1024, .f32⟩
  | .local _ .vmem, ⟨0, _⟩ => ⟨S24x1024, .f32⟩
  | .local _ .vmem, ⟨1, _⟩ => ⟨S24x1024, .f32⟩
  | .local _ .vmem, ⟨2, _⟩ => ⟨S24x1024, .f32⟩
  | .local _ .vmem, ⟨3, _⟩ => ⟨S24x1024, .f32⟩
  | .local _ .vmem, ⟨4, _⟩ => ⟨S24x1024, .f32⟩
  | .local _ .vmem, ⟨5, _⟩ => ⟨S24x1024, .f32⟩
  | .local _ .vmem, ⟨6, _⟩ => ⟨S24x1024, .f32⟩
  | .local _ .vmem, ⟨7, _⟩ => ⟨S24x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_c : Ref sig .tc := ⟨.hbm, 36, rfl⟩
abbrev main_call0_v0 : Ref sig .tc := ⟨.hbm, 37, rfl⟩
abbrev main_v0 : Ref sig .tc := ⟨.hbm, 38, rfl⟩
abbrev main_v1 : Ref sig .tc := ⟨.hbm, 39, rfl⟩
abbrev main_cst : Ref sig .tc := ⟨.hbm, 40, rfl⟩
abbrev main_v2 : Ref sig .tc := ⟨.hbm, 41, rfl⟩
abbrev main_c_0 : Ref sig .tc := ⟨.hbm, 42, rfl⟩
abbrev main_call1_v0 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_c_1 : Ref sig .tc := ⟨.hbm, 47, rfl⟩
abbrev main_call2_v0 : Ref sig .tc := ⟨.hbm, 48, rfl⟩
abbrev main_v6 : Ref sig .tc := ⟨.hbm, 49, rfl⟩
abbrev main_v7 : Ref sig .tc := ⟨.hbm, 50, rfl⟩
abbrev main_c_2 : Ref sig .tc := ⟨.hbm, 51, rfl⟩
abbrev main_call3_v0 : Ref sig .tc := ⟨.hbm, 52, rfl⟩
abbrev main_v8 : Ref sig .tc := ⟨.hbm, 53, rfl⟩
abbrev main_c_3 : Ref sig .tc := ⟨.hbm, 54, rfl⟩
abbrev main_call4_v0 : Ref sig .tc := ⟨.hbm, 55, rfl⟩
abbrev main_v9 : Ref sig .tc := ⟨.hbm, 56, rfl⟩
abbrev main_v10 : Ref sig .tc := ⟨.hbm, 57, rfl⟩
abbrev main_cst_4 : Ref sig .tc := ⟨.hbm, 58, rfl⟩
abbrev main_v11 : Ref sig .tc := ⟨.hbm, 59, rfl⟩
abbrev main_c_5 : Ref sig .tc := ⟨.hbm, 60, rfl⟩
abbrev main_call5_v0 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_c_6 : Ref sig .tc := ⟨.hbm, 65, rfl⟩
abbrev main_call6_v0 : Ref sig .tc := ⟨.hbm, 66, rfl⟩
abbrev main_v15 : Ref sig .tc := ⟨.hbm, 67, rfl⟩
abbrev main_v16 : Ref sig .tc := ⟨.hbm, 68, rfl⟩
abbrev main_c_7 : Ref sig .tc := ⟨.hbm, 69, rfl⟩
abbrev main_call7_v0 : Ref sig .tc := ⟨.hbm, 70, rfl⟩
abbrev main_v17 : Ref sig .tc := ⟨.hbm, 71, rfl⟩
abbrev main_c_8 : Ref sig .tc := ⟨.hbm, 72, rfl⟩
abbrev main_call8_v0 : Ref sig .tc := ⟨.hbm, 73, rfl⟩
abbrev main_v18 : Ref sig .tc := ⟨.hbm, 74, rfl⟩
abbrev main_v19 : Ref sig .tc := ⟨.hbm, 75, rfl⟩
abbrev main_cst_9 : Ref sig .tc := ⟨.hbm, 76, rfl⟩
abbrev main_v20 : Ref sig .tc := ⟨.hbm, 77, rfl⟩
abbrev main_c_10 : Ref sig .tc := ⟨.hbm, 78, rfl⟩
abbrev main_call9_v0 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_c_11 : Ref sig .tc := ⟨.hbm, 83, rfl⟩
abbrev main_call10_v0 : Ref sig .tc := ⟨.hbm, 84, rfl⟩
abbrev main_v24 : Ref sig .tc := ⟨.hbm, 85, rfl⟩
abbrev main_v25 : Ref sig .tc := ⟨.hbm, 86, rfl⟩
abbrev main_c_12 : Ref sig .tc := ⟨.hbm, 87, rfl⟩
abbrev main_call11_v0 : Ref sig .tc := ⟨.hbm, 88, rfl⟩
abbrev main_v26 : Ref sig .tc := ⟨.hbm, 89, rfl⟩
abbrev main_c_13 : Ref sig .tc := ⟨.hbm, 90, rfl⟩
abbrev main_call12_v0 : Ref sig .tc := ⟨.hbm, 91, rfl⟩
abbrev main_v27 : Ref sig .tc := ⟨.hbm, 92, rfl⟩
abbrev main_v28 : Ref sig .tc := ⟨.hbm, 93, rfl⟩
abbrev main_cst_14 : Ref sig .tc := ⟨.hbm, 94, rfl⟩
abbrev main_v29 : Ref sig .tc := ⟨.hbm, 95, rfl⟩
abbrev main_c_15 : Ref sig .tc := ⟨.hbm, 96, rfl⟩
abbrev main_call13_v0 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_c_16 : Ref sig .tc := ⟨.hbm, 101, rfl⟩
abbrev main_call14_v0 : Ref sig .tc := ⟨.hbm, 102, rfl⟩
abbrev main_v33 : Ref sig .tc := ⟨.hbm, 103, rfl⟩
abbrev main_v34 : Ref sig .tc := ⟨.hbm, 104, rfl⟩
abbrev main_c_17 : Ref sig .tc := ⟨.hbm, 105, rfl⟩
abbrev main_call15_v0 : Ref sig .tc := ⟨.hbm, 106, rfl⟩
abbrev main_v35 : Ref sig .tc := ⟨.hbm, 107, rfl⟩
abbrev main_v36_0 : Ref sig .tc := ⟨.hbm, 108, rfl⟩
abbrev main_v36_1 : Ref sig .tc := ⟨.hbm, 109, rfl⟩
abbrev main_v36_2 : Ref sig .tc := ⟨.hbm, 110, rfl⟩
abbrev main_v36_3 : Ref sig .tc := ⟨.hbm, 111, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S24x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S24x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S24x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference13Ideal.lean ====
abbrev S2x1024 : Shape := ⟨2, ![2, 1024]⟩
abbrev S1024 : Shape := ⟨1, ![1024]⟩
abbrev S16 : Shape := ⟨1, ![16]⟩
abbrev S1x3x256 : Shape := ⟨3, ![1, 3, 256]⟩
abbrev S_ : Shape := ⟨0, ![]⟩
abbrev S1008 : Shape := ⟨1, ![1008]⟩
abbrev S1x1024 : Shape := ⟨2, ![1, 1024]⟩
abbrev S3x1024 : Shape := ⟨2, ![3, 1024]⟩
abbrev S3x256 : Shape := ⟨2, ![3, 256]⟩
abbrev S3x768 : Shape := ⟨2, ![3, 768]⟩
abbrev S4x1024 : Shape := ⟨2, ![4, 1024]⟩
abbrev S24x1024 : Shape := ⟨2, ![24, 1024]⟩

abbrev nBuf : Space → Nat
  | .hbm => 389
  | .vmem => 0
  | .smem => 0
  | _ => 0

abbrev hbmTy0_0 (i : Nat) : BufTy := match i % 128 with
  | 0 => ⟨S2x1024, .f32⟩
  | 1 => ⟨S2x1024, .f32⟩
  | 2 => ⟨S2x1024, .f32⟩
  | 3 => ⟨S2x1024, .f32⟩
  | 4 => ⟨S2x1024, .f32⟩
  | 5 => ⟨S2x1024, .f32⟩
  | 6 => ⟨S1024, .f32⟩
  | 7 => ⟨S16, .f32⟩
  | 8 => ⟨S1x3x256, .f32⟩
  | 9 => ⟨S2x1024, .f32⟩
  | 10 => ⟨S2x1024, .f32⟩
  | 11 => ⟨S2x1024, .f32⟩
  | 12 => ⟨S2x1024, .f32⟩
  | 13 => ⟨S2x1024, .f32⟩
  | 14 => ⟨S2x1024, .f32⟩
  | 15 => ⟨S1024, .f32⟩
  | 16 => ⟨S16, .f32⟩
  | 17 => ⟨S1x3x256, .f32⟩
  | 18 => ⟨S2x1024, .f32⟩
  | 19 => ⟨S2x1024, .f32⟩
  | 20 => ⟨S2x1024, .f32⟩
  | 21 => ⟨S2x1024, .f32⟩
  | 22 => ⟨S2x1024, .f32⟩
  | 23 => ⟨S2x1024, .f32⟩
  | 24 => ⟨S1024, .f32⟩
  | 25 => ⟨S16, .f32⟩
  | 26 => ⟨S1x3x256, .f32⟩
  | 27 => ⟨S2x1024, .f32⟩
  | 28 => ⟨S2x1024, .f32⟩
  | 29 => ⟨S2x1024, .f32⟩
  | 30 => ⟨S2x1024, .f32⟩
  | 31 => ⟨S2x1024, .f32⟩
  | 32 => ⟨S2x1024, .f32⟩
  | 33 => ⟨S1024, .f32⟩
  | 34 => ⟨S16, .f32⟩
  | 35 => ⟨S1x3x256, .f32⟩
  | 36 => ⟨S_, .f32⟩
  | 37 => ⟨S2x1024, .f32⟩
  | 38 => ⟨S2x1024, .f32⟩
  | 39 => ⟨S_, .f32⟩
  | 40 => ⟨S2x1024, .f32⟩
  | 41 => ⟨S2x1024, .f32⟩
  | 42 => ⟨S2x1024, .f32⟩
  | 43 => ⟨S_, .f32⟩
  | 44 => ⟨S2x1024, .f32⟩
  | 45 => ⟨S2x1024, .f32⟩
  | 46 => ⟨S2x1024, .f32⟩
  | 47 => ⟨S_, .f32⟩
  | 48 => ⟨S2x1024, .f32⟩
  | 49 => ⟨S2x1024, .f32⟩
  | 50 => ⟨S2x1024, .f32⟩
  | 51 => ⟨S_, .f32⟩
  | 52 => ⟨S2x1024, .f32⟩
  | 53 => ⟨S2x1024, .f32⟩
  | 54 => ⟨S_, .f32⟩
  | 55 => ⟨S2x1024, .f32⟩
  | 56 => ⟨S2x1024, .f32⟩
  | 57 => ⟨S2x1024, .f32⟩
  | 58 => ⟨S_, .f32⟩
  | 59 => ⟨S2x1024, .f32⟩
  | 60 => ⟨S2x1024, .f32⟩
  | 61 => ⟨S2x1024, .f32⟩
  | 62 => ⟨S_, .f32⟩
  | 63 => ⟨S2x1024, .f32⟩
  | 64 => ⟨S2x1024, .f32⟩
  | 65 => ⟨S2x1024, .f32⟩
  | 66 => ⟨S_, .f32⟩
  | 67 => ⟨S2x1024, .f32⟩
  | 68 => ⟨S2x1024, .f32⟩
  | 69 => ⟨S_, .f32⟩
  | 70 => ⟨S2x1024, .f32⟩
  | 71 => ⟨S2x1024, .f32⟩
  | 72 => ⟨S_, .f32⟩
  | 73 => ⟨S2x1024, .f32⟩
  | 74 => ⟨S2x1024, .f32⟩
  | 75 => ⟨S2x1024, .f32⟩
  | 76 => ⟨S_, .f32⟩
  | 77 => ⟨S2x1024, .f32⟩
  | 78 => ⟨S2x1024, .f32⟩
  | 79 => ⟨S2x1024, .f32⟩
  | 80 => ⟨S_, .f32⟩
  | 81 => ⟨S2x1024, .f32⟩
  | 82 => ⟨S2x1024, .f32⟩
  | 83 => ⟨S2x1024, .f32⟩
  | 84 => ⟨S_, .f32⟩
  | 85 => ⟨S2x1024, .f32⟩
  | 86 => ⟨S2x1024, .f32⟩
  | 87 => ⟨S_, .f32⟩
  | 88 => ⟨S2x1024, .f32⟩
  | 89 => ⟨S2x1024, .f32⟩
  | 90 => ⟨S2x1024, .f32⟩
  | 91 => ⟨S_, .f32⟩
  | 92 => ⟨S2x1024, .f32⟩
  | 93 => ⟨S2x1024, .f32⟩
  | 94 => ⟨S2x1024, .f32⟩
  | 95 => ⟨S_, .f32⟩
  | 96 => ⟨S2x1024, .f32⟩
  | 97 => ⟨S2x1024, .f32⟩
  | 98 => ⟨S2x1024, .f32⟩
  | 99 => ⟨S_, .f32⟩
  | 100 => ⟨S2x1024, .f32⟩
  | 101 => ⟨S2x1024, .f32⟩
  | 102 => ⟨S_, .f32⟩
  | 103 => ⟨S2x1024, .f32⟩
  | 104 => ⟨S2x1024, .f32⟩
  | 105 => ⟨S_, .f32⟩
  | 106 => ⟨S2x1024, .f32⟩
  | 107 => ⟨S2x1024, .f32⟩
  | 108 => ⟨S2x1024, .f32⟩
  | 109 => ⟨S_, .f32⟩
  | 110 => ⟨S2x1024, .f32⟩
  | 111 => ⟨S2x1024, .f32⟩
  | 112 => ⟨S2x1024, .f32⟩
  | 113 => ⟨S_, .f32⟩
  | 114 => ⟨S2x1024, .f32⟩
  | 115 => ⟨S2x1024, .f32⟩
  | 116 => ⟨S2x1024, .f32⟩
  | 117 => ⟨S_, .f32⟩
  | 118 => ⟨S2x1024, .f32⟩
  | 119 => ⟨S2x1024, .f32⟩
  | 120 => ⟨S_, .f32⟩
  | 121 => ⟨S2x1024, .f32⟩
  | 122 => ⟨S2x1024, .f32⟩
  | 123 => ⟨S2x1024, .f32⟩
  | 124 => ⟨S_, .f32⟩
  | 125 => ⟨S2x1024, .f32⟩
  | 126 => ⟨S2x1024, .f32⟩
  | 127 => ⟨S2x1024, .f32⟩
  | _ => ⟨S2x1024, .f32⟩

abbrev hbmTy0_1 (i : Nat) : BufTy := match i % 128 with
  | 0 => ⟨S_, .f32⟩
  | 1 => ⟨S2x1024, .f32⟩
  | 2 => ⟨S2x1024, .f32⟩
  | 3 => ⟨S2x1024, .f32⟩
  | 4 => ⟨S_, .f32⟩
  | 5 => ⟨S2x1024, .f32⟩
  | 6 => ⟨S2x1024, .f32⟩
  | 7 => ⟨S_, .f32⟩
  | 8 => ⟨S2x1024, .f32⟩
  | 9 => ⟨S2x1024, .f32⟩
  | 10 => ⟨S_, .f32⟩
  | 11 => ⟨S2x1024, .f32⟩
  | 12 => ⟨S2x1024, .f32⟩
  | 13 => ⟨S2x1024, .f32⟩
  | 14 => ⟨S_, .f32⟩
  | 15 => ⟨S2x1024, .f32⟩
  | 16 => ⟨S2x1024, .f32⟩
  | 17 => ⟨S2x1024, .f32⟩
  | 18 => ⟨S_, .f32⟩
  | 19 => ⟨S2x1024, .f32⟩
  | 20 => ⟨S2x1024, .f32⟩
  | 21 => ⟨S2x1024, .f32⟩
  | 22 => ⟨S_, .f32⟩
  | 23 => ⟨S2x1024, .f32⟩
  | 24 => ⟨S2x1024, .f32⟩
  | 25 => ⟨S_, .f32⟩
  | 26 => ⟨S2x1024, .f32⟩
  | 27 => ⟨S2x1024, .f32⟩
  | 28 => ⟨S2x1024, .f32⟩
  | 29 => ⟨S_, .f32⟩
  | 30 => ⟨S2x1024, .f32⟩
  | 31 => ⟨S2x1024, .f32⟩
  | 32 => ⟨S2x1024, .f32⟩
  | 33 => ⟨S_, .f32⟩
  | 34 => ⟨S2x1024, .f32⟩
  | 35 => ⟨S2x1024, .f32⟩
  | 36 => ⟨S2x1024, .f32⟩
  | 37 => ⟨S_, .f32⟩
  | 38 => ⟨S2x1024, .f32⟩
  | 39 => ⟨S2x1024, .f32⟩
  | 40 => ⟨S_, .f32⟩
  | 41 => ⟨S2x1024, .f32⟩
  | 42 => ⟨S2x1024, .f32⟩
  | 43 => ⟨S_, .f32⟩
  | 44 => ⟨S2x1024, .f32⟩
  | 45 => ⟨S2x1024, .f32⟩
  | 46 => ⟨S2x1024, .f32⟩
  | 47 => ⟨S_, .f32⟩
  | 48 => ⟨S2x1024, .f32⟩
  | 49 => ⟨S2x1024, .f32⟩
  | 50 => ⟨S2x1024, .f32⟩
  | 51 => ⟨S_, .f32⟩
  | 52 => ⟨S2x1024, .f32⟩
  | 53 => ⟨S2x1024, .f32⟩
  | 54 => ⟨S2x1024, .f32⟩
  | 55 => ⟨S_, .f32⟩
  | 56 => ⟨S2x1024, .f32⟩
  | 57 => ⟨S2x1024, .f32⟩
  | 58 => ⟨S_, .f32⟩
  | 59 => ⟨S2x1024, .f32⟩
  | 60 => ⟨S2x1024, .f32⟩
  | 61 => ⟨S2x1024, .f32⟩
  | 62 => ⟨S_, .f32⟩
  | 63 => ⟨S2x1024, .f32⟩
  | 64 => ⟨S2x1024, .f32⟩
  | 65 => ⟨S2x1024, .f32⟩
  | 66 => ⟨S_, .f32⟩
  | 67 => ⟨S2x1024, .f32⟩
  | 68 => ⟨S2x1024, .f32⟩
  | 69 => ⟨S2x1024, .f32⟩
  | 70 => ⟨S_, .f32⟩
  | 71 => ⟨S2x1024, .f32⟩
  | 72 => ⟨S2x1024, .f32⟩
  | 73 => ⟨S_, .f32⟩
  | 74 => ⟨S2x1024, .f32⟩
  | 75 => ⟨S2x1024, .f32⟩
  | 76 => ⟨S_, .f32⟩
  | 77 => ⟨S2x1024, .f32⟩
  | 78 => ⟨S2x1024, .f32⟩
  | 79 => ⟨S2x1024, .f32⟩
  | 80 => ⟨S_, .f32⟩
  | 81 => ⟨S2x1024, .f32⟩
  | 82 => ⟨S2x1024, .f32⟩
  | 83 => ⟨S2x1024, .f32⟩
  | 84 => ⟨S_, .f32⟩
  | 85 => ⟨S2x1024, .f32⟩
  | 86 => ⟨S2x1024, .f32⟩
  | 87 => ⟨S2x1024, .f32⟩
  | 88 => ⟨S_, .f32⟩
  | 89 => ⟨S2x1024, .f32⟩
  | 90 => ⟨S2x1024, .f32⟩
  | 91 => ⟨S_, .f32⟩
  | 92 => ⟨S2x1024, .f32⟩
  | 93 => ⟨S2x1024, .f32⟩
  | 94 => ⟨S2x1024, .f32⟩
  | 95 => ⟨S_, .f32⟩
  | 96 => ⟨S2x1024, .f32⟩
  | 97 => ⟨S2x1024, .f32⟩
  | 98 => ⟨S2x1024, .f32⟩
  | 99 => ⟨S_, .f32⟩
  | 100 => ⟨S2x1024, .f32⟩
  | 101 => ⟨S2x1024, .f32⟩
  | 102 => ⟨S2x1024, .f32⟩
  | 103 => ⟨S_, .f32⟩
  | 104 => ⟨S2x1024, .f32⟩
  | 105 => ⟨S2x1024, .f32⟩
  | 106 => ⟨S_, .f32⟩
  | 107 => ⟨S1024, .f32⟩
  | 108 => ⟨S1024, .f32⟩
  | 109 => ⟨S_, .f32⟩
  | 110 => ⟨S1024, .f32⟩
  | 111 => ⟨S1024, .f32⟩
  | 112 => ⟨S1024, .f32⟩
  | 113 => ⟨S_, .f32⟩
  | 114 => ⟨S1024, .f32⟩
  | 115 => ⟨S1024, .f32⟩
  | 116 => ⟨S1024, .f32⟩
  | 117 => ⟨S_, .f32⟩
  | 118 => ⟨S1024, .f32⟩
  | 119 => ⟨S1024, .f32⟩
  | 120 => ⟨S1024, .f32⟩
  | 121 => ⟨S_, .f32⟩
  | 122 => ⟨S1024, .f32⟩
  | 123 => ⟨S1024, .f32⟩
  | 124 => ⟨S_, .f32⟩
  | 125 => ⟨S1024, .f32⟩
  | 126 => ⟨S1024, .f32⟩
  | 127 => ⟨S1024, .f32⟩
  | _ => ⟨S2x1024, .f32⟩

abbrev hbmTy0_2 (i : Nat) : BufTy := match i % 128 with
  | 0 => ⟨S_, .f32⟩
  | 1 => ⟨S1024, .f32⟩
  | 2 => ⟨S1024, .f32⟩
  | 3 => ⟨S1024, .f32⟩
  | 4 => ⟨S_, .f32⟩
  | 5 => ⟨S1024, .f32⟩
  | 6 => ⟨S1024, .f32⟩
  | 7 => ⟨S1024, .f32⟩
  | 8 => ⟨S_, .f32⟩
  | 9 => ⟨S1024, .f32⟩
  | 10 => ⟨S1024, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S16, .f32⟩
  | 18 => ⟨S_, .f32⟩
  | 19 => ⟨S16, .f32⟩
  | 20 => ⟨S16, .f32⟩
  | 21 => ⟨S16, .f32⟩
  | 22 => ⟨S_, .f32⟩
  | 23 => ⟨S16, .f32⟩
  | 24 => ⟨S16, .f32⟩
  | 25 => ⟨S16, .f32⟩
  | 26 => ⟨S_, .f32⟩
  | 27 => ⟨S16, .f32⟩
  | 28 => ⟨S16, .f32⟩
  | 29 => ⟨S_, .f32⟩
  | 30 => ⟨S16, .f32⟩
  | 31 => ⟨S16, .f32⟩
  | 32 => ⟨S16, .f32⟩
  | 33 => ⟨S_, .f32⟩
  | 34 => ⟨S16, .f32⟩
  | 35 => ⟨S16, .f32⟩
  | 36 => ⟨S16, .f32⟩
  | 37 => ⟨S_, .f32⟩
  | 38 => ⟨S16, .f32⟩
  | 39 => ⟨S16, .f32⟩
  | 40 => ⟨S16, .f32⟩
  | 41 => ⟨S_, .f32⟩
  | 42 => ⟨S16, .f32⟩
  | 43 => ⟨S16, .f32⟩
  | 44 => ⟨S_, .f32⟩
  | 45 => ⟨S1x3x256, .f32⟩
  | 46 => ⟨S1x3x256, .f32⟩
  | 47 => ⟨S_, .f32⟩
  | 48 => ⟨S1x3x256, .f32⟩
  | 49 => ⟨S1x3x256, .f32⟩
  | 50 => ⟨S1x3x256, .f32⟩
  | 51 => ⟨S_, .f32⟩
  | 52 => ⟨S1x3x256, .f32⟩
  | 53 => ⟨S1x3x256, .f32⟩
  | 54 => ⟨S1x3x256, .f32⟩
  | 55 => ⟨S_, .f32⟩
  | 56 => ⟨S1x3x256, .f32⟩
  | 57 => ⟨S1x3x256, .f32⟩
  | 58 => ⟨S1x3x256, .f32⟩
  | 59 => ⟨S_, .f32⟩
  | 60 => ⟨S1x3x256, .f32⟩
  | 61 => ⟨S1x3x256, .f32⟩
  | 62 => ⟨S_, .f32⟩
  | 63 => ⟨S1x3x256, .f32⟩
  | 64 => ⟨S1x3x256, .f32⟩
  | 65 => ⟨S1x3x256, .f32⟩
  | 66 => ⟨S_, .f32⟩
  | 67 => ⟨S1x3x256, .f32⟩
  | 68 => ⟨S1x3x256, .f32⟩
  | 69 => ⟨S1x3x256, .f32⟩
  | 70 => ⟨S_, .f32⟩
  | 71 => ⟨S1x3x256, .f32⟩
  | 72 => ⟨S1x3x256, .f32⟩
  | 73 => ⟨S1x3x256, .f32⟩
  | 74 => ⟨S_, .f32⟩
  | 75 => ⟨S1x3x256, .f32⟩
  | 76 => ⟨S1x3x256, .f32⟩
  | 77 => ⟨S_, .f32⟩
  | 78 => ⟨S1008, .f32⟩
  | 79 => ⟨S1x1024, .f32⟩
  | 80 => ⟨S_, .f32⟩
  | 81 => ⟨S3x1024, .f32⟩
  | 82 => ⟨S1024, .f32⟩
  | 83 => ⟨S1x1024, .f32⟩
  | 84 => ⟨S3x256, .f32⟩
  | 85 => ⟨S_, .f32⟩
  | 86 => ⟨S3x768, .f32⟩
  | 87 => ⟨S3x1024, .f32⟩
  | 88 => ⟨S_, .f32⟩
  | 89 => ⟨S4x1024, .f32⟩
  | 90 => ⟨S24x1024, .f32⟩
  | 91 => ⟨S_, .f32⟩
  | 92 => ⟨S1008, .f32⟩
  | 93 => ⟨S1x1024, .f32⟩
  | 94 => ⟨S_, .f32⟩
  | 95 => ⟨S3x1024, .f32⟩
  | 96 => ⟨S1024, .f32⟩
  | 97 => ⟨S1x1024, .f32⟩
  | 98 => ⟨S3x256, .f32⟩
  | 99 => ⟨S_, .f32⟩
  | 100 => ⟨S3x768, .f32⟩
  | 101 => ⟨S3x1024, .f32⟩
  | 102 => ⟨S_, .f32⟩
  | 103 => ⟨S4x1024, .f32⟩
  | 104 => ⟨S24x1024, .f32⟩
  | 105 => ⟨S_, .f32⟩
  | 106 => ⟨S1008, .f32⟩
  | 107 => ⟨S1x1024, .f32⟩
  | 108 => ⟨S_, .f32⟩
  | 109 => ⟨S3x1024, .f32⟩
  | 110 => ⟨S1024, .f32⟩
  | 111 => ⟨S1x1024, .f32⟩
  | 112 => ⟨S3x256, .f32⟩
  | 113 => ⟨S_, .f32⟩
  | 114 => ⟨S3x768, .f32⟩
  | 115 => ⟨S3x1024, .f32⟩
  | 116 => ⟨S_, .f32⟩
  | 117 => ⟨S4x1024, .f32⟩
  | 118 => ⟨S24x1024, .f32⟩
  | 119 => ⟨S_, .f32⟩
  | 120 => ⟨S1008, .f32⟩
  | 121 => ⟨S1x1024, .f32⟩
  | 122 => ⟨S_, .f32⟩
  | 123 => ⟨S3x1024, .f32⟩
  | 124 => ⟨S1024, .f32⟩
  | 125 => ⟨S1x1024, .f32⟩
  | 126 => ⟨S3x256, .f32⟩
  | 127 => ⟨S_, .f32⟩
  | _ => ⟨S2x1024, .f32⟩

abbrev hbmTy0_3 (i : Nat) : BufTy := match i % 128 with
  | 0 => ⟨S3x768, .f32⟩
  | 1 => ⟨S3x1024, .f32⟩
  | 2 => ⟨S_, .f32⟩
  | 3 => ⟨S4x1024, .f32⟩
  | 4 => ⟨S24x1024, .f32⟩
  | _ => ⟨S2x1024, .f32⟩

abbrev hbmTy (i : Nat) : BufTy := match i / 128 with
  | 0 => hbmTy0_0 i
  | 1 => hbmTy0_1 i
  | 2 => hbmTy0_2 i
  | 3 => hbmTy0_3 i
  | _ => ⟨S2x1024, .f32⟩

abbrev bufTy : (tb : Table) → Fin (tcTables nBuf tb) → BufTy
  | .hbm, ⟨i, _⟩ => hbmTy i
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_v1 : Ref sig .tc := ⟨.hbm, 38, rfl⟩
abbrev main_cst_0 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst_1 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_2 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_3 : Ref sig .tc := ⟨.hbm, 51, rfl⟩
abbrev main_v11 : Ref sig .tc := ⟨.hbm, 52, rfl⟩
abbrev main_v12 : Ref sig .tc := ⟨.hbm, 53, rfl⟩
abbrev main_cst_4 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_5 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_6 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_7 : Ref sig .tc := ⟨.hbm, 66, rfl⟩
abbrev main_v22 : Ref sig .tc := ⟨.hbm, 67, rfl⟩
abbrev main_v23 : Ref sig .tc := ⟨.hbm, 68, rfl⟩
abbrev main_cst_8 : Ref sig .tc := ⟨.hbm, 69, rfl⟩
abbrev main_v24 : Ref sig .tc := ⟨.hbm, 70, rfl⟩
abbrev main_v25 : Ref sig .tc := ⟨.hbm, 71, rfl⟩
abbrev main_cst_9 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_10 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_11 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_12 : Ref sig .tc := ⟨.hbm, 84, rfl⟩
abbrev main_v35 : Ref sig .tc := ⟨.hbm, 85, rfl⟩
abbrev main_v36 : Ref sig .tc := ⟨.hbm, 86, rfl⟩
abbrev main_cst_13 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_14 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_15 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_16 : Ref sig .tc := ⟨.hbm, 99, rfl⟩
abbrev main_v46 : Ref sig .tc := ⟨.hbm, 100, rfl⟩
abbrev main_v47 : Ref sig .tc := ⟨.hbm, 101, rfl⟩
abbrev main_cst_17 : Ref sig .tc := ⟨.hbm, 102, rfl⟩
abbrev main_v48 : Ref sig .tc := ⟨.hbm, 103, rfl⟩
abbrev main_v49 : Ref sig .tc := ⟨.hbm, 104, rfl⟩
abbrev main_cst_18 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_19 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_20 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_21 : Ref sig .tc := ⟨.hbm, 117, rfl⟩
abbrev main_v59 : Ref sig .tc := ⟨.hbm, 118, rfl⟩
abbrev main_v60 : Ref sig .tc := ⟨.hbm, 119, rfl⟩
abbrev main_cst_22 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_23 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_24 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_25 : Ref sig .tc := ⟨.hbm, 132, rfl⟩
abbrev main_v70 : Ref sig .tc := ⟨.hbm, 133, rfl⟩
abbrev main_v71 : Ref sig .tc := ⟨.hbm, 134, rfl⟩
abbrev main_cst_26 : Ref sig .tc := ⟨.hbm, 135, rfl⟩
abbrev main_v72 : Ref sig .tc := ⟨.hbm, 136, rfl⟩
abbrev main_v73 : Ref sig .tc := ⟨.hbm, 137, rfl⟩
abbrev main_cst_27 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_28 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_cst_29 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_cst_30 : Ref sig .tc := ⟨.hbm, 150, rfl⟩
abbrev main_v83 : Ref sig .tc := ⟨.hbm, 151, rfl⟩
abbrev main_v84 : Ref sig .tc := ⟨.hbm, 152, rfl⟩
abbrev main_cst_31 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_cst_32 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_cst_33 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_34 : Ref sig .tc := ⟨.hbm, 165, rfl⟩
abbrev main_v94 : Ref sig .tc := ⟨.hbm, 166, rfl⟩
abbrev main_v95 : Ref sig .tc := ⟨.hbm, 167, rfl⟩
abbrev main_cst_35 : Ref sig .tc := ⟨.hbm, 168, rfl⟩
abbrev main_v96 : Ref sig .tc := ⟨.hbm, 169, rfl⟩
abbrev main_v97 : Ref sig .tc := ⟨.hbm, 170, rfl⟩
abbrev main_cst_36 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_cst_37 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_cst_38 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_cst_39 : Ref sig .tc := ⟨.hbm, 183, rfl⟩
abbrev main_v107 : Ref sig .tc := ⟨.hbm, 184, rfl⟩
abbrev main_v108 : Ref sig .tc := ⟨.hbm, 185, rfl⟩
abbrev main_cst_40 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_cst_41 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_42 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_cst_43 : Ref sig .tc := ⟨.hbm, 198, rfl⟩
abbrev main_v118 : Ref sig .tc := ⟨.hbm, 199, rfl⟩
abbrev main_v119 : Ref sig .tc := ⟨.hbm, 200, rfl⟩
abbrev main_cst_44 : Ref sig .tc := ⟨.hbm, 201, rfl⟩
abbrev main_v120 : Ref sig .tc := ⟨.hbm, 202, rfl⟩
abbrev main_v121 : Ref sig .tc := ⟨.hbm, 203, rfl⟩
abbrev main_cst_45 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_cst_46 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_cst_47 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_48 : Ref sig .tc := ⟨.hbm, 216, rfl⟩
abbrev main_v131 : Ref sig .tc := ⟨.hbm, 217, rfl⟩
abbrev main_v132 : Ref sig .tc := ⟨.hbm, 218, rfl⟩
abbrev main_cst_49 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_cst_50 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_cst_51 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_cst_52 : Ref sig .tc := ⟨.hbm, 231, rfl⟩
abbrev main_v142 : Ref sig .tc := ⟨.hbm, 232, rfl⟩
abbrev main_v143 : Ref sig .tc := ⟨.hbm, 233, rfl⟩
abbrev main_cst_53 : Ref sig .tc := ⟨.hbm, 234, rfl⟩
abbrev main_v144 : Ref sig .tc := ⟨.hbm, 235, rfl⟩
abbrev main_v145 : Ref sig .tc := ⟨.hbm, 236, rfl⟩
abbrev main_cst_54 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_cst_55 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_cst_56 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_cst_57 : Ref sig .tc := ⟨.hbm, 249, rfl⟩
abbrev main_v155 : Ref sig .tc := ⟨.hbm, 250, rfl⟩
abbrev main_v156 : Ref sig .tc := ⟨.hbm, 251, rfl⟩
abbrev main_cst_58 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_cst_59 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_cst_60 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_cst_61 : Ref sig .tc := ⟨.hbm, 264, rfl⟩
abbrev main_v166 : Ref sig .tc := ⟨.hbm, 265, rfl⟩
abbrev main_v167 : Ref sig .tc := ⟨.hbm, 266, rfl⟩
abbrev main_cst_62 : Ref sig .tc := ⟨.hbm, 267, rfl⟩
abbrev main_v168 : Ref sig .tc := ⟨.hbm, 268, rfl⟩
abbrev main_v169 : Ref sig .tc := ⟨.hbm, 269, rfl⟩
abbrev main_cst_63 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_cst_64 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_cst_65 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_cst_66 : Ref sig .tc := ⟨.hbm, 282, rfl⟩
abbrev main_v179 : Ref sig .tc := ⟨.hbm, 283, rfl⟩
abbrev main_v180 : Ref sig .tc := ⟨.hbm, 284, rfl⟩
abbrev main_cst_67 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_cst_68 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_cst_69 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_cst_70 : Ref sig .tc := ⟨.hbm, 297, rfl⟩
abbrev main_v190 : Ref sig .tc := ⟨.hbm, 298, rfl⟩
abbrev main_v191 : Ref sig .tc := ⟨.hbm, 299, rfl⟩
abbrev main_cst_71 : Ref sig .tc := ⟨.hbm, 300, rfl⟩
abbrev main_v192 : Ref sig .tc := ⟨.hbm, 301, rfl⟩
abbrev main_v193 : Ref sig .tc := ⟨.hbm, 302, rfl⟩
abbrev main_cst_72 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_cst_73 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_cst_74 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_cst_75 : Ref sig .tc := ⟨.hbm, 315, rfl⟩
abbrev main_v203 : Ref sig .tc := ⟨.hbm, 316, rfl⟩
abbrev main_v204 : Ref sig .tc := ⟨.hbm, 317, rfl⟩
abbrev main_cst_76 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_cst_77 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_cst_78 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_cst_79 : Ref sig .tc := ⟨.hbm, 330, rfl⟩
abbrev main_v214 : Ref sig .tc := ⟨.hbm, 331, rfl⟩
abbrev main_v215 : Ref sig .tc := ⟨.hbm, 332, rfl⟩
abbrev main_cst_80 : Ref sig .tc := ⟨.hbm, 333, rfl⟩
abbrev main_v216 : Ref sig .tc := ⟨.hbm, 334, rfl⟩
abbrev main_v217 : Ref sig .tc := ⟨.hbm, 335, rfl⟩
abbrev main_cst_81 : Ref sig .tc := ⟨.hbm, 336, rfl⟩
abbrev main_v218 : Ref sig .tc := ⟨.hbm, 337, rfl⟩
abbrev main_v219 : Ref sig .tc := ⟨.hbm, 338, rfl⟩
abbrev main_v220 : Ref sig .tc := ⟨.hbm, 339, rfl⟩
abbrev main_v221 : Ref sig .tc := ⟨.hbm, 340, rfl⟩
abbrev main_cst_82 : Ref sig .tc := ⟨.hbm, 341, rfl⟩
abbrev main_v222 : Ref sig .tc := ⟨.hbm, 342, rfl⟩
abbrev main_v223 : Ref sig .tc := ⟨.hbm, 343, rfl⟩
abbrev main_cst_83 : Ref sig .tc := ⟨.hbm, 344, rfl⟩
abbrev main_v224 : Ref sig .tc := ⟨.hbm, 345, rfl⟩
abbrev main_v225 : Ref sig .tc := ⟨.hbm, 346, rfl⟩
abbrev main_cst_84 : Ref sig .tc := ⟨.hbm, 347, rfl⟩
abbrev main_v226 : Ref sig .tc := ⟨.hbm, 348, rfl⟩
abbrev main_v227 : Ref sig .tc := ⟨.hbm, 349, rfl⟩
abbrev main_cst_85 : Ref sig .tc := ⟨.hbm, 350, rfl⟩
abbrev main_v228 : Ref sig .tc := ⟨.hbm, 351, rfl⟩
abbrev main_v229 : Ref sig .tc := ⟨.hbm, 352, rfl⟩
abbrev main_v230 : Ref sig .tc := ⟨.hbm, 353, rfl⟩
abbrev main_v231 : Ref sig .tc := ⟨.hbm, 354, rfl⟩
abbrev main_cst_86 : Ref sig .tc := ⟨.hbm, 355, rfl⟩
abbrev main_v232 : Ref sig .tc := ⟨.hbm, 356, rfl⟩
abbrev main_v233 : Ref sig .tc := ⟨.hbm, 357, rfl⟩
abbrev main_cst_87 : Ref sig .tc := ⟨.hbm, 358, rfl⟩
abbrev main_v234 : Ref sig .tc := ⟨.hbm, 359, rfl⟩
abbrev main_v235 : Ref sig .tc := ⟨.hbm, 360, rfl⟩
abbrev main_cst_88 : Ref sig .tc := ⟨.hbm, 361, rfl⟩
abbrev main_v236 : Ref sig .tc := ⟨.hbm, 362, rfl⟩
abbrev main_v237 : Ref sig .tc := ⟨.hbm, 363, rfl⟩
abbrev main_cst_89 : Ref sig .tc := ⟨.hbm, 364, rfl⟩
abbrev main_v238 : Ref sig .tc := ⟨.hbm, 365, rfl⟩
abbrev main_v239 : Ref sig .tc := ⟨.hbm, 366, rfl⟩
abbrev main_v240 : Ref sig .tc := ⟨.hbm, 367, rfl⟩
abbrev main_v241 : Ref sig .tc := ⟨.hbm, 368, rfl⟩
abbrev main_cst_90 : Ref sig .tc := ⟨.hbm, 369, rfl⟩
abbrev main_v242 : Ref sig .tc := ⟨.hbm, 370, rfl⟩
abbrev main_v243 : Ref sig .tc := ⟨.hbm, 371, rfl⟩
abbrev main_cst_91 : Ref sig .tc := ⟨.hbm, 372, rfl⟩
abbrev main_v244 : Ref sig .tc := ⟨.hbm, 373, rfl⟩
abbrev main_v245 : Ref sig .tc := ⟨.hbm, 374, rfl⟩
abbrev main_cst_92 : Ref sig .tc := ⟨.hbm, 375, rfl⟩
abbrev main_v246 : Ref sig .tc := ⟨.hbm, 376, rfl⟩
abbrev main_v247 : Ref sig .tc := ⟨.hbm, 377, rfl⟩
abbrev main_cst_93 : Ref sig .tc := ⟨.hbm, 378, rfl⟩
abbrev main_v248 : Ref sig .tc := ⟨.hbm, 379, rfl⟩
abbrev main_v249 : Ref sig .tc := ⟨.hbm, 380, rfl⟩
abbrev main_v250 : Ref sig .tc := ⟨.hbm, 381, rfl⟩
abbrev main_v251 : Ref sig .tc := ⟨.hbm, 382, rfl⟩
abbrev main_cst_94 : Ref sig .tc := ⟨.hbm, 383, rfl⟩
abbrev main_v252 : Ref sig .tc := ⟨.hbm, 384, rfl⟩
abbrev main_v253 : Ref sig .tc := ⟨.hbm, 385, rfl⟩
abbrev main_cst_95 : Ref sig .tc := ⟨.hbm, 386, rfl⟩
abbrev main_v254 : Ref sig .tc := ⟨.hbm, 387, rfl⟩
abbrev main_v255 : Ref sig .tc := ⟨.hbm, 388, rfl⟩

abbrev nD : Nat := 1
abbrev τ : Topo := Topo.v7x

variable {F : FTy → Type} [FloatOps F]
-- ==== Proof.FfnArr.lean ====
/- The arrays of the feed-forward sublayer, each as a function of the arrays it is computed from. The forward arrays
   and the products are the same arithmetic in the kernel and in the reference; of the two norms' and the gate's
   gradients the kernel's formula stands here, and FfnReal shows the reference's equal to it. -/
module

public import proofs.«01_k».proof.Proof.Gen.KernelIdeal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Ffn

/-- A matrix of extended reals, as the machine holds one at the ideal values. -/
abbrev Mat (n k : ℕ) : Type := (⟨2, ![n, k]⟩ : Shape).Idx → EReal
/-- A vector of extended reals. -/
abbrev Row (n : ℕ) : Type := (⟨1, ![n]⟩ : Shape).Idx → EReal

/-- The constants of the norms and of the residual: the width 1024, the norm's epsilon, one half. -/
abbrev cD : EReal := Ideal.ofBits .f32 0x44800000#32
abbrev cEps : EReal := Ideal.ofBits .f32 0x358637BD#32
abbrev cHalf : EReal := Ideal.ofBits .f32 0x3F000000#32

/-- One over the root mean square of each row. -/
def RS (x : Mat 4096 1024) (i : Fin 4096) : EReal :=
  Ideal.rsqrt (Ideal.div (∑ k : Fin 1024, x (ix2 i k) * x (ix2 i k)) cD + cEps)

/-- A gain vector as the one-row matrix the launches read. -/
def ROW (g : Row 1024) : Mat 1 1024 := fun i => g (ix1 (i 1))

/-- The input weights from the four column tiles the launches read. -/
def FLAT (w : (⟨3, ![4, 1024, 1408]⟩ : Shape).Idx → EReal) : Mat 1024 5632 := fun i =>
  w (ix3 ⟨(i 1).val / 1408, by have := (i 1).isLt; simp at this; omega⟩ (i 0) ⟨(i 1).val % 1408, by omega⟩)

/-- The normalised rows times the gain. -/
def XN (x : Mat 4096 1024) (g : Mat 1 1024) : Mat 4096 1024 := fun i => x i * RS x (i 0) * g (ix2 0 (i 1))

/-- The product with the input weights: the gate's columns, then the other factor's. -/
def GU (xn : Mat 4096 1024) (w : Mat 1024 5632) : Mat 4096 5632 := fun i => ∑ k : Fin 1024, xn (ix2 (i 0) k) * w (ix2 k (i 1))

/-- The gated activation. -/
def ACT (gu : Mat 4096 5632) : Mat 4096 2816 := fun i =>
  gu (ix2 (i 0) ⟨(i 1).val, by have := (i 1).isLt; simp at this; omega⟩)
    * Ideal.logistic (gu (ix2 (i 0) ⟨(i 1).val, by have := (i 1).isLt; simp at this; omega⟩))
    * gu (ix2 (i 0) ⟨2816 + (i 1).val, by have := (i 1).isLt; simp at this; omega⟩)

/-- The product with the output weights. -/
def HV (act : Mat 4096 2816) (w : Mat 2816 1024) : Mat 4096 1024 := fun i => ∑ k : Fin 2816, act (ix2 (i 0) k) * w (ix2 k (i 1))

/-- The sublayer's result: the residual and half of the normalised product. -/
def Y (x : Mat 4096 1024) (hv : Mat 4096 1024) (g : Mat 1 1024) : Mat 4096 1024 := fun i => x i + cHalf * (hv i * RS hv (i 0) * g (ix2 0 (i 1)))

/-- Half of the upstream gradient: the residual's branch carries one half of the norm. -/
def DY (ct : Mat 4096 1024) : Mat 4096 1024 := fun i => cHalf * ct i

/-- The norm's gradient in its argument, for the upstream gradient `dy` of the gained rows: the gained gradient minus
    its projection on the normalised row, over the row's root mean square. -/
def NBW (x dy : Mat 4096 1024) (g : Mat 1 1024) : Mat 4096 1024 := fun i =>
  RS x (i 0) * (dy i * g (ix2 0 (i 1)) - x i * RS x (i 0)
    * Ideal.div (∑ k : Fin 1024, dy (ix2 (i 0) k) * g (ix2 0 k) * (x (ix2 (i 0) k) * RS x (i 0))) cD)

/-- The gain's gradient, tile by tile of 512 rows: row `8 p` holds tile `p`'s sum, the rows between are zero. -/
def DGP (x dy : Mat 4096 1024) : Mat 64 1024 := fun i =>
  if (i 0).val % 8 = 0 then
    ∑ k : Fin 512, dy (ix2 ⟨(i 0).val / 8 * 512 + k.val, by have := (i 0).isLt; simp at this; omega⟩ (i 1))
      * (x (ix2 ⟨(i 0).val / 8 * 512 + k.val, by have := (i 0).isLt; simp at this; omega⟩ (i 1))
        * RS x ⟨(i 0).val / 8 * 512 + k.val, by have := (i 0).isLt; simp at this; omega⟩)
  else 0

/-- The select between a sum and zero by a row number's equality with zero. -/
theorem sel_row (n : Nat) (h : n < 8) (a b : EReal) :
    Scalar.select (IntOp.cmpi .eq (BitVec.ofNat 32 n) 0#32) a b = if n = 0 then a else b := by
  have hc : IntOp.cmpi .eq (BitVec.ofNat 32 n) 0#32 = if n = 0 then 1#1 else 0#1 := by
    revert h; revert n; decide
  rw [hc]
  by_cases h0 : n = 0
  · rw [if_pos h0, if_pos h0]; rfl
  · rw [if_neg h0, if_neg h0]; rfl

/-- The activation's gradient: the product with the output weights' columns. -/
def DA (dh : Mat 4096 1024) (w : Mat 2816 1024) : Mat 4096 2816 := fun i => ∑ k : Fin 1024, dh (ix2 (i 0) k) * w (ix2 (i 1) k)

/-- The gate's gradient, at the activation's gradient `a`, the gate `b` and the other factor `u`. -/
def gateGrad (a b u : EReal) : EReal := a * u * Ideal.logistic b * (1 + b * (1 - Ideal.logistic b))

/-- The gradient of the two factors: the gate's columns, then the other factor's. -/
def DGU (da : Mat 4096 2816) (gu : Mat 4096 5632) : Mat 4096 5632 := fun i =>
  if h : (i 1).val < 2816 then
    gateGrad (da (ix2 (i 0) ⟨(i 1).val, h⟩)) (gu (ix2 (i 0) ⟨(i 1).val, by omega⟩)) (gu (ix2 (i 0) ⟨2816 + (i 1).val, by omega⟩))
  else
    da (ix2 (i 0) ⟨(i 1).val - 2816, by have := (i 1).isLt; simp at this; omega⟩)
      * gu (ix2 (i 0) ⟨(i 1).val - 2816, by have := (i 1).isLt; simp at this; omega⟩)
      * Ideal.logistic (gu (ix2 (i 0) ⟨(i 1).val - 2816, by have := (i 1).isLt; simp at this; omega⟩))

/-- The output weights' gradient. -/
def DWO (act : Mat 4096 2816) (dh : Mat 4096 1024) : Mat 2816 1024 := fun i => ∑ t : Fin 4096, act (ix2 t (i 0)) * dh (ix2 t (i 1))

/-- The input weights' gradient. -/
def DWI (xn : Mat 4096 1024) (dgu : Mat 4096 5632) : Mat 1024 5632 := fun i => ∑ t : Fin 4096, xn (ix2 t (i 0)) * dgu (ix2 t (i 1))

/-- The gained rows' gradient: the product with the input weights' columns. -/
def DN (dgu : Mat 4096 5632) (w : Mat 1024 5632) : Mat 4096 1024 := fun i => ∑ k : Fin 5632, dgu (ix2 (i 0) k) * w (ix2 (i 1) k)

/-- One column tile's part of `DN`. -/
def DNT (dgu : Mat 4096 5632) (w : Mat 1024 5632) (q : Fin 4) : Mat 4096 1024 := fun i =>
  ∑ k : Fin 1408, dgu (ix2 (i 0) ⟨q.val * 1408 + k.val, by omega⟩) * w (ix2 (i 1) ⟨q.val * 1408 + k.val, by omega⟩)

/-- `DN` is the sum of its four column tiles' parts. -/
theorem DN_tiles (dgu : Mat 4096 5632) (w : Mat 1024 5632) (i) :
    DN dgu w i = DNT dgu w 0 i + DNT dgu w 1 i + DNT dgu w 2 i + DNT dgu w 3 i := by
  unfold DN DNT
  rw [Fin.sum_univ_tiles 4 1408 rfl, Fin.sum_univ_four]

/-- The sublayer's gradient in its argument: the residual's and the norm's. -/
def DX (ct x dn : Mat 4096 1024) (g : Mat 1 1024) : Mat 4096 1024 := fun i => ct i + NBW x dn g i

end Cert.Ffn

end
-- ==== Proof.FfnReal.lean ====
/- The feed-forward sublayer's arrays at finite arguments: every array is finite, and there the kernel's formulas of the
   norm's and of the gate's gradient are the ones differentiation gives. -/
module

public import proofs.«01_k».proof.Proof.FfnArr

@[expose] public section

noncomputable section

open Idealize.ShloMosaic Idealize.ShloMosaic.TcCoe

namespace Cert.Ffn

/-- Minus one half, as the reference's derivative of the reciprocal root has it. -/
abbrev cNegHalf : EReal := Ideal.ofBits .f32 0xBF000000#32

theorem cD_eq : cD = ((1024 : ℝ) : EReal) := by
  simp [cD, Ideal.ofBits, Ideal.ieee, -EReal.coe_mul]; norm_num

theorem cHalf_eq : cHalf = ((1 / 2 : ℝ) : EReal) := by
  simp [cHalf, Ideal.ofBits, Ideal.ieee, -EReal.coe_mul]; norm_num

theorem cNegHalf_eq : cNegHalf = ((-(1 / 2) : ℝ) : EReal) := by
  simp [cNegHalf, Ideal.ofBits, Ideal.ieee, -EReal.coe_mul, -EReal.coe_neg]; norm_num

theorem cEps_eq : ∃ e : ℝ, 0 < e ∧ cEps = (e : EReal) := by
  refine ⟨_, ?_, by simp [cEps, Ideal.ofBits, Ideal.ieee, -EReal.coe_mul]; rfl⟩
  positivity

/-- A value is a real number. -/
def IsR (x : EReal) : Prop := ∃ r : ℝ, x = (r : EReal)

theorem IsR.coe (r : ℝ) : IsR (r : EReal) := ⟨r, rfl⟩
theorem IsR.mul {x y : EReal} : IsR x → IsR y → IsR (x * y) := by
  rintro ⟨a, rfl⟩ ⟨b, rfl⟩; exact ⟨a * b, (EReal.coe_mul a b).symm⟩
theorem IsR.add {x y : EReal} : IsR x → IsR y → IsR (x + y) := by
  rintro ⟨a, rfl⟩ ⟨b, rfl⟩; exact ⟨a + b, (EReal.coe_add a b).symm⟩
theorem IsR.sub {x y : EReal} : IsR x → IsR y → IsR (x - y) := by
  rintro ⟨a, rfl⟩ ⟨b, rfl⟩; exact ⟨a - b, (EReal.coe_sub a b).symm⟩
theorem IsR.one : IsR 1 := ⟨1, rfl⟩

/-- A finite sum of reals, as an extended real. -/
theorem coe_sum {n : Nat} (f : Fin n → ℝ) : (∑ k, (f k : EReal)) = ((∑ k, f k : ℝ) : EReal) :=
  (map_sum (⟨⟨Real.toEReal, EReal.coe_zero⟩, EReal.coe_add⟩ : ℝ →+ EReal) f Finset.univ).symm

theorem IsR.sum {n : Nat} {f : Fin n → EReal} (h : ∀ k, IsR (f k)) : IsR (∑ k, f k) := by
  choose g hg using h
  exact ⟨∑ k, g k, by rw [← coe_sum]; exact Finset.sum_congr rfl fun k _ => hg k⟩
theorem IsR.logistic {x : EReal} : IsR x → IsR (Ideal.logistic x) := by
  rintro ⟨a, rfl⟩; exact ⟨_, Ideal.logistic_coe a⟩
theorem IsR.divD {x : EReal} : IsR x → IsR (Ideal.div x cD) := by
  rintro ⟨a, rfl⟩; rw [cD_eq, Ideal.div_coe (by norm_num)]; exact ⟨_, (EReal.coe_mul _ _).symm⟩
theorem IsR.half : IsR cHalf := ⟨_, cHalf_eq⟩

/-- An array of reals. -/
def Fine {s : Shape} (A : s.Idx → EReal) : Prop := ∀ i, IsR (A i)

/-- A row's mean square, kept off zero. -/
def MS (x : Mat 4096 1024) (i : Fin 4096) : EReal := Ideal.div (∑ k : Fin 1024, x (ix2 i k) * x (ix2 i k)) cD + cEps

theorem RS_eq (x : Mat 4096 1024) (i : Fin 4096) : RS x i = Ideal.rsqrt (MS x i) := rfl

/-- A finite row's mean square, and its reciprocal root. -/
theorem MS_real (x : Fin 1024 → ℝ) (e : ℝ) (he : 0 < e) : 0 < (∑ k, x k * x k) * (1 / 1024) + e :=
  add_pos_of_nonneg_of_pos (mul_nonneg (Finset.sum_nonneg fun k _ => mul_self_nonneg _) (by norm_num)) he

theorem RS_real {x : Mat 4096 1024} (hx : Fine x) (i : Fin 4096) :
    ∃ v : ℝ, 0 < v ∧ MS x i = (v : EReal) ∧ RS x i = (((Real.sqrt v)⁻¹ : ℝ) : EReal) := by
  choose X hX using fun k => hx (ix2 i k)
  obtain ⟨e, he, hE⟩ := cEps_eq
  have hM : MS x i = (((∑ k, X k * X k) * (1 / 1024) + e : ℝ) : EReal) := by
    unfold MS
    rw [hE, cD_eq, Ideal.div_coe (by norm_num)]
    simp only [hX]
    simp only [← EReal.coe_mul, coe_sum, ← EReal.coe_add]
  have hp := MS_real X e he
  refine ⟨_, hp, hM, ?_⟩
  rw [RS_eq, hM, Ideal.rsqrt_coe, if_neg (not_lt.mpr hp.le), if_neg hp.ne']

theorem RS_isR {x : Mat 4096 1024} (hx : Fine x) (i : Fin 4096) : IsR (RS x i) := by
  obtain ⟨v, -, -, h⟩ := RS_real hx i; exact ⟨_, h⟩

theorem fine_ROW {g : Row 1024} (h : Fine g) : Fine (ROW g) := fun i => h _
theorem fine_XN {x : Mat 4096 1024} {g : Mat 1 1024} (hx : Fine x) (hg : Fine g) : Fine (XN x g) := fun i =>
  ((hx _).mul (RS_isR hx _)).mul (hg _)
theorem fine_GU {x : Mat 4096 1024} {w : Mat 1024 5632} (hx : Fine x) (hw : Fine w) : Fine (GU x w) := fun i =>
  IsR.sum fun k => (hx _).mul (hw _)
theorem fine_ACT {x : Mat 4096 5632} (hx : Fine x) : Fine (ACT x) := fun i =>
  ((hx _).mul (hx _).logistic).mul (hx _)
theorem fine_HV {x : Mat 4096 2816} {w : Mat 2816 1024} (hx : Fine x) (hw : Fine w) : Fine (HV x w) := fun i =>
  IsR.sum fun k => (hx _).mul (hw _)
theorem fine_DY {x : Mat 4096 1024} (hx : Fine x) : Fine (DY x) := fun i => IsR.half.mul (hx _)
theorem fine_NBW {x dy : Mat 4096 1024} {g : Mat 1 1024} (hx : Fine x) (hd : Fine dy) (hg : Fine g) : Fine (NBW x dy g) := fun i =>
  (RS_isR hx _).mul (((hd _).mul (hg _)).sub (((hx _).mul (RS_isR hx _)).mul
    (IsR.divD (IsR.sum fun k => ((hd _).mul (hg _)).mul ((hx _).mul (RS_isR hx _))))))
theorem fine_DA {x : Mat 4096 1024} {w : Mat 2816 1024} (hx : Fine x) (hw : Fine w) : Fine (DA x w) := fun i =>
  IsR.sum fun k => (hx _).mul (hw _)
theorem isR_gateGrad {a b u : EReal} (ha : IsR a) (hb : IsR b) (hu : IsR u) : IsR (gateGrad a b u) :=
  (((ha.mul hu).mul hb.logistic).mul (IsR.one.add (hb.mul (IsR.one.sub hb.logistic))))
theorem fine_DGU {da : Mat 4096 2816} {gu : Mat 4096 5632} (ha : Fine da) (hg : Fine gu) : Fine (DGU da gu) := fun i => by
  unfold DGU
  split_ifs with h
  · exact isR_gateGrad (ha _) (hg _) (hg _)
  · exact ((ha _).mul (hg _)).mul (hg _).logistic
theorem fine_DN {x : Mat 4096 5632} {w : Mat 1024 5632} (hx : Fine x) (hw : Fine w) : Fine (DN x w) := fun i =>
  IsR.sum fun k => (hx _).mul (hw _)

/-- The gained gradient. -/
def GD (dy : Mat 4096 1024) (g : Mat 1 1024) : Mat 4096 1024 := fun i => dy i * g (ix2 0 (i 1))

/-- What the mean square's gradient gives each entry of the row, before the entry's factor. -/
def RQ (x d : Mat 4096 1024) (i : Fin 4096) : EReal :=
  Ideal.div ((∑ k : Fin 1024, x (ix2 i k) * d (ix2 i k)) * (cNegHalf * Ideal.div (RS x i) (MS x i))) cD

/-- The norm's gradient as differentiation gives it: through the entry, and twice through the mean square. -/
def RNB (x d : Mat 4096 1024) : Mat 4096 1024 := fun i =>
  d i * RS x (i 0) + x i * RQ x d (i 0) + RQ x d (i 0) * x i

/-- The norm's gradient over the reals. -/
theorem norm_real (x d : Fin 1024 → ℝ) (v : ℝ) (hv : 0 < v) (j : Fin 1024) :
    (Real.sqrt v)⁻¹ * (d j - x j * (Real.sqrt v)⁻¹ * ((∑ k, d k * (x k * (Real.sqrt v)⁻¹)) * (1 / 1024)))
      = d j * (Real.sqrt v)⁻¹ + x j * (((∑ k, x k * d k) * (-(1 / 2) * ((Real.sqrt v)⁻¹ * (1 / v)))) * (1 / 1024))
        + ((∑ k, x k * d k) * (-(1 / 2) * ((Real.sqrt v)⁻¹ * (1 / v)))) * (1 / 1024) * x j := by
  have hs : (∑ k, d k * (x k * (Real.sqrt v)⁻¹)) = (∑ k, x k * d k) * (Real.sqrt v)⁻¹ := by
    rw [Finset.sum_mul]; exact Finset.sum_congr rfl fun k _ => by ring
  have hr : (Real.sqrt v)⁻¹ * (Real.sqrt v)⁻¹ = 1 / v := by
    rw [← mul_inv, Real.mul_self_sqrt hv.le, one_div]
  rw [hs, ← hr]; ring

/-- At finite arrays the kernel's formula of the norm's gradient is the one differentiation gives. -/
theorem NBW_eq {x dy : Mat 4096 1024} {g : Mat 1 1024} (hx : Fine x) (hd : Fine dy) (hg : Fine g) :
    NBW x dy g = RNB x (GD dy g) := by
  funext i
  obtain ⟨v, hv, hM, hR⟩ := RS_real hx (i 0)
  choose X hX using fun k => hx (ix2 (i 0) k)
  choose D hD using fun k => (hd (ix2 (i 0) k)).mul (hg (ix2 0 k))
  have hi : i = ix2 (i 0) (i 1) := eq_ix2 i
  have hD' : ∀ k, GD dy g (ix2 (i 0) k) = (D k : EReal) := hD
  have hGi : GD dy g i = (D (i 1) : EReal) := by rw [← hD' (i 1)]; exact congrArg _ hi
  have hDi : dy i * g (ix2 0 (i 1)) = (D (i 1) : EReal) := hGi
  have hXi : x i = (X (i 1) : EReal) := by rw [← hX (i 1)]; exact congrArg _ hi
  unfold NBW RNB RQ
  rw [hR, hM, hDi, hXi, hGi, cD_eq, cNegHalf_eq, Ideal.div_coe (by norm_num), Ideal.div_coe (by norm_num), Ideal.div_coe hv.ne']
  simp only [hX, hD, hD']
  simp only [← EReal.coe_mul, coe_sum, ← EReal.coe_add, ← EReal.coe_sub]
  exact congrArg _ (norm_real X D v hv (i 1))

/-- At finite values the gate's gradient is the one differentiation gives. -/
theorem gateGrad_eq {a b u : EReal} (ha : IsR a) (hb : IsR b) (hu : IsR u) :
    gateGrad a b u = a * u * Ideal.logistic b + b * (a * u) * (Ideal.logistic b * (1 - Ideal.logistic b)) := by
  obtain ⟨s, hs⟩ := hb.logistic
  obtain ⟨a, rfl⟩ := ha; obtain ⟨b, rfl⟩ := hb; obtain ⟨u, rfl⟩ := hu
  unfold gateGrad
  rw [hs, ← EReal.coe_one]
  simp only [← EReal.coe_mul, ← EReal.coe_add, ← EReal.coe_sub]
  exact congrArg _ (by ring)

/-- The gain's gradient: the tiles' parts sum to the sum over all rows. -/
theorem DGP_sum (x dy : Mat 4096 1024) (j : Fin 1024) :
    ∑ i : Fin 64, DGP x dy (ix2 i j) = ∑ k : Fin 4096, dy (ix2 k j) * (x (ix2 k j) * RS x k) := by
  rw [Fin.sum_univ_tiles 8 8 rfl, Fin.sum_univ_tiles 8 512 rfl]
  refine Finset.sum_congr rfl fun p _ => ?_
  have hp := p.isLt
  rw [Finset.sum_eq_single (0 : Fin 8)]
  · unfold DGP
    rw [if_pos (by show (p.val * 8 + 0) % 8 = 0; omega)]
    refine Finset.sum_congr rfl fun k _ => ?_
    have e : ∀ h h', (⟨(p.val * 8 + 0) / 8 * 512 + k.val, h⟩ : Fin 4096) = ⟨p.val * 512 + k.val, h'⟩ := fun h h' =>
      Fin.ext (show (p.val * 8 + 0) / 8 * 512 + k.val = p.val * 512 + k.val by omega)
    exact congrArg₂ (· * ·) (congrArg (fun r => dy (ix2 r j)) (e _ _))
      (congrArg (fun r => x (ix2 r j) * RS x r) (e _ _))
  · intro q _ hq
    have hq' : q.val ≠ 0 := fun h => hq (Fin.ext h)
    have := q.isLt
    unfold DGP
    rw [if_neg (by show ¬ (p.val * 8 + q.val) % 8 = 0; omega)]
  · exact fun h => absurd (Finset.mem_univ _) h

end Cert.Ffn

end
-- ==== Proof.FfnHost.lean ====
/- The host code around the feed-forward sublayer's launches: reshapes and transposes of the weights and the gains, and
   the sums of the gains' gradients over their tiles. -/
module

public import proofs.«01_k».proof.Proof.FfnReal

@[expose] public section

set_option maxRecDepth 16384

noncomputable section

open Idealize.ShloMosaic Idealize.ShloMosaic.TcCoe Idealize.SL.Sem Idealize.ShloMosaic.StableHlo

namespace Cert.KernelIdeal.Ffn

open Cert.KernelIdeal Cert.KernelIdeal.Gen Cert.Ffn

variable (W : Valuation τ sig (Elt Ideal))

/-- The contents of an array. -/
abbrev at' (b : Ref sig .tc) : (Proc.devRef .tc b : DevRef τ sig).ty.Contents (Elt Ideal) := W (Proc.devRef .tc b)

/-- A column by its tile and its place in the tile; likewise a row. -/
theorem tile_col (i : (⟨2, ![1024, 5632]⟩ : Shape).Idx) (h : (i 1).val / 1408 * 1408 + (i 1).val % 1408 < 5632) :
    ix2 (i 0) (⟨(i 1).val / 1408 * 1408 + (i 1).val % 1408, h⟩ : Fin 5632) = i := by
  conv_rhs => rw [eq_ix2 i]
  exact congrArg (ix2 _) (Fin.ext (show (i 1).val / 1408 * 1408 + (i 1).val % 1408 = (i 1).val by omega))
theorem tile_row (i : (⟨2, ![2816, 1024]⟩ : Shape).Idx) (h : (i 0).val / 704 * 704 + (i 0).val % 704 < 2816) :
    ix2 (⟨(i 0).val / 704 * 704 + (i 0).val % 704, h⟩ : Fin 2816) (i 1) = i := by
  conv_rhs => rw [eq_ix2 i]
  exact congrArg (fun r => ix2 r (i 1)) (Fin.ext (show (i 0).val / 704 * 704 + (i 0).val % 704 = (i 0).val by omega))

/-- What the launches read of the weights and the gains. -/
theorem h0_v2 : FLAT (after hostOps0 W (Proc.devRef .tc main_v2)) = at' W main_arg3 := by
  simp only [hostOps0]
  after_results_simp
  funext i; pointwise [FLAT]
  exact congrArg _ (tile_col i _)
theorem h0_v4 (i : S4x704x1024.Idx) : (after hostOps0 W (Proc.devRef .tc main_v4) : S4x704x1024.Idx → EReal) i
    = (at' W main_arg4 : Mat 2816 1024) (ix2 ⟨(i 0).val * 704 + (i 1).val, by have h0 := (i 0).isLt; have h1 := (i 1).isLt; simp at h0 h1; omega⟩ (i 2)) := by
  simp only [hostOps0]
  after_results_simp
  pointwise []
theorem h0_v5 : after hostOps0 W (Proc.devRef .tc main_v5) = ROW (at' W main_arg1) := by
  simp only [hostOps0]
  after_results_simp
  funext i; pointwise [ROW]
theorem h1_v7 (wo : Mat 2816 1024) (h : ∀ i : S4x704x1024.Idx, (at' W main_v4 : S4x704x1024.Idx → EReal) i
    = wo (ix2 ⟨(i 0).val * 704 + (i 1).val, by have h0 := (i 0).isLt; have h1 := (i 1).isLt; simp at h0 h1; omega⟩ (i 2))) :
    after hostOps1 W (Proc.devRef .tc main_v7) = wo := by
  simp only [hostOps1]
  after_results_simp
  funext i; pointwise [h]
  exact congrArg wo (tile_row i _)
theorem h1_v8 : after hostOps1 W (Proc.devRef .tc main_v8) = ROW (at' W main_arg2) := by
  simp only [hostOps1]
  after_results_simp
  funext i; pointwise [ROW]
theorem h2_v10 (wo : Mat 2816 1024) (h : ∀ i : S4x704x1024.Idx, (at' W main_v4 : S4x704x1024.Idx → EReal) i
    = wo (ix2 ⟨(i 0).val * 704 + (i 1).val, by have h0 := (i 0).isLt; have h1 := (i 1).isLt; simp at h0 h1; omega⟩ (i 2))) :
    after hostOps2 W (Proc.devRef .tc main_v10) = wo := by
  simp only [hostOps2]
  after_results_simp
  funext i; pointwise [h]
  exact congrArg wo (tile_row i _)
theorem h2_v11 : after hostOps2 W (Proc.devRef .tc main_v11) = ROW (at' W main_arg2) := by
  simp only [hostOps2]
  after_results_simp
  funext i; pointwise [ROW]
theorem h5_v15 : after hostOps5 W (Proc.devRef .tc main_v15) = ROW (at' W main_arg1) := by
  simp only [hostOps5]
  after_results_simp
  funext i; pointwise [ROW]
/-- The input weights' gradient, out of its column tiles. -/
theorem h6_v18 (a : Mat 1024 5632) (h : ∀ i : S4x1024x1408.Idx, (at' W main_v14 : S4x1024x1408.Idx → EReal) i
    = a (ix2 (i 1) ⟨(i 0).val * 1408 + (i 2).val, by have h0 := (i 0).isLt; have h1 := (i 2).isLt; simp at h0 h1; omega⟩)) :
    after hostOps6 W (Proc.devRef .tc main_v18) = a := by
  simp only [hostOps6]
  after_results_simp
  funext i; pointwise [h]
  exact congrArg a (tile_col i _)
/-- The output weights' gradient, out of its row tiles. -/
theorem h6_v21 (a : Mat 2816 1024) (h : ∀ i : S4x704x1024.Idx, (at' W main_v13 : S4x704x1024.Idx → EReal) i
    = a (ix2 ⟨(i 0).val * 704 + (i 1).val, by have h0 := (i 0).isLt; have h1 := (i 1).isLt; simp at h0 h1; omega⟩ (i 2))) :
    after hostOps6 W (Proc.devRef .tc main_v21) = a := by
  simp only [hostOps6]
  after_results_simp
  funext i; pointwise [h]
  exact congrArg a (tile_row i _)
/-- The gains' gradients: the sums over the tiles' rows. -/
theorem h6_v19 : after hostOps6 W (Proc.devRef .tc main_v19) = (fun j => ∑ i : Fin 64, (at' W main_v16_1 : Mat 64 1024) (ix2 i (j 0)) : Row 1024) := by
  simp only [hostOps6]
  after_results_simp
  funext i; pointwise [zero_add]
theorem h6_v20 : after hostOps6 W (Proc.devRef .tc main_v20) = (fun j => ∑ i : Fin 64, (at' W main_v12_1 : Mat 64 1024) (ix2 i (j 0)) : Row 1024) := by
  simp only [hostOps6]
  after_results_simp
  funext i; pointwise [zero_add]

end Cert.KernelIdeal.Ffn

end
-- ==== Proof.FfnOne.lean ====
/- The first launch of the feed-forward sublayer: the normalised rows, the product with the input weights, the gated
   activation, each as a whole array. -/
module

public import proofs.«01_k».proof.Proof.FfnArr

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen Cert.Ffn

variable (V : (c : Dev nD) → (b : Ref sig .tc) → Buf (Elt Ideal) ((c : Thread nD τ).loc b))

/-- The block every window is at, at every point of the grid. -/
theorem idx0 : ∀ t : Fin cfg0.N, win0_0.index t = ![t.val, 0] ∧ win0_1.index t = ![0, 0] ∧ win0_2.index t = ![0, 0, 0]
    ∧ win0_3.index t = ![t.val, 0] ∧ win0_4.index t = ![t.val, 0] ∧ win0_5.index t = ![t.val, 0] :=
  (by decide +kernel : ∀ t : Fin grid0.N, _)

/-- The normalised rows. -/
theorem final0_3 (c : Dev nD) : (dat0 V c).arrAt 3 cfg0.N = XN (V c main_arg0) (V c main_v5) := by
  refine (dat0 V c).arrAt_eq_of_covers 3 _ (by decide +kernel) fun t _ y => ?_
  blk_simp
  rw [after0_3]; frame_out
  pointwise [k0_pay6, XN, RS]
  blk_point [iblk0, idx0 t]

/-- The gate's columns and the other factor's. -/
theorem final0_4 (c : Dev nD) : (dat0 V c).arrAt 4 cfg0.N = GU (XN (V c main_arg0) (V c main_v5)) (FLAT (V c main_v2)) := by
  refine (dat0 V c).arrAt_eq_of_covers 4 _ (by decide +kernel) fun t _ y => ?_
  blk_simp
  rw [after0_4]; frame_out
  canon_tiles x h
  all_goals (open_payloads; pointwise [GU, FLAT, XN, RS])
  all_goals blk_point [iblk0, idx0 t]

/-- The gated activation. -/
theorem final0_5 (c : Dev nD) : (dat0 V c).arrAt 5 cfg0.N = ACT (GU (XN (V c main_arg0) (V c main_v5)) (FLAT (V c main_v2))) := by
  refine (dat0 V c).arrAt_eq_of_covers 5 _ (by decide +kernel) fun t _ y => ?_
  blk_simp
  rw [after0_5]; frame_out
  canon_tiles x h
  all_goals (open_payloads; pointwise [ACT, GU, FLAT, XN, RS])
  all_goals blk_point [iblk0, idx0 t]

end Cert.KernelIdeal.Ffn

end
-- ==== Proof.FfnTwo.lean ====
/- The second launch of the feed-forward sublayer: the product with the output weights, and the sublayer's result. -/
module

public import proofs.«01_k».proof.Proof.FfnArr

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen Cert.Ffn

variable (V : (c : Dev nD) → (b : Ref sig .tc) → Buf (Elt Ideal) ((c : Thread nD τ).loc b))

/-- The block every window is at, at every point of the grid. -/
theorem idx1 : ∀ t : Fin cfg1.N, win1_0.index t = ![t.val, 0] ∧ win1_1.index t = ![0, 0] ∧ win1_2.index t = ![t.val, 0]
    ∧ win1_3.index t = ![0, 0] ∧ win1_4.index t = ![t.val, 0] ∧ win1_5.index t = ![t.val, 0] :=
  (by decide +kernel : ∀ t : Fin grid1.N, _)

/-- The product with the output weights. -/
theorem final1_4 (c : Dev nD) : (dat1 V c).arrAt 4 cfg1.N = HV (V c main_v6_2) (V c main_v7) := by
  refine (dat1 V c).arrAt_eq_of_covers 4 _ (by decide +kernel) fun t _ y => ?_
  blk_simp
  rw [after1_4]; frame_out
  pointwise [k1_pay1, HV]
  blk_point [iblk1, idx1 t]

/-- The sublayer's result. -/
theorem final1_5 (c : Dev nD) : (dat1 V c).arrAt 5 cfg1.N = Y (V c main_arg0) (HV (V c main_v6_2) (V c main_v7)) (V c main_v8) := by
  refine (dat1 V c).arrAt_eq_of_covers 5 _ (by decide +kernel) fun t _ y => ?_
  blk_simp
  rw [after1_5]; frame_out
  pointwise [k1_pay2, k1_pay1, HV, Y, RS]
  blk_point [iblk1, idx1 t]

end Cert.KernelIdeal.Ffn

end
-- ==== Proof.FfnThree.lean ====
/- The third launch of the feed-forward sublayer: the gradient through the second norm, its gain's, and the gradient of the two factors of the activation. -/
module

public import proofs.«01_k».proof.Proof.FfnArr

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen Cert.Ffn

variable (V : (c : Dev nD) → (b : Ref sig .tc) → Buf (Elt Ideal) ((c : Thread nD τ).loc b))

/-- The block every window is at, at every point of the grid. -/
theorem idx2 : ∀ t : Fin cfg2.N, win2_0.index t = ![t.val, 0] ∧ win2_1.index t = ![t.val, 0] ∧ win2_2.index t = ![0, 0]
    ∧ win2_3.index t = ![0, 0] ∧ win2_4.index t = ![t.val, 0] ∧ win2_5.index t = ![t.val, 0] ∧ win2_6.index t = ![t.val, 0]
    ∧ win2_7.index t = ![t.val, 0] :=
  (by decide +kernel : ∀ t : Fin grid2.N, _)

/-- The second norm's gradient in its argument. -/
theorem final2_5 (c : Dev nD) : (dat2 V c).arrAt 5 cfg2.N = NBW (V c main_v9_0) (DY (V c main_arg5)) (V c main_v11) := by
  refine (dat2 V c).arrAt_eq_of_covers 5 _ (by decide +kernel) fun t _ y => ?_
  blk_simp
  rw [after2_5]; frame_out
  pointwise [k2_pay12, k2_pay11, k2_pay9, k2_pay8, k2_pay7, k2_pay6, NBW, DY, RS]
  blk_point [iblk2, idx2 t]

/-- The second gain's gradient, tile by tile. -/
theorem final2_6 (c : Dev nD) : (dat2 V c).arrAt 6 cfg2.N = DGP (V c main_v9_0) (DY (V c main_arg5)) := by
  refine (dat2 V c).arrAt_eq_of_covers 6 _ (by decide +kernel) fun t _ y => ?_
  blk_simp
  rw [after2_6]; frame_out
  pointwise [k2_pay10, k2_pay9, k2_pay8, k2_pay7, k2_pay6, DGP, DY, RS]
  rw [sel_row (y 0).val (by have := (y 0).isLt; exact this)]
  blk_point [iblk2, idx2 t]
  exact propext (by omega)

end Cert.KernelIdeal.Ffn

end
-- ==== Proof.FfnGrad.lean ====
/- The gradient of the two factors of the activation, which the third launch of the feed-forward sublayer writes. -/
module

public import proofs.«01_k».proof.Proof.FfnThree

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen Cert.Ffn

variable (V : (c : Dev nD) → (b : Ref sig .tc) → Buf (Elt Ideal) ((c : Thread nD τ).loc b))

/-- The gradient of the two factors. -/
theorem final2_7 (c : Dev nD) : (dat2 V c).arrAt 7 cfg2.N = DGU (DA (NBW (V c main_v9_0) (DY (V c main_arg5)) (V c main_v11)) (V c main_v10)) (V c main_v6_1) := by
  refine (dat2 V c).arrAt_eq_of_covers 7 _ (by decide +kernel) fun t _ y => ?_
  blk_simp
  rw [after2_7]; frame_out
  canon_tiles x h
  all_goals (open_payloads; pointwise [DGU, gateGrad, DA, NBW, DY, RS])
  all_goals split_ifs with hbr
  all_goals first
    | (exfalso
       have e : ((win2_7.blk t).view.emb y 1).val = (y 1).val := by blk_point [idx2 t]
       have hbr' : ((win2_7.blk t).view.emb y 1).val < 2816 := hbr
       omega)
    | (exfalso
       have e : ((win2_7.blk t).view.emb y 1).val = (y 1).val := by blk_point [idx2 t]
       have hbr' : ¬ ((win2_7.blk t).view.emb y 1).val < 2816 := hbr
       omega)
    | blk_point [iblk2, idx2 t]

end Cert.KernelIdeal.Ffn

end
-- ==== Proof.FfnFour.lean ====
/- The fourth and the fifth launch of the feed-forward sublayer: the gradients of the two weight matrices. -/
module

public import proofs.«01_k».proof.Proof.FfnArr

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen Cert.Ffn

variable (V : (c : Dev nD) → (b : Ref sig .tc) → Buf (Elt Ideal) ((c : Thread nD τ).loc b))

/-- The block every window is at, at every point of the grid. -/
theorem idx3 : ∀ t : Fin cfg3.N, win3_0.index t = ![0, t.val] ∧ win3_1.index t = ![0, 0] ∧ win3_2.index t = ![t.val, 0, 0] :=
  (by decide +kernel : ∀ t : Fin grid3.N, _)

/-- The output weights' gradient, in the four row tiles the launch writes. -/
theorem final3_2 (c : Dev nD) : (dat3 V c).arrAt 2 cfg3.N = fun i => DWO (V c main_v6_2) (V c main_v12_0) (ix2 ⟨(i 0).val * 704 + (i 1).val, by have h0 := (i 0).isLt; have h1 := (i 1).isLt; simp at h0 h1; omega⟩ (i 2)) := by
  refine (dat3 V c).arrAt_eq_of_covers 2 _ (by decide +kernel) fun t _ y => ?_
  blk_simp
  rw [after3_2]; frame_out
  canon_tiles x h
  all_goals (open_payloads; pointwise [DWO])
  all_goals blk_point [iblk3, idx3 t]

/-- The block every window is at, at every point of the grid. -/
theorem idx4 : ∀ t : Fin cfg4.N, win4_0.index t = ![0, 0] ∧ win4_1.index t = ![0, t.val] ∧ win4_2.index t = ![t.val, 0, 0] :=
  (by decide +kernel : ∀ t : Fin grid4.N, _)

/-- The input weights' gradient, in the four column tiles the launch writes. -/
theorem final4_2 (c : Dev nD) : (dat4 V c).arrAt 2 cfg4.N = fun i => DWI (V c main_v6_0) (V c main_v12_2) (ix2 (i 1) ⟨(i 0).val * 1408 + (i 2).val, by have h0 := (i 0).isLt; have h1 := (i 2).isLt; simp at h0 h1; omega⟩) := by
  refine (dat4 V c).arrAt_eq_of_covers 2 _ (by decide +kernel) fun t _ y => ?_
  blk_simp
  rw [after4_2]; frame_out
  pointwise [k4_pay1, DWI]
  blk_point [iblk4, idx4 t]

end Cert.KernelIdeal.Ffn

end
-- ==== Proof.FfnFive.lean ====
/- The last launch of the feed-forward sublayer: the product with the input weights' columns, the gradient through the first norm, and its gain's. -/
module

public import proofs.«01_k».proof.Proof.FfnArr

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen Cert.Ffn

variable (V : (c : Dev nD) → (b : Ref sig .tc) → Buf (Elt Ideal) ((c : Thread nD τ).loc b))

/-- The block every window is at, at every point of the grid. -/
theorem idx5 : ∀ t : Fin cfg5.N, win5_0.index t = ![t.val, 0] ∧ win5_1.index t = ![0, 0, 0] ∧ win5_2.index t = ![t.val, 0]
    ∧ win5_3.index t = ![t.val, 0] ∧ win5_4.index t = ![0, 0] ∧ win5_5.index t = ![t.val, 0] ∧ win5_6.index t = ![t.val, 0] :=
  (by decide +kernel : ∀ t : Fin grid5.N, _)

/-- The four column tiles' parts, added in order. -/
def DNS (dgu : Mat 4096 5632) (w : Mat 1024 5632) : Mat 4096 1024 := fun j =>
  DNT dgu w 0 j + DNT dgu w 1 j + DNT dgu w 2 j + DNT dgu w 3 j

theorem DNS_eq (dgu : Mat 4096 5632) (w : Mat 1024 5632) : DNS dgu w = DN dgu w := funext fun j => (DN_tiles dgu w j).symm

/-- The sublayer's gradient in its argument. -/
theorem final5_5 (c : Dev nD) : (dat5 V c).arrAt 5 cfg5.N = DX (V c main_arg5) (V c main_arg0) (DNS (V c main_v12_2) (FLAT (V c main_v2))) (V c main_v15) := by
  refine (dat5 V c).arrAt_eq_of_covers 5 _ (by decide +kernel) fun t _ y => ?_
  blk_simp
  rw [after5_5]; frame_out
  pointwise [k5_pay10, k5_pay9, k5_pay8, k5_pay7, k5_pay6, k5_pay5, k5_pay4, k5_pay3, k5_pay2, k5_pay1, DX, NBW, DNS, DNT, FLAT, RS]
  blk_point [iblk5, idx5 t]

/-- The first gain's gradient, tile by tile. -/
theorem final5_6 (c : Dev nD) : (dat5 V c).arrAt 6 cfg5.N = DGP (V c main_arg0) (DNS (V c main_v12_2) (FLAT (V c main_v2))) := by
  refine (dat5 V c).arrAt_eq_of_covers 6 _ (by decide +kernel) fun t _ y => ?_
  blk_simp
  rw [after5_6]; frame_out
  pointwise [k5_pay10, k5_pay9, k5_pay8, k5_pay7, k5_pay6, k5_pay5, k5_pay4, k5_pay3, k5_pay2, k5_pay1, DGP, DNS, DNT, FLAT, RS]
  rw [sel_row (y 0).val (by have := (y 0).isLt; exact this)]
  blk_point [iblk5, idx5 t]
  exact propext (by omega)

end Cert.KernelIdeal.Ffn

end
-- ==== Proof.FfnRun.lean ====
/- The feed-forward sublayer's launches in their order: what every array holds at the end, and the run that ends so. -/
module

public import proofs.«01_k».proof.Proof.FfnHost
public import proofs.«01_k».proof.Proof.FfnOne
public import proofs.«01_k».proof.Proof.FfnTwo
public import proofs.«01_k».proof.Proof.FfnGrad
public import proofs.«01_k».proof.Proof.FfnFour
public import proofs.«01_k».proof.Proof.FfnFive

@[expose] public section

set_option maxRecDepth 16384

noncomputable section

open Idealize.ShloMosaic Idealize.ShloMosaic.TcCoe Idealize.SL Idealize.SL.RA Idealize.SL.BI Idealize.SL.Sem Idealize.ShloMosaic.StableHlo
open scoped Idealize.SL.BI
open Idealize.SL.BI.BIBase Idealize.SL.BI.Laws Idealize.SL.ProofMode

namespace Cert.KernelIdeal.Ffn

open Cert.KernelIdeal Cert.KernelIdeal.Gen Cert.Ffn

variable (m : (ℓ : Loc nD τ sig) → Buf (Elt Ideal) ℓ) (ρ : Dev nD → PrngReg) (c : Dev nD)

/-- The arguments: the input, the two gains, the two weight matrices, the upstream gradient. -/
abbrev aX : Mat 4096 1024 := m ((c.tc : Thread nD τ).loc main_arg0)
abbrev aG : Row 1024 := m ((c.tc : Thread nD τ).loc main_arg1)
abbrev aP : Row 1024 := m ((c.tc : Thread nD τ).loc main_arg2)
abbrev aI : Mat 1024 5632 := m ((c.tc : Thread nD τ).loc main_arg3)
abbrev aO : Mat 2816 1024 := m ((c.tc : Thread nD τ).loc main_arg4)
abbrev aC : Mat 4096 1024 := m ((c.tc : Thread nD τ).loc main_arg5)

/-- The arrays between the launches. -/
abbrev xn : Mat 4096 1024 := XN (aX m c) (ROW (aG m c))
abbrev gu : Mat 4096 5632 := GU (xn m c) (aI m c)
abbrev act : Mat 4096 2816 := ACT (gu m c)
abbrev hv : Mat 4096 1024 := HV (act m c) (aO m c)
abbrev dh : Mat 4096 1024 := NBW (hv m c) (DY (aC m c)) (ROW (aP m c))
abbrev dgu : Mat 4096 5632 := DGU (DA (dh m c) (aO m c)) (gu m c)
abbrev dn : Mat 4096 1024 := DN (dgu m c) (aI m c)

/-! ## Before and after the first launch -/

theorem V1_arg0 : V1 m ρ c main_arg0 = aX m c := W1_args m ρ c main_arg0 (by decide)
theorem V1_v5 : V1 m ρ c main_v5 = ROW (aG m c) := h0_v5 (W0 m ρ c)
theorem V1_v2 : FLAT (V1 m ρ c main_v2) = aI m c := h0_v2 (W0 m ρ c)

theorem W2_v6_0 : W2 m ρ c (Proc.devRef .tc main_v6_0) = xn m c := by
  refine (W2_arr m ρ c 3).trans ((final0_3 (V1 m ρ) c).trans ?_)
  rw [V1_arg0, V1_v5]
theorem W2_v6_1 : W2 m ρ c (Proc.devRef .tc main_v6_1) = gu m c := by
  refine (W2_arr m ρ c 4).trans ((final0_4 (V1 m ρ) c).trans ?_)
  rw [V1_arg0, V1_v5, V1_v2]
theorem W2_v6_2 : W2 m ρ c (Proc.devRef .tc main_v6_2) = act m c := by
  refine (W2_arr m ρ c 5).trans ((final0_5 (V1 m ρ) c).trans ?_)
  rw [V1_arg0, V1_v5, V1_v2]
theorem W2_v2 : FLAT (W2 m ρ c (Proc.devRef .tc main_v2)) = aI m c :=
  (congrArg FLAT (W2_of m ρ c main_v2 (by decide +kernel))).trans (V1_v2 m ρ c)
theorem W2_v4 (i : S4x704x1024.Idx) : (W2 m ρ c (Proc.devRef .tc main_v4) : S4x704x1024.Idx → EReal) i
    = aO m c (ix2 ⟨(i 0).val * 704 + (i 1).val, by have h0 := (i 0).isLt; have h1 := (i 1).isLt; simp at h0 h1; omega⟩ (i 2)) :=
  (congrFun (W2_of m ρ c main_v4 (by decide +kernel)) i).trans (h0_v4 (W0 m ρ c) i)

/-! ## The second launch -/

theorem V3_v6_2 : V3 m ρ c main_v6_2 = act m c := (W3_of m ρ c main_v6_2 (by decide +kernel)).trans (W2_v6_2 m ρ c)
theorem V3_v7 : V3 m ρ c main_v7 = aO m c := h1_v7 (W2 m ρ c) (aO m c) (W2_v4 m ρ c)
theorem V3_v8 : V3 m ρ c main_v8 = ROW (aP m c) :=
  (h1_v8 (W2 m ρ c)).trans (congrArg ROW (W2_args m ρ c main_arg2 (by decide)))
theorem V3_arg0 : V3 m ρ c main_arg0 = aX m c := W3_args m ρ c main_arg0 (by decide)

theorem W4_v9_0 : W4 m ρ c (Proc.devRef .tc main_v9_0) = hv m c := by
  refine (W4_arr m ρ c 4).trans ((final1_4 (V3 m ρ) c).trans ?_)
  rw [V3_v6_2, V3_v7]
theorem W4_v9_1 : W4 m ρ c (Proc.devRef .tc main_v9_1) = Y (aX m c) (hv m c) (ROW (aP m c)) := by
  refine (W4_arr m ρ c 5).trans ((final1_5 (V3 m ρ) c).trans ?_)
  rw [V3_v6_2, V3_v7, V3_v8, V3_arg0]

/-- What the first launch wrote, still there after the second. -/
theorem W4_keep (r : Ref sig .tc) (h : r ∉ hostOps1_W) (h' : ∀ w : Fin cfg1.W, Pipeline.arrRef spec1 w = r → (cfg1.win w).isOut = false) :
    W4 m ρ c (Proc.devRef .tc r) = W2 m ρ c (Proc.devRef .tc r) := (W4_of m ρ c r h').trans (W3_of m ρ c r h)

/-! ## The third launch -/

theorem V5_v9_0 : V5 m ρ c main_v9_0 = hv m c := (W5_of m ρ c main_v9_0 (by decide +kernel)).trans (W4_v9_0 m ρ c)
theorem V5_arg5 : V5 m ρ c main_arg5 = aC m c := W5_args m ρ c main_arg5 (by decide)
theorem V5_v11 : V5 m ρ c main_v11 = ROW (aP m c) :=
  (h2_v11 (W4 m ρ c)).trans (congrArg ROW (W4_args m ρ c main_arg2 (by decide)))
theorem V5_v10 : V5 m ρ c main_v10 = aO m c :=
  h2_v10 (W4 m ρ c) (aO m c) fun i => (congrFun (W4_keep m ρ c main_v4 (by decide +kernel) (by decide +kernel)) i).trans (W2_v4 m ρ c i)
theorem V5_v6_1 : V5 m ρ c main_v6_1 = gu m c :=
  (W5_of m ρ c main_v6_1 (by decide +kernel)).trans ((W4_keep m ρ c main_v6_1 (by decide +kernel) (by decide +kernel)).trans (W2_v6_1 m ρ c))

theorem W6_v12_0 : W6 m ρ c (Proc.devRef .tc main_v12_0) = dh m c := by
  refine (W6_arr m ρ c 5).trans ((final2_5 (V5 m ρ) c).trans ?_)
  rw [V5_v9_0, V5_arg5, V5_v11]
theorem W6_v12_1 : W6 m ρ c (Proc.devRef .tc main_v12_1) = DGP (hv m c) (DY (aC m c)) := by
  refine (W6_arr m ρ c 6).trans ((final2_6 (V5 m ρ) c).trans ?_)
  rw [V5_v9_0, V5_arg5]
theorem W6_v12_2 : W6 m ρ c (Proc.devRef .tc main_v12_2) = dgu m c := by
  refine (W6_arr m ρ c 7).trans ((final2_7 (V5 m ρ) c).trans ?_)
  rw [V5_v9_0, V5_arg5, V5_v11, V5_v10, V5_v6_1]

/-- What the first launches wrote, still there after the third. -/
theorem W6_keep (r : Ref sig .tc) (h : r ∉ hostOps2_W) (h' : ∀ w : Fin cfg2.W, Pipeline.arrRef spec2 w = r → (cfg2.win w).isOut = false) :
    W6 m ρ c (Proc.devRef .tc r) = W4 m ρ c (Proc.devRef .tc r) := (W6_of m ρ c r h').trans (W5_of m ρ c r h)

/-! ## The fourth and the fifth launch -/

theorem V6_v6_2 : V6 m ρ c main_v6_2 = act m c :=
  (W6_keep m ρ c main_v6_2 (by decide +kernel) (by decide +kernel)).trans
    ((W4_keep m ρ c main_v6_2 (by decide +kernel) (by decide +kernel)).trans (W2_v6_2 m ρ c))
theorem W7_v13 (i : S4x704x1024.Idx) : (W7 m ρ c (Proc.devRef .tc main_v13) : S4x704x1024.Idx → EReal) i
    = DWO (act m c) (dh m c) (ix2 ⟨(i 0).val * 704 + (i 1).val, by have h0 := (i 0).isLt; have h1 := (i 1).isLt; simp at h0 h1; omega⟩ (i 2)) := by
  refine (congrFun ((W7_arr m ρ c 2).trans (final3_2 (V6 m ρ) c)) i).trans ?_
  rw [V6_v6_2, show V6 m ρ c main_v12_0 = dh m c from W6_v12_0 m ρ c]
theorem V7_v6_0 : V7 m ρ c main_v6_0 = xn m c :=
  (W7_of m ρ c main_v6_0 (by decide +kernel)).trans ((W6_keep m ρ c main_v6_0 (by decide +kernel) (by decide +kernel)).trans
    ((W4_keep m ρ c main_v6_0 (by decide +kernel) (by decide +kernel)).trans (W2_v6_0 m ρ c)))
theorem V7_v12_2 : V7 m ρ c main_v12_2 = dgu m c := (W7_of m ρ c main_v12_2 (by decide +kernel)).trans (W6_v12_2 m ρ c)
theorem W8_v14 (i : S4x1024x1408.Idx) : (W8 m ρ c (Proc.devRef .tc main_v14) : S4x1024x1408.Idx → EReal) i
    = DWI (xn m c) (dgu m c) (ix2 (i 1) ⟨(i 0).val * 1408 + (i 2).val, by have h0 := (i 0).isLt; have h1 := (i 2).isLt; simp at h0 h1; omega⟩) := by
  refine (congrFun ((W8_arr m ρ c 2).trans (final4_2 (V7 m ρ) c)) i).trans ?_
  rw [V7_v6_0, V7_v12_2]

/-! ## The last launch -/

theorem V9_v12_2 : V9 m ρ c main_v12_2 = dgu m c :=
  (W9_of m ρ c main_v12_2 (by decide +kernel)).trans ((W8_of m ρ c main_v12_2 (by decide +kernel)).trans (V7_v12_2 m ρ c))
theorem V9_v2 : FLAT (V9 m ρ c main_v2) = aI m c :=
  (congrArg FLAT ((W9_of m ρ c main_v2 (by decide +kernel)).trans ((W8_of m ρ c main_v2 (by decide +kernel)).trans
    ((W7_of m ρ c main_v2 (by decide +kernel)).trans ((W6_keep m ρ c main_v2 (by decide +kernel) (by decide +kernel)).trans
      (W4_keep m ρ c main_v2 (by decide +kernel) (by decide +kernel))))))).trans (W2_v2 m ρ c)
theorem V9_arg5 : V9 m ρ c main_arg5 = aC m c := W9_args m ρ c main_arg5 (by decide)
theorem V9_arg0 : V9 m ρ c main_arg0 = aX m c := W9_args m ρ c main_arg0 (by decide)
theorem V9_v15 : V9 m ρ c main_v15 = ROW (aG m c) :=
  (h5_v15 (W8 m ρ c)).trans (congrArg ROW (W8_args m ρ c main_arg1 (by decide)))

theorem W10_v16_0 : W10 m ρ c (Proc.devRef .tc main_v16_0) = DX (aC m c) (aX m c) (dn m c) (ROW (aG m c)) := by
  refine (W10_arr m ρ c 5).trans ((final5_5 (V9 m ρ) c).trans ?_)
  rw [V9_v12_2, V9_v2, V9_arg5, V9_arg0, V9_v15, DNS_eq]
theorem W10_v16_1 : W10 m ρ c (Proc.devRef .tc main_v16_1) = DGP (aX m c) (dn m c) := by
  refine (W10_arr m ρ c 6).trans ((final5_6 (V9 m ρ) c).trans ?_)
  rw [V9_v12_2, V9_v2, V9_arg0, DNS_eq]

/-- What the third, the fourth and the fifth launch wrote, still there after the last. -/
theorem W10_keep (r : Ref sig .tc) (h : r ∉ hostOps5_W) (h' : ∀ w : Fin cfg5.W, Pipeline.arrRef spec5 w = r → (cfg5.win w).isOut = false) :
    W10 m ρ c (Proc.devRef .tc r) = W8 m ρ c (Proc.devRef .tc r) := (W10_of m ρ c r h').trans (W9_of m ρ c r h)

/-! ## The results -/

theorem out_y : W11 m ρ c (Proc.devRef .tc main_v9_1) = Y (aX m c) (hv m c) (ROW (aP m c)) :=
  (W11_of m ρ c main_v9_1 (by decide +kernel)).trans ((W10_keep m ρ c main_v9_1 (by decide +kernel) (by decide +kernel)).trans
    ((W8_of m ρ c main_v9_1 (by decide +kernel)).trans ((W7_of m ρ c main_v9_1 (by decide +kernel)).trans
      ((W6_keep m ρ c main_v9_1 (by decide +kernel) (by decide +kernel)).trans (W4_v9_1 m ρ c)))))
theorem out_dx : W11 m ρ c (Proc.devRef .tc main_v16_0) = DX (aC m c) (aX m c) (dn m c) (ROW (aG m c)) :=
  (W11_of m ρ c main_v16_0 (by decide +kernel)).trans (W10_v16_0 m ρ c)
theorem out_dg : W11 m ρ c (Proc.devRef .tc main_v19) = (fun j => ∑ i : Fin 64, DGP (aX m c) (dn m c) (ix2 i (j 0)) : Row 1024) := by
  refine (h6_v19 (W10 m ρ c)).trans ?_
  rw [show at' (W10 m ρ c) main_v16_1 = _ from W10_v16_1 m ρ c]
theorem out_dp : W11 m ρ c (Proc.devRef .tc main_v20) = (fun j => ∑ i : Fin 64, DGP (hv m c) (DY (aC m c)) (ix2 i (j 0)) : Row 1024) := by
  refine (h6_v20 (W10 m ρ c)).trans ?_
  rw [show at' (W10 m ρ c) main_v12_1 = _ from (W10_keep m ρ c main_v12_1 (by decide +kernel) (by decide +kernel)).trans
    ((W8_of m ρ c main_v12_1 (by decide +kernel)).trans ((W7_of m ρ c main_v12_1 (by decide +kernel)).trans (W6_v12_1 m ρ c)))]
theorem out_dwi : W11 m ρ c (Proc.devRef .tc main_v18) = DWI (xn m c) (dgu m c) :=
  h6_v18 (W10 m ρ c) _ fun i => (congrFun (W10_keep m ρ c main_v14 (by decide +kernel) (by decide +kernel)) i).trans (W8_v14 m ρ c i)
theorem out_dwo : W11 m ρ c (Proc.devRef .tc main_v21) = DWO (act m c) (dh m c) :=
  h6_v21 (W10 m ρ c) _ fun i => (congrFun ((W10_keep m ρ c main_v13 (by decide +kernel) (by decide +kernel)).trans
    (W8_of m ρ c main_v13 (by decide +kernel))) i).trans (W7_v13 m ρ c i)

end Cert.KernelIdeal.Ffn

end
-- ==== Proof.FfnRef.lean ====
/- The feed-forward sublayer's reference, array by array: the values and the gradients that differentiation writes. -/
module

public import proofs.«01_k».proof.Proof.Gen.ReferenceIdeal.Run
public import proofs.«01_k».proof.Proof.FfnReal

@[expose] public section

set_option maxRecDepth 16384

noncomputable section

open Idealize.ShloMosaic Idealize.ShloMosaic.TcCoe Idealize.SL.Sem Idealize.ShloMosaic.StableHlo

namespace Cert.ReferenceIdeal.Ffn

open Cert.ReferenceIdeal Cert.ReferenceIdeal.Value Cert.Ffn

variable (V0 : Valuation τ sig (Elt Ideal))

/-- The arguments: the input, the two gains, the two weight matrices, the upstream gradient. -/
abbrev aX : Mat 4096 1024 := V0 (Proc.devRef .tc main_arg0)
abbrev aG : Row 1024 := V0 (Proc.devRef .tc main_arg1)
abbrev aP : Row 1024 := V0 (Proc.devRef .tc main_arg2)
abbrev aI : Mat 1024 5632 := V0 (Proc.devRef .tc main_arg3)
abbrev aO : Mat 2816 1024 := V0 (Proc.devRef .tc main_arg4)
abbrev aC : Mat 4096 1024 := V0 (Proc.devRef .tc main_arg5)

theorem r6 (i) : res_main_v6 V0 i = MS (aX V0) (i 0) := by
  pointwise [res_main_v6, MS, zero_add]
theorem r7 (i) : res_main_v7 V0 i = RS (aX V0) (i 0) := by
  exact congrArg Ideal.rsqrt (r6 V0 i)
theorem r12 (i) : res_main_v12 V0 i = aX V0 i * RS (aX V0) (i 0) := by
  pointwise [res_main_v12, r7]
theorem r15 : res_main_v15 V0 = XN (aX V0) (ROW (aG V0)) := by
  funext i; pointwise [res_main_v15, r12, res_main_v13, XN, ROW]
theorem r16 : res_main_v16 V0 = GU (XN (aX V0) (ROW (aG V0))) (aI V0) := by
  funext i; unfold res_main_v16; rw [r15]; pointwise [GU]
/-- The product of the gained rows with the input weights. -/
abbrev gu : Mat 4096 5632 := GU (XN (aX V0) (ROW (aG V0))) (aI V0)
theorem r17 (i) : res_main_v17 V0 i = gu V0 (ix2 (i 0) ⟨(i 1).val, by have := (i 1).isLt; simp at this; omega⟩) := by
  unfold res_main_v17; rw [r16]; pointwise []
theorem r18 (i) : res_main_v18 V0 i = gu V0 (ix2 (i 0) ⟨2816 + (i 1).val, by have := (i 1).isLt; simp at this; omega⟩) := by
  unfold res_main_v18; rw [r16]; pointwise []
theorem r19_2 (i) : res_main_v19_2 V0 i = Ideal.logistic (res_main_v17 V0 i) := by
  pointwise [res_main_v19_2]; rfl
/-- The gate's columns. -/
abbrev gt : Mat 4096 2816 := res_main_v17 V0
theorem r19_0 : (res_main_v19_0 V0 : Mat 4096 2816) = fun i => gt V0 i * Ideal.logistic (gt V0 i) := by
  funext i; pointwise [res_main_v19_0, r19_2]
theorem r20 : res_main_v20 V0 = ACT (gu V0) := by
  funext i; unfold res_main_v20
  rw [show res_main_v19_0 V0 = _ from r19_0 V0]; pointwise [gt, r17, r18, ACT]
/-- The product of the activation with the output weights. -/
abbrev hv : Mat 4096 1024 := HV (ACT (gu V0)) (aO V0)
theorem r21 : res_main_v21 V0 = hv V0 := by
  funext i; unfold res_main_v21; rw [r20]; pointwise [HV]
theorem r28 (i) : res_main_v28 V0 i = MS (hv V0) (i 0) := by
  unfold res_main_v28; rw [r21]; pointwise [MS, zero_add]
theorem r29 (i) : res_main_v29 V0 i = RS (hv V0) (i 0) := by
  exact congrArg Ideal.rsqrt (r28 V0 i)
theorem r34 (i) : res_main_v34 V0 i = hv V0 i * RS (hv V0) (i 0) := by
  pointwise [res_main_v34, r29]; rw [r21]
theorem r43 : res_main_v43 V0 = DY (aC V0) := by
  funext i; pointwise [res_main_v43, DY]
theorem r48 : res_main_v48 V0 = GD (DY (aC V0)) (ROW (aP V0)) := by
  funext i; unfold res_main_v48; rw [r43]; pointwise [res_main_v35, GD, ROW]
theorem r59 (i) : res_main_v59 V0 i = RQ (hv V0) (GD (DY (aC V0)) (ROW (aP V0))) (i 0) := by
  unfold res_main_v59; rw [r21, r48]; pointwise [r28, r29, RQ, zero_add, Fin.sum_univ_one]
/-- The gradient through the second norm. -/
abbrev dh : Mat 4096 1024 := RNB (hv V0) (GD (DY (aC V0)) (ROW (aP V0)))
theorem r63 : res_main_v63 V0 = dh V0 := by
  funext i; unfold res_main_v63; rw [r21, r48]; pointwise [r59, r29, RNB]
theorem r66 : res_main_v66 V0 = DA (dh V0) (aO V0) := by
  funext i; unfold res_main_v66; rw [r63]; pointwise [DA]

/-- The gradient of the two factors as differentiation gives it. -/
def RGU (da : Mat 4096 2816) (gu : Mat 4096 5632) : Mat 4096 5632 := fun i =>
  if h : (i 1).val < 2816 then
    (fun a b u : EReal => a * u * Ideal.logistic b + b * (a * u) * (Ideal.logistic b * (1 - Ideal.logistic b)))
      (da (ix2 (i 0) ⟨(i 1).val, h⟩)) (gu (ix2 (i 0) ⟨(i 1).val, by omega⟩)) (gu (ix2 (i 0) ⟨2816 + (i 1).val, by omega⟩))
  else
    gu (ix2 (i 0) ⟨(i 1).val - 2816, by have := (i 1).isLt; simp at this; omega⟩)
      * Ideal.logistic (gu (ix2 (i 0) ⟨(i 1).val - 2816, by have := (i 1).isLt; simp at this; omega⟩))
      * da (ix2 (i 0) ⟨(i 1).val - 2816, by have := (i 1).isLt; simp at this; omega⟩)

theorem r70 : res_main_v70 V0 = RGU (DA (dh V0) (aO V0)) (gu V0) := by
  funext i; unfold res_main_v70 res_main_v68; rw [r66, show res_main_v19_0 V0 = _ from r19_0 V0]; pointwise [RGU, gt, r19_2, r17, r18]
/-- The gradient of the two factors. -/
abbrev dgu : Mat 4096 5632 := RGU (DA (dh V0) (aO V0)) (gu V0)
theorem r73 : res_main_v73 V0 = DN (dgu V0) (aI V0) := by
  funext i; unfold res_main_v73; rw [r70]; pointwise [DN]
theorem r78 : res_main_v78 V0 = GD (DN (dgu V0) (aI V0)) (ROW (aG V0)) := by
  funext i; unfold res_main_v78; rw [r73]; pointwise [res_main_v13, GD, ROW]
theorem r90 (i) : res_main_v90 V0 i = RQ (aX V0) (GD (DN (dgu V0) (aI V0)) (ROW (aG V0))) (i 0) := by
  unfold res_main_v90; rw [r78]; pointwise [r6, r7, RQ, zero_add, Fin.sum_univ_one]

end Cert.ReferenceIdeal.Ffn

end
-- ==== Proof.FfnRefOut.lean ====
/- The feed-forward sublayer's reference: its six results, at finite arguments, by the kernel's formulas. -/
module

public import proofs.«01_k».proof.Proof.FfnRef

@[expose] public section

set_option maxRecDepth 16384

noncomputable section

open Idealize.ShloMosaic Idealize.ShloMosaic.TcCoe Idealize.SL.Sem Idealize.ShloMosaic.StableHlo

namespace Cert.Ffn

/-! ## The sublayer's arrays over its arguments -/

variable (x : Mat 4096 1024) (g p : Row 1024) (wi : Mat 1024 5632) (wo : Mat 2816 1024) (ct : Mat 4096 1024)

def sXn : Mat 4096 1024 := XN x (ROW g)
def sGu : Mat 4096 5632 := GU (sXn x g) wi
def sAct : Mat 4096 2816 := ACT (sGu x g wi)
def sHv : Mat 4096 1024 := HV (sAct x g wi) wo
def sDh : Mat 4096 1024 := NBW (sHv x g wi wo) (DY ct) (ROW p)
def sDgu : Mat 4096 5632 := DGU (DA (sDh x g p wi wo ct) wo) (sGu x g wi)
def sDn : Mat 4096 1024 := DN (sDgu x g p wi wo ct) wi

/-- The six results: the value, and the gradients in the input, the two gains and the two weight matrices. -/
def oY : Mat 4096 1024 := Y x (sHv x g wi wo) (ROW p)
def oX : Mat 4096 1024 := DX ct x (sDn x g p wi wo ct) (ROW g)
def oG : Row 1024 := fun j => ∑ i : Fin 64, DGP x (sDn x g p wi wo ct) (ix2 i (j 0))
def oP : Row 1024 := fun j => ∑ i : Fin 64, DGP (sHv x g wi wo) (DY ct) (ix2 i (j 0))
def oI : Mat 1024 5632 := DWI (sXn x g) (sDgu x g p wi wo ct)
def oO : Mat 2816 1024 := DWO (sAct x g wi) (sDh x g p wi wo ct)

variable {x g p wi wo ct}

theorem fine_sGu (hx : Fine x) (hg : Fine g) (hi : Fine wi) : Fine (sGu x g wi) :=
  fine_GU (fine_XN hx (fine_ROW hg)) hi
theorem fine_sHv (hx : Fine x) (hg : Fine g) (hi : Fine wi) (ho : Fine wo) : Fine (sHv x g wi wo) :=
  fine_HV (fine_ACT (fine_sGu hx hg hi)) ho
theorem fine_sDh (hx : Fine x) (hg : Fine g) (hp : Fine p) (hi : Fine wi) (ho : Fine wo) (hc : Fine ct) :
    Fine (sDh x g p wi wo ct) := fine_NBW (fine_sHv hx hg hi ho) (fine_DY hc) (fine_ROW hp)
theorem fine_sDgu (hx : Fine x) (hg : Fine g) (hp : Fine p) (hi : Fine wi) (ho : Fine wo) (hc : Fine ct) :
    Fine (sDgu x g p wi wo ct) := fine_DGU (fine_DA (fine_sDh hx hg hp hi ho hc) ho) (fine_sGu hx hg hi)

end Cert.Ffn

namespace Cert.ReferenceIdeal.Ffn

open Cert.ReferenceIdeal Cert.ReferenceIdeal.Value Cert.Ffn
open Facts₀ Facts

variable (V0 : Valuation τ sig (Elt Ideal))

/-- Every argument is finite. -/
structure AllFine : Prop where
  x : Fine (aX V0)
  g : Fine (aG V0)
  p : Fine (aP V0)
  i : Fine (aI V0)
  o : Fine (aO V0)
  c : Fine (aC V0)

variable {V0} (h : AllFine V0)
include h

theorem dh_eq : dh V0 = sDh (aX V0) (aG V0) (aP V0) (aI V0) (aO V0) (aC V0) :=
  (NBW_eq (fine_sHv h.x h.g h.i h.o) (fine_DY h.c) (fine_ROW h.p)).symm

theorem dgu_eq : dgu V0 = sDgu (aX V0) (aG V0) (aP V0) (aI V0) (aO V0) (aC V0) := by
  have hd := fine_sDh h.x h.g h.p h.i h.o h.c
  have hgu := fine_sGu h.x h.g h.i
  unfold dgu
  rw [dh_eq h]
  funext i
  unfold sDgu RGU DGU
  split_ifs with hi
  · exact (gateGrad_eq (fine_DA hd h.o _) (hgu _) (hgu _)).symm
  · exact (mul_comm _ _).trans (mul_assoc _ _ _).symm

omit h in
theorem out_y : (addf (V0 (Proc.devRef .tc main_arg0)) (mulf (broadcastInDim S4096x1024 ![] bcast_S_S4096x1024 (constant S_ .f32 0x3F000000#32)) (mulf (res_main_v34 V0) (broadcastInDim S4096x1024 ![0, 1] bcast_S1x1024_S4096x1024_0_1 (res_main_v35 V0)))) : Mat 4096 1024)
    = oY (aX V0) (aG V0) (aP V0) (aI V0) (aO V0) := by
  funext i; pointwise [oY, Y, r34, res_main_v35, ROW]; rfl

theorem out_x : (addf (addf (addf (V0 (Proc.devRef .tc main_arg5)) (mulf (res_main_v78 V0) (broadcastInDim S4096x1024 ![0, 1] bcast_S4096x1_S4096x1024_0_1 (res_main_v7 V0)))) (mulf (V0 (Proc.devRef .tc main_arg0)) (res_main_v90 V0))) (mulf (res_main_v90 V0) (V0 (Proc.devRef .tc main_arg0))) : Mat 4096 1024)
    = oX (aX V0) (aG V0) (aP V0) (aI V0) (aO V0) (aC V0) := by
  funext i
  unfold oX DX sDn
  rw [NBW_eq h.x (fine_DN (fine_sDgu h.x h.g h.p h.i h.o h.c) h.i) (fine_ROW h.g)]
  rw [← dgu_eq h, r78]
  pointwise [r7, r90, RNB]
  simp only [add_assoc]

theorem out_g : (Host.reduceAdd (shapeCast _ (Host.reduceAdd (mulf (res_main_v12 V0) (res_main_v73 V0)) (constant S_ .f32 0x00000000#32) reducesTo_S4096x1024_S1024_d0 h_S_) shapeCasts_S1024_S1x1024) (constant S_ .f32 0x00000000#32) reducesTo_S1x1024_S1024_d0 h_S_ : Row 1024)
    = oG (aX V0) (aG V0) (aP V0) (aI V0) (aO V0) (aC V0) := by
  funext j
  unfold oG sDn
  rw [← dgu_eq h, r73]
  refine Eq.trans ?_ (DGP_sum _ _ (j 0)).symm
  pointwise [r12, zero_add, Fin.sum_univ_one]
  exact Finset.sum_congr rfl fun k _ => mul_comm _ _

omit h in
theorem out_p : (Host.reduceAdd (shapeCast _ (Host.reduceAdd (mulf (res_main_v34 V0) (res_main_v43 V0)) (constant S_ .f32 0x00000000#32) reducesTo_S4096x1024_S1024_d0 h_S_) shapeCasts_S1024_S1x1024) (constant S_ .f32 0x00000000#32) reducesTo_S1x1024_S1024_d0 h_S_ : Row 1024)
    = oP (aX V0) (aG V0) (aI V0) (aO V0) (aC V0) := by
  funext j
  unfold oP
  rw [r43]
  refine Eq.trans ?_ (DGP_sum _ _ (j 0)).symm
  pointwise [r34, zero_add, Fin.sum_univ_one]
  exact Finset.sum_congr rfl fun k _ => mul_comm _ _

theorem out_i : (transpose S1024x5632 [1, 0] (Host.dotGeneral (φ₁ := .f32) (φ₂ := .f32) dot_S4096x5632_S4096x1024_S5632x1024_0_0_1_1_n_n none (res_main_v70 V0) (res_main_v15 V0)) transposes_S5632x1024_S1024x5632_1_0 : Mat 1024 5632)
    = oI (aX V0) (aG V0) (aP V0) (aI V0) (aO V0) (aC V0) := by
  funext i
  unfold oI
  rw [← dgu_eq h, r70, r15]
  pointwise [DWI]
  exact Finset.sum_congr rfl fun k _ => mul_comm _ _

theorem out_o : (transpose S2816x1024 [1, 0] (Host.dotGeneral (φ₁ := .f32) (φ₂ := .f32) dot_S4096x1024_S4096x2816_S1024x2816_0_0_1_1_n_n none (res_main_v63 V0) (res_main_v20 V0)) transposes_S1024x2816_S2816x1024_1_0 : Mat 2816 1024)
    = oO (aX V0) (aG V0) (aP V0) (aI V0) (aO V0) (aC V0) := by
  funext i
  unfold oO
  rw [← dh_eq h, r63, r20]
  pointwise [DWO]
  exact Finset.sum_congr rfl fun k _ => mul_comm _ _

end Cert.ReferenceIdeal.Ffn

end
-- ==== Proof.FfnEnd.lean ====
/- The feed-forward sublayer's run: every result by its formula over the arguments. -/
module

public import proofs.«01_k».proof.Proof.FfnRun
public import proofs.«01_k».proof.Proof.FfnRefOut

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.KernelIdeal.Ffn

open Cert.KernelIdeal Cert.KernelIdeal.Gen Cert.Ffn

local notation "𝕄" => MT nD τ sig Unit (Elt Ideal) ℕ (UR sig nD τ) ℕ
variable (m : (ℓ : Loc nD τ sig) → Buf (Elt Ideal) ℓ) (ρ : Dev nD → PrngReg)

theorem run_value : θ_run defs (onTc (τ := τ) (main (F := Ideal))) ⟨m, fun _ => 0, ρ⟩ (fun r => ∀ c : Dev nD,
      r.2.mem ((c.tc : Thread nD τ).loc main_v9_1) = oY (aX m c) (aG m c) (aP m c) (aI m c) (aO m c)
      ∧ r.2.mem ((c.tc : Thread nD τ).loc main_v16_0) = oX (aX m c) (aG m c) (aP m c) (aI m c) (aO m c) (aC m c)
      ∧ r.2.mem ((c.tc : Thread nD τ).loc main_v19) = oG (aX m c) (aG m c) (aP m c) (aI m c) (aO m c) (aC m c)
      ∧ r.2.mem ((c.tc : Thread nD τ).loc main_v20) = oP (aX m c) (aG m c) (aI m c) (aO m c) (aC m c)
      ∧ r.2.mem ((c.tc : Thread nD τ).loc main_v18) = oI (aX m c) (aG m c) (aP m c) (aI m c) (aO m c) (aC m c)
      ∧ r.2.mem ((c.tc : Thread nD τ).loc main_v21) = oO (aX m c) (aG m c) (aP m c) (aI m c) (aO m c) (aC m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz c =>
      ⟨(h c _ (mem_uc main_v9_1 (by decide))).trans (out_y m ρ c),
       (h c _ (mem_uc main_v16_0 (by decide))).trans (out_dx m ρ c),
       (h c _ (mem_uc main_v19 (by decide))).trans (out_dg m ρ c),
       (h c _ (mem_uc main_v20 (by decide))).trans (out_dp m ρ c),
       (h c _ (mem_uc main_v18 (by decide))).trans (out_dwi m ρ c),
       (h c _ (mem_uc main_v21 (by decide))).trans (out_dwo m ρ c),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)

end Cert.KernelIdeal.Ffn

end
-- ==== Proof.FfnPre.lean ====
/- The precondition of the feed-forward sublayer's value claim: every argument is finite. -/
module

public import proofs.«01_k».proof.Defs
public import proofs.«01_k».proof.Proof.FfnReal

@[expose] public section

set_option maxRecDepth 16384

noncomputable section

open Idealize.ShloMosaic Idealize.ShloMosaic.TcCoe

namespace Cert.Ffn

/-- The predicate's shapes broadcast. -/
theorem pre_facts : Cert.Pre_finite.Facts where
  bcast_S_S4096x1024 := by decide
  bcast_S_S1024 := by decide
  bcast_S_S1024x5632 := by decide
  bcast_S_S2816x1024 := by decide

/-- A value whose absolute value is below infinity is a real number. -/
theorem isR_of_lt {x : EReal} (h : max x (-x) < ⊤) : IsR x := by
  induction x with
  | bot => simp at h
  | top => simp at h
  | coe r => exact ⟨r, rfl⟩

theorem cInf_eq : Ideal.ofBits .f32 0x7F800000#32 = ⊤ := by
  simp [Ideal.ofBits, Ideal.ieee]

attribute [local instance] pre_facts

theorem fine_of {s : Shape} (h1 : Cert.Pre_finite.S_.BroadcastsInDim s (![] : Fin 0 → Fin s.rank)) (a : s.Idx → EReal)
    (h : cmpf .olt (Host.absf (F := Ideal) (φ := .f32) a) (broadcastInDim s ![] h1 (constant Cert.Pre_finite.S_ .f32 0x7F800000#32)) = fun _ => 1#1) :
    Fine a := by
  intro i
  have h := congrFun h i
  pointwise at h
  rw [cInf_eq] at h
  refine isR_of_lt ?_
  by_contra hn
  rw [show decide (FloatOps.absf (F := Ideal) (φ := .f32) (a i) < (⊤ : EReal)) = false from decide_eq_false hn] at h
  exact absurd h (by decide)

/-- The precondition, read on one device. -/
theorem fine_args (m : (ℓ : Loc Cert.KernelIdeal.nD Cert.KernelIdeal.τ Cert.KernelIdeal.sig) → Buf (Elt Ideal) ℓ)
    (h : Cert.Pre_KernelIdeal_finite m) (c : Dev Cert.KernelIdeal.nD) :
    Fine (m ((c.tc : Thread Cert.KernelIdeal.nD Cert.KernelIdeal.τ).loc Cert.KernelIdeal.main_arg0) : Mat 4096 1024)
    ∧ Fine (m ((c.tc : Thread Cert.KernelIdeal.nD Cert.KernelIdeal.τ).loc Cert.KernelIdeal.main_arg1) : Row 1024)
    ∧ Fine (m ((c.tc : Thread Cert.KernelIdeal.nD Cert.KernelIdeal.τ).loc Cert.KernelIdeal.main_arg2) : Row 1024)
    ∧ Fine (m ((c.tc : Thread Cert.KernelIdeal.nD Cert.KernelIdeal.τ).loc Cert.KernelIdeal.main_arg3) : Mat 1024 5632)
    ∧ Fine (m ((c.tc : Thread Cert.KernelIdeal.nD Cert.KernelIdeal.τ).loc Cert.KernelIdeal.main_arg4) : Mat 2816 1024)
    ∧ Fine (m ((c.tc : Thread Cert.KernelIdeal.nD Cert.KernelIdeal.τ).loc Cert.KernelIdeal.main_arg5) : Mat 4096 1024) := by
  obtain ⟨h0, h1, h2, h3, h4, h5⟩ := h c
  exact ⟨fine_of _ _ h0, fine_of _ _ h1, fine_of _ _ h2, fine_of _ _ h3, fine_of _ _ h4, fine_of _ _ h5⟩

end Cert.Ffn

end
-- ==== Proof.FfnClaim.lean ====
/- The feed-forward sublayer's value claim: the kernel and the reference end with the same six arrays. -/
module

public import proofs.«01_k».proof.Proof.FfnEnd
public import proofs.«01_k».proof.Proof.FfnPre

@[expose] public section

set_option maxRecDepth 16384

noncomputable section

open Idealize.ShloMosaic Idealize.ShloMosaic.TcCoe Idealize.SL.Sem Idealize.ShloMosaic.StableHlo

namespace Cert.Ffn

attribute [local instance] pre_facts

theorem algebraic : Cert.algebraic_KernelIdeal_ReferenceIdeal_pre_finite (hKernelIdeal := Cert.KernelIdeal.Gen.facts)
    (hReferenceIdeal := Cert.ReferenceIdeal.Gen.facts) (hPre_finite := pre_facts) := by
  intro m g m' g' hpre hag
  refine ⟨_, _, _, _, _, _, KernelIdeal.Ffn.run_value m g,
    (θ_run _ _ _).mono (fun r hr c => ?_) (ReferenceIdeal.Value.run (F := Ideal) m' g')⟩
  obtain ⟨a0, a1, a2, a3, a4, a5⟩ := hag c
  obtain ⟨f0, f1, f2, f3, f4, f5⟩ := fine_args m hpre c
  have hV : ReferenceIdeal.Ffn.AllFine (launchContents m' c) :=
    ⟨(congrArg Fine a0).mpr f0, (congrArg Fine a1).mpr f1, (congrArg Fine a2).mpr f2, (congrArg Fine a3).mpr f3,
      (congrArg Fine a4).mpr f4, (congrArg Fine a5).mpr f5⟩
  have e0 : ReferenceIdeal.Ffn.aX (launchContents m' c) = KernelIdeal.Ffn.aX m c := a0
  have e1 : ReferenceIdeal.Ffn.aG (launchContents m' c) = KernelIdeal.Ffn.aG m c := a1
  have e2 : ReferenceIdeal.Ffn.aP (launchContents m' c) = KernelIdeal.Ffn.aP m c := a2
  have e3 : ReferenceIdeal.Ffn.aI (launchContents m' c) = KernelIdeal.Ffn.aI m c := a3
  have e4 : ReferenceIdeal.Ffn.aO (launchContents m' c) = KernelIdeal.Ffn.aO m c := a4
  have e5 : ReferenceIdeal.Ffn.aC (launchContents m' c) = KernelIdeal.Ffn.aC m c := a5
  obtain ⟨r0, r1, r2, r3, r4, r5, hargs⟩ := hr c
  have o0 : oY (ReferenceIdeal.Ffn.aX (launchContents m' c)) (ReferenceIdeal.Ffn.aG (launchContents m' c)) (ReferenceIdeal.Ffn.aP (launchContents m' c)) (ReferenceIdeal.Ffn.aI (launchContents m' c)) (ReferenceIdeal.Ffn.aO (launchContents m' c))
      = oY (KernelIdeal.Ffn.aX m c) (KernelIdeal.Ffn.aG m c) (KernelIdeal.Ffn.aP m c) (KernelIdeal.Ffn.aI m c) (KernelIdeal.Ffn.aO m c) := by rw [e0, e1, e2, e3, e4]
  have o1 : oX (ReferenceIdeal.Ffn.aX (launchContents m' c)) (ReferenceIdeal.Ffn.aG (launchContents m' c)) (ReferenceIdeal.Ffn.aP (launchContents m' c)) (ReferenceIdeal.Ffn.aI (launchContents m' c)) (ReferenceIdeal.Ffn.aO (launchContents m' c)) (ReferenceIdeal.Ffn.aC (launchContents m' c))
      = oX (KernelIdeal.Ffn.aX m c) (KernelIdeal.Ffn.aG m c) (KernelIdeal.Ffn.aP m c) (KernelIdeal.Ffn.aI m c) (KernelIdeal.Ffn.aO m c) (KernelIdeal.Ffn.aC m c) := by rw [e0, e1, e2, e3, e4, e5]
  have o2 : oG (ReferenceIdeal.Ffn.aX (launchContents m' c)) (ReferenceIdeal.Ffn.aG (launchContents m' c)) (ReferenceIdeal.Ffn.aP (launchContents m' c)) (ReferenceIdeal.Ffn.aI (launchContents m' c)) (ReferenceIdeal.Ffn.aO (launchContents m' c)) (ReferenceIdeal.Ffn.aC (launchContents m' c))
      = oG (KernelIdeal.Ffn.aX m c) (KernelIdeal.Ffn.aG m c) (KernelIdeal.Ffn.aP m c) (KernelIdeal.Ffn.aI m c) (KernelIdeal.Ffn.aO m c) (KernelIdeal.Ffn.aC m c) := by rw [e0, e1, e2, e3, e4, e5]
  have o3 : oP (ReferenceIdeal.Ffn.aX (launchContents m' c)) (ReferenceIdeal.Ffn.aG (launchContents m' c)) (ReferenceIdeal.Ffn.aI (launchContents m' c)) (ReferenceIdeal.Ffn.aO (launchContents m' c)) (ReferenceIdeal.Ffn.aC (launchContents m' c))
      = oP (KernelIdeal.Ffn.aX m c) (KernelIdeal.Ffn.aG m c) (KernelIdeal.Ffn.aI m c) (KernelIdeal.Ffn.aO m c) (KernelIdeal.Ffn.aC m c) := by rw [e0, e1, e3, e4, e5]
  have o4 : oI (ReferenceIdeal.Ffn.aX (launchContents m' c)) (ReferenceIdeal.Ffn.aG (launchContents m' c)) (ReferenceIdeal.Ffn.aP (launchContents m' c)) (ReferenceIdeal.Ffn.aI (launchContents m' c)) (ReferenceIdeal.Ffn.aO (launchContents m' c)) (ReferenceIdeal.Ffn.aC (launchContents m' c))
      = oI (KernelIdeal.Ffn.aX m c) (KernelIdeal.Ffn.aG m c) (KernelIdeal.Ffn.aP m c) (KernelIdeal.Ffn.aI m c) (KernelIdeal.Ffn.aO m c) (KernelIdeal.Ffn.aC m c) := by rw [e0, e1, e2, e3, e4, e5]
  have o5 : oO (ReferenceIdeal.Ffn.aX (launchContents m' c)) (ReferenceIdeal.Ffn.aG (launchContents m' c)) (ReferenceIdeal.Ffn.aP (launchContents m' c)) (ReferenceIdeal.Ffn.aI (launchContents m' c)) (ReferenceIdeal.Ffn.aO (launchContents m' c)) (ReferenceIdeal.Ffn.aC (launchContents m' c))
      = oO (KernelIdeal.Ffn.aX m c) (KernelIdeal.Ffn.aG m c) (KernelIdeal.Ffn.aP m c) (KernelIdeal.Ffn.aI m c) (KernelIdeal.Ffn.aO m c) (KernelIdeal.Ffn.aC m c) := by rw [e0, e1, e2, e3, e4, e5]
  exact ⟨r0.trans ((ReferenceIdeal.Ffn.out_y (V0 := launchContents m' c)).trans o0),
    r1.trans ((ReferenceIdeal.Ffn.out_x hV).trans o1),
    r2.trans ((ReferenceIdeal.Ffn.out_g hV).trans o2),
    r3.trans ((ReferenceIdeal.Ffn.out_p (V0 := launchContents m' c)).trans o3),
    r4.trans ((ReferenceIdeal.Ffn.out_i hV).trans o4),
    r5.trans ((ReferenceIdeal.Ffn.out_o hV).trans o5), hargs⟩

end Cert.Ffn

end
-- ==== Proof.ProjArr.lean ====
/- The arrays of a norm followed by a product with a weight matrix of any width, each as a function of the arrays it
   is computed from. -/
module

public import proofs.«01_k».proof.Proof.FfnReal

@[expose] public section

set_option maxRecDepth 16384

noncomputable section

open Idealize.ShloMosaic Idealize.ShloMosaic.TcCoe

namespace Cert.Proj

open Cert.Ffn

variable {n : ℕ}

/-- The product of the gained rows with the weights. -/
def PR (xn : Mat 4096 1024) (w : Mat 1024 n) : Mat 4096 n := fun i => ∑ k : Fin 1024, xn (ix2 (i 0) k) * w (ix2 k (i 1))

/-- The weights' gradient. -/
def DW (xn : Mat 4096 1024) (dy : Mat 4096 n) : Mat 1024 n := fun i => ∑ t : Fin 4096, xn (ix2 t (i 0)) * dy (ix2 t (i 1))

/-- The gained rows' gradient: the product with the weights' columns. -/
def PN (dy : Mat 4096 n) (w : Mat 1024 n) : Mat 4096 1024 := fun i => ∑ k : Fin n, dy (ix2 (i 0) k) * w (ix2 (i 1) k)

theorem fine_PN {dy : Mat 4096 n} {w : Mat 1024 n} (hd : Fine dy) (hw : Fine w) : Fine (PN dy w) := fun i =>
  IsR.sum fun k => (hd _).mul (hw _)

/-! ## The results over the arguments -/

variable (x : Mat 4096 1024) (g : Row 1024) (w : Mat 1024 n) (dres : Mat 4096 1024) (dy : Mat 4096 n)

/-- The product, and the gradients in the input, the gain and the weights. -/
def oY : Mat 4096 n := PR (XN x (ROW g)) w
def oX : Mat 4096 1024 := DX dres x (PN dy w) (ROW g)
def oG : Row 1024 := fun j => ∑ i : Fin 64, DGP x (PN dy w) (ix2 i (j 0))
def oW : Mat 1024 n := DW (XN x (ROW g)) dy

end Cert.Proj

end
-- ==== Proof.ConvInLaunch.lean ====
/- The launches of the convolution branch's input projection: the normalised rows and the product, the weights' gradient, the
   gradients in the input and in the gain, each as a whole array. -/
module

public import proofs.«01_k».proof.Proof.ProjArr
public import proofs.«01_k».proof.Proof.Gen.Kernel2Ideal.Frame

@[expose] public section

set_option maxRecDepth 16384

noncomputable section

open Idealize.ShloMosaic Idealize.ShloMosaic.TcCoe Idealize.SL.Sem
open Idealize.ShloMosaic.Pipeline (Dat)

namespace Cert.Kernel2Ideal.ConvIn

open Cert.Kernel2Ideal Cert.Kernel2Ideal.Gen Cert.Ffn Cert.Proj

variable (V : (c : Dev nD) → (b : Ref sig .tc) → Buf (Elt Ideal) ((c : Thread nD τ).loc b))

/-- The weights from the four column tiles the launches read. -/
def FLT (w : (⟨3, ![4, 1024, 768]⟩ : Shape).Idx → EReal) : Mat 1024 3072 := fun i =>
  w (ix3 ⟨(i 1).val / 768, by have := (i 1).isLt; simp at this; omega⟩ (i 0) ⟨(i 1).val % 768, by omega⟩)

/-- One column tile's part of the product with the weights' columns. -/
def PNT (dy : Mat 4096 3072) (w : Mat 1024 3072) (q : Fin 4) : Mat 4096 1024 := fun i =>
  ∑ k : Fin 768, dy (ix2 (i 0) ⟨q.val * 768 + k.val, by omega⟩) * w (ix2 (i 1) ⟨q.val * 768 + k.val, by omega⟩)

/-- The four column tiles' parts, added in order. -/
def PNS (dy : Mat 4096 3072) (w : Mat 1024 3072) : Mat 4096 1024 := fun j =>
  PNT dy w 0 j + PNT dy w 1 j + PNT dy w 2 j + PNT dy w 3 j

theorem PNS_eq (dy : Mat 4096 3072) (w : Mat 1024 3072) : PNS dy w = PN dy w := funext fun i => by
  unfold PN PNS PNT
  rw [Fin.sum_univ_tiles 4 768 rfl, Fin.sum_univ_four]

/-- The block every window is at, at every point of the grid. -/
theorem idx0 : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

/-- The normalised rows. -/
theorem final0_3 (c : Dev nD) : (dat0 V c).arrAt 3 cfg0.N = XN (V c main_arg0) (V c main_v3) := by
  refine (dat0 V c).arrAt_eq_of_covers 3 _ (by decide +kernel) fun t _ y => ?_
  blk_simp
  rw [after0_3]; frame_out
  pointwise [k0_pay2, XN, RS]
  blk_point [iblk0, idx0 t]

/-- The product. -/
theorem final0_4 (c : Dev nD) : (dat0 V c).arrAt 4 cfg0.N = PR (XN (V c main_arg0) (V c main_v3)) (FLT (V c main_v2)) := by
  refine (dat0 V c).arrAt_eq_of_covers 4 _ (by decide +kernel) fun t _ y => ?_
  blk_simp
  rw [after0_4]; frame_out
  canon_tiles x h
  all_goals (open_payloads; pointwise [PR, FLT, XN, RS])
  all_goals blk_point [iblk0, idx0 t]

theorem idx1 : ∀ t : Fin cfg1.N, win1_0.index t = ![0, 0] ∧ win1_1.index t = ![0, t.val] ∧ win1_2.index t = ![t.val, 0, 0] :=
  (by decide +kernel : ∀ t : Fin grid1.N, _)

/-- The weights' gradient, in the four column tiles the launch writes. -/
theorem final1_2 (c : Dev nD) : (dat1 V c).arrAt 2 cfg1.N = fun i => DW (V c main_v4_0) (V c main_arg4) (ix2 (i 1) ⟨(i 0).val * 768 + (i 2).val, by have h0 := (i 0).isLt; have h1 := (i 2).isLt; simp at h0 h1; omega⟩) := by
  refine (dat1 V c).arrAt_eq_of_covers 2 _ (by decide +kernel) fun t _ y => ?_
  blk_simp
  rw [after1_2]; frame_out
  pointwise [k1_pay1, DW]
  blk_point [iblk1, idx1 t]

theorem idx2 : ∀ t : Fin cfg2.N, win2_0.index t = ![t.val, 0] ∧ win2_1.index t = ![0, 0, 0] ∧ win2_2.index t = ![t.val, 0]
    ∧ win2_3.index t = ![t.val, 0] ∧ win2_4.index t = ![0, 0] ∧ win2_5.index t = ![t.val, 0] ∧ win2_6.index t = ![t.val, 0] :=
  (by decide +kernel : ∀ t : Fin grid2.N, _)

/-- The gradient in the input. -/
theorem final2_5 (c : Dev nD) : (dat2 V c).arrAt 5 cfg2.N = DX (V c main_arg3) (V c main_arg0) (PNS (V c main_arg4) (FLT (V c main_v2))) (V c main_v6) := by
  refine (dat2 V c).arrAt_eq_of_covers 5 _ (by decide +kernel) fun t _ y => ?_
  blk_simp
  rw [after2_5]; frame_out
  pointwise [k2_pay7, k2_pay6, k2_pay5, k2_pay4, k2_pay3, k2_pay2, k2_pay1, DX, NBW, PNS, PNT, FLT, RS]
  blk_point [iblk2, idx2 t]

/-- The gradient in the gain, tile by tile. -/
theorem final2_6 (c : Dev nD) : (dat2 V c).arrAt 6 cfg2.N = DGP (V c main_arg0) (PNS (V c main_arg4) (FLT (V c main_v2))) := by
  refine (dat2 V c).arrAt_eq_of_covers 6 _ (by decide +kernel) fun t _ y => ?_
  blk_simp
  rw [after2_6]; frame_out
  pointwise [k2_pay7, k2_pay6, k2_pay5, k2_pay4, k2_pay3, k2_pay2, k2_pay1, DGP, PNS, PNT, FLT, RS]
  rw [sel_row (y 0).val (by have := (y 0).isLt; exact this)]
  blk_point [iblk2, idx2 t]
  exact propext (by omega)

end Cert.Kernel2Ideal.ConvIn

end
-- ==== Proof.ConvInRun.lean ====
/- The launches of the convolution branch's input projection in their order, with the host code around them: what every array holds at the end. -/
module

public import proofs.«01_k».proof.Proof.ConvInLaunch

@[expose] public section

set_option maxRecDepth 16384

noncomputable section

open Idealize.ShloMosaic Idealize.ShloMosaic.TcCoe Idealize.SL.Sem Idealize.ShloMosaic.StableHlo

namespace Cert.Kernel2Ideal.ConvIn

open Cert.Kernel2Ideal Cert.Kernel2Ideal.Gen Cert.Ffn Cert.Proj

section Host

variable (W : Valuation τ sig (Elt Ideal))

/-- The contents of an array. -/
abbrev at' (b : Ref sig .tc) : (Proc.devRef .tc b : DevRef τ sig).ty.Contents (Elt Ideal) := W (Proc.devRef .tc b)

theorem tile_col (i : (⟨2, ![1024, 3072]⟩ : Shape).Idx) (h : (i 1).val / 768 * 768 + (i 1).val % 768 < 3072) :
    ix2 (i 0) (⟨(i 1).val / 768 * 768 + (i 1).val % 768, h⟩ : Fin 3072) = i := by
  conv_rhs => rw [eq_ix2 i]
  exact congrArg (ix2 _) (Fin.ext (show (i 1).val / 768 * 768 + (i 1).val % 768 = (i 1).val by omega))

/-- What the launches read of the weights and the gain, and what the host makes of the tiles they write. -/
theorem h0_v2 : FLT (after hostOps0 W (Proc.devRef .tc main_v2)) = at' W main_arg2 := by
  simp only [hostOps0]
  after_results_simp
  funext i; pointwise [FLT]
  exact congrArg _ (tile_col i _)
theorem h0_v3 : after hostOps0 W (Proc.devRef .tc main_v3) = ROW (at' W main_arg1) := by
  simp only [hostOps0]
  after_results_simp
  funext i; pointwise [ROW]
theorem h2_v6 : after hostOps2 W (Proc.devRef .tc main_v6) = ROW (at' W main_arg1) := by
  simp only [hostOps2]
  after_results_simp
  funext i; pointwise [ROW]
theorem h3_v8 : after hostOps3 W (Proc.devRef .tc main_v8) = (fun j => ∑ i : Fin 64, (at' W main_v7_1 : Mat 64 1024) (ix2 i (j 0)) : Row 1024) := by
  simp only [hostOps3]
  after_results_simp
  funext i; pointwise [zero_add]
theorem h3_v10 (a : Mat 1024 3072) (h : ∀ i : S4x1024x768.Idx, (at' W main_v5 : S4x1024x768.Idx → EReal) i
    = a (ix2 (i 1) ⟨(i 0).val * 768 + (i 2).val, by have h0 := (i 0).isLt; have h1 := (i 2).isLt; simp at h0 h1; omega⟩)) :
    after hostOps3 W (Proc.devRef .tc main_v10) = a := by
  simp only [hostOps3]
  after_results_simp
  funext i; pointwise [h]
  exact congrArg a (tile_col i _)

end Host

variable (m : (ℓ : Loc nD τ sig) → Buf (Elt Ideal) ℓ) (ρ : Dev nD → PrngReg) (c : Dev nD)

/-- The arguments: the input, the gain, the weights, the residual's and the product's upstream gradient. -/
abbrev aX : Mat 4096 1024 := m ((c.tc : Thread nD τ).loc main_arg0)
abbrev aG : Row 1024 := m ((c.tc : Thread nD τ).loc main_arg1)
abbrev aW : Mat 1024 3072 := m ((c.tc : Thread nD τ).loc main_arg2)
abbrev aR : Mat 4096 1024 := m ((c.tc : Thread nD τ).loc main_arg3)
abbrev aD : Mat 4096 3072 := m ((c.tc : Thread nD τ).loc main_arg4)

theorem V1_arg0 : V1 m ρ c main_arg0 = aX m c := W1_args m ρ c main_arg0 (by decide)
theorem V1_v3 : V1 m ρ c main_v3 = ROW (aG m c) := h0_v3 (W0 m ρ c)
theorem V1_v2 : FLT (V1 m ρ c main_v2) = aW m c := h0_v2 (W0 m ρ c)

theorem W2_v4_0 : W2 m ρ c (Proc.devRef .tc main_v4_0) = XN (aX m c) (ROW (aG m c)) := by
  refine (W2_arr m ρ c 3).trans ((final0_3 (V1 m ρ) c).trans ?_)
  rw [V1_arg0, V1_v3]
theorem W2_v4_1 : W2 m ρ c (Proc.devRef .tc main_v4_1) = oY (aX m c) (aG m c) (aW m c) := by
  refine (W2_arr m ρ c 4).trans ((final0_4 (V1 m ρ) c).trans ?_)
  rw [V1_arg0, V1_v3, V1_v2]; rfl

theorem V2_arg4 : V2 m ρ c main_arg4 = aD m c := W2_args m ρ c main_arg4 (by decide)
theorem W3_v5 (i : S4x1024x768.Idx) : (W3 m ρ c (Proc.devRef .tc main_v5) : S4x1024x768.Idx → EReal) i
    = oW (aX m c) (aG m c) (aD m c) (ix2 (i 1) ⟨(i 0).val * 768 + (i 2).val, by have h0 := (i 0).isLt; have h1 := (i 2).isLt; simp at h0 h1; omega⟩) := by
  refine (congrFun ((W3_arr m ρ c 2).trans (final1_2 (V2 m ρ) c)) i).trans ?_
  rw [show V2 m ρ c main_v4_0 = XN (aX m c) (ROW (aG m c)) from W2_v4_0 m ρ c, V2_arg4]; rfl

theorem V4_v2 : FLT (V4 m ρ c main_v2) = aW m c :=
  (congrArg FLT ((W4_of m ρ c main_v2 (by decide +kernel)).trans ((W3_of m ρ c main_v2 (by decide +kernel)).trans
    (W2_of m ρ c main_v2 (by decide +kernel))))).trans (V1_v2 m ρ c)
theorem V4_arg0 : V4 m ρ c main_arg0 = aX m c := W4_args m ρ c main_arg0 (by decide)
theorem V4_arg3 : V4 m ρ c main_arg3 = aR m c := W4_args m ρ c main_arg3 (by decide)
theorem V4_arg4 : V4 m ρ c main_arg4 = aD m c := W4_args m ρ c main_arg4 (by decide)
theorem V4_v6 : V4 m ρ c main_v6 = ROW (aG m c) :=
  (h2_v6 (W3 m ρ c)).trans (congrArg ROW (W3_args m ρ c main_arg1 (by decide)))

theorem W5_v7_0 : W5 m ρ c (Proc.devRef .tc main_v7_0) = oX (aX m c) (aG m c) (aW m c) (aR m c) (aD m c) := by
  refine (W5_arr m ρ c 5).trans ((final2_5 (V4 m ρ) c).trans ?_)
  rw [V4_v2, V4_arg0, V4_arg3, V4_arg4, V4_v6, PNS_eq]; rfl
theorem W5_v7_1 : W5 m ρ c (Proc.devRef .tc main_v7_1) = DGP (aX m c) (PN (aD m c) (aW m c)) := by
  refine (W5_arr m ρ c 6).trans ((final2_6 (V4 m ρ) c).trans ?_)
  rw [V4_v2, V4_arg0, V4_arg4, PNS_eq]

/-! ## The results -/

theorem out_y : W6 m ρ c (Proc.devRef .tc main_v4_1) = oY (aX m c) (aG m c) (aW m c) :=
  (W6_of m ρ c main_v4_1 (by decide +kernel)).trans ((W5_of m ρ c main_v4_1 (by decide +kernel)).trans
    ((W4_of m ρ c main_v4_1 (by decide +kernel)).trans ((W3_of m ρ c main_v4_1 (by decide +kernel)).trans (W2_v4_1 m ρ c))))
theorem out_dx : W6 m ρ c (Proc.devRef .tc main_v7_0) = oX (aX m c) (aG m c) (aW m c) (aR m c) (aD m c) :=
  (W6_of m ρ c main_v7_0 (by decide +kernel)).trans (W5_v7_0 m ρ c)
theorem out_dg : W6 m ρ c (Proc.devRef .tc main_v8) = oG (aX m c) (aW m c) (aD m c) := by
  refine (h3_v8 (W5 m ρ c)).trans ?_
  rw [show at' (W5 m ρ c) main_v7_1 = _ from W5_v7_1 m ρ c]; rfl
theorem out_dw : W6 m ρ c (Proc.devRef .tc main_v10) = oW (aX m c) (aG m c) (aD m c) :=
  h3_v10 (W5 m ρ c) _ fun i => (congrFun ((W5_of m ρ c main_v5 (by decide +kernel)).trans
    (W4_of m ρ c main_v5 (by decide +kernel))) i).trans (W3_v5 m ρ c i)

end Cert.Kernel2Ideal.ConvIn

end
-- ==== Proof.ConvInRef.lean ====
/- The reference of the convolution branch's input projection: its four results, at finite arguments, by the kernel's formulas. -/
module

public import proofs.«01_k».proof.Proof.ProjArr
public import proofs.«01_k».proof.Proof.Gen.Reference2Ideal.Run

@[expose] public section

set_option maxRecDepth 16384

noncomputable section

open Idealize.ShloMosaic Idealize.ShloMosaic.TcCoe Idealize.SL.Sem Idealize.ShloMosaic.StableHlo

namespace Cert.Reference2Ideal.ConvIn

open Cert.Reference2Ideal Cert.Reference2Ideal.Value Cert.Ffn Cert.Proj
open Facts₀ Facts

/-! ## The reference's arrays, as its operations write them -/

/-- The mean square, its reciprocal root, the normalised rows, the gain on every row, the gained rows. -/
def tM (x : FVec Ideal S4096x1024 .f32) : FVec Ideal S4096x1 .f32 := addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
def tR (x : FVec Ideal S4096x1024 .f32) : FVec Ideal S4096x1 .f32 := Host.rsqrt (tM x)
def tN (x : FVec Ideal S4096x1024 .f32) : FVec Ideal S4096x1024 .f32 := mulf x (broadcastInDim S4096x1024 ![0, 1] bcast_S4096x1_S4096x1024_0_1 (tR x))
def tG (g : FVec Ideal S1024 .f32) : FVec Ideal S4096x1024 .f32 := broadcastInDim S4096x1024 ![0, 1] bcast_S1x1024_S4096x1024_0_1 (broadcastInDim S1x1024 ![1] bcast_S1024_S1x1024_1 g)
def tX (x : FVec Ideal S4096x1024 .f32) (g : FVec Ideal S1024 .f32) : FVec Ideal S4096x1024 .f32 := mulf (tN x) (tG g)
/-- The gained rows' gradient, the normalised rows' and the mean square's part of the rows' gradient. -/
def tP (dy : FVec Ideal S4096x3072 .bf16) (w : FVec Ideal S1024x3072 .f32) : FVec Ideal S4096x1024 .f32 := Host.dotGeneral dot_S4096x3072_S1024x3072_S4096x1024_1_1_0_0_n_n none (extf .f32 dy bitsLt_bf16_f32) w
def tQ (x d : FVec Ideal S4096x1024 .f32) : FVec Ideal S4096x1024 .f32 := broadcastInDim S4096x1024 ![0] bcast_S4096_S4096x1024_0 (Host.reduceAdd (Host.divf (mulf (shapeCast _ (Host.reduceAdd (mulf x d) (constant S_ .f32 0x00000000#32) reducesTo_S4096x1024_S4096_d1 h_S_) shapeCasts_S4096_S4096x1) (mulf (broadcastInDim S4096x1 ![] bcast_S_S4096x1 (constant S_ .f32 0xBF000000#32)) (Host.divf (tR x) (tM x)))) (broadcastInDim S4096x1 ![] bcast_S_S4096x1 (constant S_ .f32 0x44800000#32))) (constant S_ .f32 0x00000000#32) reducesTo_S4096x1_S4096_d1 h_S_)

theorem tM_eq (x : Mat 4096 1024) (i) : tM x i = MS x (i 0) := by pointwise [tM, MS, zero_add]
theorem tR_eq (x : Mat 4096 1024) (i) : tR x i = RS x (i 0) := congrArg Ideal.rsqrt (tM_eq x i)
theorem tN_eq (x : Mat 4096 1024) (i) : tN x i = x i * RS x (i 0) := by pointwise [tN, tR_eq]
theorem tX_eq (x : Mat 4096 1024) (g : Row 1024) : tX x g = XN x (ROW g) := by
  funext i; pointwise [tX, tN_eq, tG, XN, ROW]
theorem tP_eq (dy : Mat 4096 3072) (w : Mat 1024 3072) : tP dy w = PN dy w := by
  funext i; pointwise [tP, PN]
theorem tQ_eq (x d : Mat 4096 1024) (i) : tQ x d i = RQ x d (i 0) := by
  pointwise [tQ, tM_eq, tR_eq, RQ, zero_add, Fin.sum_univ_one]
theorem tD_eq (d : Mat 4096 1024) (g : Row 1024) : (mulf (F := Ideal) (φ := .f32) d (tG g) : Mat 4096 1024) = GD d (ROW g) := by
  funext i; pointwise [tG, GD, ROW]

variable (m : (ℓ : Loc nD τ sig) → Buf (Elt Ideal) ℓ) (c : Dev nD)

/-- The arguments: the input, the gain, the weights, the residual's and the product's upstream gradient. -/
abbrev aX : Mat 4096 1024 := m ((c.tc : Thread nD τ).loc main_arg0)
abbrev aG : Row 1024 := m ((c.tc : Thread nD τ).loc main_arg1)
abbrev aW : Mat 1024 3072 := m ((c.tc : Thread nD τ).loc main_arg2)
abbrev aR : Mat 4096 1024 := m ((c.tc : Thread nD τ).loc main_arg3)
abbrev aD : Mat 4096 3072 := m ((c.tc : Thread nD τ).loc main_arg4)

theorem out_y : (truncf .bf16 (Host.dotGeneral (φ₁ := .f32) (φ₂ := .f32) dot_S4096x1024_S1024x3072_S4096x3072_1_0_0_1_n_n none (tX (aX m c) (aG m c)) (aW m c)) bitsLt_bf16_f32 : Mat 4096 3072)
    = oY (aX m c) (aG m c) (aW m c) := by
  funext i; rw [tX_eq]; pointwise [oY, PR]

theorem x_stages : res_main_v41 m c = (addf (F := Ideal) (φ := .f32) (addf (addf (aR m c) (mulf (mulf (tP (aD m c) (aW m c)) (tG (aG m c))) (broadcastInDim S4096x1024 ![0, 1] bcast_S4096x1_S4096x1024_0_1 (tR (aX m c)))))
    (mulf (aX m c) (tQ (aX m c) (mulf (tP (aD m c) (aW m c)) (tG (aG m c)))))) (mulf (tQ (aX m c) (mulf (tP (aD m c) (aW m c)) (tG (aG m c)))) (aX m c)) : Mat 4096 1024) := rfl

theorem out_x (hx : Fine (aX m c)) (hg : Fine (aG m c)) (hw : Fine (aW m c)) (hd : Fine (aD m c)) :
    res_main_v41 m c = oX (aX m c) (aG m c) (aW m c) (aR m c) (aD m c) := by
  rw [x_stages, tP_eq, tD_eq]
  funext i
  unfold oX DX
  rw [NBW_eq hx (fine_PN hd hw) (fine_ROW hg)]
  pointwise [tR_eq, tQ_eq, RNB]
  simp only [add_assoc]

theorem out_g : (Host.reduceAdd (shapeCast _ (Host.reduceAdd (mulf (tN (aX m c)) (tP (aD m c) (aW m c))) (constant S_ .f32 0x00000000#32) reducesTo_S4096x1024_S1024_d0 h_S_) shapeCasts_S1024_S1x1024) (constant S_ .f32 0x00000000#32) reducesTo_S1x1024_S1024_d0 h_S_ : Row 1024)
    = oG (aX m c) (aW m c) (aD m c) := by
  funext j
  rw [tP_eq]
  refine Eq.trans ?_ (DGP_sum _ _ (j 0)).symm
  pointwise [tN_eq, zero_add, Fin.sum_univ_one]
  exact Finset.sum_congr rfl fun k _ => mul_comm _ _

theorem out_w : (transpose S1024x3072 [1, 0] (Host.dotGeneral (φ₁ := .f32) (φ₂ := .f32) dot_S4096x3072_S4096x1024_S3072x1024_0_0_1_1_n_n none (extf .f32 (φ := .bf16) (aD m c) bitsLt_bf16_f32) (tX (aX m c) (aG m c))) transposes_S3072x1024_S1024x3072_1_0 : Mat 1024 3072)
    = oW (aX m c) (aG m c) (aD m c) := by
  funext i; rw [tX_eq]; pointwise [oW, DW]
  exact Finset.sum_congr rfl fun k _ => mul_comm _ _

end Cert.Reference2Ideal.ConvIn

end
-- ==== Proof.ConvInClaim.lean ====
/- The value claim of the convolution branch's input projection: the kernel and the reference end with the same four arrays. -/
module

public import proofs.«01_k».proof.Defs
public import proofs.«01_k».proof.Proof.ConvInRun
public import proofs.«01_k».proof.Proof.ConvInRef
public import proofs.«01_k».proof.Proof.FfnPre
public import proofs.«01_k».proof.Proof.Gen.Pre_finite2

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.Kernel2Ideal.ConvIn

open Cert.Kernel2Ideal Cert.Kernel2Ideal.Gen Cert.Ffn Cert.Proj

local notation "𝕄" => MT nD τ sig Unit (Elt Ideal) ℕ (UR sig nD τ) ℕ
variable (m : (ℓ : Loc nD τ sig) → Buf (Elt Ideal) ℓ) (ρ : Dev nD → PrngReg)

/-- The run: every result by its formula over the arguments. -/
theorem run_value : θ_run defs (onTc (τ := τ) (main (F := Ideal))) ⟨m, fun _ => 0, ρ⟩ (fun r => ∀ c : Dev nD,
      r.2.mem ((c.tc : Thread nD τ).loc main_v4_1) = oY (aX m c) (aG m c) (aW m c)
      ∧ r.2.mem ((c.tc : Thread nD τ).loc main_v7_0) = oX (aX m c) (aG m c) (aW m c) (aR m c) (aD m c)
      ∧ r.2.mem ((c.tc : Thread nD τ).loc main_v8) = oG (aX m c) (aW m c) (aD m c)
      ∧ r.2.mem ((c.tc : Thread nD τ).loc main_v10) = oW (aX m c) (aG m c) (aD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c =>
      ⟨(h c _ (mem_uc main_v4_1 (by decide))).trans (out_y m ρ c),
       (h c _ (mem_uc main_v7_0 (by decide))).trans (out_dx m ρ c),
       (h c _ (mem_uc main_v8 (by decide))).trans (out_dg m ρ c),
       (h c _ (mem_uc main_v10 (by decide))).trans (out_dw m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.Kernel2Ideal.ConvIn

namespace Cert.ConvIn

open Cert.Ffn Cert.Proj Idealize.ShloMosaic.StableHlo

/-- The precondition, read on one device. -/
theorem fine_args (m : (ℓ : Loc Cert.Kernel2Ideal.nD Cert.Kernel2Ideal.τ Cert.Kernel2Ideal.sig) → Buf (Elt Ideal) ℓ)
    (h : Cert.Pre_Kernel2Ideal_finite2 (hPre_finite2 := Cert.Pre_finite2.Gen.facts) m) (c : Dev Cert.Kernel2Ideal.nD) :
    Fine (Kernel2Ideal.ConvIn.aX m c) ∧ Fine (Kernel2Ideal.ConvIn.aG m c) ∧ Fine (Kernel2Ideal.ConvIn.aW m c)
    ∧ Fine (Kernel2Ideal.ConvIn.aR m c) ∧ Fine (Kernel2Ideal.ConvIn.aD m c) := by
  obtain ⟨h0, h1, h2, h3, h4⟩ := h c
  exact ⟨fine_of _ _ h0, fine_of _ _ h1, fine_of _ _ h2, fine_of _ _ h3, fine_of _ _ h4⟩

theorem algebraic : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hpre hag
  refine ⟨_, _, _, _, Kernel2Ideal.ConvIn.run_value m g,
    (θ_run _ _ _).mono (fun r hr c => ?_) (Reference2Ideal.Value.run (F := Ideal) m' g')⟩
  obtain ⟨a0, a1, a2, a3, a4⟩ := hag c
  obtain ⟨f0, f1, f2, f3, f4⟩ := fine_args m hpre c
  have e0 : Reference2Ideal.ConvIn.aX m' c = Kernel2Ideal.ConvIn.aX m c := a0
  have e1 : Reference2Ideal.ConvIn.aG m' c = Kernel2Ideal.ConvIn.aG m c := a1
  have e2 : Reference2Ideal.ConvIn.aW m' c = Kernel2Ideal.ConvIn.aW m c := a2
  have e3 : Reference2Ideal.ConvIn.aR m' c = Kernel2Ideal.ConvIn.aR m c := a3
  have e4 : Reference2Ideal.ConvIn.aD m' c = Kernel2Ideal.ConvIn.aD m c := a4
  obtain ⟨r0, r1, r2, r3, hargs⟩ := hr c
  have o0 : oY (Reference2Ideal.ConvIn.aX m' c) (Reference2Ideal.ConvIn.aG m' c) (Reference2Ideal.ConvIn.aW m' c)
      = oY (Kernel2Ideal.ConvIn.aX m c) (Kernel2Ideal.ConvIn.aG m c) (Kernel2Ideal.ConvIn.aW m c) := by rw [e0, e1, e2]
  have o1 : oX (Reference2Ideal.ConvIn.aX m' c) (Reference2Ideal.ConvIn.aG m' c) (Reference2Ideal.ConvIn.aW m' c) (Reference2Ideal.ConvIn.aR m' c) (Reference2Ideal.ConvIn.aD m' c)
      = oX (Kernel2Ideal.ConvIn.aX m c) (Kernel2Ideal.ConvIn.aG m c) (Kernel2Ideal.ConvIn.aW m c) (Kernel2Ideal.ConvIn.aR m c) (Kernel2Ideal.ConvIn.aD m c) := by rw [e0, e1, e2, e3, e4]
  have o2 : oG (Reference2Ideal.ConvIn.aX m' c) (Reference2Ideal.ConvIn.aW m' c) (Reference2Ideal.ConvIn.aD m' c)
      = oG (Kernel2Ideal.ConvIn.aX m c) (Kernel2Ideal.ConvIn.aW m c) (Kernel2Ideal.ConvIn.aD m c) := by rw [e0, e2, e4]
  have o3 : oW (Reference2Ideal.ConvIn.aX m' c) (Reference2Ideal.ConvIn.aG m' c) (Reference2Ideal.ConvIn.aD m' c)
      = oW (Kernel2Ideal.ConvIn.aX m c) (Kernel2Ideal.ConvIn.aG m c) (Kernel2Ideal.ConvIn.aD m c) := by rw [e0, e1, e4]
  exact ⟨r0.trans ((Reference2Ideal.ConvIn.out_y m' c).trans o0),
    r1.trans ((Reference2Ideal.ConvIn.out_x m' c ((congrArg Fine e0).mpr f0) ((congrArg Fine e1).mpr f1) ((congrArg Fine e2).mpr f2) ((congrArg Fine e4).mpr f4)).trans o1),
    r2.trans ((Reference2Ideal.ConvIn.out_g m' c).trans o2),
    r3.trans ((Reference2Ideal.ConvIn.out_w m' c).trans o3), hargs⟩

end Cert.ConvIn

end
-- ==== Proof.QgInLaunch.lean ====
/- The launches of the queries' and gates' projection: the normalised rows and the product, the weights' gradient, the
   gradients in the input and in the gain, each as a whole array. -/
module

public import proofs.«01_k».proof.Proof.ProjArr
public import proofs.«01_k».proof.Proof.Gen.Kernel6Ideal.Frame

@[expose] public section

set_option maxRecDepth 16384

noncomputable section

open Idealize.ShloMosaic Idealize.ShloMosaic.TcCoe Idealize.SL.Sem
open Idealize.ShloMosaic.Pipeline (Dat)

namespace Cert.Kernel6Ideal.QgIn

open Cert.Kernel6Ideal Cert.Kernel6Ideal.Gen Cert.Ffn Cert.Proj

variable (V : (c : Dev nD) → (b : Ref sig .tc) → Buf (Elt Ideal) ((c : Thread nD τ).loc b))

/-- The weights from the four column tiles the launches read. -/
def FLT (w : (⟨3, ![4, 1024, 512]⟩ : Shape).Idx → EReal) : Mat 1024 2048 := fun i =>
  w (ix3 ⟨(i 1).val / 512, by have := (i 1).isLt; simp at this; omega⟩ (i 0) ⟨(i 1).val % 512, by omega⟩)

/-- One column tile's part of the product with the weights' columns. -/
def PNT (dy : Mat 4096 2048) (w : Mat 1024 2048) (q : Fin 4) : Mat 4096 1024 := fun i =>
  ∑ k : Fin 512, dy (ix2 (i 0) ⟨q.val * 512 + k.val, by omega⟩) * w (ix2 (i 1) ⟨q.val * 512 + k.val, by omega⟩)

/-- The four column tiles' parts, added in order. -/
def PNS (dy : Mat 4096 2048) (w : Mat 1024 2048) : Mat 4096 1024 := fun j =>
  PNT dy w 0 j + PNT dy w 1 j + PNT dy w 2 j + PNT dy w 3 j

theorem PNS_eq (dy : Mat 4096 2048) (w : Mat 1024 2048) : PNS dy w = PN dy w := funext fun i => by
  unfold PN PNS PNT
  rw [Fin.sum_univ_tiles 4 512 rfl, Fin.sum_univ_four]

/-- The block every window is at, at every point of the grid. -/
theorem idx0 : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

/-- The normalised rows. -/
theorem final0_3 (c : Dev nD) : (dat0 V c).arrAt 3 cfg0.N = XN (V c main_arg0) (V c main_v3) := by
  refine (dat0 V c).arrAt_eq_of_covers 3 _ (by decide +kernel) fun t _ y => ?_
  blk_simp
  rw [after0_3]; frame_out
  pointwise [k0_pay2, XN, RS]
  blk_point [iblk0, idx0 t]

/-- The product. -/
theorem final0_4 (c : Dev nD) : (dat0 V c).arrAt 4 cfg0.N = PR (XN (V c main_arg0) (V c main_v3)) (FLT (V c main_v2)) := by
  refine (dat0 V c).arrAt_eq_of_covers 4 _ (by decide +kernel) fun t _ y => ?_
  blk_simp
  rw [after0_4]; frame_out
  canon_tiles x h
  all_goals (open_payloads; pointwise [PR, FLT, XN, RS])
  all_goals blk_point [iblk0, idx0 t]

theorem idx1 : ∀ t : Fin cfg1.N, win1_0.index t = ![0, 0] ∧ win1_1.index t = ![0, t.val] ∧ win1_2.index t = ![t.val, 0, 0] :=
  (by decide +kernel : ∀ t : Fin grid1.N, _)

/-- The weights' gradient, in the four column tiles the launch writes. -/
theorem final1_2 (c : Dev nD) : (dat1 V c).arrAt 2 cfg1.N = fun i => DW (V c main_v4_0) (V c main_arg4) (ix2 (i 1) ⟨(i 0).val * 512 + (i 2).val, by have h0 := (i 0).isLt; have h1 := (i 2).isLt; simp at h0 h1; omega⟩) := by
  refine (dat1 V c).arrAt_eq_of_covers 2 _ (by decide +kernel) fun t _ y => ?_
  blk_simp
  rw [after1_2]; frame_out
  pointwise [k1_pay1, DW]
  blk_point [iblk1, idx1 t]

theorem idx2 : ∀ t : Fin cfg2.N, win2_0.index t = ![t.val, 0] ∧ win2_1.index t = ![0, 0, 0] ∧ win2_2.index t = ![t.val, 0]
    ∧ win2_3.index t = ![t.val, 0] ∧ win2_4.index t = ![0, 0] ∧ win2_5.index t = ![t.val, 0] ∧ win2_6.index t = ![t.val, 0] :=
  (by decide +kernel : ∀ t : Fin grid2.N, _)

/-- The gradient in the input. -/
theorem final2_5 (c : Dev nD) : (dat2 V c).arrAt 5 cfg2.N = DX (V c main_arg3) (V c main_arg0) (PNS (V c main_arg4) (FLT (V c main_v2))) (V c main_v6) := by
  refine (dat2 V c).arrAt_eq_of_covers 5 _ (by decide +kernel) fun t _ y => ?_
  blk_simp
  rw [after2_5]; frame_out
  pointwise [k2_pay7, k2_pay6, k2_pay5, k2_pay4, k2_pay3, k2_pay2, k2_pay1, DX, NBW, PNS, PNT, FLT, RS]
  blk_point [iblk2, idx2 t]

/-- The gradient in the gain, tile by tile. -/
theorem final2_6 (c : Dev nD) : (dat2 V c).arrAt 6 cfg2.N = DGP (V c main_arg0) (PNS (V c main_arg4) (FLT (V c main_v2))) := by
  refine (dat2 V c).arrAt_eq_of_covers 6 _ (by decide +kernel) fun t _ y => ?_
  blk_simp
  rw [after2_6]; frame_out
  pointwise [k2_pay7, k2_pay6, k2_pay5, k2_pay4, k2_pay3, k2_pay2, k2_pay1, DGP, PNS, PNT, FLT, RS]
  rw [sel_row (y 0).val (by have := (y 0).isLt; exact this)]
  blk_point [iblk2, idx2 t]
  exact propext (by omega)

end Cert.Kernel6Ideal.QgIn

end
-- ==== Proof.QgInRun.lean ====
/- The launches of the queries' and gates' projection in their order, with the host code around them: what every array holds at the end. -/
module

public import proofs.«01_k».proof.Proof.QgInLaunch

@[expose] public section

set_option maxRecDepth 16384

noncomputable section

open Idealize.ShloMosaic Idealize.ShloMosaic.TcCoe Idealize.SL.Sem Idealize.ShloMosaic.StableHlo

namespace Cert.Kernel6Ideal.QgIn

open Cert.Kernel6Ideal Cert.Kernel6Ideal.Gen Cert.Ffn Cert.Proj

section Host

variable (W : Valuation τ sig (Elt Ideal))

/-- The contents of an array. -/
abbrev at' (b : Ref sig .tc) : (Proc.devRef .tc b : DevRef τ sig).ty.Contents (Elt Ideal) := W (Proc.devRef .tc b)

theorem tile_col (i : (⟨2, ![1024, 2048]⟩ : Shape).Idx) (h : (i 1).val / 512 * 512 + (i 1).val % 512 < 2048) :
    ix2 (i 0) (⟨(i 1).val / 512 * 512 + (i 1).val % 512, h⟩ : Fin 2048) = i := by
  conv_rhs => rw [eq_ix2 i]
  exact congrArg (ix2 _) (Fin.ext (show (i 1).val / 512 * 512 + (i 1).val % 512 = (i 1).val by omega))

/-- What the launches read of the weights and the gain, and what the host makes of the tiles they write. -/
theorem h0_v2 : FLT (after hostOps0 W (Proc.devRef .tc main_v2)) = at' W main_arg2 := by
  simp only [hostOps0]
  after_results_simp
  funext i; pointwise [FLT]
  exact congrArg _ (tile_col i _)
theorem h0_v3 : after hostOps0 W (Proc.devRef .tc main_v3) = ROW (at' W main_arg1) := by
  simp only [hostOps0]
  after_results_simp
  funext i; pointwise [ROW]
theorem h2_v6 : after hostOps2 W (Proc.devRef .tc main_v6) = ROW (at' W main_arg1) := by
  simp only [hostOps2]
  after_results_simp
  funext i; pointwise [ROW]
theorem h3_v8 : after hostOps3 W (Proc.devRef .tc main_v8) = (fun j => ∑ i : Fin 64, (at' W main_v7_1 : Mat 64 1024) (ix2 i (j 0)) : Row 1024) := by
  simp only [hostOps3]
  after_results_simp
  funext i; pointwise [zero_add]
theorem h3_v10 (a : Mat 1024 2048) (h : ∀ i : S4x1024x512.Idx, (at' W main_v5 : S4x1024x512.Idx → EReal) i
    = a (ix2 (i 1) ⟨(i 0).val * 512 + (i 2).val, by have h0 := (i 0).isLt; have h1 := (i 2).isLt; simp at h0 h1; omega⟩)) :
    after hostOps3 W (Proc.devRef .tc main_v10) = a := by
  simp only [hostOps3]
  after_results_simp
  funext i; pointwise [h]
  exact congrArg a (tile_col i _)

end Host

variable (m : (ℓ : Loc nD τ sig) → Buf (Elt Ideal) ℓ) (ρ : Dev nD → PrngReg) (c : Dev nD)

/-- The arguments: the input, the gain, the weights, the residual's and the product's upstream gradient. -/
abbrev aX : Mat 4096 1024 := m ((c.tc : Thread nD τ).loc main_arg0)
abbrev aG : Row 1024 := m ((c.tc : Thread nD τ).loc main_arg1)
abbrev aW : Mat 1024 2048 := m ((c.tc : Thread nD τ).loc main_arg2)
abbrev aR : Mat 4096 1024 := m ((c.tc : Thread nD τ).loc main_arg3)
abbrev aD : Mat 4096 2048 := m ((c.tc : Thread nD τ).loc main_arg4)

theorem V1_arg0 : V1 m ρ c main_arg0 = aX m c := W1_args m ρ c main_arg0 (by decide)
theorem V1_v3 : V1 m ρ c main_v3 = ROW (aG m c) := h0_v3 (W0 m ρ c)
theorem V1_v2 : FLT (V1 m ρ c main_v2) = aW m c := h0_v2 (W0 m ρ c)

theorem W2_v4_0 : W2 m ρ c (Proc.devRef .tc main_v4_0) = XN (aX m c) (ROW (aG m c)) := by
  refine (W2_arr m ρ c 3).trans ((final0_3 (V1 m ρ) c).trans ?_)
  rw [V1_arg0, V1_v3]
theorem W2_v4_1 : W2 m ρ c (Proc.devRef .tc main_v4_1) = oY (aX m c) (aG m c) (aW m c) := by
  refine (W2_arr m ρ c 4).trans ((final0_4 (V1 m ρ) c).trans ?_)
  rw [V1_arg0, V1_v3, V1_v2]; rfl

theorem V2_arg4 : V2 m ρ c main_arg4 = aD m c := W2_args m ρ c main_arg4 (by decide)
theorem W3_v5 (i : S4x1024x512.Idx) : (W3 m ρ c (Proc.devRef .tc main_v5) : S4x1024x512.Idx → EReal) i
    = oW (aX m c) (aG m c) (aD m c) (ix2 (i 1) ⟨(i 0).val * 512 + (i 2).val, by have h0 := (i 0).isLt; have h1 := (i 2).isLt; simp at h0 h1; omega⟩) := by
  refine (congrFun ((W3_arr m ρ c 2).trans (final1_2 (V2 m ρ) c)) i).trans ?_
  rw [show V2 m ρ c main_v4_0 = XN (aX m c) (ROW (aG m c)) from W2_v4_0 m ρ c, V2_arg4]; rfl

theorem V4_v2 : FLT (V4 m ρ c main_v2) = aW m c :=
  (congrArg FLT ((W4_of m ρ c main_v2 (by decide +kernel)).trans ((W3_of m ρ c main_v2 (by decide +kernel)).trans
    (W2_of m ρ c main_v2 (by decide +kernel))))).trans (V1_v2 m ρ c)
theorem V4_arg0 : V4 m ρ c main_arg0 = aX m c := W4_args m ρ c main_arg0 (by decide)
theorem V4_arg3 : V4 m ρ c main_arg3 = aR m c := W4_args m ρ c main_arg3 (by decide)
theorem V4_arg4 : V4 m ρ c main_arg4 = aD m c := W4_args m ρ c main_arg4 (by decide)
theorem V4_v6 : V4 m ρ c main_v6 = ROW (aG m c) :=
  (h2_v6 (W3 m ρ c)).trans (congrArg ROW (W3_args m ρ c main_arg1 (by decide)))

theorem W5_v7_0 : W5 m ρ c (Proc.devRef .tc main_v7_0) = oX (aX m c) (aG m c) (aW m c) (aR m c) (aD m c) := by
  refine (W5_arr m ρ c 5).trans ((final2_5 (V4 m ρ) c).trans ?_)
  rw [V4_v2, V4_arg0, V4_arg3, V4_arg4, V4_v6, PNS_eq]; rfl
theorem W5_v7_1 : W5 m ρ c (Proc.devRef .tc main_v7_1) = DGP (aX m c) (PN (aD m c) (aW m c)) := by
  refine (W5_arr m ρ c 6).trans ((final2_6 (V4 m ρ) c).trans ?_)
  rw [V4_v2, V4_arg0, V4_arg4, PNS_eq]

/-! ## The results -/

theorem out_y : W6 m ρ c (Proc.devRef .tc main_v4_1) = oY (aX m c) (aG m c) (aW m c) :=
  (W6_of m ρ c main_v4_1 (by decide +kernel)).trans ((W5_of m ρ c main_v4_1 (by decide +kernel)).trans
    ((W4_of m ρ c main_v4_1 (by decide +kernel)).trans ((W3_of m ρ c main_v4_1 (by decide +kernel)).trans (W2_v4_1 m ρ c))))
theorem out_dx : W6 m ρ c (Proc.devRef .tc main_v7_0) = oX (aX m c) (aG m c) (aW m c) (aR m c) (aD m c) :=
  (W6_of m ρ c main_v7_0 (by decide +kernel)).trans (W5_v7_0 m ρ c)
theorem out_dg : W6 m ρ c (Proc.devRef .tc main_v8) = oG (aX m c) (aW m c) (aD m c) := by
  refine (h3_v8 (W5 m ρ c)).trans ?_
  rw [show at' (W5 m ρ c) main_v7_1 = _ from W5_v7_1 m ρ c]; rfl
theorem out_dw : W6 m ρ c (Proc.devRef .tc main_v10) = oW (aX m c) (aG m c) (aD m c) :=
  h3_v10 (W5 m ρ c) _ fun i => (congrFun ((W5_of m ρ c main_v5 (by decide +kernel)).trans
    (W4_of m ρ c main_v5 (by decide +kernel))) i).trans (W3_v5 m ρ c i)

end Cert.Kernel6Ideal.QgIn

end
-- ==== Proof.QgInRef.lean ====
/- The reference of the queries' and gates' projection: its four results, at finite arguments, by the kernel's formulas. -/
module

public import proofs.«01_k».proof.Proof.ProjArr
public import proofs.«01_k».proof.Proof.Gen.Reference6Ideal.Run

@[expose] public section

set_option maxRecDepth 16384

noncomputable section

open Idealize.ShloMosaic Idealize.ShloMosaic.TcCoe Idealize.SL.Sem Idealize.ShloMosaic.StableHlo

namespace Cert.Reference6Ideal.QgIn

open Cert.Reference6Ideal Cert.Reference6Ideal.Value Cert.Ffn Cert.Proj
open Facts₀ Facts

/-! ## The reference's arrays, as its operations write them -/

/-- The mean square, its reciprocal root, the normalised rows, the gain on every row, the gained rows. -/
def tM (x : FVec Ideal S4096x1024 .f32) : FVec Ideal S4096x1 .f32 := addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
def tR (x : FVec Ideal S4096x1024 .f32) : FVec Ideal S4096x1 .f32 := Host.rsqrt (tM x)
def tN (x : FVec Ideal S4096x1024 .f32) : FVec Ideal S4096x1024 .f32 := mulf x (broadcastInDim S4096x1024 ![0, 1] bcast_S4096x1_S4096x1024_0_1 (tR x))
def tG (g : FVec Ideal S1024 .f32) : FVec Ideal S4096x1024 .f32 := broadcastInDim S4096x1024 ![0, 1] bcast_S1x1024_S4096x1024_0_1 (broadcastInDim S1x1024 ![1] bcast_S1024_S1x1024_1 g)
def tX (x : FVec Ideal S4096x1024 .f32) (g : FVec Ideal S1024 .f32) : FVec Ideal S4096x1024 .f32 := mulf (tN x) (tG g)
/-- The gained rows' gradient, the normalised rows' and the mean square's part of the rows' gradient. -/
def tP (dy : FVec Ideal S4096x2048 .bf16) (w : FVec Ideal S1024x2048 .f32) : FVec Ideal S4096x1024 .f32 := Host.dotGeneral dot_S4096x2048_S1024x2048_S4096x1024_1_1_0_0_n_n none (extf .f32 dy bitsLt_bf16_f32) w
def tQ (x d : FVec Ideal S4096x1024 .f32) : FVec Ideal S4096x1024 .f32 := broadcastInDim S4096x1024 ![0] bcast_S4096_S4096x1024_0 (Host.reduceAdd (Host.divf (mulf (shapeCast _ (Host.reduceAdd (mulf x d) (constant S_ .f32 0x00000000#32) reducesTo_S4096x1024_S4096_d1 h_S_) shapeCasts_S4096_S4096x1) (mulf (broadcastInDim S4096x1 ![] bcast_S_S4096x1 (constant S_ .f32 0xBF000000#32)) (Host.divf (tR x) (tM x)))) (broadcastInDim S4096x1 ![] bcast_S_S4096x1 (constant S_ .f32 0x44800000#32))) (constant S_ .f32 0x00000000#32) reducesTo_S4096x1_S4096_d1 h_S_)

theorem tM_eq (x : Mat 4096 1024) (i) : tM x i = MS x (i 0) := by pointwise [tM, MS, zero_add]
theorem tR_eq (x : Mat 4096 1024) (i) : tR x i = RS x (i 0) := congrArg Ideal.rsqrt (tM_eq x i)
theorem tN_eq (x : Mat 4096 1024) (i) : tN x i = x i * RS x (i 0) := by pointwise [tN, tR_eq]
theorem tX_eq (x : Mat 4096 1024) (g : Row 1024) : tX x g = XN x (ROW g) := by
  funext i; pointwise [tX, tN_eq, tG, XN, ROW]
theorem tP_eq (dy : Mat 4096 2048) (w : Mat 1024 2048) : tP dy w = PN dy w := by
  funext i; pointwise [tP, PN]
theorem tQ_eq (x d : Mat 4096 1024) (i) : tQ x d i = RQ x d (i 0) := by
  pointwise [tQ, tM_eq, tR_eq, RQ, zero_add, Fin.sum_univ_one]
theorem tD_eq (d : Mat 4096 1024) (g : Row 1024) : (mulf (F := Ideal) (φ := .f32) d (tG g) : Mat 4096 1024) = GD d (ROW g) := by
  funext i; pointwise [tG, GD, ROW]

variable (m : (ℓ : Loc nD τ sig) → Buf (Elt Ideal) ℓ) (c : Dev nD)

/-- The arguments: the input, the gain, the weights, the residual's and the product's upstream gradient. -/
abbrev aX : Mat 4096 1024 := m ((c.tc : Thread nD τ).loc main_arg0)
abbrev aG : Row 1024 := m ((c.tc : Thread nD τ).loc main_arg1)
abbrev aW : Mat 1024 2048 := m ((c.tc : Thread nD τ).loc main_arg2)
abbrev aR : Mat 4096 1024 := m ((c.tc : Thread nD τ).loc main_arg3)
abbrev aD : Mat 4096 2048 := m ((c.tc : Thread nD τ).loc main_arg4)

theorem out_y : (truncf .bf16 (Host.dotGeneral (φ₁ := .f32) (φ₂ := .f32) dot_S4096x1024_S1024x2048_S4096x2048_1_0_0_1_n_n none (tX (aX m c) (aG m c)) (aW m c)) bitsLt_bf16_f32 : Mat 4096 2048)
    = oY (aX m c) (aG m c) (aW m c) := by
  funext i; rw [tX_eq]; pointwise [oY, PR]

theorem x_stages : res_main_v41 m c = (addf (F := Ideal) (φ := .f32) (addf (addf (aR m c) (mulf (mulf (tP (aD m c) (aW m c)) (tG (aG m c))) (broadcastInDim S4096x1024 ![0, 1] bcast_S4096x1_S4096x1024_0_1 (tR (aX m c)))))
    (mulf (aX m c) (tQ (aX m c) (mulf (tP (aD m c) (aW m c)) (tG (aG m c)))))) (mulf (tQ (aX m c) (mulf (tP (aD m c) (aW m c)) (tG (aG m c)))) (aX m c)) : Mat 4096 1024) := rfl

theorem out_x (hx : Fine (aX m c)) (hg : Fine (aG m c)) (hw : Fine (aW m c)) (hd : Fine (aD m c)) :
    res_main_v41 m c = oX (aX m c) (aG m c) (aW m c) (aR m c) (aD m c) := by
  rw [x_stages, tP_eq, tD_eq]
  funext i
  unfold oX DX
  rw [NBW_eq hx (fine_PN hd hw) (fine_ROW hg)]
  pointwise [tR_eq, tQ_eq, RNB]
  simp only [add_assoc]

theorem out_g : (Host.reduceAdd (shapeCast _ (Host.reduceAdd (mulf (tN (aX m c)) (tP (aD m c) (aW m c))) (constant S_ .f32 0x00000000#32) reducesTo_S4096x1024_S1024_d0 h_S_) shapeCasts_S1024_S1x1024) (constant S_ .f32 0x00000000#32) reducesTo_S1x1024_S1024_d0 h_S_ : Row 1024)
    = oG (aX m c) (aW m c) (aD m c) := by
  funext j
  rw [tP_eq]
  refine Eq.trans ?_ (DGP_sum _ _ (j 0)).symm
  pointwise [tN_eq, zero_add, Fin.sum_univ_one]
  exact Finset.sum_congr rfl fun k _ => mul_comm _ _

theorem out_w : (transpose S1024x2048 [1, 0] (Host.dotGeneral (φ₁ := .f32) (φ₂ := .f32) dot_S4096x2048_S4096x1024_S2048x1024_0_0_1_1_n_n none (extf .f32 (φ := .bf16) (aD m c) bitsLt_bf16_f32) (tX (aX m c) (aG m c))) transposes_S2048x1024_S1024x2048_1_0 : Mat 1024 2048)
    = oW (aX m c) (aG m c) (aD m c) := by
  funext i; rw [tX_eq]; pointwise [oW, DW]
  exact Finset.sum_congr rfl fun k _ => mul_comm _ _

end Cert.Reference6Ideal.QgIn

end
-- ==== Proof.QgInClaim.lean ====
/- The value claim of the queries' and gates' projection: the kernel and the reference end with the same four arrays. -/
module

public import proofs.«01_k».proof.Defs
public import proofs.«01_k».proof.Proof.QgInRun
public import proofs.«01_k».proof.Proof.QgInRef
public import proofs.«01_k».proof.Proof.FfnPre
public import proofs.«01_k».proof.Proof.Gen.Pre_finite6

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.Kernel6Ideal.QgIn

open Cert.Kernel6Ideal Cert.Kernel6Ideal.Gen Cert.Ffn Cert.Proj

local notation "𝕄" => MT nD τ sig Unit (Elt Ideal) ℕ (UR sig nD τ) ℕ
variable (m : (ℓ : Loc nD τ sig) → Buf (Elt Ideal) ℓ) (ρ : Dev nD → PrngReg)

/-- The run: every result by its formula over the arguments. -/
theorem run_value : θ_run defs (onTc (τ := τ) (main (F := Ideal))) ⟨m, fun _ => 0, ρ⟩ (fun r => ∀ c : Dev nD,
      r.2.mem ((c.tc : Thread nD τ).loc main_v4_1) = oY (aX m c) (aG m c) (aW m c)
      ∧ r.2.mem ((c.tc : Thread nD τ).loc main_v7_0) = oX (aX m c) (aG m c) (aW m c) (aR m c) (aD m c)
      ∧ r.2.mem ((c.tc : Thread nD τ).loc main_v8) = oG (aX m c) (aW m c) (aD m c)
      ∧ r.2.mem ((c.tc : Thread nD τ).loc main_v10) = oW (aX m c) (aG m c) (aD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c =>
      ⟨(h c _ (mem_uc main_v4_1 (by decide))).trans (out_y m ρ c),
       (h c _ (mem_uc main_v7_0 (by decide))).trans (out_dx m ρ c),
       (h c _ (mem_uc main_v8 (by decide))).trans (out_dg m ρ c),
       (h c _ (mem_uc main_v10 (by decide))).trans (out_dw m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.Kernel6Ideal.QgIn

namespace Cert.QgIn

open Cert.Ffn Cert.Proj Idealize.ShloMosaic.StableHlo

/-- The precondition, read on one device. -/
theorem fine_args (m : (ℓ : Loc Cert.Kernel6Ideal.nD Cert.Kernel6Ideal.τ Cert.Kernel6Ideal.sig) → Buf (Elt Ideal) ℓ)
    (h : Cert.Pre_Kernel6Ideal_finite6 (hPre_finite6 := Cert.Pre_finite6.Gen.facts) m) (c : Dev Cert.Kernel6Ideal.nD) :
    Fine (Kernel6Ideal.QgIn.aX m c) ∧ Fine (Kernel6Ideal.QgIn.aG m c) ∧ Fine (Kernel6Ideal.QgIn.aW m c)
    ∧ Fine (Kernel6Ideal.QgIn.aR m c) ∧ Fine (Kernel6Ideal.QgIn.aD m c) := by
  obtain ⟨h0, h1, h2, h3, h4⟩ := h c
  exact ⟨fine_of _ _ h0, fine_of _ _ h1, fine_of _ _ h2, fine_of _ _ h3, fine_of _ _ h4⟩

theorem algebraic : Cert.algebraic_Kernel6Ideal_Reference6Ideal_pre_finite6 (hKernel6Ideal := Cert.Kernel6Ideal.Gen.facts)
    (hReference6Ideal := Cert.Reference6Ideal.Gen.facts) (hPre_finite6 := Cert.Pre_finite6.Gen.facts) := by
  intro m g m' g' hpre hag
  refine ⟨_, _, _, _, Kernel6Ideal.QgIn.run_value m g,
    (θ_run _ _ _).mono (fun r hr c => ?_) (Reference6Ideal.Value.run (F := Ideal) m' g')⟩
  obtain ⟨a0, a1, a2, a3, a4⟩ := hag c
  obtain ⟨f0, f1, f2, f3, f4⟩ := fine_args m hpre c
  have e0 : Reference6Ideal.QgIn.aX m' c = Kernel6Ideal.QgIn.aX m c := a0
  have e1 : Reference6Ideal.QgIn.aG m' c = Kernel6Ideal.QgIn.aG m c := a1
  have e2 : Reference6Ideal.QgIn.aW m' c = Kernel6Ideal.QgIn.aW m c := a2
  have e3 : Reference6Ideal.QgIn.aR m' c = Kernel6Ideal.QgIn.aR m c := a3
  have e4 : Reference6Ideal.QgIn.aD m' c = Kernel6Ideal.QgIn.aD m c := a4
  obtain ⟨r0, r1, r2, r3, hargs⟩ := hr c
  have o0 : oY (Reference6Ideal.QgIn.aX m' c) (Reference6Ideal.QgIn.aG m' c) (Reference6Ideal.QgIn.aW m' c)
      = oY (Kernel6Ideal.QgIn.aX m c) (Kernel6Ideal.QgIn.aG m c) (Kernel6Ideal.QgIn.aW m c) := by rw [e0, e1, e2]
  have o1 : oX (Reference6Ideal.QgIn.aX m' c) (Reference6Ideal.QgIn.aG m' c) (Reference6Ideal.QgIn.aW m' c) (Reference6Ideal.QgIn.aR m' c) (Reference6Ideal.QgIn.aD m' c)
      = oX (Kernel6Ideal.QgIn.aX m c) (Kernel6Ideal.QgIn.aG m c) (Kernel6Ideal.QgIn.aW m c) (Kernel6Ideal.QgIn.aR m c) (Kernel6Ideal.QgIn.aD m c) := by rw [e0, e1, e2, e3, e4]
  have o2 : oG (Reference6Ideal.QgIn.aX m' c) (Reference6Ideal.QgIn.aW m' c) (Reference6Ideal.QgIn.aD m' c)
      = oG (Kernel6Ideal.QgIn.aX m c) (Kernel6Ideal.QgIn.aW m c) (Kernel6Ideal.QgIn.aD m c) := by rw [e0, e2, e4]
  have o3 : oW (Reference6Ideal.QgIn.aX m' c) (Reference6Ideal.QgIn.aG m' c) (Reference6Ideal.QgIn.aD m' c)
      = oW (Kernel6Ideal.QgIn.aX m c) (Kernel6Ideal.QgIn.aG m c) (Kernel6Ideal.QgIn.aD m c) := by rw [e0, e1, e4]
  exact ⟨r0.trans ((Reference6Ideal.QgIn.out_y m' c).trans o0),
    r1.trans ((Reference6Ideal.QgIn.out_x m' c ((congrArg Fine e0).mpr f0) ((congrArg Fine e1).mpr f1) ((congrArg Fine e2).mpr f2) ((congrArg Fine e4).mpr f4)).trans o1),
    r2.trans ((Reference6Ideal.QgIn.out_g m' c).trans o2),
    r3.trans ((Reference6Ideal.QgIn.out_w m' c).trans o3), hargs⟩

end Cert.QgIn

end
-- ==== Proof.MixOutLaunch.lean ====
/- The launches of a mixing branch's output projection and its norm: the product and the branch's result, the gradients through the norm, each as a whole array;
   and the results over the arguments. -/
module

public import proofs.«01_k».proof.Proof.ProjArr
public import proofs.«01_k».proof.Proof.Gen.Kernel4Ideal.Frame

@[expose] public section

set_option maxRecDepth 16384

noncomputable section

open Idealize.ShloMosaic Idealize.ShloMosaic.TcCoe Idealize.SL.Sem
open Idealize.ShloMosaic.Pipeline (Dat)

namespace Cert.Mix

open Cert.Ffn Cert.Proj

/-- One, the factor of the norm in the branch's result. -/
abbrev cOne : EReal := Ideal.ofBits .f32 0x3F800000#32

theorem cOne_eq : cOne = 1 := by
  simp [cOne, Ideal.ofBits, Ideal.ieee, -EReal.coe_mul]; norm_num

/-- The residual and the factor times the normalised product. -/
def YS (x m : Mat 4096 1024) (g : Mat 1 1024) : Mat 4096 1024 := fun i => x i + cOne * (m i * RS m (i 0) * g (ix2 0 (i 1)))

/-- The upstream gradient times the factor. -/
def CS (ct : Mat 4096 1024) : Mat 4096 1024 := fun i => cOne * ct i

theorem CS_eq (ct : Mat 4096 1024) : CS ct = ct := funext fun i => by unfold CS; rw [cOne_eq, one_mul]

variable (z : Mat 4096 1024) (w : Mat 1024 1024) (x : Mat 4096 1024) (g : Row 1024) (ct : Mat 4096 1024)

/-- The gradient through the norm. -/
def sM : Mat 4096 1024 := NBW (PR z w) ct (ROW g)

/-- The branch's result, and the gradients in the product's rows, the gain and the weights. -/
def oY : Mat 4096 1024 := fun i => x i + PR z w i * RS (PR z w) (i 0) * g (ix1 (i 1))
def oZ : Mat 4096 1024 := PN (sM z w g ct) w
def oG : Row 1024 := fun j => ∑ i : Fin 64, DGP (PR z w) ct (ix2 i (j 0))
def oW : Mat 1024 1024 := DW z (sM z w g ct)

theorem YS_eq : YS x (PR z w) (ROW g) = oY z w x g := funext fun i => by unfold YS oY; rw [cOne_eq, one_mul]; rfl

end Cert.Mix

namespace Cert.Kernel4Ideal.MixOut

open Cert.Kernel4Ideal Cert.Kernel4Ideal.Gen Cert.Ffn Cert.Proj Cert.Mix

variable (V : (c : Dev nD) → (b : Ref sig .tc) → Buf (Elt Ideal) ((c : Thread nD τ).loc b))

/-- The block every window is at, at every point of the grid. -/
theorem idx0 : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The product. -/
theorem final0_4 (c : Dev nD) : (dat0 V c).arrAt 4 cfg0.N = PR (V c main_arg0) (V c main_v0) := by
  refine (dat0 V c).arrAt_eq_of_covers 4 _ (by decide +kernel) fun t _ y => ?_
  blk_simp
  rw [after0_4]; frame_out
  pointwise [k0_pay1, PR]
  blk_point [iblk0, idx0 t]

/-- The branch's result. -/
theorem final0_5 (c : Dev nD) : (dat0 V c).arrAt 5 cfg0.N = YS (V c main_arg2) (PR (V c main_arg0) (V c main_v0)) (V c main_v1) := by
  refine (dat0 V c).arrAt_eq_of_covers 5 _ (by decide +kernel) fun t _ y => ?_
  blk_simp
  rw [after0_5]; frame_out
  pointwise [k0_pay2, k0_pay1, PR, YS, RS]
  blk_point [iblk0, idx0 t]

theorem idx1 : ∀ t : Fin cfg1.N, win1_0.index t = ![t.val, 0] ∧ win1_1.index t = ![t.val, 0] ∧ win1_2.index t = ![0, 0]
    ∧ win1_3.index t = ![0, 0] ∧ win1_4.index t = ![t.val, 0] ∧ win1_5.index t = ![t.val, 0] ∧ win1_6.index t = ![t.val, 0] :=
  (by decide +kernel : ∀ t : Fin grid1.N, _)

/-- The gradient through the norm. -/
theorem final1_4 (c : Dev nD) : (dat1 V c).arrAt 4 cfg1.N = NBW (V c main_v2_0) (CS (V c main_arg4)) (V c main_v3) := by
  refine (dat1 V c).arrAt_eq_of_covers 4 _ (by decide +kernel) fun t _ y => ?_
  blk_simp
  rw [after1_4]; frame_out
  pointwise [k1_pay8, k1_pay7, k1_pay5, k1_pay4, k1_pay3, k1_pay2, NBW, CS, RS]
  blk_point [iblk1, idx1 t]

/-- The gain's gradient, tile by tile. -/
theorem final1_5 (c : Dev nD) : (dat1 V c).arrAt 5 cfg1.N = DGP (V c main_v2_0) (CS (V c main_arg4)) := by
  refine (dat1 V c).arrAt_eq_of_covers 5 _ (by decide +kernel) fun t _ y => ?_
  blk_simp
  rw [after1_5]; frame_out
  pointwise [k1_pay6, k1_pay5, k1_pay4, k1_pay3, k1_pay2, DGP, CS, RS]
  rw [sel_row (y 0).val (by have := (y 0).isLt; exact this)]
  blk_point [iblk1, idx1 t]
  exact propext (by omega)

/-- The product's rows' gradient. -/
theorem final1_6 (c : Dev nD) : (dat1 V c).arrAt 6 cfg1.N = PN (NBW (V c main_v2_0) (CS (V c main_arg4)) (V c main_v3)) (V c main_v0) := by
  refine (dat1 V c).arrAt_eq_of_covers 6 _ (by decide +kernel) fun t _ y => ?_
  blk_simp
  rw [after1_6]; frame_out
  pointwise [k1_pay8, k1_pay1, k1_pay7, k1_pay5, k1_pay4, k1_pay3, k1_pay2, PN, NBW, CS, RS]
  blk_point [iblk1, idx1 t]

theorem idx2 : ∀ t : Fin cfg2.N, win2_0.index t = ![0, t.val] ∧ win2_1.index t = ![0, 0] ∧ win2_2.index t = ![t.val, 0, 0] :=
  (by decide +kernel : ∀ t : Fin grid2.N, _)

/-- The weights' gradient, in the four row tiles the launch writes. -/
theorem final2_2 (c : Dev nD) : (dat2 V c).arrAt 2 cfg2.N = fun i => DW (V c main_arg0) (V c main_v4_0) (ix2 ⟨(i 0).val * 256 + (i 1).val, by have h0 := (i 0).isLt; have h1 := (i 1).isLt; simp at h0 h1; omega⟩ (i 2)) := by
  refine (dat2 V c).arrAt_eq_of_covers 2 _ (by decide +kernel) fun t _ y => ?_
  blk_simp
  rw [after2_2]; frame_out
  pointwise [k2_pay1, DW]
  blk_point [iblk2, idx2 t]

end Cert.Kernel4Ideal.MixOut

end
-- ==== Proof.MixOutRun.lean ====
/- The launches of a mixing branch's output projection and its norm in their order, with the host code around them: what every array holds at the end. -/
module

public import proofs.«01_k».proof.Proof.MixOutLaunch

@[expose] public section

set_option maxRecDepth 16384

noncomputable section

open Idealize.ShloMosaic Idealize.ShloMosaic.TcCoe Idealize.SL.Sem Idealize.ShloMosaic.StableHlo

namespace Cert.Kernel4Ideal.MixOut

open Cert.Kernel4Ideal Cert.Kernel4Ideal.Gen Cert.Ffn Cert.Mix
open Cert.Proj hiding oY oX oG oW

section Host

variable (W : Valuation τ sig (Elt Ideal))

/-- The contents of an array. -/
abbrev at' (b : Ref sig .tc) : (Proc.devRef .tc b : DevRef τ sig).ty.Contents (Elt Ideal) := W (Proc.devRef .tc b)

theorem tile_row (i : (⟨2, ![1024, 1024]⟩ : Shape).Idx) (h : (i 0).val / 256 * 256 + (i 0).val % 256 < 1024) :
    ix2 (⟨(i 0).val / 256 * 256 + (i 0).val % 256, h⟩ : Fin 1024) (i 1) = i := by
  conv_rhs => rw [eq_ix2 i]
  exact congrArg (fun r => ix2 r (i 1)) (Fin.ext (show (i 0).val / 256 * 256 + (i 0).val % 256 = (i 0).val by omega))

/-- What the launches read of the weights and the gain, and what the host makes of the tiles they write. -/
theorem h0_v0 : after hostOps0 W (Proc.devRef .tc main_v0) = at' W main_arg1 := by
  simp only [hostOps0]
  after_results_simp
  funext i; pointwise []
theorem h0_v1 : after hostOps0 W (Proc.devRef .tc main_v1) = ROW (at' W main_arg3) := by
  simp only [hostOps0]
  after_results_simp
  funext i; pointwise [ROW]
theorem h1_v3 : after hostOps1 W (Proc.devRef .tc main_v3) = ROW (at' W main_arg3) := by
  simp only [hostOps1]
  after_results_simp
  funext i; pointwise [ROW]
theorem h3_v6 : after hostOps3 W (Proc.devRef .tc main_v6) = (fun j => ∑ i : Fin 64, (at' W main_v4_1 : Mat 64 1024) (ix2 i (j 0)) : Row 1024) := by
  simp only [hostOps3]
  after_results_simp
  funext i; pointwise [zero_add]
theorem h3_v7 (a : Mat 1024 1024) (h : ∀ i : S4x256x1024.Idx, (at' W main_v5 : S4x256x1024.Idx → EReal) i
    = a (ix2 ⟨(i 0).val * 256 + (i 1).val, by have h0 := (i 0).isLt; have h1 := (i 1).isLt; simp at h0 h1; omega⟩ (i 2))) :
    after hostOps3 W (Proc.devRef .tc main_v7) = a := by
  simp only [hostOps3]
  after_results_simp
  funext i; pointwise [h]
  exact congrArg a (tile_row i _)

end Host

variable (m : (ℓ : Loc nD τ sig) → Buf (Elt Ideal) ℓ) (ρ : Dev nD → PrngReg) (c : Dev nD)

/-- The arguments: the product's rows, the weights, the residual, the gain, the upstream gradient. -/
abbrev aZ : Mat 4096 1024 := m ((c.tc : Thread nD τ).loc main_arg0)
abbrev aW : Mat 1024 1024 := m ((c.tc : Thread nD τ).loc main_arg1)
abbrev aX : Mat 4096 1024 := m ((c.tc : Thread nD τ).loc main_arg2)
abbrev aG : Row 1024 := m ((c.tc : Thread nD τ).loc main_arg3)
abbrev aC : Mat 4096 1024 := m ((c.tc : Thread nD τ).loc main_arg4)

theorem V1_arg0 : V1 m ρ c main_arg0 = aZ m c := W1_args m ρ c main_arg0 (by decide)
theorem V1_arg2 : V1 m ρ c main_arg2 = aX m c := W1_args m ρ c main_arg2 (by decide)
theorem V1_v0 : V1 m ρ c main_v0 = aW m c := h0_v0 (W0 m ρ c)
theorem V1_v1 : V1 m ρ c main_v1 = ROW (aG m c) := h0_v1 (W0 m ρ c)

theorem W2_v2_0 : W2 m ρ c (Proc.devRef .tc main_v2_0) = PR (aZ m c) (aW m c) := by
  refine (W2_arr m ρ c 4).trans ((final0_4 (V1 m ρ) c).trans ?_)
  rw [V1_arg0, V1_v0]
theorem W2_v2_1 : W2 m ρ c (Proc.devRef .tc main_v2_1) = oY (aZ m c) (aW m c) (aX m c) (aG m c) := by
  refine (W2_arr m ρ c 5).trans ((final0_5 (V1 m ρ) c).trans ?_)
  rw [V1_arg0, V1_v0, V1_arg2, V1_v1, YS_eq]

theorem V3_v2_0 : V3 m ρ c main_v2_0 = PR (aZ m c) (aW m c) := (W3_of m ρ c main_v2_0 (by decide +kernel)).trans (W2_v2_0 m ρ c)
theorem V3_arg4 : V3 m ρ c main_arg4 = aC m c := W3_args m ρ c main_arg4 (by decide)
theorem V3_v3 : V3 m ρ c main_v3 = ROW (aG m c) :=
  (h1_v3 (W2 m ρ c)).trans (congrArg ROW (W2_args m ρ c main_arg3 (by decide)))
theorem V3_v0 : V3 m ρ c main_v0 = aW m c :=
  (W3_of m ρ c main_v0 (by decide +kernel)).trans ((W2_of m ρ c main_v0 (by decide +kernel)).trans (V1_v0 m ρ c))

theorem W4_v4_0 : W4 m ρ c (Proc.devRef .tc main_v4_0) = sM (aZ m c) (aW m c) (aG m c) (aC m c) := by
  refine (W4_arr m ρ c 4).trans ((final1_4 (V3 m ρ) c).trans ?_)
  rw [V3_v2_0, V3_arg4, V3_v3, CS_eq]; rfl
theorem W4_v4_1 : W4 m ρ c (Proc.devRef .tc main_v4_1) = DGP (PR (aZ m c) (aW m c)) (aC m c) := by
  refine (W4_arr m ρ c 5).trans ((final1_5 (V3 m ρ) c).trans ?_)
  rw [V3_v2_0, V3_arg4, CS_eq]
theorem W4_v4_2 : W4 m ρ c (Proc.devRef .tc main_v4_2) = oZ (aZ m c) (aW m c) (aG m c) (aC m c) := by
  refine (W4_arr m ρ c 6).trans ((final1_6 (V3 m ρ) c).trans ?_)
  rw [V3_v2_0, V3_arg4, V3_v3, V3_v0, CS_eq]; rfl

theorem V4_arg0 : V4 m ρ c main_arg0 = aZ m c := W4_args m ρ c main_arg0 (by decide)
theorem W5_v5 (i : S4x256x1024.Idx) : (W5 m ρ c (Proc.devRef .tc main_v5) : S4x256x1024.Idx → EReal) i
    = oW (aZ m c) (aW m c) (aG m c) (aC m c) (ix2 ⟨(i 0).val * 256 + (i 1).val, by have h0 := (i 0).isLt; have h1 := (i 1).isLt; simp at h0 h1; omega⟩ (i 2)) := by
  refine (congrFun ((W5_arr m ρ c 2).trans (final2_2 (V4 m ρ) c)) i).trans ?_
  rw [show V4 m ρ c main_v4_0 = _ from W4_v4_0 m ρ c, V4_arg0]; rfl

/-! ## The results -/

theorem out_y : W6 m ρ c (Proc.devRef .tc main_v2_1) = oY (aZ m c) (aW m c) (aX m c) (aG m c) :=
  (W6_of m ρ c main_v2_1 (by decide +kernel)).trans ((W5_of m ρ c main_v2_1 (by decide +kernel)).trans
    ((W4_of m ρ c main_v2_1 (by decide +kernel)).trans ((W3_of m ρ c main_v2_1 (by decide +kernel)).trans (W2_v2_1 m ρ c))))
theorem out_dz : W6 m ρ c (Proc.devRef .tc main_v4_2) = oZ (aZ m c) (aW m c) (aG m c) (aC m c) :=
  (W6_of m ρ c main_v4_2 (by decide +kernel)).trans ((W5_of m ρ c main_v4_2 (by decide +kernel)).trans (W4_v4_2 m ρ c))
theorem out_dg : W6 m ρ c (Proc.devRef .tc main_v6) = oG (aZ m c) (aW m c) (aC m c) := by
  refine (h3_v6 (W5 m ρ c)).trans ?_
  rw [show at' (W5 m ρ c) main_v4_1 = _ from (W5_of m ρ c main_v4_1 (by decide +kernel)).trans (W4_v4_1 m ρ c)]; rfl
theorem out_dw : W6 m ρ c (Proc.devRef .tc main_v7) = oW (aZ m c) (aW m c) (aG m c) (aC m c) :=
  h3_v7 (W5 m ρ c) _ fun i => W5_v5 m ρ c i

end Cert.Kernel4Ideal.MixOut

end
-- ==== Proof.MixOutRef.lean ====
/- The reference of a mixing branch's output projection and its norm: its four results, at finite arguments, by the kernel's formulas. -/
module

public import proofs.«01_k».proof.Proof.MixOutLaunch
public import proofs.«01_k».proof.Proof.Gen.Reference4Ideal.Run

@[expose] public section

set_option maxRecDepth 16384

noncomputable section

open Idealize.ShloMosaic Idealize.ShloMosaic.TcCoe Idealize.SL.Sem Idealize.ShloMosaic.StableHlo

namespace Cert.Reference4Ideal.MixOut

open Cert.Reference4Ideal Cert.Reference4Ideal.Value Cert.Ffn Cert.Mix
open Cert.Proj hiding oY oX oG oW
open Facts₀ Facts

/-! ## The reference's arrays, as its operations write them -/

/-- The mean square, its reciprocal root, the normalised rows, the gain on every row. -/
def tM (x : FVec Ideal S4096x1024 .f32) : FVec Ideal S4096x1 .f32 := addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
def tR (x : FVec Ideal S4096x1024 .f32) : FVec Ideal S4096x1 .f32 := Host.rsqrt (tM x)
def tN (x : FVec Ideal S4096x1024 .f32) : FVec Ideal S4096x1024 .f32 := mulf x (broadcastInDim S4096x1024 ![0, 1] bcast_S4096x1_S4096x1024_0_1 (tR x))
def tG (g : FVec Ideal S1024 .f32) : FVec Ideal S4096x1024 .f32 := broadcastInDim S4096x1024 ![0, 1] bcast_S1x1024_S4096x1024_0_1 (broadcastInDim S1x1024 ![1] bcast_S1024_S1x1024_1 g)
/-- The product, the gained gradient, the mean square's part of the rows' gradient, the gradient through the norm. -/
def tP (z : FVec Ideal S4096x1024 .bf16) (w : FVec Ideal S1024x1024 .f32) : FVec Ideal S4096x1024 .f32 := Host.dotGeneral dot_S4096x1024_S1024x1024_S4096x1024_1_0_0_1_n_n none (extf .f32 z bitsLt_bf16_f32) w
def tD (d : FVec Ideal S4096x1024 .f32) (g : FVec Ideal S1024 .f32) : FVec Ideal S4096x1024 .f32 := mulf (shapeCast _ d shapeCasts_S4096x1024_S4096x1024) (tG g)
def tQ (x d : FVec Ideal S4096x1024 .f32) : FVec Ideal S4096x1024 .f32 := broadcastInDim S4096x1024 ![0] bcast_S4096_S4096x1024_0 (Host.reduceAdd (Host.divf (mulf (shapeCast _ (Host.reduceAdd (mulf x d) (constant S_ .f32 0x00000000#32) reducesTo_S4096x1024_S4096_d1 h_S_) shapeCasts_S4096_S4096x1) (mulf (broadcastInDim S4096x1 ![] bcast_S_S4096x1 (constant S_ .f32 0xBF000000#32)) (Host.divf (tR x) (tM x)))) (broadcastInDim S4096x1 ![] bcast_S_S4096x1 (constant S_ .f32 0x44800000#32))) (constant S_ .f32 0x00000000#32) reducesTo_S4096x1_S4096_d1 h_S_)
def tB (x d : FVec Ideal S4096x1024 .f32) : FVec Ideal S4096x1024 .f32 := addf (addf (mulf d (broadcastInDim S4096x1024 ![0, 1] bcast_S4096x1_S4096x1024_0_1 (tR x))) (mulf x (tQ x d))) (mulf (tQ x d) x)

theorem tM_eq (x : Mat 4096 1024) (i) : tM x i = MS x (i 0) := by pointwise [tM, MS, zero_add]
theorem tR_eq (x : Mat 4096 1024) (i) : tR x i = RS x (i 0) := congrArg Ideal.rsqrt (tM_eq x i)
theorem tN_eq (x : Mat 4096 1024) (i) : tN x i = x i * RS x (i 0) := by pointwise [tN, tR_eq]
theorem tP_eq (z : Mat 4096 1024) (w : Mat 1024 1024) : tP z w = PR z w := by
  funext i; pointwise [tP, PR]
theorem tD_eq (d : Mat 4096 1024) (g : Row 1024) : tD d g = GD d (ROW g) := by
  funext i; pointwise [tD, tG, GD, ROW]
theorem tQ_eq (x d : Mat 4096 1024) (i) : tQ x d i = RQ x d (i 0) := by
  pointwise [tQ, tM_eq, tR_eq, RQ, zero_add, Fin.sum_univ_one]
theorem tB_eq (x d : Mat 4096 1024) : tB x d = RNB x d := by
  funext i; pointwise [tB, tR_eq, tQ_eq, RNB]

variable (m : (ℓ : Loc nD τ sig) → Buf (Elt Ideal) ℓ) (c : Dev nD)

/-- The arguments: the product's rows, the weights, the residual, the gain, the upstream gradient. -/
abbrev aZ : Mat 4096 1024 := m ((c.tc : Thread nD τ).loc main_arg0)
abbrev aW : Mat 1024 1024 := m ((c.tc : Thread nD τ).loc main_arg1)
abbrev aX : Mat 4096 1024 := m ((c.tc : Thread nD τ).loc main_arg2)
abbrev aG : Row 1024 := m ((c.tc : Thread nD τ).loc main_arg3)
abbrev aC : Mat 4096 1024 := m ((c.tc : Thread nD τ).loc main_arg4)

theorem out_y : (addf (aX m c) (mulf (tN (tP (aZ m c) (aW m c))) (tG (aG m c))) : Mat 4096 1024)
    = oY (aZ m c) (aW m c) (aX m c) (aG m c) := by
  rw [tP_eq]
  funext i; pointwise [oY, tN_eq, tG]

theorem out_g : (Host.reduceAdd (shapeCast _ (Host.reduceAdd (mulf (tN (tP (aZ m c) (aW m c))) (shapeCast _ (aC m c) shapeCasts_S4096x1024_S4096x1024)) (constant S_ .f32 0x00000000#32) reducesTo_S4096x1024_S1024_d0 h_S_) shapeCasts_S1024_S1x1024) (constant S_ .f32 0x00000000#32) reducesTo_S1x1024_S1024_d0 h_S_ : Row 1024)
    = oG (aZ m c) (aW m c) (aC m c) := by
  funext j
  rw [tP_eq]
  refine Eq.trans ?_ (DGP_sum _ _ (j 0)).symm
  pointwise [tN_eq, zero_add, Fin.sum_univ_one]
  exact Finset.sum_congr rfl fun k _ => mul_comm _ _

theorem w_stages : res_main_v41 m c = (transpose S1024x1024 [1, 0] (Host.dotGeneral (φ₁ := .f32) (φ₂ := .f32) dot_S4096x1024_S4096x1024_S1024x1024_0_0_1_1_n_n none (tB (tP (aZ m c) (aW m c)) (tD (aC m c) (aG m c))) (extf .f32 (φ := .bf16) (aZ m c) bitsLt_bf16_f32)) transposes_S1024x1024_S1024x1024_1_0 : Mat 1024 1024) := rfl
theorem z_stages : res_main_v43 m c = (truncf .bf16 (Host.dotGeneral (φ₁ := .f32) (φ₂ := .f32) dot_S4096x1024_S1024x1024_S4096x1024_1_1_0_0_n_n none (tB (tP (aZ m c) (aW m c)) (tD (aC m c) (aG m c))) (aW m c)) bitsLt_bf16_f32 : Mat 4096 1024) := rfl

section

variable (hz : Fine (aZ m c)) (hw : Fine (aW m c)) (hg : Fine (aG m c)) (hc : Fine (aC m c))
include hz hw hg hc

theorem b_eq : tB (tP (aZ m c) (aW m c)) (tD (aC m c) (aG m c)) = sM (aZ m c) (aW m c) (aG m c) (aC m c) := by
  rw [tP_eq, tD_eq, tB_eq]
  exact (NBW_eq (fun i => IsR.sum fun k => (hz _).mul (hw _)) hc (fine_ROW hg)).symm

theorem out_w : res_main_v41 m c = oW (aZ m c) (aW m c) (aG m c) (aC m c) := by
  rw [w_stages, b_eq m c hz hw hg hc]
  funext i; pointwise [oW, DW]
  exact Finset.sum_congr rfl fun k _ => mul_comm _ _

theorem out_z : res_main_v43 m c = oZ (aZ m c) (aW m c) (aG m c) (aC m c) := by
  rw [z_stages, b_eq m c hz hw hg hc]
  funext i; pointwise [oZ, PN]

end

end Cert.Reference4Ideal.MixOut

end
-- ==== Proof.MixOutClaim.lean ====
/- The value claim of a mixing branch's output projection and its norm: the kernel and the reference end with the same four arrays. -/
module

public import proofs.«01_k».proof.Defs
public import proofs.«01_k».proof.Proof.MixOutRun
public import proofs.«01_k».proof.Proof.MixOutRef
public import proofs.«01_k».proof.Proof.FfnPre
public import proofs.«01_k».proof.Proof.Gen.Pre_finite4

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.Kernel4Ideal.MixOut

open Cert.Kernel4Ideal Cert.Kernel4Ideal.Gen Cert.Ffn Cert.Mix
open Cert.Proj hiding oY oX oG oW

local notation "𝕄" => MT nD τ sig Unit (Elt Ideal) ℕ (UR sig nD τ) ℕ
variable (m : (ℓ : Loc nD τ sig) → Buf (Elt Ideal) ℓ) (ρ : Dev nD → PrngReg)

/-- The run: every result by its formula over the arguments. -/
theorem run_value : θ_run defs (onTc (τ := τ) (main (F := Ideal))) ⟨m, fun _ => 0, ρ⟩ (fun r => ∀ c : Dev nD,
      r.2.mem ((c.tc : Thread nD τ).loc main_v2_1) = oY (aZ m c) (aW m c) (aX m c) (aG m c)
      ∧ r.2.mem ((c.tc : Thread nD τ).loc main_v4_2) = oZ (aZ m c) (aW m c) (aG m c) (aC m c)
      ∧ r.2.mem ((c.tc : Thread nD τ).loc main_v6) = oG (aZ m c) (aW m c) (aC m c)
      ∧ r.2.mem ((c.tc : Thread nD τ).loc main_v7) = oW (aZ m c) (aW m c) (aG m c) (aC m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c =>
      ⟨(h c _ (mem_uc main_v2_1 (by decide))).trans (out_y m ρ c),
       (h c _ (mem_uc main_v4_2 (by decide))).trans (out_dz m ρ c),
       (h c _ (mem_uc main_v6 (by decide))).trans (out_dg m ρ c),
       (h c _ (mem_uc main_v7 (by decide))).trans (out_dw m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.Kernel4Ideal.MixOut

namespace Cert.MixOut

open Cert.Ffn Cert.Mix Idealize.ShloMosaic.StableHlo
open Cert.Proj hiding oY oX oG oW

/-- The precondition, read on one device. -/
theorem fine_args (m : (ℓ : Loc Cert.Kernel4Ideal.nD Cert.Kernel4Ideal.τ Cert.Kernel4Ideal.sig) → Buf (Elt Ideal) ℓ)
    (h : Cert.Pre_Kernel4Ideal_finite4 (hPre_finite4 := Cert.Pre_finite4.Gen.facts) m) (c : Dev Cert.Kernel4Ideal.nD) :
    Fine (Kernel4Ideal.MixOut.aZ m c) ∧ Fine (Kernel4Ideal.MixOut.aW m c) ∧ Fine (Kernel4Ideal.MixOut.aX m c)
    ∧ Fine (Kernel4Ideal.MixOut.aG m c) ∧ Fine (Kernel4Ideal.MixOut.aC m c) := by
  obtain ⟨h0, h1, h2, h3, h4⟩ := h c
  exact ⟨fine_of _ _ h0, fine_of _ _ h1, fine_of _ _ h2, fine_of _ _ h3, fine_of _ _ h4⟩

theorem algebraic : Cert.algebraic_Kernel4Ideal_Reference4Ideal_pre_finite4 (hKernel4Ideal := Cert.Kernel4Ideal.Gen.facts)
    (hReference4Ideal := Cert.Reference4Ideal.Gen.facts) (hPre_finite4 := Cert.Pre_finite4.Gen.facts) := by
  intro m g m' g' hpre hag
  refine ⟨_, _, _, _, Kernel4Ideal.MixOut.run_value m g,
    (θ_run _ _ _).mono (fun r hr c => ?_) (Reference4Ideal.Value.run (F := Ideal) m' g')⟩
  obtain ⟨a0, a1, a2, a3, a4⟩ := hag c
  obtain ⟨f0, f1, f2, f3, f4⟩ := fine_args m hpre c
  have e0 : Reference4Ideal.MixOut.aZ m' c = Kernel4Ideal.MixOut.aZ m c := a0
  have e1 : Reference4Ideal.MixOut.aW m' c = Kernel4Ideal.MixOut.aW m c := a1
  have e2 : Reference4Ideal.MixOut.aX m' c = Kernel4Ideal.MixOut.aX m c := a2
  have e3 : Reference4Ideal.MixOut.aG m' c = Kernel4Ideal.MixOut.aG m c := a3
  have e4 : Reference4Ideal.MixOut.aC m' c = Kernel4Ideal.MixOut.aC m c := a4
  obtain ⟨r0, r1, r2, r3, hargs⟩ := hr c
  have o0 : oY (Reference4Ideal.MixOut.aZ m' c) (Reference4Ideal.MixOut.aW m' c) (Reference4Ideal.MixOut.aX m' c) (Reference4Ideal.MixOut.aG m' c)
      = oY (Kernel4Ideal.MixOut.aZ m c) (Kernel4Ideal.MixOut.aW m c) (Kernel4Ideal.MixOut.aX m c) (Kernel4Ideal.MixOut.aG m c) := by rw [e0, e1, e2, e3]
  have o1 : oZ (Reference4Ideal.MixOut.aZ m' c) (Reference4Ideal.MixOut.aW m' c) (Reference4Ideal.MixOut.aG m' c) (Reference4Ideal.MixOut.aC m' c)
      = oZ (Kernel4Ideal.MixOut.aZ m c) (Kernel4Ideal.MixOut.aW m c) (Kernel4Ideal.MixOut.aG m c) (Kernel4Ideal.MixOut.aC m c) := by rw [e0, e1, e3, e4]
  have o2 : oG (Reference4Ideal.MixOut.aZ m' c) (Reference4Ideal.MixOut.aW m' c) (Reference4Ideal.MixOut.aC m' c)
      = oG (Kernel4Ideal.MixOut.aZ m c) (Kernel4Ideal.MixOut.aW m c) (Kernel4Ideal.MixOut.aC m c) := by rw [e0, e1, e4]
  have o3 : oW (Reference4Ideal.MixOut.aZ m' c) (Reference4Ideal.MixOut.aW m' c) (Reference4Ideal.MixOut.aG m' c) (Reference4Ideal.MixOut.aC m' c)
      = oW (Kernel4Ideal.MixOut.aZ m c) (Kernel4Ideal.MixOut.aW m c) (Kernel4Ideal.MixOut.aG m c) (Kernel4Ideal.MixOut.aC m c) := by rw [e0, e1, e3, e4]
  exact ⟨r0.trans ((Reference4Ideal.MixOut.out_y m' c).trans o0),
    r1.trans ((Reference4Ideal.MixOut.out_z m' c ((congrArg Fine e0).mpr f0) ((congrArg Fine e1).mpr f1) ((congrArg Fine e3).mpr f3) ((congrArg Fine e4).mpr f4)).trans o1),
    r2.trans ((Reference4Ideal.MixOut.out_g m' c).trans o2),
    r3.trans ((Reference4Ideal.MixOut.out_w m' c ((congrArg Fine e0).mpr f0) ((congrArg Fine e1).mpr f1) ((congrArg Fine e3).mpr f3) ((congrArg Fine e4).mpr f4)).trans o3), hargs⟩

end Cert.MixOut

end
-- ==== Proof.ConvArr.lean ====
/- The arrays of the gated short convolution, each as a function of the gates, the values and the taps; and the rows a shift reads. -/
module

public import proofs.«01_k».proof.Proof.FfnArr

@[expose] public section

set_option maxRecDepth 16384

noncomputable section

open Idealize.ShloMosaic Idealize.ShloMosaic.TcCoe

namespace Cert.Conv

open Cert.Ffn

/-- An array shifted down by `n` rows within each sequence of 2048 rows, zeros coming in. -/
def SD (n : ℕ) (u : Mat 4096 1024) : Mat 4096 1024 := fun i =>
  if h : n ≤ (i 0).val % 2048 then u (ix2 ⟨(i 0).val - n, by have := (i 0).isLt; simp at this; omega⟩ (i 1)) else 0

/-- An array shifted up by `n` rows within each sequence of 2048 rows, zeros coming in. -/
def SU (n : ℕ) (u : Mat 4096 1024) : Mat 4096 1024 := fun i =>
  if h : (i 0).val % 2048 + n < 2048 then u (ix2 ⟨(i 0).val + n, by have := (i 0).isLt; simp at this; omega⟩ (i 1)) else 0

variable (a : Mat 4096 3072) (dz : Mat 4096 1024) (k : Mat 3 1024)

/-- The three thirds of the projection's columns. -/
def BV : Mat 4096 1024 := fun i => a (ix2 (i 0) ⟨(i 1).val, by have := (i 1).isLt; simp at this; omega⟩)
def CV : Mat 4096 1024 := fun i => a (ix2 (i 0) ⟨1024 + (i 1).val, by have := (i 1).isLt; simp at this; omega⟩)
def HV : Mat 4096 1024 := fun i => a (ix2 (i 0) ⟨2048 + (i 1).val, by have := (i 1).isLt; simp at this; omega⟩)

/-- The convolution's input, and its output. -/
def UC : Mat 4096 1024 := fun i => CV a i * HV a i
def YC : Mat 4096 1024 := fun i =>
  k (ix2 2 (i 1)) * UC a i + k (ix2 1 (i 1)) * SD 1 (UC a) i + k (ix2 0 (i 1)) * SD 2 (UC a) i

/-- The gated output. -/
def ZC : Mat 4096 1024 := fun i => BV a i * YC a k i

/-- The gradients: of the convolution's output, of its input, of the three thirds, of the taps. -/
def GY : Mat 4096 1024 := fun i => dz i * BV a i
def GU : Mat 4096 1024 := fun i =>
  k (ix2 2 (i 1)) * GY a dz i + k (ix2 1 (i 1)) * SU 1 (GY a dz) i + k (ix2 0 (i 1)) * SU 2 (GY a dz) i
def GB : Mat 4096 1024 := fun i => dz i * YC a k i
def GC : Mat 4096 1024 := fun i => GU a dz k i * HV a i
def GH : Mat 4096 1024 := fun i => GU a dz k i * CV a i

/-- The sum over both sequences of a column of the output's gradient times a column of an array; and the taps' gradient, in eight rows. -/
def GS (v : Mat 4096 1024) (j : Fin 1024) : EReal := ∑ b : Fin 2, ∑ s : Fin 2048, GY a dz (ix2 ⟨b.val * 2048 + s.val, by omega⟩ j) * v (ix2 ⟨b.val * 2048 + s.val, by omega⟩ j)
def GK : Mat 8 1024 := fun i =>
  if (i 0).val = 0 then GS a dz (SD 2 (UC a)) (i 1) else if (i 0).val = 1 then GS a dz (SD 1 (UC a)) (i 1)
  else if (i 0).val = 2 then GS a dz (UC a) (i 1) else 0

/-- The word of a row's number is the row's number. -/
theorem word_toInt {n : ℕ} (hn : n < 4096) : (BitVec.ofNat 32 n).toInt = (n : ℤ) := by
  have e : (BitVec.ofNat 32 n).toNat = n := by rw [BitVec.toNat_ofNat]; exact Nat.mod_eq_of_lt (by omega)
  rw [BitVec.toInt_eq_toNat_of_lt (by rw [e]; omega), e]

/-- A choice by a bound on the row's number, from below and from above. -/
theorem word_ge {n : ℕ} (hn : n < 4096) (r : Fin 2048) {α : Type} (x y : α) :
    Scalar.select (IntOp.cmpi .sge (BitVec.ofNat 32 r.val) (BitVec.ofNat 32 n)) x y = if n ≤ r.val then x else y := by
  have e : (BitVec.ofNat 32 n).sle (BitVec.ofNat 32 r.val) = decide (n ≤ r.val) := by
    rw [BitVec.sle_eq_decide, word_toInt hn, word_toInt (by have := r.isLt; omega)]
    exact decide_eq_decide.mpr Int.ofNat_le
  show (if BitVec.ofBool ((BitVec.ofNat 32 n).sle (BitVec.ofNat 32 r.val)) = 1 then x else y) = _
  rw [e]
  by_cases h : n ≤ r.val <;> simp [h]

theorem word_lt {n : ℕ} (hn : n < 4096) (r : Fin 2048) {α : Type} (x y : α) :
    Scalar.select (IntOp.cmpi .slt (BitVec.ofNat 32 r.val) (BitVec.ofNat 32 n)) x y = if r.val < n then x else y := by
  have e : (BitVec.ofNat 32 r.val).slt (BitVec.ofNat 32 n) = decide (r.val < n) := by
    rw [BitVec.slt_eq_decide, word_toInt hn, word_toInt (by have := r.isLt; omega)]
    exact decide_eq_decide.mpr Int.ofNat_lt
  show (if BitVec.ofBool ((BitVec.ofNat 32 r.val).slt (BitVec.ofNat 32 n)) = 1 then x else y) = _
  rw [e]
  by_cases h : r.val < n <;> simp [h]

end Cert.Conv

end
-- ==== Proof.ConvFwdLaunch.lean ====
/- The launch of the gated short convolution: its output as a whole array. -/
module

public import proofs.«01_k».proof.Proof.ConvArr
public import proofs.«01_k».proof.Proof.Gen.Kernel5Ideal.Value

@[expose] public section

set_option maxRecDepth 16384

noncomputable section

open Idealize.ShloMosaic Idealize.ShloMosaic.TcCoe Idealize.SL.Sem Idealize.ShloMosaic.StableHlo
open Idealize.ShloMosaic.Pipeline (Dat)

namespace Cert.Kernel5Ideal.ConvFwd

open Cert.Kernel5Ideal Cert.Kernel5Ideal.Gen Cert.Ffn Cert.Conv

/-- The stored value at a row and a column of the block. -/
theorem pay_at (u c h : Vec Ideal S2048x256 .bf16) (k2 k1 k0 : Vec Ideal S1x256 .f32) (r : Fin 2048) (l : Fin 256) :
    k0_pay1 (F := Ideal) c h k2 k1 k0 u (ix2 r l) = (u (ix2 r l) : EReal) *
      (k2 (ix2 0 l) * (c (ix2 r l) * h (ix2 r l))
        + (if 1 ≤ r.val then k1 (ix2 0 l) * (c (ix2 ⟨(r.val + 2048 - 1) % 2048, Nat.mod_lt _ (by decide)⟩ l) * h (ix2 ⟨(r.val + 2048 - 1) % 2048, Nat.mod_lt _ (by decide)⟩ l)) else 0)
        + (if 2 ≤ r.val then k0 (ix2 0 l) * (c (ix2 ⟨(r.val + 2048 - 2) % 2048, Nat.mod_lt _ (by decide)⟩ l) * h (ix2 ⟨(r.val + 2048 - 2) % 2048, Nat.mod_lt _ (by decide)⟩ l)) else 0)) := by
  rw [← word_ge (n := 1) (by decide) r, ← word_ge (n := 2) (by decide) r]
  pointwise [k0_pay1]

variable (m : (ℓ : Loc nD τ sig) → Buf (Elt Ideal) ℓ) (c : Dev nD)

/-- The arguments: the projection's columns and the taps. -/
abbrev aA : Mat 4096 3072 := m ((c.tc : Thread nD τ).loc main_arg0)
abbrev aK : Mat 3 1024 := m ((c.tc : Thread nD τ).loc main_arg1)

/-- The block every window is at, at every point of the grid. -/
theorem idx : ∀ t : Fin cfg0.N, win0_0.index t = ![t.val / 4, t.val % 4] ∧ win0_1.index t = ![t.val / 4, 4 + t.val % 4]
    ∧ win0_2.index t = ![t.val / 4, 8 + t.val % 4] ∧ win0_3.index t = ![0, t.val % 4] ∧ win0_4.index t = ![t.val / 4, t.val % 4] :=
  (by decide +kernel : ∀ t : Fin grid0.N, _)

/-- The taps the launch reads: the three rows, then zeros. -/
theorem pad_at (k : FVec Ideal S3x1024 .f32) (z : FVec Ideal S_ .f32) (r : Fin 8) (l : Fin 1024) (q : Fin 3) (h : r.val = q.val) :
    pad S8x1024 ![0, 0] ![5, 0] ![0, 0] k z Facts₀.pads_S3x1024_S8x1024_050_000 Facts₀.h_S_ (ix2 r l) = k (ix2 q l) := by
  have h3 : r.val < 3 := by have := q.isLt; omega
  have e : (⟨r.val, h3⟩ : Fin 3) = q := Fin.ext h
  pointwise [h3]
  rw [e]

theorem taps (r : Fin 8) (l : Fin 1024) (q : Fin 3) (h : r.val = q.val) :
    (V m c main_v0 : Mat 8 1024) (ix2 r l) = aK m c (ix2 q l) := by
  unfold V
  simp only [hostOps0, hostOps0_1, List.flatten_cons, List.flatten_nil, List.append_nil, List.cons_append, List.nil_append]
  after_results_simp
  exact pad_at _ _ r l q h

/-- What the launch reads, in the arguments. -/
theorem in0 (t : Fin cfg0.N) (r : Fin 2048) (l : Fin 256) (i : Fin 4096) (j : Fin 3072) (hi : i.val = t.val / 4 * 2048 + r.val)
    (hj : j.val = t.val % 4 * 256 + l.val) : (iblk m c 0 t : Mat 2048 256) (ix2 r l) = aA m c (ix2 i j) := by
  blk_point [iblk, V_main_arg0, idx t]
theorem in1 (t : Fin cfg0.N) (r : Fin 2048) (l : Fin 256) (i : Fin 4096) (j : Fin 3072) (hi : i.val = t.val / 4 * 2048 + r.val)
    (hj : j.val = (4 + t.val % 4) * 256 + l.val) : (iblk m c 1 t : Mat 2048 256) (ix2 r l) = aA m c (ix2 i j) := by
  blk_point [iblk, V_main_arg0, idx t]
theorem in2 (t : Fin cfg0.N) (r : Fin 2048) (l : Fin 256) (i : Fin 4096) (j : Fin 3072) (hi : i.val = t.val / 4 * 2048 + r.val)
    (hj : j.val = (8 + t.val % 4) * 256 + l.val) : (iblk m c 2 t : Mat 2048 256) (ix2 r l) = aA m c (ix2 i j) := by
  blk_point [iblk, V_main_arg0, idx t]
theorem in3 (t : Fin cfg0.N) (r : Fin 8) (l : Fin 256) (q : Fin 3) (j : Fin 1024) (h : r.val = q.val)
    (hj : j.val = t.val % 4 * 256 + l.val) : (iblk m c 3 t : Mat 8 256) (ix2 r l) = aK m c (ix2 q j) := by
  refine Eq.trans ?_ (taps m c r j q h)
  blk_point [iblk, idx t]

/-- The blocks read, as matrices. -/
abbrev bC (t : Fin cfg0.N) : Mat 2048 256 := iblk m c 1 t
abbrev bH (t : Fin cfg0.N) : Mat 2048 256 := iblk m c 2 t
abbrev bK (t : Fin cfg0.N) : Mat 8 256 := iblk m c 3 t

/-- A tap times the shifted input. -/
theorem shifted (t : Fin cfg0.N) (r : Fin 2048) (l : Fin 256) (i : S4096x1024.Idx) (hi : (i 0).val = t.val / 4 * 2048 + r.val)
    (hj : (i 1).val = t.val % 4 * 256 + l.val) (n : ℕ) (hn : 0 < n ∧ n < 2048) (p : Fin 8) (q : Fin 3) (hp : p.val = q.val) :
    (if n ≤ r.val then bK m c t (ix2 p l) * (bC m c t (ix2 ⟨(r.val + 2048 - n) % 2048, Nat.mod_lt _ (by decide)⟩ l)
        * bH m c t (ix2 ⟨(r.val + 2048 - n) % 2048, Nat.mod_lt _ (by decide)⟩ l)) else 0)
      = aK m c (ix2 q (i 1)) * SD n (UC (aA m c)) i := by
  have hr := r.isLt
  have ht : t.val < 8 := lt_of_lt_of_eq t.isLt N_0
  have h0 : (i 0).val < 4096 := (i 0).isLt
  have h1 : (i 1).val < 1024 := (i 1).isLt
  have hm : (i 0).val % 2048 = r.val := by omega
  unfold SD
  by_cases h : n ≤ r.val
  · rw [if_pos h, dif_pos (by omega)]
    have e0 : (i 0).val - n = t.val / 4 * 2048 + (r.val + 2048 - n) % 2048 := by omega
    exact Ideal.mul_congr (in3 m c t p l q _ hp hj) (Ideal.mul_congr
      (in1 m c t _ l ⟨(i 0).val - n, by omega⟩ ⟨1024 + (i 1).val, by omega⟩ e0 (show 1024 + (i 1).val = _ by omega))
      (in2 m c t _ l ⟨(i 0).val - n, by omega⟩ ⟨2048 + (i 1).val, by omega⟩ e0 (show 2048 + (i 1).val = _ by omega)))
  · rw [if_neg h, dif_neg (by omega), mul_zero]

/-- One stored value, at the element of the array it is written to. -/
theorem core (t : Fin cfg0.N) (r : Fin 2048) (l : Fin 256) (i : S4096x1024.Idx) (hi : (i 0).val = t.val / 4 * 2048 + r.val)
    (hj : (i 1).val = t.val % 4 * 256 + l.val) :
    k0_pay1 (F := Ideal) (View.ld (iblk m c 1 t) r0_0) (View.ld (iblk m c 2 t) r0_0) (View.ld (iblk m c 3 t) r0_1)
      (View.ld (iblk m c 3 t) r0_2) (View.ld (iblk m c 3 t) r0_3) (View.ld (iblk m c 0 t) r0_0) (ix2 r l) = ZC (aA m c) (aK m c) i := by
  rw [pay_at]
  pointwise []
  exact Ideal.mul_congr (in0 m c t r l _ _ hi hj) (Ideal.add_congr (Ideal.add_congr
    (Ideal.mul_congr (in3 m c t 2 l 2 _ rfl hj) (Ideal.mul_congr
      (in1 m c t r l _ ⟨1024 + (i 1).val, by have : (i 1).val < 1024 := (i 1).isLt; omega⟩ hi (show 1024 + (i 1).val = _ by omega))
      (in2 m c t r l _ ⟨2048 + (i 1).val, by have : (i 1).val < 1024 := (i 1).isLt; omega⟩ hi (show 2048 + (i 1).val = _ by omega))))
    (shifted m c t r l i hi hj 1 (by decide) 1 1 rfl)) (shifted m c t r l i hi hj 2 (by decide) 0 0 rfl))

/-- The gated output. -/
theorem final (c : Dev nD) : (dats m 0 c).arrAt 4 cfg0.N = ZC (aA m c) (aK m c) := by
  refine (dats m 0 c).arrAt_eq_of_covers 4 _ (by decide +kernel) fun t _ y => ?_
  blk_simp
  rw [after0_4]
  canon_tiles x h
  rw [eq_ix2 x]
  exact core m c t (x 0) (x 1) _ (by blk_simp [idx t] <;> omega) (by blk_simp [idx t] <;> omega)

end Cert.Kernel5Ideal.ConvFwd

end
-- ==== Proof.ConvFwdClaim.lean ====
/- The gated short convolution: what the reference's result holds, and the launch against it. -/
module

public import proofs.«01_k».proof.Proof.ConvFwdLaunch
public import proofs.«01_k».proof.Proof.Gen.Reference5Ideal.Run
public import proofs.«01_k».proof.Defs

@[expose] public section

set_option maxRecDepth 16384

noncomputable section

open Idealize.ShloMosaic Idealize.ShloMosaic.TcCoe Idealize.SL.Sem

namespace Cert.Reference5Ideal.ConvFwd

open Cert.Reference5Ideal Facts₀ Facts Cert.Ffn Cert.Conv

variable (a : FVec Ideal S4096x3072 .bf16) (k : FVec Ideal S3x1024 .f32)

/-- The convolution's input, by sequences. -/
def tU : FVec Ideal S2x2048x1024 .f32 :=
  shapeCast _ (mulf (extractStridedSlice S4096x1024 ![0, 1024] (extf .f32 a bitsLt_bf16_f32) slices_S4096x3072_S4096x1024_0_1024) (extractStridedSlice S4096x1024 ![0, 2048] (extf .f32 a bitsLt_bf16_f32) slices_S4096x3072_S4096x1024_0_2048)) shapeCasts_S4096x1024_S2x2048x1024

/-- It shifted by one row and by two. -/
def tU1 : FVec Ideal S2x2048x1024 .f32 :=
  concatenate S2x2048x1024 1 [⟨S2x1x1024, (broadcastInDim S2x1x1024 ![] bcast_S_S2x1x1024 (constant S_ .f32 0x00000000#32))⟩, ⟨S2x2047x1024, (extractStridedSlice S2x2047x1024 ![0, 0, 0] (tU a) slices_S2x2048x1024_S2x2047x1024_0_0_0)⟩] concatenates_S2x1x1024_S2x2047x1024_S2x2048x1024_d1
def tU2 : FVec Ideal S2x2048x1024 .f32 :=
  concatenate S2x2048x1024 1 [⟨S2x2x1024, (broadcastInDim S2x2x1024 ![] bcast_S_S2x2x1024 (constant S_ .f32 0x00000000#32))⟩, ⟨S2x2046x1024, (extractStridedSlice S2x2046x1024 ![0, 0, 0] (tU a) slices_S2x2048x1024_S2x2046x1024_0_0_0)⟩] concatenates_S2x2x1024_S2x2046x1024_S2x2048x1024_d1

/-- The gated output. -/
def tZ : FVec Ideal S4096x1024 .bf16 :=
  truncf .bf16 (mulf (extractStridedSlice S4096x1024 ![0, 0] (extf .f32 a bitsLt_bf16_f32) slices_S4096x3072_S4096x1024_0_0) (shapeCast _ (addf (addf (mulf (broadcastInDim S2x2048x1024 ![0, 1, 2] bcast_S1x1x1024_S2x2048x1024_0_1_2 (broadcastInDim S1x1x1024 ![2] bcast_S1024_S1x1x1024_2 (shapeCast _ (extractStridedSlice S1x1024 ![2, 0] k slices_S3x1024_S1x1024_2_0) shapeCasts_S1x1024_S1024))) (tU a)) (mulf (broadcastInDim S2x2048x1024 ![0, 1, 2] bcast_S1x1x1024_S2x2048x1024_0_1_2 (broadcastInDim S1x1x1024 ![2] bcast_S1024_S1x1x1024_2 (shapeCast _ (extractStridedSlice S1x1024 ![1, 0] k slices_S3x1024_S1x1024_1_0) shapeCasts_S1x1024_S1024))) (tU1 a))) (mulf (broadcastInDim S2x2048x1024 ![0, 1, 2] bcast_S1x1x1024_S2x2048x1024_0_1_2 (broadcastInDim S1x1x1024 ![2] bcast_S1024_S1x1x1024_2 (shapeCast _ (extractStridedSlice S1x1024 ![0, 0] k slices_S3x1024_S1x1024_0_0) shapeCasts_S1x1024_S1024))) (tU2 a))) shapeCasts_S2x2048x1024_S4096x1024)) bitsLt_bf16_f32

theorem tU_at (s : Fin 2) (r : Fin 2048) (l : Fin 1024) (i : Fin 4096) (h : s.val * 2048 + r.val = i.val) :
    tU a (ix3 s r l) = UC a (ix2 i l) := by
  have e : (⟨s.val * 2048 + r.val, by omega⟩ : Fin 4096) = i := Fin.ext h
  pointwise [tU, UC, CV, Conv.HV]
  rw [e]
theorem tU1_at (s : Fin 2) (r : Fin 2048) (l : Fin 1024) (i : Fin 4096) (h : s.val * 2048 + r.val = i.val) :
    tU1 a (ix3 s r l) = SD 1 (UC a) (ix2 i l) := by
  have e : i.val % 2048 = r.val := by omega
  pointwise [tU1, SD]
  by_cases hr : r.val < 1
  · rw [dif_pos hr, dif_neg (by omega)]
  · rw [dif_neg hr, dif_pos (by omega)]
    exact tU_at a s ⟨r.val - 1, by omega⟩ l ⟨i.val - 1, by omega⟩ (show s.val * 2048 + (r.val - 1) = i.val - 1 by omega)
theorem tU2_at (s : Fin 2) (r : Fin 2048) (l : Fin 1024) (i : Fin 4096) (h : s.val * 2048 + r.val = i.val) :
    tU2 a (ix3 s r l) = SD 2 (UC a) (ix2 i l) := by
  have e : i.val % 2048 = r.val := by omega
  pointwise [tU2, SD]
  by_cases hr : r.val < 2
  · rw [dif_pos hr, dif_neg (by omega)]
  · rw [dif_neg hr, dif_pos (by omega)]
    exact tU_at a s ⟨r.val - 2, by omega⟩ l ⟨i.val - 2, by omega⟩ (show s.val * 2048 + (r.val - 2) = i.val - 2 by omega)

theorem tZ_at (i : Fin 4096) (j : Fin 1024) : tZ a k (ix2 i j) = ZC a k (ix2 i j) := by
  have h : i.val / 2048 * 2048 + i.val % 2048 = i.val := by omega
  pointwise [tZ, ZC, YC, BV]
  have hs : i.val / 2048 < 2 := by omega
  have hr : i.val % 2048 < 2048 := by omega
  rw [tU_at a ⟨i.val / 2048, hs⟩ ⟨i.val % 2048, hr⟩ j i h, tU1_at a ⟨i.val / 2048, hs⟩ ⟨i.val % 2048, hr⟩ j i h,
    tU2_at a ⟨i.val / 2048, hs⟩ ⟨i.val % 2048, hr⟩ j i h]

theorem tZ_eq : tZ a k = ZC a k := funext fun i => by rw [eq_ix2 i]; exact tZ_at a k _ _

end Cert.Reference5Ideal.ConvFwd

namespace Cert.ConvFwd

open Cert.Ffn Cert.Conv

theorem algebraic : Cert.algebraic_Kernel5Ideal_Reference5Ideal (hKernel5Ideal := Cert.Kernel5Ideal.Gen.facts)
    (hReference5Ideal := Cert.Reference5Ideal.Gen.facts) := by
  intro m g m' g' _ hag
  refine ⟨fun c => ZC (Kernel5Ideal.ConvFwd.aA m c) (Kernel5Ideal.ConvFwd.aK m c), (θ_run _ _ _).mono (fun r hr c => ?_) (Kernel5Ideal.Value.run_blocks (F := Ideal) m g),
    (θ_run _ _ _).mono (fun r hr c => ?_) (Reference5Ideal.Value.run (F := Ideal) m' g')⟩
  · obtain ⟨r0, hargs⟩ := hr c
    exact ⟨r0.trans (Kernel5Ideal.ConvFwd.final m c), hargs⟩
  · obtain ⟨a0, a1⟩ := hag c
    obtain ⟨r0, hargs⟩ := hr c
    refine ⟨r0.trans ((Reference5Ideal.ConvFwd.tZ_eq (m' ((c.tc : Thread _ _).loc Reference5Ideal.main_arg0)) (m' ((c.tc : Thread _ _).loc Reference5Ideal.main_arg1))).trans ?_), hargs⟩
    exact congrArg₂ ZC a0 a1

end Cert.ConvFwd

end
-- ==== Proof.ConvBwdLaunch.lean ====
/- The launch of the gated short convolution's gradients: its outputs as whole arrays. -/
module

public import proofs.«01_k».proof.Proof.ConvArr
public import proofs.«01_k».proof.Proof.Gen.Kernel3Ideal.Value
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem Idealize.ShloMosaic.StableHlo
open Idealize.ShloMosaic.Pipeline (Dat)

namespace Cert.Kernel3Ideal.ConvBwd

open Cert.Kernel3Ideal Cert.Kernel3Ideal.Gen Cert.Ffn Cert.Conv

/-- The payloads at a row and a column of the block: the convolution's input, its shifts, the output, and the gradients. -/
theorem u_at (c h : Vec Ideal S2048x256 .bf16) (r : Fin 2048) (l : Fin 256) : k0_pay9 (F := Ideal) c h (ix2 r l) = (c (ix2 r l) * h (ix2 r l) : EReal) := by
  pointwise [k0_pay9, k0_pay6, k0_pay7]
theorem u1_at (c h : Vec Ideal S2048x256 .bf16) (r : Fin 2048) (l : Fin 256) : k0_pay10 (F := Ideal) c h (ix2 r l)
    = (if 1 ≤ r.val then (c (ix2 ⟨(r.val + 2048 - 1) % 2048, Nat.mod_lt _ (by decide)⟩ l) * h (ix2 ⟨(r.val + 2048 - 1) % 2048, Nat.mod_lt _ (by decide)⟩ l) : EReal) else 0) := by
  rw [← word_ge (n := 1) (by decide) r]
  pointwise [k0_pay10, k0_pay9, k0_pay6, k0_pay7]
theorem u2_at (c h : Vec Ideal S2048x256 .bf16) (r : Fin 2048) (l : Fin 256) : k0_pay11 (F := Ideal) c h (ix2 r l)
    = (if 2 ≤ r.val then (c (ix2 ⟨(r.val + 2048 - 2) % 2048, Nat.mod_lt _ (by decide)⟩ l) * h (ix2 ⟨(r.val + 2048 - 2) % 2048, Nat.mod_lt _ (by decide)⟩ l) : EReal) else 0) := by
  rw [← word_ge (n := 2) (by decide) r]
  pointwise [k0_pay11, k0_pay9, k0_pay6, k0_pay7]
theorem y_at (c h : Vec Ideal S2048x256 .bf16) (k2 k1 k0 : Vec Ideal S1x256 .f32) (r : Fin 2048) (l : Fin 256) :
    k0_pay12 (F := Ideal) c h k2 k1 k0 (ix2 r l) = (k2 (ix2 0 l) * (k0_pay9 (F := Ideal) c h (ix2 r l) : EReal)
      + k1 (ix2 0 l) * (k0_pay10 (F := Ideal) c h (ix2 r l) : EReal) + k0 (ix2 0 l) * (k0_pay11 (F := Ideal) c h (ix2 r l) : EReal) : EReal) := by
  pointwise [k0_pay12]
theorem dy_at (b z : Vec Ideal S2048x256 .bf16) (r : Fin 2048) (l : Fin 256) :
    k0_pay14 (F := Ideal) (k0_pay5 b) (k0_pay8 z) (ix2 r l) = (z (ix2 r l) * b (ix2 r l) : EReal) := by
  pointwise [k0_pay14, k0_pay5, k0_pay8]
theorem du_at (b z : Vec Ideal S2048x256 .bf16) (k2 k1 k0 : Vec Ideal S1x256 .f32) (r : Fin 2048) (l : Fin 256) :
    k0_pay15 (F := Ideal) (iota Kind.tc S2048x1 32 [0] iota_S2048x1_d0_w32) (k0_pay5 b) (k0_pay8 z) k2 k1 k0 (ix2 r l)
      = (k2 (ix2 0 l) * (z (ix2 r l) * b (ix2 r l))
        + k1 (ix2 0 l) * (if r.val < 2047 then (z (ix2 ⟨(r.val + 2048 - 2047) % 2048, Nat.mod_lt _ (by decide)⟩ l) * b (ix2 ⟨(r.val + 2048 - 2047) % 2048, Nat.mod_lt _ (by decide)⟩ l)) else 0)
        + k0 (ix2 0 l) * (if r.val < 2046 then (z (ix2 ⟨(r.val + 2048 - 2046) % 2048, Nat.mod_lt _ (by decide)⟩ l) * b (ix2 ⟨(r.val + 2048 - 2046) % 2048, Nat.mod_lt _ (by decide)⟩ l)) else 0) : EReal) := by
  rw [← word_lt (n := 2047) (by decide) r, ← word_lt (n := 2046) (by decide) r]
  pointwise [k0_pay15, k0_pay14, k0_pay5, k0_pay8]
theorem db_at (z : Vec Ideal S2048x256 .bf16) (y : FVec Ideal S2048x256 .f32) (r : Fin 2048) (l : Fin 256) :
    k0_pay13 (F := Ideal) (k0_pay8 z) y (ix2 r l) = (z (ix2 r l) * y (ix2 r l) : EReal) := by pointwise [k0_pay13, k0_pay8]
theorem dc_at (v0 : IVec S2048x1 32) (b z : FVec Ideal S2048x256 .f32) (h : Vec Ideal S2048x256 .bf16) (k2 k1 k0 : Vec Ideal S1x256 .f32) (r : Fin 2048) (l : Fin 256) :
    k0_pay16 (F := Ideal) v0 b (k0_pay7 h) z k2 k1 k0 (ix2 r l) = (k0_pay15 (F := Ideal) v0 b z k2 k1 k0 (ix2 r l) * h (ix2 r l) : EReal) := by
  pointwise [k0_pay16, k0_pay7]
theorem dh_at (v0 : IVec S2048x1 32) (b z : FVec Ideal S2048x256 .f32) (c : Vec Ideal S2048x256 .bf16) (k2 k1 k0 : Vec Ideal S1x256 .f32) (r : Fin 2048) (l : Fin 256) :
    k0_pay17 (F := Ideal) v0 b (k0_pay6 c) z k2 k1 k0 (ix2 r l) = (k0_pay15 (F := Ideal) v0 b z k2 k1 k0 (ix2 r l) * c (ix2 r l) : EReal) := by
  pointwise [k0_pay17, k0_pay6]
theorem k2_at (v d : FVec Ideal S2048x256 .f32) (acc : Vec Ideal S1x256 .f32) (l : Fin 256) :
    k0_pay2 (F := Ideal) v d acc (ix2 0 l) = (acc (ix2 0 l) + ∑ s : Fin 2048, d (ix2 s l) * v (ix2 s l) : EReal) := by pointwise [k0_pay2]
theorem k3_at (v d : FVec Ideal S2048x256 .f32) (acc : Vec Ideal S1x256 .f32) (l : Fin 256) :
    k0_pay3 (F := Ideal) v d acc (ix2 0 l) = (acc (ix2 0 l) + ∑ s : Fin 2048, d (ix2 s l) * v (ix2 s l) : EReal) := by pointwise [k0_pay3]
theorem k4_at (v d : FVec Ideal S2048x256 .f32) (acc : Vec Ideal S1x256 .f32) (l : Fin 256) :
    k0_pay4 (F := Ideal) v d acc (ix2 0 l) = (acc (ix2 0 l) + ∑ s : Fin 2048, d (ix2 s l) * v (ix2 s l) : EReal) := by pointwise [k0_pay4]

/-- What a buffer of eight rows holds once its first three are written. -/
theorem rows_at (v : View sig .tc .vmem S8x256 .f32) (f : v.ty.Contents (Elt Ideal)) (w2 w1 w0 : S1x256.Idx → Elt Ideal .f32)
    (L : List (View.Piece (Elt Ideal) S8x256 .f32)) (r : Fin 8) (l : Fin 256) :
    v.read (Elt Ideal) (v.writes (Elt Ideal) f (⟨Rect.unit (s := S8x256) ![2, 0] ![1, 256] inb_S8x256_S1x256_2_0, w2⟩
      :: ⟨Rect.unit (s := S8x256) ![1, 0] ![1, 256] inb_S8x256_S1x256_1_0, w1⟩
      :: ⟨Rect.unit (s := S8x256) ![0, 0] ![1, 256] inb_S8x256_S1x256_0_0, w0⟩ :: L)) (ix2 r l)
      = if r.val = 0 then w0 (ix2 0 l) else if r.val = 1 then w1 (ix2 0 l) else if r.val = 2 then w2 (ix2 0 l)
        else v.read (Elt Ideal) (v.writes (Elt Ideal) f L) (ix2 r l) := by
  by_cases h0 : r.val = 0
  · rw [if_pos h0, View.read_writes_cons_rows_of_not_mem v f (o := 2) (W := 1) _ _ _ _ rfl rfl (by left; show r.val < 2; omega),
      View.read_writes_cons_rows_of_not_mem v f (o := 1) (W := 1) _ _ _ _ rfl rfl (by left; show r.val < 1; omega)]
    exact View.read_writes_cons_rows_of_mem v f (o := 0) _ w0 L (ix2 r l) (ix2 0 l) rfl (show r.val = 0 + 0 by omega) rfl
  rw [if_neg h0]
  by_cases h1 : r.val = 1
  · rw [if_pos h1, View.read_writes_cons_rows_of_not_mem v f (o := 2) (W := 1) _ _ _ _ rfl rfl (by left; show r.val < 2; omega)]
    exact View.read_writes_cons_rows_of_mem v f (o := 1) _ w1 _ (ix2 r l) (ix2 0 l) rfl (show r.val = 1 + 0 by omega) rfl
  rw [if_neg h1]
  by_cases h2 : r.val = 2
  · rw [if_pos h2]
    exact View.read_writes_cons_rows_of_mem v f (o := 2) _ w2 _ (ix2 r l) (ix2 0 l) rfl (show r.val = 2 + 0 by omega) rfl
  rw [if_neg h2, View.read_writes_cons_rows_of_not_mem v f (o := 2) (W := 1) _ _ _ _ rfl rfl (by right; show 2 + 1 ≤ r.val; omega),
    View.read_writes_cons_rows_of_not_mem v f (o := 1) (W := 1) _ _ _ _ rfl rfl (by right; show 1 + 1 ≤ r.val; omega),
    View.read_writes_cons_rows_of_not_mem v f (o := 0) (W := 1) _ _ _ _ rfl rfl (by right; show 0 + 1 ≤ r.val; omega)]

variable (m : (ℓ : Loc nD τ sig) → Buf (Elt Ideal) ℓ) (c : Dev nD)

/-- The arguments: the projection's columns, the gated output's gradient and the taps. -/
abbrev aA : Mat 4096 3072 := m ((c.tc : Thread nD τ).loc main_arg0)
abbrev aZ : Mat 4096 1024 := m ((c.tc : Thread nD τ).loc main_arg1)
abbrev aK : Mat 3 1024 := m ((c.tc : Thread nD τ).loc main_arg2)

/-- The block every window is at, at every point of the grid. -/
theorem idx : ∀ t : Fin cfg0.N, win0_0.index t = ![t.val % 2, t.val / 2] ∧ win0_1.index t = ![t.val % 2, 4 + t.val / 2]
    ∧ win0_2.index t = ![t.val % 2, 8 + t.val / 2] ∧ win0_3.index t = ![t.val % 2, t.val / 2] ∧ win0_4.index t = ![0, t.val / 2]
    ∧ win0_5.index t = ![t.val % 2, t.val / 2] ∧ win0_6.index t = ![t.val % 2, t.val / 2] ∧ win0_7.index t = ![t.val % 2, t.val / 2]
    ∧ win0_8.index t = ![0, t.val / 2] :=
  (by decide +kernel : ∀ t : Fin grid0.N, _)

/-- The taps the launch reads: the three rows, then zeros. -/
theorem pad_at (k : FVec Ideal S3x1024 .f32) (z : FVec Ideal S_ .f32) (r : Fin 8) (l : Fin 1024) (q : Fin 3) (h : r.val = q.val) :
    pad S8x1024 ![0, 0] ![5, 0] ![0, 0] k z Facts₀.pads_S3x1024_S8x1024_050_000 Facts₀.h_S_ (ix2 r l) = k (ix2 q l) := by
  have h3 : r.val < 3 := by have := q.isLt; omega
  have e : (⟨r.val, h3⟩ : Fin 3) = q := Fin.ext h
  pointwise [h3]
  rw [e]

theorem taps (r : Fin 8) (l : Fin 1024) (q : Fin 3) (h : r.val = q.val) :
    (V m c main_v0 : Mat 8 1024) (ix2 r l) = aK m c (ix2 q l) := by
  unfold V
  simp only [hostOps0, hostOps0_1, List.flatten_cons, List.flatten_nil, List.append_nil, List.cons_append, List.nil_append]
  after_results_simp
  exact pad_at _ _ r l q h

/-- The blocks read, as matrices. -/
abbrev bB (t : Fin cfg0.N) : Mat 2048 256 := iblk m c 0 t
abbrev bC (t : Fin cfg0.N) : Mat 2048 256 := iblk m c 1 t
abbrev bH (t : Fin cfg0.N) : Mat 2048 256 := iblk m c 2 t
abbrev bZ (t : Fin cfg0.N) : Mat 2048 256 := iblk m c 3 t
abbrev bK (t : Fin cfg0.N) : Mat 8 256 := iblk m c 4 t

/-- What the launch reads, in the arguments. -/
theorem in0 (t : Fin cfg0.N) (r : Fin 2048) (l : Fin 256) (i : Fin 4096) (j : Fin 3072) (hi : i.val = t.val % 2 * 2048 + r.val)
    (hj : j.val = t.val / 2 * 256 + l.val) : bB m c t (ix2 r l) = aA m c (ix2 i j) := by
  blk_point [iblk, V_main_arg0, idx t]
theorem in1 (t : Fin cfg0.N) (r : Fin 2048) (l : Fin 256) (i : Fin 4096) (j : Fin 3072) (hi : i.val = t.val % 2 * 2048 + r.val)
    (hj : j.val = (4 + t.val / 2) * 256 + l.val) : bC m c t (ix2 r l) = aA m c (ix2 i j) := by
  blk_point [iblk, V_main_arg0, idx t]
theorem in2 (t : Fin cfg0.N) (r : Fin 2048) (l : Fin 256) (i : Fin 4096) (j : Fin 3072) (hi : i.val = t.val % 2 * 2048 + r.val)
    (hj : j.val = (8 + t.val / 2) * 256 + l.val) : bH m c t (ix2 r l) = aA m c (ix2 i j) := by
  blk_point [iblk, V_main_arg0, idx t]
theorem in3 (t : Fin cfg0.N) (r : Fin 2048) (l : Fin 256) (i : Fin 4096) (j : Fin 1024) (hi : i.val = t.val % 2 * 2048 + r.val)
    (hj : j.val = t.val / 2 * 256 + l.val) : bZ m c t (ix2 r l) = aZ m c (ix2 i j) := by
  blk_point [iblk, V_main_arg1, idx t]
theorem in4 (t : Fin cfg0.N) (r : Fin 8) (l : Fin 256) (q : Fin 3) (j : Fin 1024) (h : r.val = q.val)
    (hj : j.val = t.val / 2 * 256 + l.val) : bK m c t (ix2 r l) = aK m c (ix2 q j) := by
  refine Eq.trans ?_ (taps m c r j q h)
  blk_point [iblk, idx t]

section tile

variable (t : Fin cfg0.N) (r : Fin 2048) (l : Fin 256) (i : Fin 4096) (j : Fin 1024) (hi : i.val = t.val % 2 * 2048 + r.val)
  (hj : j.val = t.val / 2 * 256 + l.val)

include hi hj

/-- The blocks' products and sums, at the element of the array they belong to. -/
theorem uC : k0_pay9 (F := Ideal) (iblk m c 1 t) (iblk m c 2 t) (ix2 r l) = UC (aA m c) (ix2 i j) :=
  (u_at _ _ r l).trans (Ideal.mul_congr
    (in1 m c t r l i ⟨1024 + j.val, by omega⟩ hi (show 1024 + j.val = _ by omega))
    (in2 m c t r l i ⟨2048 + j.val, by omega⟩ hi (show 2048 + j.val = _ by omega)))

/-- A block's product shifted down. -/
theorem down (n : ℕ) (hn : 0 < n ∧ n < 2048) :
    (if n ≤ r.val then (bC m c t (ix2 ⟨(r.val + 2048 - n) % 2048, Nat.mod_lt _ (by decide)⟩ l)
        * bH m c t (ix2 ⟨(r.val + 2048 - n) % 2048, Nat.mod_lt _ (by decide)⟩ l)) else 0)
      = SD n (UC (aA m c)) (ix2 i j) := by
  have hr := r.isLt
  have ht : t.val < 8 := lt_of_lt_of_eq t.isLt N_0
  have hm : i.val % 2048 = r.val := by omega
  unfold SD
  pointwise [hm]
  by_cases h : n ≤ r.val
  · rw [if_pos h, dif_pos h]
    have e0 : i.val - n = t.val % 2 * 2048 + (r.val + 2048 - n) % 2048 := by omega
    exact (Ideal.mul_congr
      (in1 m c t _ l ⟨i.val - n, by omega⟩ ⟨1024 + j.val, by omega⟩ e0 (show 1024 + j.val = _ by omega))
      (in2 m c t _ l ⟨i.val - n, by omega⟩ ⟨2048 + j.val, by omega⟩ e0 (show 2048 + j.val = _ by omega)))
  · rw [if_neg h, dif_neg h]

theorem u1C : k0_pay10 (F := Ideal) (iblk m c 1 t) (iblk m c 2 t) (ix2 r l) = SD 1 (UC (aA m c)) (ix2 i j) :=
  (u1_at _ _ r l).trans (down m c t r l i j hi hj 1 (by decide))
theorem u2C : k0_pay11 (F := Ideal) (iblk m c 1 t) (iblk m c 2 t) (ix2 r l) = SD 2 (UC (aA m c)) (ix2 i j) :=
  (u2_at _ _ r l).trans (down m c t r l i j hi hj 2 (by decide))

theorem dyC : k0_pay14 (F := Ideal) (k0_pay5 (iblk m c 0 t)) (k0_pay8 (iblk m c 3 t)) (ix2 r l) = GY (aA m c) (aZ m c) (ix2 i j) :=
  (dy_at _ _ r l).trans (Ideal.mul_congr (in3 m c t r l i j hi hj)
    (in0 m c t r l i ⟨j.val, by omega⟩ hi (show j.val = _ by omega)))

/-- The output's gradient shifted up. -/
theorem up (n n' : ℕ) (hn : 0 < n ∧ n < 2048) (hs : n' + n = 2048) :
    (if r.val < n' then (bZ m c t (ix2 ⟨(r.val + 2048 - n') % 2048, Nat.mod_lt _ (by decide)⟩ l)
        * bB m c t (ix2 ⟨(r.val + 2048 - n') % 2048, Nat.mod_lt _ (by decide)⟩ l)) else 0)
      = SU n (GY (aA m c) (aZ m c)) (ix2 i j) := by
  have hr := r.isLt
  have ht : t.val < 8 := lt_of_lt_of_eq t.isLt N_0
  have hm : i.val % 2048 = r.val := by omega
  unfold SU
  pointwise [hm]
  by_cases h : r.val < n'
  · rw [if_pos h, dif_pos (by omega)]
    have e0 : i.val + n = t.val % 2 * 2048 + (r.val + 2048 - n') % 2048 := by omega
    exact (Ideal.mul_congr (in3 m c t _ l ⟨i.val + n, by omega⟩ j e0 hj)
      (in0 m c t _ l ⟨i.val + n, by omega⟩ ⟨j.val, by omega⟩ e0 (show j.val = _ by omega)))
  · rw [if_neg h, dif_neg (by omega)]

theorem duC (k2 k1 k0 : Vec Ideal S1x256 .f32) (h2 : k2 (ix2 0 l) = aK m c (ix2 2 j)) (h1 : k1 (ix2 0 l) = aK m c (ix2 1 j))
    (h0 : k0 (ix2 0 l) = aK m c (ix2 0 j)) :
    k0_pay15 (F := Ideal) (iota Kind.tc S2048x1 32 [0] iota_S2048x1_d0_w32) (k0_pay5 (iblk m c 0 t)) (k0_pay8 (iblk m c 3 t)) k2 k1 k0 (ix2 r l)
      = GU (aA m c) (aZ m c) (aK m c) (ix2 i j) :=
  (du_at _ _ k2 k1 k0 r l).trans (Ideal.add_congr (Ideal.add_congr
    (Ideal.mul_congr h2 ((dy_at _ _ r l).symm.trans (dyC m c t r l i j hi hj)))
    (Ideal.mul_congr h1 (up m c t r l i j hi hj 1 2047 (by decide) rfl))) (Ideal.mul_congr h0 (up m c t r l i j hi hj 2 2046 (by decide) rfl)))

theorem yC (k2 k1 k0 : Vec Ideal S1x256 .f32) (h2 : k2 (ix2 0 l) = aK m c (ix2 2 j)) (h1 : k1 (ix2 0 l) = aK m c (ix2 1 j))
    (h0 : k0 (ix2 0 l) = aK m c (ix2 0 j)) :
    k0_pay12 (F := Ideal) (iblk m c 1 t) (iblk m c 2 t) k2 k1 k0 (ix2 r l) = YC (aA m c) (aK m c) (ix2 i j) :=
  (y_at _ _ k2 k1 k0 r l).trans (Ideal.add_congr (Ideal.add_congr
    (Ideal.mul_congr h2 (uC m c t r l i j hi hj))
    (Ideal.mul_congr h1 (u1C m c t r l i j hi hj))) (Ideal.mul_congr h0 (u2C m c t r l i j hi hj)))

/-- One stored value of each of the three gradients. -/
theorem coreB : k0_pay13 (F := Ideal) (k0_pay8 (iblk m c 3 t)) (k0_pay12 (iblk m c 1 t) (iblk m c 2 t)
      (View.ld (iblk m c 4 t) (Rect.unit ![2, 0] ![1, 256] inb_S8x256_S1x256_2_0))
      (View.ld (iblk m c 4 t) (Rect.unit ![1, 0] ![1, 256] inb_S8x256_S1x256_1_0))
      (View.ld (iblk m c 4 t) (Rect.unit ![0, 0] ![1, 256] inb_S8x256_S1x256_0_0))) (ix2 r l) = GB (aA m c) (aZ m c) (aK m c) (ix2 i j) := by
  refine (db_at _ _ r l).trans (Ideal.mul_congr (in3 m c t r l i j hi hj)
    (yC m c t r l i j hi hj _ _ _ ?_ ?_ ?_))
  · pointwise []
    exact in4 m c t 2 l 2 j rfl hj
  · pointwise []
    exact in4 m c t 1 l 1 j rfl hj
  · pointwise []
    exact in4 m c t 0 l 0 j rfl hj

theorem coreC : k0_pay16 (F := Ideal) (iota Kind.tc S2048x1 32 [0] iota_S2048x1_d0_w32) (k0_pay5 (iblk m c 0 t)) (k0_pay7 (iblk m c 2 t)) (k0_pay8 (iblk m c 3 t))
      (View.ld (iblk m c 4 t) (Rect.unit ![2, 0] ![1, 256] inb_S8x256_S1x256_2_0))
      (View.ld (iblk m c 4 t) (Rect.unit ![1, 0] ![1, 256] inb_S8x256_S1x256_1_0))
      (View.ld (iblk m c 4 t) (Rect.unit ![0, 0] ![1, 256] inb_S8x256_S1x256_0_0)) (ix2 r l) = GC (aA m c) (aZ m c) (aK m c) (ix2 i j) := by
  refine (dc_at _ _ _ _ _ _ _ r l).trans (Ideal.mul_congr
    (duC m c t r l i j hi hj _ _ _ ?_ ?_ ?_) (in2 m c t r l i ⟨2048 + j.val, by omega⟩ hi (show 2048 + j.val = _ by omega)))
  · pointwise []
    exact in4 m c t 2 l 2 j rfl hj
  · pointwise []
    exact in4 m c t 1 l 1 j rfl hj
  · pointwise []
    exact in4 m c t 0 l 0 j rfl hj

theorem coreH : k0_pay17 (F := Ideal) (iota Kind.tc S2048x1 32 [0] iota_S2048x1_d0_w32) (k0_pay5 (iblk m c 0 t)) (k0_pay6 (iblk m c 1 t)) (k0_pay8 (iblk m c 3 t))
      (View.ld (iblk m c 4 t) (Rect.unit ![2, 0] ![1, 256] inb_S8x256_S1x256_2_0))
      (View.ld (iblk m c 4 t) (Rect.unit ![1, 0] ![1, 256] inb_S8x256_S1x256_1_0))
      (View.ld (iblk m c 4 t) (Rect.unit ![0, 0] ![1, 256] inb_S8x256_S1x256_0_0)) (ix2 r l) = GH (aA m c) (aZ m c) (aK m c) (ix2 i j) := by
  refine (dh_at _ _ _ _ _ _ _ r l).trans (Ideal.mul_congr
    (duC m c t r l i j hi hj _ _ _ ?_ ?_ ?_) (in1 m c t r l i ⟨1024 + j.val, by omega⟩ hi (show 1024 + j.val = _ by omega)))
  · pointwise []
    exact in4 m c t 2 l 2 j rfl hj
  · pointwise []
    exact in4 m c t 1 l 1 j rfl hj
  · pointwise []
    exact in4 m c t 0 l 0 j rfl hj

end tile

/-- The three gradients. -/
theorem finalB (c : Dev nD) : (dats m 0 c).arrAt 5 cfg0.N = GB (aA m c) (aZ m c) (aK m c) := by
  refine (dats m 0 c).arrAt_eq_of_covers 5 _ (by decide +kernel) fun t _ y => ?_
  blk_simp
  rw [after0_5]
  by_cases h : t.val % 2 = 0
  · rw [outsAt0_A m c t h]
    frame_out
    rw [eq_ix2 y, eq_ix2 (((View.whole main_v1_0).slice (win0_5.rect t)).emb _)]
    exact coreB m c t (y 0) (y 1) _ _ (by blk_simp [idx t] <;> omega) (by blk_simp [idx t] <;> omega)
  · rw [outsAt0_B m c t h]
    frame_out
    rw [eq_ix2 y, eq_ix2 (((View.whole main_v1_0).slice (win0_5.rect t)).emb _)]
    exact coreB m c t (y 0) (y 1) _ _ (by blk_simp [idx t] <;> omega) (by blk_simp [idx t] <;> omega)

theorem finalC (c : Dev nD) : (dats m 0 c).arrAt 6 cfg0.N = GC (aA m c) (aZ m c) (aK m c) := by
  refine (dats m 0 c).arrAt_eq_of_covers 6 _ (by decide +kernel) fun t _ y => ?_
  blk_simp
  rw [after0_6]
  by_cases h : t.val % 2 = 0
  · rw [outsAt0_A m c t h]
    frame_out
    rw [eq_ix2 y, eq_ix2 (((View.whole main_v1_1).slice (win0_6.rect t)).emb _)]
    exact coreC m c t (y 0) (y 1) _ _ (by blk_simp [idx t] <;> omega) (by blk_simp [idx t] <;> omega)
  · rw [outsAt0_B m c t h]
    frame_out
    rw [eq_ix2 y, eq_ix2 (((View.whole main_v1_1).slice (win0_6.rect t)).emb _)]
    exact coreC m c t (y 0) (y 1) _ _ (by blk_simp [idx t] <;> omega) (by blk_simp [idx t] <;> omega)

theorem finalH (c : Dev nD) : (dats m 0 c).arrAt 7 cfg0.N = GH (aA m c) (aZ m c) (aK m c) := by
  refine (dats m 0 c).arrAt_eq_of_covers 7 _ (by decide +kernel) fun t _ y => ?_
  blk_simp
  rw [after0_7]
  by_cases h : t.val % 2 = 0
  · rw [outsAt0_A m c t h]
    frame_out
    rw [eq_ix2 y, eq_ix2 (((View.whole main_v1_2).slice (win0_7.rect t)).emb _)]
    exact coreH m c t (y 0) (y 1) _ _ (by blk_simp [idx t] <;> omega) (by blk_simp [idx t] <;> omega)
  · rw [outsAt0_B m c t h]
    frame_out
    rw [eq_ix2 y, eq_ix2 (((View.whole main_v1_2).slice (win0_7.rect t)).emb _)]
    exact coreH m c t (y 0) (y 1) _ _ (by blk_simp [idx t] <;> omega) (by blk_simp [idx t] <;> omega)

/-- What one point adds to the taps' gradient. -/
def part (t : Fin cfg0.N) (r : Fin 8) (l : Fin 256) : EReal :=
  if r.val = 0 then ∑ s : Fin 2048, k0_pay14 (F := Ideal) (k0_pay5 (iblk m c 0 t)) (k0_pay8 (iblk m c 3 t)) (ix2 s l) * k0_pay11 (F := Ideal) (iblk m c 1 t) (iblk m c 2 t) (ix2 s l)
  else if r.val = 1 then ∑ s : Fin 2048, k0_pay14 (F := Ideal) (k0_pay5 (iblk m c 0 t)) (k0_pay8 (iblk m c 3 t)) (ix2 s l) * k0_pay10 (F := Ideal) (iblk m c 1 t) (iblk m c 2 t) (ix2 s l)
  else if r.val = 2 then ∑ s : Fin 2048, k0_pay14 (F := Ideal) (k0_pay5 (iblk m c 0 t)) (k0_pay8 (iblk m c 3 t)) (ix2 s l) * k0_pay9 (F := Ideal) (iblk m c 1 t) (iblk m c 2 t) (ix2 s l)
  else 0

theorem step (t : Fin cfg0.N) (h : ¬ t.val % 2 = 0) (r : Fin 8) (l : Fin 256) :
    (outsAt0 m c t.val t.isLt).2.2.2 (ix2 r l)
      = ((outsAt0 m c (t.val - 1) (Nat.lt_of_le_of_lt (Nat.sub_le _ _) t.isLt)).2.2.2 (ix2 r l) + part m c t r l : EReal) := by
  rw [outsAt0_B m c t h]
  frame_out
  rw [rows_at]
  unfold part
  by_cases h0 : r.val = 0
  · obtain rfl : r = 0 := Fin.ext h0
    rw [if_pos h0, if_pos h0, k2_at]
    exact Ideal.add_congr (by pointwise []) rfl
  by_cases h1 : r.val = 1
  · obtain rfl : r = 1 := Fin.ext h1
    rw [if_neg h0, if_neg h0, if_pos h1, if_pos h1, k3_at]
    exact Ideal.add_congr (by pointwise []) rfl
  by_cases h2 : r.val = 2
  · obtain rfl : r = 2 := Fin.ext h2
    rw [if_neg h0, if_neg h0, if_neg h1, if_neg h1, if_pos h2, if_pos h2, k4_at]
    exact Ideal.add_congr (by pointwise []) rfl
  rw [if_neg h0, if_neg h0, if_neg h1, if_neg h1, if_neg h2, if_neg h2, View.writes_nil, Memref.IsWhole.read_unread]
  exact (add_zero _).symm

theorem start (t : Fin cfg0.N) (h : t.val % 2 = 0) (r : Fin 8) (l : Fin 256) :
    (outsAt0 m c t.val t.isLt).2.2.2 (ix2 r l) = part m c t r l := by
  rw [outsAt0_A m c t h]
  frame_open
  simp (disch := decide) only [↓ View.readCov_skip, ↓ View.readCov_cons_toLoadRect, ↓ View.readCov_fill]
  frame_out
  rw [← View.read_writes_junk_apply_eq_canon (ms0_8 t).view, rows_at]
  unfold part
  by_cases h0 : r.val = 0
  · rw [if_pos h0, if_pos h0, k2_at]
    refine Eq.trans (Ideal.add_congr (?_ : _ = (0 : EReal)) rfl) (zero_add _)
    pointwise [k0_pay1]
  by_cases h1 : r.val = 1
  · rw [if_neg h0, if_neg h0, if_pos h1, if_pos h1, k3_at]
    refine Eq.trans (Ideal.add_congr (?_ : _ = (0 : EReal)) rfl) (zero_add _)
    pointwise [k0_pay1]
  by_cases h2 : r.val = 2
  · rw [if_neg h0, if_neg h0, if_neg h1, if_neg h1, if_pos h2, if_pos h2, k4_at]
    refine Eq.trans (Ideal.add_congr (?_ : _ = (0 : EReal)) rfl) (zero_add _)
    pointwise [k0_pay1]
  rw [if_neg h0, if_neg h0, if_neg h1, if_neg h1, if_neg h2, if_neg h2]
  refine (View.read_writes_cons_rows_of_mem _ _ (o := 0) _ _ _ (ix2 r l) (ix2 r l) rfl (show r.val = 0 + r.val by omega) rfl).trans ?_
  pointwise [k0_pay1]

/-- What one point adds, in the arrays. -/
theorem part_eq (t : Fin cfg0.N) (r : Fin 8) (l : Fin 256) (b : Fin 2) (j : Fin 1024) (hb : b.val = t.val % 2) (hj : j.val = t.val / 2 * 256 + l.val) :
    part m c t r l = if r.val = 0 then ∑ s : Fin 2048, GY (aA m c) (aZ m c) (ix2 ⟨b.val * 2048 + s.val, by omega⟩ j) * SD 2 (UC (aA m c)) (ix2 ⟨b.val * 2048 + s.val, by omega⟩ j)
      else if r.val = 1 then ∑ s : Fin 2048, GY (aA m c) (aZ m c) (ix2 ⟨b.val * 2048 + s.val, by omega⟩ j) * SD 1 (UC (aA m c)) (ix2 ⟨b.val * 2048 + s.val, by omega⟩ j)
      else if r.val = 2 then ∑ s : Fin 2048, GY (aA m c) (aZ m c) (ix2 ⟨b.val * 2048 + s.val, by omega⟩ j) * UC (aA m c) (ix2 ⟨b.val * 2048 + s.val, by omega⟩ j)
      else 0 := by
  unfold part
  have hs : ∀ s : Fin 2048, b.val * 2048 + s.val = t.val % 2 * 2048 + s.val := fun s => by rw [hb]
  by_cases h0 : r.val = 0
  · rw [if_pos h0, if_pos h0]
    exact Finset.sum_congr rfl fun s _ => Ideal.mul_congr (dyC m c t s l _ j (hs s) hj) (u2C m c t s l _ j (hs s) hj)
  rw [if_neg h0, if_neg h0]
  by_cases h1 : r.val = 1
  · rw [if_pos h1, if_pos h1]
    exact Finset.sum_congr rfl fun s _ => Ideal.mul_congr (dyC m c t s l _ j (hs s) hj) (u1C m c t s l _ j (hs s) hj)
  rw [if_neg h1, if_neg h1]
  by_cases h2 : r.val = 2
  · rw [if_pos h2, if_pos h2]
    exact Finset.sum_congr rfl fun s _ => Ideal.mul_congr (dyC m c t s l _ j (hs s) hj) (uC m c t s l _ j (hs s) hj)
  rw [if_neg h2, if_neg h2]

theorem coreK (t : Fin cfg0.N) (h : ¬ t.val % 2 = 0) (r : Fin 8) (l : Fin 256) (i : S8x1024.Idx) (hi : (i 0).val = r.val)
    (hj : (i 1).val = t.val / 2 * 256 + l.val) : (outsAt0 m c t.val t.isLt).2.2.2 (ix2 r l) = GK (aA m c) (aZ m c) i := by
  have ht : t.val - 1 < cfg0.N := Nat.lt_of_le_of_lt (Nat.sub_le _ _) t.isLt
  rw [step m c t h, start m c ⟨t.val - 1, ht⟩ (show (t.val - 1) % 2 = 0 by omega),
    part_eq m c ⟨t.val - 1, ht⟩ r l 0 (i 1) (show 0 = (t.val - 1) % 2 by omega) (show (i 1).val = (t.val - 1) / 2 * 256 + l.val by omega),
    part_eq m c t r l 1 (i 1) (show 1 = t.val % 2 by omega) hj]
  unfold GK GS
  rw [hi]
  by_cases h0 : r.val = 0
  · rw [if_pos h0, if_pos h0, if_pos h0, Fin.sum_univ_two]
  rw [if_neg h0, if_neg h0, if_neg h0]
  by_cases h1 : r.val = 1
  · rw [if_pos h1, if_pos h1, if_pos h1, Fin.sum_univ_two]
  rw [if_neg h1, if_neg h1, if_neg h1]
  by_cases h2 : r.val = 2
  · rw [if_pos h2, if_pos h2, if_pos h2, Fin.sum_univ_two]
  rw [if_neg h2, if_neg h2, if_neg h2]
  exact zero_add _

/-- The taps' gradient. -/
theorem finalK (c : Dev nD) : (dats m 0 c).arrAt 8 cfg0.N = GK (aA m c) (aZ m c) := by
  refine (dats m 0 c).arrAt_eq_of_covers 8 _ (by decide +kernel) fun t hf y => ?_
  blk_simp
  have hm : ¬ t.val % 2 = 0 := by have := (flush0_8 t).mp hf; omega
  rw [after0_8]
  rw [eq_ix2 y]
  exact coreK m c t hm (y 0) (y 1) _ (by blk_simp [idx t] <;> omega) (by blk_simp [idx t] <;> omega)

end Cert.Kernel3Ideal.ConvBwd

end
-- ==== Proof.ConvBwdClaim.lean ====
/- The gated short convolution's gradients: what the reference's results hold, and the launch against them. -/
module

public import proofs.«01_k».proof.Proof.ConvBwdLaunch
public import proofs.«01_k».proof.Proof.Gen.Reference3Ideal.Run
public import proofs.«01_k».proof.Defs

@[expose] public section

set_option maxRecDepth 16384

noncomputable section

open Idealize.ShloMosaic Idealize.ShloMosaic.TcCoe Idealize.SL.Sem

namespace Cert.Reference3Ideal.ConvBwd

open Cert.Reference3Ideal Facts₀ Facts Cert.Ffn Cert.Conv

variable (a : FVec Ideal S4096x3072 .bf16) (z : FVec Ideal S4096x1024 .bf16) (k : FVec Ideal S3x1024 .f32)

/-- The convolution's input, by sequences. -/
def tU : FVec Ideal S2x2048x1024 .f32 :=
  shapeCast _ (mulf (extractStridedSlice S4096x1024 ![0, 1024] (extf .f32 a bitsLt_bf16_f32) slices_S4096x3072_S4096x1024_0_1024) (extractStridedSlice S4096x1024 ![0, 2048] (extf .f32 a bitsLt_bf16_f32) slices_S4096x3072_S4096x1024_0_2048)) shapeCasts_S4096x1024_S2x2048x1024

/-- It shifted by one row and by two. -/
def tU1 : FVec Ideal S2x2048x1024 .f32 :=
  concatenate S2x2048x1024 1 [⟨S2x1x1024, (broadcastInDim S2x1x1024 ![] bcast_S_S2x1x1024 (constant S_ .f32 0x00000000#32))⟩, ⟨S2x2047x1024, (extractStridedSlice S2x2047x1024 ![0, 0, 0] (tU a) slices_S2x2048x1024_S2x2047x1024_0_0_0)⟩] concatenates_S2x1x1024_S2x2047x1024_S2x2048x1024_d1
def tU2 : FVec Ideal S2x2048x1024 .f32 :=
  concatenate S2x2048x1024 1 [⟨S2x2x1024, (broadcastInDim S2x2x1024 ![] bcast_S_S2x2x1024 (constant S_ .f32 0x00000000#32))⟩, ⟨S2x2046x1024, (extractStridedSlice S2x2046x1024 ![0, 0, 0] (tU a) slices_S2x2048x1024_S2x2046x1024_0_0_0)⟩] concatenates_S2x2x1024_S2x2046x1024_S2x2048x1024_d1

/-- The convolution's output, by tokens; the gradient of the output by sequences, of the input by tokens. -/
def tY : FVec Ideal S4096x1024 .f32 :=
  shapeCast _ (addf (addf (mulf (broadcastInDim S2x2048x1024 ![0, 1, 2] bcast_S1x1x1024_S2x2048x1024_0_1_2 (broadcastInDim S1x1x1024 ![2] bcast_S1024_S1x1x1024_2 (shapeCast _ (extractStridedSlice S1x1024 ![2, 0] k slices_S3x1024_S1x1024_2_0) shapeCasts_S1x1024_S1024))) (tU a)) (mulf (broadcastInDim S2x2048x1024 ![0, 1, 2] bcast_S1x1x1024_S2x2048x1024_0_1_2 (broadcastInDim S1x1x1024 ![2] bcast_S1024_S1x1x1024_2 (shapeCast _ (extractStridedSlice S1x1024 ![1, 0] k slices_S3x1024_S1x1024_1_0) shapeCasts_S1x1024_S1024))) (tU1 a))) (mulf (broadcastInDim S2x2048x1024 ![0, 1, 2] bcast_S1x1x1024_S2x2048x1024_0_1_2 (broadcastInDim S1x1x1024 ![2] bcast_S1024_S1x1x1024_2 (shapeCast _ (extractStridedSlice S1x1024 ![0, 0] k slices_S3x1024_S1x1024_0_0) shapeCasts_S1x1024_S1024))) (tU2 a))) shapeCasts_S2x2048x1024_S4096x1024
def tD : FVec Ideal S2x2048x1024 .f32 := shapeCast _ (mulf (extractStridedSlice S4096x1024 ![0, 0] (extf .f32 a bitsLt_bf16_f32) slices_S4096x3072_S4096x1024_0_0) (extf .f32 z bitsLt_bf16_f32)) shapeCasts_S4096x1024_S2x2048x1024
def tG : FVec Ideal S4096x1024 .f32 :=
  shapeCast _ (addf (addf (pad S2x2048x1024 ![0, 0, 0] ![0, 2, 0] ![0, 0, 0] (extractStridedSlice S2x2046x1024 ![0, 2, 0] (mulf (broadcastInDim S2x2048x1024 ![0, 1, 2] bcast_S1x1x1024_S2x2048x1024_0_1_2 (broadcastInDim S1x1x1024 ![2] bcast_S1024_S1x1x1024_2 (shapeCast _ (extractStridedSlice S1x1024 ![0, 0] k slices_S3x1024_S1x1024_0_0) shapeCasts_S1x1024_S1024))) (tD a z)) slices_S2x2048x1024_S2x2046x1024_0_2_0) (constant S_ .f32 0x00000000#32) pads_S2x2046x1024_S2x2048x1024_000_020_000 h_S_) (pad S2x2048x1024 ![0, 0, 0] ![0, 1, 0] ![0, 0, 0] (extractStridedSlice S2x2047x1024 ![0, 1, 0] (mulf (broadcastInDim S2x2048x1024 ![0, 1, 2] bcast_S1x1x1024_S2x2048x1024_0_1_2 (broadcastInDim S1x1x1024 ![2] bcast_S1024_S1x1x1024_2 (shapeCast _ (extractStridedSlice S1x1024 ![1, 0] k slices_S3x1024_S1x1024_1_0) shapeCasts_S1x1024_S1024))) (tD a z)) slices_S2x2048x1024_S2x2047x1024_0_1_0) (constant S_ .f32 0x00000000#32) pads_S2x2047x1024_S2x2048x1024_000_010_000 h_S_)) (mulf (broadcastInDim S2x2048x1024 ![0, 1, 2] bcast_S1x1x1024_S2x2048x1024_0_1_2 (broadcastInDim S1x1x1024 ![2] bcast_S1024_S1x1x1024_2 (shapeCast _ (extractStridedSlice S1x1024 ![2, 0] k slices_S3x1024_S1x1024_2_0) shapeCasts_S1x1024_S1024))) (tD a z))) shapeCasts_S2x2048x1024_S4096x1024

/-- The four results. -/
def tB : FVec Ideal S4096x1024 .bf16 := truncf .bf16 (mulf (extf .f32 z bitsLt_bf16_f32) (tY a k)) bitsLt_bf16_f32
def tC : FVec Ideal S4096x1024 .bf16 := truncf .bf16 (mulf (tG a z k) (extractStridedSlice S4096x1024 ![0, 2048] (extf .f32 a bitsLt_bf16_f32) slices_S4096x3072_S4096x1024_0_2048)) bitsLt_bf16_f32
def tH : FVec Ideal S4096x1024 .bf16 := truncf .bf16 (mulf (extractStridedSlice S4096x1024 ![0, 1024] (extf .f32 a bitsLt_bf16_f32) slices_S4096x3072_S4096x1024_0_1024) (tG a z k)) bitsLt_bf16_f32
def tK2 : FVec Ideal S1x1024 .f32 := broadcastInDim S1x1024 ![1] bcast_S1024_S1x1024_1 (Host.reduceAdd (shapeCast _ (Host.reduceAdd (mulf (tD a z) (tU2 a)) (constant S_ .f32 0x00000000#32) reducesTo_S2x2048x1024_S1024_d0_1 h_S_) shapeCasts_S1024_S1x1x1024) (constant S_ .f32 0x00000000#32) reducesTo_S1x1x1024_S1024_d0_1 h_S_)
def tK1 : FVec Ideal S1x1024 .f32 := broadcastInDim S1x1024 ![1] bcast_S1024_S1x1024_1 (Host.reduceAdd (shapeCast _ (Host.reduceAdd (mulf (tD a z) (tU1 a)) (constant S_ .f32 0x00000000#32) reducesTo_S2x2048x1024_S1024_d0_1 h_S_) shapeCasts_S1024_S1x1x1024) (constant S_ .f32 0x00000000#32) reducesTo_S1x1x1024_S1024_d0_1 h_S_)
def tK0 : FVec Ideal S1x1024 .f32 := broadcastInDim S1x1024 ![1] bcast_S1024_S1x1024_1 (Host.reduceAdd (shapeCast _ (Host.reduceAdd (mulf (tD a z) (tU a)) (constant S_ .f32 0x00000000#32) reducesTo_S2x2048x1024_S1024_d0_1 h_S_) shapeCasts_S1024_S1x1x1024) (constant S_ .f32 0x00000000#32) reducesTo_S1x1x1024_S1024_d0_1 h_S_)
def tK : FVec Ideal S8x1024 .f32 :=
  pad S8x1024 ![0, 0] ![5, 0] ![0, 0] (addf (addf (pad S3x1024 ![0, 0] ![2, 0] ![0, 0] (tK2 a z) (constant S_ .f32 0x00000000#32) pads_S1x1024_S3x1024_020_000 h_S_) (pad S3x1024 ![1, 0] ![1, 0] ![0, 0] (tK1 a z) (constant S_ .f32 0x00000000#32) pads_S1x1024_S3x1024_110_000 h_S_)) (pad S3x1024 ![2, 0] ![0, 0] ![0, 0] (tK0 a z) (constant S_ .f32 0x00000000#32) pads_S1x1024_S3x1024_200_000 h_S_)) (sitofp .f32 (constantI S_ 32 0#32)) pads_S3x1024_S8x1024_050_000 h_S_

theorem tU_at (s : Fin 2) (r : Fin 2048) (l : Fin 1024) (i : Fin 4096) (h : s.val * 2048 + r.val = i.val) :
    tU a (ix3 s r l) = UC a (ix2 i l) := by
  have e : (⟨s.val * 2048 + r.val, by omega⟩ : Fin 4096) = i := Fin.ext h
  pointwise [tU, UC, CV, Conv.HV]
  rw [e]
theorem tU1_at (s : Fin 2) (r : Fin 2048) (l : Fin 1024) (i : Fin 4096) (h : s.val * 2048 + r.val = i.val) :
    tU1 a (ix3 s r l) = SD 1 (UC a) (ix2 i l) := by
  have e : i.val % 2048 = r.val := by omega
  pointwise [tU1, SD]
  by_cases hr : r.val < 1
  · rw [dif_pos hr, dif_neg (by omega)]
  · rw [dif_neg hr, dif_pos (by omega)]
    exact tU_at a s ⟨r.val - 1, by omega⟩ l ⟨i.val - 1, by omega⟩ (show s.val * 2048 + (r.val - 1) = i.val - 1 by omega)
theorem tU2_at (s : Fin 2) (r : Fin 2048) (l : Fin 1024) (i : Fin 4096) (h : s.val * 2048 + r.val = i.val) :
    tU2 a (ix3 s r l) = SD 2 (UC a) (ix2 i l) := by
  have e : i.val % 2048 = r.val := by omega
  pointwise [tU2, SD]
  by_cases hr : r.val < 2
  · rw [dif_pos hr, dif_neg (by omega)]
  · rw [dif_neg hr, dif_pos (by omega)]
    exact tU_at a s ⟨r.val - 2, by omega⟩ l ⟨i.val - 2, by omega⟩ (show s.val * 2048 + (r.val - 2) = i.val - 2 by omega)

theorem tY_at (i : Fin 4096) (j : Fin 1024) : tY a k (ix2 i j) = YC a k (ix2 i j) := by
  have h : i.val / 2048 * 2048 + i.val % 2048 = i.val := by omega
  pointwise [tY, YC]
  have hs : i.val / 2048 < 2 := by omega
  have hr : i.val % 2048 < 2048 := by omega
  rw [tU_at a ⟨i.val / 2048, hs⟩ ⟨i.val % 2048, hr⟩ j i h, tU1_at a ⟨i.val / 2048, hs⟩ ⟨i.val % 2048, hr⟩ j i h,
    tU2_at a ⟨i.val / 2048, hs⟩ ⟨i.val % 2048, hr⟩ j i h]

theorem tD_at (s : Fin 2) (r : Fin 2048) (l : Fin 1024) (i : Fin 4096) (h : s.val * 2048 + r.val = i.val) :
    tD a z (ix3 s r l) = GY a z (ix2 i l) := by
  have e : (⟨s.val * 2048 + r.val, by omega⟩ : Fin 4096) = i := Fin.ext h
  pointwise [tD, GY, BV]
  rw [e]
  exact mul_comm (_ : EReal) _

theorem rev3 (x y w : EReal) : x + y + w = w + y + x := by rw [add_comm, add_comm x, ← add_assoc]

/-- A shift up, as the transpose of a shift down spells it: the rows that have a row `n` further down, the rest zeros. -/
theorem up_at (n p : ℕ) (hp : p + n = 2048) (f : FVec Ideal S2x2048x1024 .f32) (g : Mat 4096 1024) (q : EReal) (i : Fin 4096) (j : Fin 1024)
    (hf : ∀ (s : Fin 2) (r : Fin 2048) (t : Fin 4096), s.val * 2048 + r.val = t.val → f (ix3 s r j) = g (ix2 t j)) :
    (if h : i.val / 2048 < 2 ∧ i.val % 2048 < p then q * f (ix3 ⟨i.val / 2048, h.1⟩ ⟨n + i.val % 2048, by omega⟩ j) else 0)
      = q * (if h : i.val % 2048 + n < 2048 then g (ix2 ⟨i.val + n, by omega⟩ j) else 0) := by
  have hs : i.val / 2048 < 2 := by omega
  by_cases hc : i.val % 2048 + n < 2048
  · rw [dif_pos ⟨hs, by omega⟩, dif_pos hc]
    exact congrArg (q * ·) (hf _ _ _ (show i.val / 2048 * 2048 + (n + i.val % 2048) = i.val + n by omega))
  · rw [dif_neg (by omega), dif_neg hc, mul_zero]

theorem tG_at (i : Fin 4096) (j : Fin 1024) : tG a z k (ix2 i j) = Conv.GU a z k (ix2 i j) := by
  have h : i.val / 2048 * 2048 + i.val % 2048 = i.val := by omega
  have e0 := tD_at a z ⟨i.val / 2048, by omega⟩ ⟨i.val % 2048, by omega⟩ j i h
  have e1 := up_at 1 2047 rfl (tD a z) (GY a z) (k (ix2 1 j)) i j fun s r t => tD_at a z s r j t
  have e2 := up_at 2 2046 rfl (tD a z) (GY a z) (k (ix2 0 j)) i j fun s r t => tD_at a z s r j t
  pointwise [tG, Conv.GU, SU]
  exact (Ideal.add_congr (Ideal.add_congr e2 e1) (Ideal.mul_congr rfl e0)).trans (rev3 _ _ _)

/-- The host's sum over the first two of three axes, at a column. -/
theorem red01 {p q n : ℕ} (h : (⟨3, ![p, q, n]⟩ : Shape).ReducesTo [0, 1] ⟨1, ![n]⟩) (v : (⟨3, ![p, q, n]⟩ : Shape).Idx → EReal)
    (init : EReal) (l : Fin n) : Ideal.hostReduceAdd h v init (ix1 l) = init + ∑ b : Fin p, ∑ s : Fin q, v (ix3 b s l) := by
  refine congrArg (init + ·) ?_
  rw [← Fintype.sum_prod_type' (fun b s => v (ix3 b s l))]
  refine Finset.sum_filter_eq_sum_of_fiber _ (fun t : Fin p × Fin q => ix3 t.1 t.2 l) (fun t u e => Prod.ext (congrFun e 0) (congrFun e 1)) (fun i => ⟨fun e => ⟨(i 0, i 1), ?_⟩, ?_⟩) v
  · have e2 : i 2 = l := Fin.ext (congrArg Fin.val (congrFun e 0))
    rw [eq_ix3 i, ← e2]; rfl
  · rintro ⟨t, rfl⟩
    funext b
    match b with
    | ⟨0, _⟩ => rfl

theorem tKs (u : FVec Ideal S2x2048x1024 .f32) (v : Mat 4096 1024) (l : Fin 1024)
    (hv : ∀ (s : Fin 2) (r : Fin 2048), u (ix3 s r l) = v (ix2 ⟨s.val * 2048 + r.val, by omega⟩ l)) :
    (broadcastInDim S1x1024 ![1] bcast_S1024_S1x1024_1 (Host.reduceAdd (shapeCast _ (Host.reduceAdd (mulf (tD a z) u) (constant S_ .f32 0x00000000#32) reducesTo_S2x2048x1024_S1024_d0_1 h_S_) shapeCasts_S1024_S1x1x1024) (constant S_ .f32 0x00000000#32) reducesTo_S1x1x1024_S1024_d0_1 h_S_) : Mat 1 1024) (ix2 0 l) = GS a z v l := by
  pointwise [red01, GS]
  refine (Fin.sum_univ_one _).trans ((Fin.sum_univ_one _).trans (Finset.sum_congr rfl fun s _ => Finset.sum_congr rfl fun r _ => ?_))
  rw [tD_at a z s r l ⟨s.val * 2048 + r.val, by omega⟩ rfl, hv]

theorem tK2_at (l : Fin 1024) : tK2 a z (ix2 0 l) = GS a z (SD 2 (UC a)) l := tKs a z _ _ l fun s r => tU2_at a s r l _ rfl
theorem tK1_at (l : Fin 1024) : tK1 a z (ix2 0 l) = GS a z (SD 1 (UC a)) l := tKs a z _ _ l fun s r => tU1_at a s r l _ rfl
theorem tK0_at (l : Fin 1024) : tK0 a z (ix2 0 l) = GS a z (UC a) l := tKs a z _ _ l fun s r => tU_at a s r l _ rfl

theorem sitofp0 : (FloatOps.sitofp FTy.f32 0#32 : Ideal .f32) = 0 := by
  show (((0#32 : BitVec 32).toInt : ℝ) : EReal) = 0
  rw [show (0#32 : BitVec 32).toInt = 0 from by decide, Int.cast_zero, EReal.coe_zero]

theorem tK_at (r : Fin 8) (l : Fin 1024) : tK a z (ix2 r l) = GK a z (ix2 r l) := by
  pointwise [tK, GK]
  have e2 (q : Fin 1) : tK2 a z (ix2 q l) = GS a z (SD 2 (UC a)) l := by rw [Fin.eq_zero q]; exact tK2_at a z l
  have e1 (q : Fin 1) : tK1 a z (ix2 q l) = GS a z (SD 1 (UC a)) l := by rw [Fin.eq_zero q]; exact tK1_at a z l
  have e0 (q : Fin 1) : tK0 a z (ix2 q l) = GS a z (UC a) l := by rw [Fin.eq_zero q]; exact tK0_at a z l
  simp only [e2, e1, e0]
  rcases (by omega : r.val = 0 ∨ r.val = 1 ∨ r.val = 2 ∨ 3 ≤ r.val) with hr | hr | hr | hr
  · simp [hr]
  · simp [hr]
  · simp [hr]
  · rw [dif_neg (by omega), if_neg (by omega), if_neg (by omega), if_neg (by omega)]
    exact sitofp0

theorem tY_eq : tY a k = YC a k := funext fun i => by rw [eq_ix2 i]; exact tY_at a k _ _
theorem tG_eq : tG a z k = Conv.GU a z k := funext fun i => by rw [eq_ix2 i]; exact tG_at a z k _ _

theorem tB_eq : tB a z k = GB a z k := by
  funext i; rw [eq_ix2 i]
  pointwise [tB, GB]
  rw [tY_eq]
theorem tC_eq : tC a z k = GC a z k := by
  funext i; rw [eq_ix2 i]
  pointwise [tC, GC, Conv.HV, tG_eq]
theorem tH_eq : tH a z k = GH a z k := by
  funext i; rw [eq_ix2 i]
  pointwise [tH, GH, CV, tG_eq]
  exact mul_comm (_ : EReal) _
theorem tK_eq : tK a z = GK a z := funext fun i => by rw [eq_ix2 i]; exact tK_at a z _ _

end Cert.Reference3Ideal.ConvBwd

namespace Cert.ConvBwd

open Cert.Ffn Cert.Conv

theorem algebraic : Cert.algebraic_Kernel3Ideal_Reference3Ideal (hKernel3Ideal := Cert.Kernel3Ideal.Gen.facts)
    (hReference3Ideal := Cert.Reference3Ideal.Gen.facts) := by
  intro m g m' g' _ hag
  refine ⟨fun c => GB (Kernel3Ideal.ConvBwd.aA m c) (Kernel3Ideal.ConvBwd.aZ m c) (Kernel3Ideal.ConvBwd.aK m c),
    fun c => GC (Kernel3Ideal.ConvBwd.aA m c) (Kernel3Ideal.ConvBwd.aZ m c) (Kernel3Ideal.ConvBwd.aK m c),
    fun c => GH (Kernel3Ideal.ConvBwd.aA m c) (Kernel3Ideal.ConvBwd.aZ m c) (Kernel3Ideal.ConvBwd.aK m c),
    fun c => GK (Kernel3Ideal.ConvBwd.aA m c) (Kernel3Ideal.ConvBwd.aZ m c),
    (θ_run _ _ _).mono (fun r hr c => ?_) (Kernel3Ideal.Value.run_blocks (F := Ideal) m g),
    (θ_run _ _ _).mono (fun r hr c => ?_) (Reference3Ideal.Value.run (F := Ideal) m' g')⟩
  · obtain ⟨r0, r1, r2, r3, hargs⟩ := hr c
    exact ⟨r0.trans (Kernel3Ideal.ConvBwd.finalB m c), r1.trans (Kernel3Ideal.ConvBwd.finalC m c),
      r2.trans (Kernel3Ideal.ConvBwd.finalH m c), r3.trans (Kernel3Ideal.ConvBwd.finalK m c), hargs⟩
  · obtain ⟨a0, a1, a2⟩ := hag c
    obtain ⟨r0, r1, r2, r3, hargs⟩ := hr c
    have e (V : Mat 4096 3072 → Mat 4096 1024 → Mat 3 1024 → Mat 4096 1024) := congr (congr (congrArg V a0) a1) a2
    exact ⟨r0.trans ((Reference3Ideal.ConvBwd.tB_eq _ _ _).trans (e GB)), r1.trans ((Reference3Ideal.ConvBwd.tC_eq _ _ _).trans (e GC)),
      r2.trans ((Reference3Ideal.ConvBwd.tH_eq _ _ _).trans (e GH)), r3.trans ((Reference3Ideal.ConvBwd.tK_eq _ _).trans (congrArg₂ GK a0 a1)), hargs⟩

end Cert.ConvBwd

end
-- ==== Proof.AdamArr.lean ====
/- The arrays of the optimiser's update, each as a function of a weight matrix, its gradient and its two moments, entry by entry. -/
module

public import proofs.«01_k».proof.Proof.FfnArr

@[expose] public section

noncomputable section

open Idealize.ShloMosaic Idealize.ShloMosaic.TcCoe

namespace Cert.Adam

open Cert.Ffn

/-- The first moment, from the moment before and the gradient. -/
def uM (g m : EReal) : EReal := Ideal.ofBits .f32 0x3F666666#32 * m + Ideal.ofBits .f32 0x3DCCCCCD#32 * g

/-- The second moment, from the moment before and the gradient. -/
def uV (g v : EReal) : EReal := Ideal.ofBits .f32 0x3F7FBE77#32 * v + Ideal.ofBits .f32 0x3A83126F#32 * (g * g)

/-- The step, from the weight, the gradient and the two moments before. -/
def uD (w g m v : EReal) : EReal :=
  Ideal.ofBits .f32 0xBA83126F#32
    * (Ideal.div (Ideal.div (uM g m) (Ideal.ofBits .f32 0x3F26BD02#32))
        (Ideal.sqrt (Ideal.div (uV g v) (Ideal.ofBits .f32 0x3C231ACC#32)) + Ideal.ofBits .f32 0x322BCC77#32)
      + Ideal.ofBits .f32 0x3C23D70A#32 * w)

variable {r c : ℕ} (w g m v : Mat r c)

/-- The same of whole matrices. -/
def GM : Mat r c := fun i => uM (g i) (m i)
def GV : Mat r c := fun i => uV (g i) (v i)
def GD : Mat r c := fun i => uD (w i) (g i) (m i) (v i)

end Cert.Adam

end
-- ==== Proof.Adam7.lean ====
/- The optimiser's update of the feed-forward input weights: the launch and the reference compute the same update, entry by entry. -/
module

public import proofs.«01_k».proof.Proof.AdamArr
public import proofs.«01_k».proof.Proof.Gen.Kernel7Ideal.Value
public import proofs.«01_k».proof.Proof.Gen.Reference7Ideal.Run
public import proofs.«01_k».proof.Defs

@[expose] public section

set_option maxRecDepth 16384

noncomputable section

open Idealize.ShloMosaic Idealize.ShloMosaic.TcCoe Idealize.SL.Sem Idealize.ShloMosaic.StableHlo
open Idealize.ShloMosaic.Pipeline (Dat)

namespace Cert.Kernel7Ideal.Adam

open Cert.Kernel7Ideal Cert.Kernel7Ideal.Gen Cert.Ffn Cert.Adam

variable (m : (ℓ : Loc nD τ sig) → Buf (Elt Ideal) ℓ) (c : Dev nD)

/-- The four matrices the launch reads, of the program's arguments. -/
abbrev fW : Mat 2048 1408 := shapeCast _ (m ((c.tc : Thread nD τ).loc main_arg0)) Facts₀.shapeCasts_S2x1024x1408_S2048x1408
abbrev fG : Mat 2048 1408 := shapeCast _ (m ((c.tc : Thread nD τ).loc main_arg1)) Facts₀.shapeCasts_S2x1024x1408_S2048x1408
abbrev fM : Mat 2048 1408 := shapeCast _ (m ((c.tc : Thread nD τ).loc main_arg2)) Facts₀.shapeCasts_S2x1024x1408_S2048x1408
abbrev fV : Mat 2048 1408 := shapeCast _ (m ((c.tc : Thread nD τ).loc main_arg3)) Facts₀.shapeCasts_S2x1024x1408_S2048x1408

theorem inW : (V m c main_v0 : Mat 2048 1408) = fW m c := by
  unfold V
  simp only [hostOps0, List.flatten_cons, List.flatten_nil, List.append_nil, List.cons_append, List.nil_append]
  after_results_simp
  rfl
theorem inG : (V m c main_v1 : Mat 2048 1408) = fG m c := by
  unfold V
  simp only [hostOps0, List.flatten_cons, List.flatten_nil, List.append_nil, List.cons_append, List.nil_append]
  after_results_simp
  rfl
theorem inM : (V m c main_v2 : Mat 2048 1408) = fM m c := by
  unfold V
  simp only [hostOps0, List.flatten_cons, List.flatten_nil, List.append_nil, List.cons_append, List.nil_append]
  after_results_simp
  rfl
theorem inV : (V m c main_v3 : Mat 2048 1408) = fV m c := by
  unfold V
  simp only [hostOps0, List.flatten_cons, List.flatten_nil, List.append_nil, List.cons_append, List.nil_append]
  after_results_simp
  rfl

/-- Every window of the launch moves down the rows with the grid. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Result 1: the gradient, kept. -/
theorem finalGrad : (dats m 0 c).arrAt 4 cfg0.N = (V m c main_v1 : Mat 2048 1408) := by
  refine (dats m 0 c).arrAt_eq_of_covers 4 _ (by decide +kernel) fun t _ y => ?_
  blk_simp
  rw [after0_4]; frame_out
  pointwise [k0_pay1]
  blk_point [iblk, idx t]

/-- Result 2: the step. -/
theorem finalStep : (dats m 0 c).arrAt 5 cfg0.N = (GD (V m c main_v0) (V m c main_v1) (V m c main_v2) (V m c main_v3) : Mat 2048 1408) := by
  refine (dats m 0 c).arrAt_eq_of_covers 5 _ (by decide +kernel) fun t _ y => ?_
  blk_simp
  rw [after0_5]; frame_out
  pointwise [k0_pay4, k0_pay3, k0_pay2, k0_pay1, GD, uD, uM, uV]
  blk_point [iblk, idx t]

/-- Result 3: the first moment. -/
theorem finalMom : (dats m 0 c).arrAt 6 cfg0.N = (GM (V m c main_v1) (V m c main_v2) : Mat 2048 1408) := by
  refine (dats m 0 c).arrAt_eq_of_covers 6 _ (by decide +kernel) fun t _ y => ?_
  blk_simp
  rw [after0_6]; frame_out
  pointwise [k0_pay2, k0_pay1, GM, uM]
  blk_point [iblk, idx t]

/-- Result 4: the second moment. -/
theorem finalSq : (dats m 0 c).arrAt 7 cfg0.N = (GV (V m c main_v1) (V m c main_v3) : Mat 2048 1408) := by
  refine (dats m 0 c).arrAt_eq_of_covers 7 _ (by decide +kernel) fun t _ y => ?_
  blk_simp
  rw [after0_7]; frame_out
  pointwise [k0_pay3, k0_pay1, GV, uV]
  blk_point [iblk, idx t]

end Cert.Kernel7Ideal.Adam

namespace Cert.Reference7Ideal.Adam

open Cert.Reference7Ideal Facts₀ Facts Cert.Ffn Cert.Adam

variable (w : FVec Ideal S2x1024x1408 .f32) (g : FVec Ideal S2x1024x1408 .f32) (m : FVec Ideal S2x1024x1408 .f32) (v : FVec Ideal S2x1024x1408 .f32)

theorem step : (shapeCast _ (mulf (broadcastInDim S2x1024x1408 ![] bcast_S_S2x1024x1408 (constant S_ .f32 0xBA83126F#32)) (addf (Host.divf (Host.divf (addf (mulf (broadcastInDim S2x1024x1408 ![] bcast_S_S2x1024x1408 (constant S_ .f32 0x3F666666#32)) m) (mulf (broadcastInDim S2x1024x1408 ![] bcast_S_S2x1024x1408 (constant S_ .f32 0x3DCCCCCD#32)) g)) (broadcastInDim S2x1024x1408 ![] bcast_S_S2x1024x1408 (constant S_ .f32 0x3F26BD02#32))) (addf (Host.sqrt (Host.divf (addf (mulf (broadcastInDim S2x1024x1408 ![] bcast_S_S2x1024x1408 (constant S_ .f32 0x3F7FBE77#32)) v) (mulf (broadcastInDim S2x1024x1408 ![] bcast_S_S2x1024x1408 (constant S_ .f32 0x3A83126F#32)) (mulf g g))) (broadcastInDim S2x1024x1408 ![] bcast_S_S2x1024x1408 (constant S_ .f32 0x3C231ACC#32)))) (broadcastInDim S2x1024x1408 ![] bcast_S_S2x1024x1408 (constant S_ .f32 0x322BCC77#32)))) (mulf (broadcastInDim S2x1024x1408 ![] bcast_S_S2x1024x1408 (constant S_ .f32 0x3C23D70A#32)) w))) shapeCasts_S2x1024x1408_S2048x1408 : Mat 2048 1408) = GD (shapeCast _ w shapeCasts_S2x1024x1408_S2048x1408) (shapeCast _ g shapeCasts_S2x1024x1408_S2048x1408) (shapeCast _ m shapeCasts_S2x1024x1408_S2048x1408) (shapeCast _ v shapeCasts_S2x1024x1408_S2048x1408) := by
  funext i
  pointwise [GD, uD, uM, uV]

theorem mom : (shapeCast _ (addf (mulf (broadcastInDim S2x1024x1408 ![] bcast_S_S2x1024x1408 (constant S_ .f32 0x3F666666#32)) m) (mulf (broadcastInDim S2x1024x1408 ![] bcast_S_S2x1024x1408 (constant S_ .f32 0x3DCCCCCD#32)) g)) shapeCasts_S2x1024x1408_S2048x1408 : Mat 2048 1408) = GM (shapeCast _ g shapeCasts_S2x1024x1408_S2048x1408) (shapeCast _ m shapeCasts_S2x1024x1408_S2048x1408) := by
  funext i
  pointwise [GM, uM]

theorem sq : (shapeCast _ (addf (mulf (broadcastInDim S2x1024x1408 ![] bcast_S_S2x1024x1408 (constant S_ .f32 0x3F7FBE77#32)) v) (mulf (broadcastInDim S2x1024x1408 ![] bcast_S_S2x1024x1408 (constant S_ .f32 0x3A83126F#32)) (mulf g g))) shapeCasts_S2x1024x1408_S2048x1408 : Mat 2048 1408) = GV (shapeCast _ g shapeCasts_S2x1024x1408_S2048x1408) (shapeCast _ v shapeCasts_S2x1024x1408_S2048x1408) := by
  funext i
  pointwise [GV, uV]

end Cert.Reference7Ideal.Adam

namespace Cert.Adam7

open Cert.Kernel7Ideal.Adam Cert.Reference7Ideal.Adam Cert.Adam

/-- The four results agree with the reference's. -/
theorem algebraic : Cert.algebraic_Kernel7Ideal_Reference7Ideal (hKernel7Ideal := Cert.Kernel7Ideal.Gen.facts) (hReference7Ideal := Cert.Reference7Ideal.Gen.facts) := by
  intro m g m' g' _ hag
  refine ⟨fun c => fG m c, fun c => GD (fW m c) (fG m c) (fM m c) (fV m c), fun c => GM (fG m c) (fM m c), fun c => GV (fG m c) (fV m c),
    (θ_run _ _ _).mono (fun r hr c => ?_) (Cert.Kernel7Ideal.Value.run_blocks (F := Ideal) m g),
    (θ_run _ _ _).mono (fun r hr c => ?_) (Cert.Reference7Ideal.Value.run (F := Ideal) m' g')⟩
  · obtain ⟨r0, r1, r2, r3, hargs⟩ := hr c
    refine ⟨r0.trans ?_, r1.trans ?_, r2.trans ?_, r3.trans ?_, hargs⟩
    · exact (finalGrad m c).trans (inG m c)
    · rw [finalStep m c, inW m c, inG m c, inM m c, inV m c]
    · rw [finalMom m c, inG m c, inM m c]
    · rw [finalSq m c, inG m c, inV m c]
  · obtain ⟨r0, r1, r2, r3, hargs⟩ := hr c
    obtain ⟨a0, a1, a2, a3⟩ := hag c
    refine ⟨r0.trans ?_, r1.trans ?_, r2.trans ?_, r3.trans ?_, hargs⟩
    · rw [a1]
    · rw [a0, a1, a2, a3]; exact step _ _ _ _
    · rw [a1, a2]; exact mom _ _
    · rw [a1, a3]; exact sq _ _

end Cert.Adam7

end
-- ==== Proof.Adam8.lean ====
/- The optimiser's update of the feed-forward output weights: the launch and the reference compute the same update, entry by entry. -/
module

public import proofs.«01_k».proof.Proof.AdamArr
public import proofs.«01_k».proof.Proof.Gen.Kernel8Ideal.Value
public import proofs.«01_k».proof.Proof.Gen.Reference8Ideal.Run
public import proofs.«01_k».proof.Defs

@[expose] public section

set_option maxRecDepth 16384

noncomputable section

open Idealize.ShloMosaic Idealize.ShloMosaic.TcCoe Idealize.SL.Sem Idealize.ShloMosaic.StableHlo
open Idealize.ShloMosaic.Pipeline (Dat)

namespace Cert.Kernel8Ideal.Adam

open Cert.Kernel8Ideal Cert.Kernel8Ideal.Gen Cert.Ffn Cert.Adam

variable (m : (ℓ : Loc nD τ sig) → Buf (Elt Ideal) ℓ) (c : Dev nD)

/-- The four matrices the launch reads, of the program's arguments. -/
abbrev fW : Mat 1408 1024 := shapeCast _ (m ((c.tc : Thread nD τ).loc main_arg0)) Facts₀.shapeCasts_S2x704x1024_S1408x1024
abbrev fG : Mat 1408 1024 := shapeCast _ (m ((c.tc : Thread nD τ).loc main_arg1)) Facts₀.shapeCasts_S2x704x1024_S1408x1024
abbrev fM : Mat 1408 1024 := shapeCast _ (m ((c.tc : Thread nD τ).loc main_arg2)) Facts₀.shapeCasts_S2x704x1024_S1408x1024
abbrev fV : Mat 1408 1024 := shapeCast _ (m ((c.tc : Thread nD τ).loc main_arg3)) Facts₀.shapeCasts_S2x704x1024_S1408x1024

theorem inW : (V m c main_v0 : Mat 1408 1024) = fW m c := by
  unfold V
  simp only [hostOps0, List.flatten_cons, List.flatten_nil, List.append_nil, List.cons_append, List.nil_append]
  after_results_simp
  rfl
theorem inG : (V m c main_v1 : Mat 1408 1024) = fG m c := by
  unfold V
  simp only [hostOps0, List.flatten_cons, List.flatten_nil, List.append_nil, List.cons_append, List.nil_append]
  after_results_simp
  rfl
theorem inM : (V m c main_v2 : Mat 1408 1024) = fM m c := by
  unfold V
  simp only [hostOps0, List.flatten_cons, List.flatten_nil, List.append_nil, List.cons_append, List.nil_append]
  after_results_simp
  rfl
theorem inV : (V m c main_v3 : Mat 1408 1024) = fV m c := by
  unfold V
  simp only [hostOps0, List.flatten_cons, List.flatten_nil, List.append_nil, List.cons_append, List.nil_append]
  after_results_simp
  rfl

/-- Every window of the launch moves down the rows with the grid. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Result 1: the gradient, kept. -/
theorem finalGrad : (dats m 0 c).arrAt 4 cfg0.N = (V m c main_v1 : Mat 1408 1024) := by
  refine (dats m 0 c).arrAt_eq_of_covers 4 _ (by decide +kernel) fun t _ y => ?_
  blk_simp
  rw [after0_4]; frame_out
  pointwise [k0_pay1]
  blk_point [iblk, idx t]

/-- Result 2: the step. -/
theorem finalStep : (dats m 0 c).arrAt 5 cfg0.N = (GD (V m c main_v0) (V m c main_v1) (V m c main_v2) (V m c main_v3) : Mat 1408 1024) := by
  refine (dats m 0 c).arrAt_eq_of_covers 5 _ (by decide +kernel) fun t _ y => ?_
  blk_simp
  rw [after0_5]; frame_out
  pointwise [k0_pay4, k0_pay3, k0_pay2, k0_pay1, GD, uD, uM, uV]
  blk_point [iblk, idx t]

/-- Result 3: the first moment. -/
theorem finalMom : (dats m 0 c).arrAt 6 cfg0.N = (GM (V m c main_v1) (V m c main_v2) : Mat 1408 1024) := by
  refine (dats m 0 c).arrAt_eq_of_covers 6 _ (by decide +kernel) fun t _ y => ?_
  blk_simp
  rw [after0_6]; frame_out
  pointwise [k0_pay2, k0_pay1, GM, uM]
  blk_point [iblk, idx t]

/-- Result 4: the second moment. -/
theorem finalSq : (dats m 0 c).arrAt 7 cfg0.N = (GV (V m c main_v1) (V m c main_v3) : Mat 1408 1024) := by
  refine (dats m 0 c).arrAt_eq_of_covers 7 _ (by decide +kernel) fun t _ y => ?_
  blk_simp
  rw [after0_7]; frame_out
  pointwise [k0_pay3, k0_pay1, GV, uV]
  blk_point [iblk, idx t]

end Cert.Kernel8Ideal.Adam

namespace Cert.Reference8Ideal.Adam

open Cert.Reference8Ideal Facts₀ Facts Cert.Ffn Cert.Adam

variable (w : FVec Ideal S2x704x1024 .f32) (g : FVec Ideal S2x704x1024 .f32) (m : FVec Ideal S2x704x1024 .f32) (v : FVec Ideal S2x704x1024 .f32)

theorem step : (shapeCast _ (mulf (broadcastInDim S2x704x1024 ![] bcast_S_S2x704x1024 (constant S_ .f32 0xBA83126F#32)) (addf (Host.divf (Host.divf (addf (mulf (broadcastInDim S2x704x1024 ![] bcast_S_S2x704x1024 (constant S_ .f32 0x3F666666#32)) m) (mulf (broadcastInDim S2x704x1024 ![] bcast_S_S2x704x1024 (constant S_ .f32 0x3DCCCCCD#32)) g)) (broadcastInDim S2x704x1024 ![] bcast_S_S2x704x1024 (constant S_ .f32 0x3F26BD02#32))) (addf (Host.sqrt (Host.divf (addf (mulf (broadcastInDim S2x704x1024 ![] bcast_S_S2x704x1024 (constant S_ .f32 0x3F7FBE77#32)) v) (mulf (broadcastInDim S2x704x1024 ![] bcast_S_S2x704x1024 (constant S_ .f32 0x3A83126F#32)) (mulf g g))) (broadcastInDim S2x704x1024 ![] bcast_S_S2x704x1024 (constant S_ .f32 0x3C231ACC#32)))) (broadcastInDim S2x704x1024 ![] bcast_S_S2x704x1024 (constant S_ .f32 0x322BCC77#32)))) (mulf (broadcastInDim S2x704x1024 ![] bcast_S_S2x704x1024 (constant S_ .f32 0x3C23D70A#32)) w))) shapeCasts_S2x704x1024_S1408x1024 : Mat 1408 1024) = GD (shapeCast _ w shapeCasts_S2x704x1024_S1408x1024) (shapeCast _ g shapeCasts_S2x704x1024_S1408x1024) (shapeCast _ m shapeCasts_S2x704x1024_S1408x1024) (shapeCast _ v shapeCasts_S2x704x1024_S1408x1024) := by
  funext i
  pointwise [GD, uD, uM, uV]

theorem mom : (shapeCast _ (addf (mulf (broadcastInDim S2x704x1024 ![] bcast_S_S2x704x1024 (constant S_ .f32 0x3F666666#32)) m) (mulf (broadcastInDim S2x704x1024 ![] bcast_S_S2x704x1024 (constant S_ .f32 0x3DCCCCCD#32)) g)) shapeCasts_S2x704x1024_S1408x1024 : Mat 1408 1024) = GM (shapeCast _ g shapeCasts_S2x704x1024_S1408x1024) (shapeCast _ m shapeCasts_S2x704x1024_S1408x1024) := by
  funext i
  pointwise [GM, uM]

theorem sq : (shapeCast _ (addf (mulf (broadcastInDim S2x704x1024 ![] bcast_S_S2x704x1024 (constant S_ .f32 0x3F7FBE77#32)) v) (mulf (broadcastInDim S2x704x1024 ![] bcast_S_S2x704x1024 (constant S_ .f32 0x3A83126F#32)) (mulf g g))) shapeCasts_S2x704x1024_S1408x1024 : Mat 1408 1024) = GV (shapeCast _ g shapeCasts_S2x704x1024_S1408x1024) (shapeCast _ v shapeCasts_S2x704x1024_S1408x1024) := by
  funext i
  pointwise [GV, uV]

end Cert.Reference8Ideal.Adam

namespace Cert.Adam8

open Cert.Kernel8Ideal.Adam Cert.Reference8Ideal.Adam Cert.Adam

/-- The four results agree with the reference's. -/
theorem algebraic : Cert.algebraic_Kernel8Ideal_Reference8Ideal (hKernel8Ideal := Cert.Kernel8Ideal.Gen.facts) (hReference8Ideal := Cert.Reference8Ideal.Gen.facts) := by
  intro m g m' g' _ hag
  refine ⟨fun c => fG m c, fun c => GD (fW m c) (fG m c) (fM m c) (fV m c), fun c => GM (fG m c) (fM m c), fun c => GV (fG m c) (fV m c),
    (θ_run _ _ _).mono (fun r hr c => ?_) (Cert.Kernel8Ideal.Value.run_blocks (F := Ideal) m g),
    (θ_run _ _ _).mono (fun r hr c => ?_) (Cert.Reference8Ideal.Value.run (F := Ideal) m' g')⟩
  · obtain ⟨r0, r1, r2, r3, hargs⟩ := hr c
    refine ⟨r0.trans ?_, r1.trans ?_, r2.trans ?_, r3.trans ?_, hargs⟩
    · exact (finalGrad m c).trans (inG m c)
    · rw [finalStep m c, inW m c, inG m c, inM m c, inV m c]
    · rw [finalMom m c, inG m c, inM m c]
    · rw [finalSq m c, inG m c, inV m c]
  · obtain ⟨r0, r1, r2, r3, hargs⟩ := hr c
    obtain ⟨a0, a1, a2, a3⟩ := hag c
    refine ⟨r0.trans ?_, r1.trans ?_, r2.trans ?_, r3.trans ?_, hargs⟩
    · rw [a1]
    · rw [a0, a1, a2, a3]; exact step _ _ _ _
    · rw [a1, a2]; exact mom _ _
    · rw [a1, a3]; exact sq _ _

end Cert.Adam8

end
-- ==== Proof.Adam9.lean ====
/- The optimiser's update of the short convolution's input weights: the launch and the reference compute the same update, entry by entry. -/
module

public import proofs.«01_k».proof.Proof.AdamArr
public import proofs.«01_k».proof.Proof.Gen.Kernel9Ideal.Value
public import proofs.«01_k».proof.Proof.Gen.Reference9Ideal.Run
public import proofs.«01_k».proof.Defs

@[expose] public section

set_option maxRecDepth 16384

noncomputable section

open Idealize.ShloMosaic Idealize.ShloMosaic.TcCoe Idealize.SL.Sem Idealize.ShloMosaic.StableHlo
open Idealize.ShloMosaic.Pipeline (Dat)

namespace Cert.Kernel9Ideal.Adam

open Cert.Kernel9Ideal Cert.Kernel9Ideal.Gen Cert.Ffn Cert.Adam

variable (m : (ℓ : Loc nD τ sig) → Buf (Elt Ideal) ℓ) (c : Dev nD)

/-- The four matrices the launch reads, of the program's arguments. -/
abbrev fW : Mat 1024 768 := shapeCast _ (m ((c.tc : Thread nD τ).loc main_arg0)) Facts₀.shapeCasts_S1x1024x768_S1024x768
abbrev fG : Mat 1024 768 := shapeCast _ (m ((c.tc : Thread nD τ).loc main_arg1)) Facts₀.shapeCasts_S1x1024x768_S1024x768
abbrev fM : Mat 1024 768 := shapeCast _ (m ((c.tc : Thread nD τ).loc main_arg2)) Facts₀.shapeCasts_S1x1024x768_S1024x768
abbrev fV : Mat 1024 768 := shapeCast _ (m ((c.tc : Thread nD τ).loc main_arg3)) Facts₀.shapeCasts_S1x1024x768_S1024x768

theorem inW : (V m c main_v0 : Mat 1024 768) = fW m c := by
  unfold V
  simp only [hostOps0, List.flatten_cons, List.flatten_nil, List.append_nil, List.cons_append, List.nil_append]
  after_results_simp
  rfl
theorem inG : (V m c main_v1 : Mat 1024 768) = fG m c := by
  unfold V
  simp only [hostOps0, List.flatten_cons, List.flatten_nil, List.append_nil, List.cons_append, List.nil_append]
  after_results_simp
  rfl
theorem inM : (V m c main_v2 : Mat 1024 768) = fM m c := by
  unfold V
  simp only [hostOps0, List.flatten_cons, List.flatten_nil, List.append_nil, List.cons_append, List.nil_append]
  after_results_simp
  rfl
theorem inV : (V m c main_v3 : Mat 1024 768) = fV m c := by
  unfold V
  simp only [hostOps0, List.flatten_cons, List.flatten_nil, List.append_nil, List.cons_append, List.nil_append]
  after_results_simp
  rfl

/-- Every window of the launch moves down the rows with the grid. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Result 1: the gradient, kept. -/
theorem finalGrad : (dats m 0 c).arrAt 4 cfg0.N = (V m c main_v1 : Mat 1024 768) := by
  refine (dats m 0 c).arrAt_eq_of_covers 4 _ (by decide +kernel) fun t _ y => ?_
  blk_simp
  rw [after0_4]; frame_out
  pointwise [k0_pay1]
  blk_point [iblk, idx t]

/-- Result 2: the step. -/
theorem finalStep : (dats m 0 c).arrAt 5 cfg0.N = (GD (V m c main_v0) (V m c main_v1) (V m c main_v2) (V m c main_v3) : Mat 1024 768) := by
  refine (dats m 0 c).arrAt_eq_of_covers 5 _ (by decide +kernel) fun t _ y => ?_
  blk_simp
  rw [after0_5]; frame_out
  pointwise [k0_pay4, k0_pay3, k0_pay2, k0_pay1, GD, uD, uM, uV]
  blk_point [iblk, idx t]

/-- Result 3: the first moment. -/
theorem finalMom : (dats m 0 c).arrAt 6 cfg0.N = (GM (V m c main_v1) (V m c main_v2) : Mat 1024 768) := by
  refine (dats m 0 c).arrAt_eq_of_covers 6 _ (by decide +kernel) fun t _ y => ?_
  blk_simp
  rw [after0_6]; frame_out
  pointwise [k0_pay2, k0_pay1, GM, uM]
  blk_point [iblk, idx t]

/-- Result 4: the second moment. -/
theorem finalSq : (dats m 0 c).arrAt 7 cfg0.N = (GV (V m c main_v1) (V m c main_v3) : Mat 1024 768) := by
  refine (dats m 0 c).arrAt_eq_of_covers 7 _ (by decide +kernel) fun t _ y => ?_
  blk_simp
  rw [after0_7]; frame_out
  pointwise [k0_pay3, k0_pay1, GV, uV]
  blk_point [iblk, idx t]

end Cert.Kernel9Ideal.Adam

namespace Cert.Reference9Ideal.Adam

open Cert.Reference9Ideal Facts₀ Facts Cert.Ffn Cert.Adam

variable (w : FVec Ideal S1x1024x768 .f32) (g : FVec Ideal S1x1024x768 .f32) (m : FVec Ideal S1x1024x768 .f32) (v : FVec Ideal S1x1024x768 .f32)

theorem step : (shapeCast _ (mulf (broadcastInDim S1x1024x768 ![] bcast_S_S1x1024x768 (constant S_ .f32 0xBA83126F#32)) (addf (Host.divf (Host.divf (addf (mulf (broadcastInDim S1x1024x768 ![] bcast_S_S1x1024x768 (constant S_ .f32 0x3F666666#32)) m) (mulf (broadcastInDim S1x1024x768 ![] bcast_S_S1x1024x768 (constant S_ .f32 0x3DCCCCCD#32)) g)) (broadcastInDim S1x1024x768 ![] bcast_S_S1x1024x768 (constant S_ .f32 0x3F26BD02#32))) (addf (Host.sqrt (Host.divf (addf (mulf (broadcastInDim S1x1024x768 ![] bcast_S_S1x1024x768 (constant S_ .f32 0x3F7FBE77#32)) v) (mulf (broadcastInDim S1x1024x768 ![] bcast_S_S1x1024x768 (constant S_ .f32 0x3A83126F#32)) (mulf g g))) (broadcastInDim S1x1024x768 ![] bcast_S_S1x1024x768 (constant S_ .f32 0x3C231ACC#32)))) (broadcastInDim S1x1024x768 ![] bcast_S_S1x1024x768 (constant S_ .f32 0x322BCC77#32)))) (mulf (broadcastInDim S1x1024x768 ![] bcast_S_S1x1024x768 (constant S_ .f32 0x3C23D70A#32)) w))) shapeCasts_S1x1024x768_S1024x768 : Mat 1024 768) = GD (shapeCast _ w shapeCasts_S1x1024x768_S1024x768) (shapeCast _ g shapeCasts_S1x1024x768_S1024x768) (shapeCast _ m shapeCasts_S1x1024x768_S1024x768) (shapeCast _ v shapeCasts_S1x1024x768_S1024x768) := by
  funext i
  pointwise [GD, uD, uM, uV]

theorem mom : (shapeCast _ (addf (mulf (broadcastInDim S1x1024x768 ![] bcast_S_S1x1024x768 (constant S_ .f32 0x3F666666#32)) m) (mulf (broadcastInDim S1x1024x768 ![] bcast_S_S1x1024x768 (constant S_ .f32 0x3DCCCCCD#32)) g)) shapeCasts_S1x1024x768_S1024x768 : Mat 1024 768) = GM (shapeCast _ g shapeCasts_S1x1024x768_S1024x768) (shapeCast _ m shapeCasts_S1x1024x768_S1024x768) := by
  funext i
  pointwise [GM, uM]

theorem sq : (shapeCast _ (addf (mulf (broadcastInDim S1x1024x768 ![] bcast_S_S1x1024x768 (constant S_ .f32 0x3F7FBE77#32)) v) (mulf (broadcastInDim S1x1024x768 ![] bcast_S_S1x1024x768 (constant S_ .f32 0x3A83126F#32)) (mulf g g))) shapeCasts_S1x1024x768_S1024x768 : Mat 1024 768) = GV (shapeCast _ g shapeCasts_S1x1024x768_S1024x768) (shapeCast _ v shapeCasts_S1x1024x768_S1024x768) := by
  funext i
  pointwise [GV, uV]

end Cert.Reference9Ideal.Adam

namespace Cert.Adam9

open Cert.Kernel9Ideal.Adam Cert.Reference9Ideal.Adam Cert.Adam

/-- The four results agree with the reference's. -/
theorem algebraic : Cert.algebraic_Kernel9Ideal_Reference9Ideal (hKernel9Ideal := Cert.Kernel9Ideal.Gen.facts) (hReference9Ideal := Cert.Reference9Ideal.Gen.facts) := by
  intro m g m' g' _ hag
  refine ⟨fun c => fG m c, fun c => GD (fW m c) (fG m c) (fM m c) (fV m c), fun c => GM (fG m c) (fM m c), fun c => GV (fG m c) (fV m c),
    (θ_run _ _ _).mono (fun r hr c => ?_) (Cert.Kernel9Ideal.Value.run_blocks (F := Ideal) m g),
    (θ_run _ _ _).mono (fun r hr c => ?_) (Cert.Reference9Ideal.Value.run (F := Ideal) m' g')⟩
  · obtain ⟨r0, r1, r2, r3, hargs⟩ := hr c
    refine ⟨r0.trans ?_, r1.trans ?_, r2.trans ?_, r3.trans ?_, hargs⟩
    · exact (finalGrad m c).trans (inG m c)
    · rw [finalStep m c, inW m c, inG m c, inM m c, inV m c]
    · rw [finalMom m c, inG m c, inM m c]
    · rw [finalSq m c, inG m c, inV m c]
  · obtain ⟨r0, r1, r2, r3, hargs⟩ := hr c
    obtain ⟨a0, a1, a2, a3⟩ := hag c
    refine ⟨r0.trans ?_, r1.trans ?_, r2.trans ?_, r3.trans ?_, hargs⟩
    · rw [a1]
    · rw [a0, a1, a2, a3]; exact step _ _ _ _
    · rw [a1, a2]; exact mom _ _
    · rw [a1, a3]; exact sq _ _

end Cert.Adam9

end
-- ==== Proof.Adam10.lean ====
/- The optimiser's update of the mixing branches' output weights: the launch and the reference compute the same update, entry by entry. -/
module

public import proofs.«01_k».proof.Proof.AdamArr
public import proofs.«01_k».proof.Proof.Gen.Kernel10Ideal.Value
public import proofs.«01_k».proof.Proof.Gen.Reference10Ideal.Run
public import proofs.«01_k».proof.Defs

@[expose] public section

set_option maxRecDepth 16384

noncomputable section

open Idealize.ShloMosaic Idealize.ShloMosaic.TcCoe Idealize.SL.Sem Idealize.ShloMosaic.StableHlo
open Idealize.ShloMosaic.Pipeline (Dat)

namespace Cert.Kernel10Ideal.Adam

open Cert.Kernel10Ideal Cert.Kernel10Ideal.Gen Cert.Ffn Cert.Adam

variable (m : (ℓ : Loc nD τ sig) → Buf (Elt Ideal) ℓ) (c : Dev nD)

/-- The four matrices the launch reads, of the program's arguments. -/
abbrev fW : Mat 256 1024 := shapeCast _ (m ((c.tc : Thread nD τ).loc main_arg0)) Facts₀.shapeCasts_S1x256x1024_S256x1024
abbrev fG : Mat 256 1024 := shapeCast _ (m ((c.tc : Thread nD τ).loc main_arg1)) Facts₀.shapeCasts_S1x256x1024_S256x1024
abbrev fM : Mat 256 1024 := shapeCast _ (m ((c.tc : Thread nD τ).loc main_arg2)) Facts₀.shapeCasts_S1x256x1024_S256x1024
abbrev fV : Mat 256 1024 := shapeCast _ (m ((c.tc : Thread nD τ).loc main_arg3)) Facts₀.shapeCasts_S1x256x1024_S256x1024

theorem inW : (V m c main_v0 : Mat 256 1024) = fW m c := by
  unfold V
  simp only [hostOps0, List.flatten_cons, List.flatten_nil, List.append_nil, List.cons_append, List.nil_append]
  after_results_simp
  rfl
theorem inG : (V m c main_v1 : Mat 256 1024) = fG m c := by
  unfold V
  simp only [hostOps0, List.flatten_cons, List.flatten_nil, List.append_nil, List.cons_append, List.nil_append]
  after_results_simp
  rfl
theorem inM : (V m c main_v2 : Mat 256 1024) = fM m c := by
  unfold V
  simp only [hostOps0, List.flatten_cons, List.flatten_nil, List.append_nil, List.cons_append, List.nil_append]
  after_results_simp
  rfl
theorem inV : (V m c main_v3 : Mat 256 1024) = fV m c := by
  unfold V
  simp only [hostOps0, List.flatten_cons, List.flatten_nil, List.append_nil, List.cons_append, List.nil_append]
  after_results_simp
  rfl

/-- Every window of the launch moves down the rows with the grid. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Result 1: the gradient, kept. -/
theorem finalGrad : (dats m 0 c).arrAt 4 cfg0.N = (V m c main_v1 : Mat 256 1024) := by
  refine (dats m 0 c).arrAt_eq_of_covers 4 _ (by decide +kernel) fun t _ y => ?_
  blk_simp
  rw [after0_4]; frame_out
  pointwise [k0_pay1]
  blk_point [iblk, idx t]

/-- Result 2: the step. -/
theorem finalStep : (dats m 0 c).arrAt 5 cfg0.N = (GD (V m c main_v0) (V m c main_v1) (V m c main_v2) (V m c main_v3) : Mat 256 1024) := by
  refine (dats m 0 c).arrAt_eq_of_covers 5 _ (by decide +kernel) fun t _ y => ?_
  blk_simp
  rw [after0_5]; frame_out
  pointwise [k0_pay4, k0_pay3, k0_pay2, k0_pay1, GD, uD, uM, uV]
  blk_point [iblk, idx t]

/-- Result 3: the first moment. -/
theorem finalMom : (dats m 0 c).arrAt 6 cfg0.N = (GM (V m c main_v1) (V m c main_v2) : Mat 256 1024) := by
  refine (dats m 0 c).arrAt_eq_of_covers 6 _ (by decide +kernel) fun t _ y => ?_
  blk_simp
  rw [after0_6]; frame_out
  pointwise [k0_pay2, k0_pay1, GM, uM]
  blk_point [iblk, idx t]

/-- Result 4: the second moment. -/
theorem finalSq : (dats m 0 c).arrAt 7 cfg0.N = (GV (V m c main_v1) (V m c main_v3) : Mat 256 1024) := by
  refine (dats m 0 c).arrAt_eq_of_covers 7 _ (by decide +kernel) fun t _ y => ?_
  blk_simp
  rw [after0_7]; frame_out
  pointwise [k0_pay3, k0_pay1, GV, uV]
  blk_point [iblk, idx t]

end Cert.Kernel10Ideal.Adam

namespace Cert.Reference10Ideal.Adam

open Cert.Reference10Ideal Facts₀ Facts Cert.Ffn Cert.Adam

variable (w : FVec Ideal S1x256x1024 .f32) (g : FVec Ideal S1x256x1024 .f32) (m : FVec Ideal S1x256x1024 .f32) (v : FVec Ideal S1x256x1024 .f32)

theorem step : (shapeCast _ (mulf (broadcastInDim S1x256x1024 ![] bcast_S_S1x256x1024 (constant S_ .f32 0xBA83126F#32)) (addf (Host.divf (Host.divf (addf (mulf (broadcastInDim S1x256x1024 ![] bcast_S_S1x256x1024 (constant S_ .f32 0x3F666666#32)) m) (mulf (broadcastInDim S1x256x1024 ![] bcast_S_S1x256x1024 (constant S_ .f32 0x3DCCCCCD#32)) g)) (broadcastInDim S1x256x1024 ![] bcast_S_S1x256x1024 (constant S_ .f32 0x3F26BD02#32))) (addf (Host.sqrt (Host.divf (addf (mulf (broadcastInDim S1x256x1024 ![] bcast_S_S1x256x1024 (constant S_ .f32 0x3F7FBE77#32)) v) (mulf (broadcastInDim S1x256x1024 ![] bcast_S_S1x256x1024 (constant S_ .f32 0x3A83126F#32)) (mulf g g))) (broadcastInDim S1x256x1024 ![] bcast_S_S1x256x1024 (constant S_ .f32 0x3C231ACC#32)))) (broadcastInDim S1x256x1024 ![] bcast_S_S1x256x1024 (constant S_ .f32 0x322BCC77#32)))) (mulf (broadcastInDim S1x256x1024 ![] bcast_S_S1x256x1024 (constant S_ .f32 0x3C23D70A#32)) w))) shapeCasts_S1x256x1024_S256x1024 : Mat 256 1024) = GD (shapeCast _ w shapeCasts_S1x256x1024_S256x1024) (shapeCast _ g shapeCasts_S1x256x1024_S256x1024) (shapeCast _ m shapeCasts_S1x256x1024_S256x1024) (shapeCast _ v shapeCasts_S1x256x1024_S256x1024) := by
  funext i
  pointwise [GD, uD, uM, uV]

theorem mom : (shapeCast _ (addf (mulf (broadcastInDim S1x256x1024 ![] bcast_S_S1x256x1024 (constant S_ .f32 0x3F666666#32)) m) (mulf (broadcastInDim S1x256x1024 ![] bcast_S_S1x256x1024 (constant S_ .f32 0x3DCCCCCD#32)) g)) shapeCasts_S1x256x1024_S256x1024 : Mat 256 1024) = GM (shapeCast _ g shapeCasts_S1x256x1024_S256x1024) (shapeCast _ m shapeCasts_S1x256x1024_S256x1024) := by
  funext i
  pointwise [GM, uM]

theorem sq : (shapeCast _ (addf (mulf (broadcastInDim S1x256x1024 ![] bcast_S_S1x256x1024 (constant S_ .f32 0x3F7FBE77#32)) v) (mulf (broadcastInDim S1x256x1024 ![] bcast_S_S1x256x1024 (constant S_ .f32 0x3A83126F#32)) (mulf g g))) shapeCasts_S1x256x1024_S256x1024 : Mat 256 1024) = GV (shapeCast _ g shapeCasts_S1x256x1024_S256x1024) (shapeCast _ v shapeCasts_S1x256x1024_S256x1024) := by
  funext i
  pointwise [GV, uV]

end Cert.Reference10Ideal.Adam

namespace Cert.Adam10

open Cert.Kernel10Ideal.Adam Cert.Reference10Ideal.Adam Cert.Adam

/-- The four results agree with the reference's. -/
theorem algebraic : Cert.algebraic_Kernel10Ideal_Reference10Ideal (hKernel10Ideal := Cert.Kernel10Ideal.Gen.facts) (hReference10Ideal := Cert.Reference10Ideal.Gen.facts) := by
  intro m g m' g' _ hag
  refine ⟨fun c => fG m c, fun c => GD (fW m c) (fG m c) (fM m c) (fV m c), fun c => GM (fG m c) (fM m c), fun c => GV (fG m c) (fV m c),
    (θ_run _ _ _).mono (fun r hr c => ?_) (Cert.Kernel10Ideal.Value.run_blocks (F := Ideal) m g),
    (θ_run _ _ _).mono (fun r hr c => ?_) (Cert.Reference10Ideal.Value.run (F := Ideal) m' g')⟩
  · obtain ⟨r0, r1, r2, r3, hargs⟩ := hr c
    refine ⟨r0.trans ?_, r1.trans ?_, r2.trans ?_, r3.trans ?_, hargs⟩
    · exact (finalGrad m c).trans (inG m c)
    · rw [finalStep m c, inW m c, inG m c, inM m c, inV m c]
    · rw [finalMom m c, inG m c, inM m c]
    · rw [finalSq m c, inG m c, inV m c]
  · obtain ⟨r0, r1, r2, r3, hargs⟩ := hr c
    obtain ⟨a0, a1, a2, a3⟩ := hag c
    refine ⟨r0.trans ?_, r1.trans ?_, r2.trans ?_, r3.trans ?_, hargs⟩
    · rw [a1]
    · rw [a0, a1, a2, a3]; exact step _ _ _ _
    · rw [a1, a2]; exact mom _ _
    · rw [a1, a3]; exact sq _ _

end Cert.Adam10

end
-- ==== Proof.Adam11.lean ====
/- The optimiser's update of the query and gate weights: the launch and the reference compute the same update, entry by entry. -/
module

public import proofs.«01_k».proof.Proof.AdamArr
public import proofs.«01_k».proof.Proof.Gen.Kernel11Ideal.Value
public import proofs.«01_k».proof.Proof.Gen.Reference11Ideal.Run
public import proofs.«01_k».proof.Defs

@[expose] public section

set_option maxRecDepth 16384

noncomputable section

open Idealize.ShloMosaic Idealize.ShloMosaic.TcCoe Idealize.SL.Sem Idealize.ShloMosaic.StableHlo
open Idealize.ShloMosaic.Pipeline (Dat)

namespace Cert.Kernel11Ideal.Adam

open Cert.Kernel11Ideal Cert.Kernel11Ideal.Gen Cert.Ffn Cert.Adam

variable (m : (ℓ : Loc nD τ sig) → Buf (Elt Ideal) ℓ) (c : Dev nD)

/-- The four matrices the launch reads, of the program's arguments. -/
abbrev fW : Mat 1024 512 := shapeCast _ (m ((c.tc : Thread nD τ).loc main_arg0)) Facts₀.shapeCasts_S1x1024x512_S1024x512
abbrev fG : Mat 1024 512 := shapeCast _ (m ((c.tc : Thread nD τ).loc main_arg1)) Facts₀.shapeCasts_S1x1024x512_S1024x512
abbrev fM : Mat 1024 512 := shapeCast _ (m ((c.tc : Thread nD τ).loc main_arg2)) Facts₀.shapeCasts_S1x1024x512_S1024x512
abbrev fV : Mat 1024 512 := shapeCast _ (m ((c.tc : Thread nD τ).loc main_arg3)) Facts₀.shapeCasts_S1x1024x512_S1024x512

theorem inW : (V m c main_v0 : Mat 1024 512) = fW m c := by
  unfold V
  simp only [hostOps0, List.flatten_cons, List.flatten_nil, List.append_nil, List.cons_append, List.nil_append]
  after_results_simp
  rfl
theorem inG : (V m c main_v1 : Mat 1024 512) = fG m c := by
  unfold V
  simp only [hostOps0, List.flatten_cons, List.flatten_nil, List.append_nil, List.cons_append, List.nil_append]
  after_results_simp
  rfl
theorem inM : (V m c main_v2 : Mat 1024 512) = fM m c := by
  unfold V
  simp only [hostOps0, List.flatten_cons, List.flatten_nil, List.append_nil, List.cons_append, List.nil_append]
  after_results_simp
  rfl
theorem inV : (V m c main_v3 : Mat 1024 512) = fV m c := by
  unfold V
  simp only [hostOps0, List.flatten_cons, List.flatten_nil, List.append_nil, List.cons_append, List.nil_append]
  after_results_simp
  rfl

/-- Every window of the launch moves down the rows with the grid. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Result 1: the gradient, kept. -/
theorem finalGrad : (dats m 0 c).arrAt 4 cfg0.N = (V m c main_v1 : Mat 1024 512) := by
  refine (dats m 0 c).arrAt_eq_of_covers 4 _ (by decide +kernel) fun t _ y => ?_
  blk_simp
  rw [after0_4]; frame_out
  pointwise [k0_pay1]
  blk_point [iblk, idx t]

/-- Result 2: the step. -/
theorem finalStep : (dats m 0 c).arrAt 5 cfg0.N = (GD (V m c main_v0) (V m c main_v1) (V m c main_v2) (V m c main_v3) : Mat 1024 512) := by
  refine (dats m 0 c).arrAt_eq_of_covers 5 _ (by decide +kernel) fun t _ y => ?_
  blk_simp
  rw [after0_5]; frame_out
  pointwise [k0_pay4, k0_pay3, k0_pay2, k0_pay1, GD, uD, uM, uV]
  blk_point [iblk, idx t]

/-- Result 3: the first moment. -/
theorem finalMom : (dats m 0 c).arrAt 6 cfg0.N = (GM (V m c main_v1) (V m c main_v2) : Mat 1024 512) := by
  refine (dats m 0 c).arrAt_eq_of_covers 6 _ (by decide +kernel) fun t _ y => ?_
  blk_simp
  rw [after0_6]; frame_out
  pointwise [k0_pay2, k0_pay1, GM, uM]
  blk_point [iblk, idx t]

/-- Result 4: the second moment. -/
theorem finalSq : (dats m 0 c).arrAt 7 cfg0.N = (GV (V m c main_v1) (V m c main_v3) : Mat 1024 512) := by
  refine (dats m 0 c).arrAt_eq_of_covers 7 _ (by decide +kernel) fun t _ y => ?_
  blk_simp
  rw [after0_7]; frame_out
  pointwise [k0_pay3, k0_pay1, GV, uV]
  blk_point [iblk, idx t]

end Cert.Kernel11Ideal.Adam

namespace Cert.Reference11Ideal.Adam

open Cert.Reference11Ideal Facts₀ Facts Cert.Ffn Cert.Adam

variable (w : FVec Ideal S1x1024x512 .f32) (g : FVec Ideal S1x1024x512 .f32) (m : FVec Ideal S1x1024x512 .f32) (v : FVec Ideal S1x1024x512 .f32)

theorem step : (shapeCast _ (mulf (broadcastInDim S1x1024x512 ![] bcast_S_S1x1024x512 (constant S_ .f32 0xBA83126F#32)) (addf (Host.divf (Host.divf (addf (mulf (broadcastInDim S1x1024x512 ![] bcast_S_S1x1024x512 (constant S_ .f32 0x3F666666#32)) m) (mulf (broadcastInDim S1x1024x512 ![] bcast_S_S1x1024x512 (constant S_ .f32 0x3DCCCCCD#32)) g)) (broadcastInDim S1x1024x512 ![] bcast_S_S1x1024x512 (constant S_ .f32 0x3F26BD02#32))) (addf (Host.sqrt (Host.divf (addf (mulf (broadcastInDim S1x1024x512 ![] bcast_S_S1x1024x512 (constant S_ .f32 0x3F7FBE77#32)) v) (mulf (broadcastInDim S1x1024x512 ![] bcast_S_S1x1024x512 (constant S_ .f32 0x3A83126F#32)) (mulf g g))) (broadcastInDim S1x1024x512 ![] bcast_S_S1x1024x512 (constant S_ .f32 0x3C231ACC#32)))) (broadcastInDim S1x1024x512 ![] bcast_S_S1x1024x512 (constant S_ .f32 0x322BCC77#32)))) (mulf (broadcastInDim S1x1024x512 ![] bcast_S_S1x1024x512 (constant S_ .f32 0x3C23D70A#32)) w))) shapeCasts_S1x1024x512_S1024x512 : Mat 1024 512) = GD (shapeCast _ w shapeCasts_S1x1024x512_S1024x512) (shapeCast _ g shapeCasts_S1x1024x512_S1024x512) (shapeCast _ m shapeCasts_S1x1024x512_S1024x512) (shapeCast _ v shapeCasts_S1x1024x512_S1024x512) := by
  funext i
  pointwise [GD, uD, uM, uV]

theorem mom : (shapeCast _ (addf (mulf (broadcastInDim S1x1024x512 ![] bcast_S_S1x1024x512 (constant S_ .f32 0x3F666666#32)) m) (mulf (broadcastInDim S1x1024x512 ![] bcast_S_S1x1024x512 (constant S_ .f32 0x3DCCCCCD#32)) g)) shapeCasts_S1x1024x512_S1024x512 : Mat 1024 512) = GM (shapeCast _ g shapeCasts_S1x1024x512_S1024x512) (shapeCast _ m shapeCasts_S1x1024x512_S1024x512) := by
  funext i
  pointwise [GM, uM]

theorem sq : (shapeCast _ (addf (mulf (broadcastInDim S1x1024x512 ![] bcast_S_S1x1024x512 (constant S_ .f32 0x3F7FBE77#32)) v) (mulf (broadcastInDim S1x1024x512 ![] bcast_S_S1x1024x512 (constant S_ .f32 0x3A83126F#32)) (mulf g g))) shapeCasts_S1x1024x512_S1024x512 : Mat 1024 512) = GV (shapeCast _ g shapeCasts_S1x1024x512_S1024x512) (shapeCast _ v shapeCasts_S1x1024x512_S1024x512) := by
  funext i
  pointwise [GV, uV]

end Cert.Reference11Ideal.Adam

namespace Cert.Adam11

open Cert.Kernel11Ideal.Adam Cert.Reference11Ideal.Adam Cert.Adam

/-- The four results agree with the reference's. -/
theorem algebraic : Cert.algebraic_Kernel11Ideal_Reference11Ideal (hKernel11Ideal := Cert.Kernel11Ideal.Gen.facts) (hReference11Ideal := Cert.Reference11Ideal.Gen.facts) := by
  intro m g m' g' _ hag
  refine ⟨fun c => fG m c, fun c => GD (fW m c) (fG m c) (fM m c) (fV m c), fun c => GM (fG m c) (fM m c), fun c => GV (fG m c) (fV m c),
    (θ_run _ _ _).mono (fun r hr c => ?_) (Cert.Kernel11Ideal.Value.run_blocks (F := Ideal) m g),
    (θ_run _ _ _).mono (fun r hr c => ?_) (Cert.Reference11Ideal.Value.run (F := Ideal) m' g')⟩
  · obtain ⟨r0, r1, r2, r3, hargs⟩ := hr c
    refine ⟨r0.trans ?_, r1.trans ?_, r2.trans ?_, r3.trans ?_, hargs⟩
    · exact (finalGrad m c).trans (inG m c)
    · rw [finalStep m c, inW m c, inG m c, inM m c, inV m c]
    · rw [finalMom m c, inG m c, inM m c]
    · rw [finalSq m c, inG m c, inV m c]
  · obtain ⟨r0, r1, r2, r3, hargs⟩ := hr c
    obtain ⟨a0, a1, a2, a3⟩ := hag c
    refine ⟨r0.trans ?_, r1.trans ?_, r2.trans ?_, r3.trans ?_, hargs⟩
    · rw [a1]
    · rw [a0, a1, a2, a3]; exact step _ _ _ _
    · rw [a1, a2]; exact mom _ _
    · rw [a1, a3]; exact sq _ _

end Cert.Adam11

end
-- ==== Proof.Adam12.lean ====
/- The optimiser's update of the key and value weights: the launch and the reference compute the same update, entry by entry. -/
module

public import proofs.«01_k».proof.Proof.AdamArr
public import proofs.«01_k».proof.Proof.Gen.Kernel12Ideal.Value
public import proofs.«01_k».proof.Proof.Gen.Reference12Ideal.Run
public import proofs.«01_k».proof.Defs

@[expose] public section

set_option maxRecDepth 16384

noncomputable section

open Idealize.ShloMosaic Idealize.ShloMosaic.TcCoe Idealize.SL.Sem Idealize.ShloMosaic.StableHlo
open Idealize.ShloMosaic.Pipeline (Dat)

namespace Cert.Kernel12Ideal.Adam

open Cert.Kernel12Ideal Cert.Kernel12Ideal.Gen Cert.Ffn Cert.Adam

variable (m : (ℓ : Loc nD τ sig) → Buf (Elt Ideal) ℓ) (c : Dev nD)

/-- The four matrices the launch reads, of the program's arguments. -/
abbrev fW : Mat 1024 516 := m ((c.tc : Thread nD τ).loc main_arg0)
abbrev fG : Mat 1024 516 := extractStridedSlice S1024x516 ![0, 0] (m ((c.tc : Thread nD τ).loc main_arg1)) Facts₀.slices_S1024x640_S1024x516_0_0
abbrev fM : Mat 1024 516 := m ((c.tc : Thread nD τ).loc main_arg2)
abbrev fV : Mat 1024 516 := m ((c.tc : Thread nD τ).loc main_arg3)

theorem inW : (V m c main_arg0 : Mat 1024 516) = fW m c := by
  unfold V
  simp only [hostOps0, List.flatten_cons, List.flatten_nil, List.append_nil, List.cons_append, List.nil_append]
  after_results_simp
theorem inG : (V m c main_v0 : Mat 1024 516) = fG m c := by
  unfold V
  simp only [hostOps0, List.flatten_cons, List.flatten_nil, List.append_nil, List.cons_append, List.nil_append]
  after_results_simp
theorem inM : (V m c main_arg2 : Mat 1024 516) = fM m c := by
  unfold V
  simp only [hostOps0, List.flatten_cons, List.flatten_nil, List.append_nil, List.cons_append, List.nil_append]
  after_results_simp
theorem inV : (V m c main_arg3 : Mat 1024 516) = fV m c := by
  unfold V
  simp only [hostOps0, List.flatten_cons, List.flatten_nil, List.append_nil, List.cons_append, List.nil_append]
  after_results_simp

/-- Every window of the launch moves down the rows with the grid. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Result 1: the gradient, kept. -/
theorem finalGrad : (dats m 0 c).arrAt 4 cfg0.N = (V m c main_v0 : Mat 1024 516) := by
  refine (dats m 0 c).arrAt_eq_of_covers 4 _ (by decide +kernel) fun t _ y => ?_
  blk_simp
  rw [after0_4]; frame_out
  pointwise [k0_pay1]
  blk_point [iblk, idx t]

/-- Result 2: the step. -/
theorem finalStep : (dats m 0 c).arrAt 5 cfg0.N = (GD (V m c main_arg0) (V m c main_v0) (V m c main_arg2) (V m c main_arg3) : Mat 1024 516) := by
  refine (dats m 0 c).arrAt_eq_of_covers 5 _ (by decide +kernel) fun t _ y => ?_
  blk_simp
  rw [after0_5]; frame_out
  pointwise [k0_pay4, k0_pay3, k0_pay2, k0_pay1, GD, uD, uM, uV]
  blk_point [iblk, idx t]

/-- Result 3: the first moment. -/
theorem finalMom : (dats m 0 c).arrAt 6 cfg0.N = (GM (V m c main_v0) (V m c main_arg2) : Mat 1024 516) := by
  refine (dats m 0 c).arrAt_eq_of_covers 6 _ (by decide +kernel) fun t _ y => ?_
  blk_simp
  rw [after0_6]; frame_out
  pointwise [k0_pay2, k0_pay1, GM, uM]
  blk_point [iblk, idx t]

/-- Result 4: the second moment. -/
theorem finalSq : (dats m 0 c).arrAt 7 cfg0.N = (GV (V m c main_v0) (V m c main_arg3) : Mat 1024 516) := by
  refine (dats m 0 c).arrAt_eq_of_covers 7 _ (by decide +kernel) fun t _ y => ?_
  blk_simp
  rw [after0_7]; frame_out
  pointwise [k0_pay3, k0_pay1, GV, uV]
  blk_point [iblk, idx t]

end Cert.Kernel12Ideal.Adam

namespace Cert.Reference12Ideal.Adam

open Cert.Reference12Ideal Facts₀ Facts Cert.Ffn Cert.Adam

variable (w : FVec Ideal S1024x516 .f32) (g : FVec Ideal S1024x640 .f32) (m : FVec Ideal S1024x516 .f32) (v : FVec Ideal S1024x516 .f32)

theorem step : (mulf (broadcastInDim S1024x516 ![] bcast_S_S1024x516 (constant S_ .f32 0xBA83126F#32)) (addf (Host.divf (Host.divf (addf (mulf (broadcastInDim S1024x516 ![] bcast_S_S1024x516 (constant S_ .f32 0x3F666666#32)) m) (mulf (broadcastInDim S1024x516 ![] bcast_S_S1024x516 (constant S_ .f32 0x3DCCCCCD#32)) (extractStridedSlice S1024x516 ![0, 0] g slices_S1024x640_S1024x516_0_0))) (broadcastInDim S1024x516 ![] bcast_S_S1024x516 (constant S_ .f32 0x3F26BD02#32))) (addf (Host.sqrt (Host.divf (addf (mulf (broadcastInDim S1024x516 ![] bcast_S_S1024x516 (constant S_ .f32 0x3F7FBE77#32)) v) (mulf (broadcastInDim S1024x516 ![] bcast_S_S1024x516 (constant S_ .f32 0x3A83126F#32)) (mulf (extractStridedSlice S1024x516 ![0, 0] g slices_S1024x640_S1024x516_0_0) (extractStridedSlice S1024x516 ![0, 0] g slices_S1024x640_S1024x516_0_0)))) (broadcastInDim S1024x516 ![] bcast_S_S1024x516 (constant S_ .f32 0x3C231ACC#32)))) (broadcastInDim S1024x516 ![] bcast_S_S1024x516 (constant S_ .f32 0x322BCC77#32)))) (mulf (broadcastInDim S1024x516 ![] bcast_S_S1024x516 (constant S_ .f32 0x3C23D70A#32)) w)) : Mat 1024 516) = GD (w) (extractStridedSlice S1024x516 ![0, 0] g slices_S1024x640_S1024x516_0_0) (m) (v) := by
  funext i
  pointwise [GD, uD, uM, uV]

theorem mom : (addf (mulf (broadcastInDim S1024x516 ![] bcast_S_S1024x516 (constant S_ .f32 0x3F666666#32)) m) (mulf (broadcastInDim S1024x516 ![] bcast_S_S1024x516 (constant S_ .f32 0x3DCCCCCD#32)) (extractStridedSlice S1024x516 ![0, 0] g slices_S1024x640_S1024x516_0_0)) : Mat 1024 516) = GM (extractStridedSlice S1024x516 ![0, 0] g slices_S1024x640_S1024x516_0_0) (m) := by
  funext i
  pointwise [GM, uM]

theorem sq : (addf (mulf (broadcastInDim S1024x516 ![] bcast_S_S1024x516 (constant S_ .f32 0x3F7FBE77#32)) v) (mulf (broadcastInDim S1024x516 ![] bcast_S_S1024x516 (constant S_ .f32 0x3A83126F#32)) (mulf (extractStridedSlice S1024x516 ![0, 0] g slices_S1024x640_S1024x516_0_0) (extractStridedSlice S1024x516 ![0, 0] g slices_S1024x640_S1024x516_0_0))) : Mat 1024 516) = GV (extractStridedSlice S1024x516 ![0, 0] g slices_S1024x640_S1024x516_0_0) (v) := by
  funext i
  pointwise [GV, uV]

end Cert.Reference12Ideal.Adam

namespace Cert.Adam12

open Cert.Kernel12Ideal.Adam Cert.Reference12Ideal.Adam Cert.Adam

/-- The four results agree with the reference's. -/
theorem algebraic : Cert.algebraic_Kernel12Ideal_Reference12Ideal (hKernel12Ideal := Cert.Kernel12Ideal.Gen.facts) (hReference12Ideal := Cert.Reference12Ideal.Gen.facts) := by
  intro m g m' g' _ hag
  refine ⟨fun c => fG m c, fun c => GD (fW m c) (fG m c) (fM m c) (fV m c), fun c => GM (fG m c) (fM m c), fun c => GV (fG m c) (fV m c),
    (θ_run _ _ _).mono (fun r hr c => ?_) (Cert.Kernel12Ideal.Value.run_blocks (F := Ideal) m g),
    (θ_run _ _ _).mono (fun r hr c => ?_) (Cert.Reference12Ideal.Value.run (F := Ideal) m' g')⟩
  · obtain ⟨r0, r1, r2, r3, hargs⟩ := hr c
    refine ⟨r0.trans ?_, r1.trans ?_, r2.trans ?_, r3.trans ?_, hargs⟩
    · exact (finalGrad m c).trans (inG m c)
    · rw [finalStep m c, inW m c, inG m c, inM m c, inV m c]
    · rw [finalMom m c, inG m c, inM m c]
    · rw [finalSq m c, inG m c, inV m c]
  · obtain ⟨r0, r1, r2, r3, hargs⟩ := hr c
    obtain ⟨a0, a1, a2, a3⟩ := hag c
    refine ⟨r0.trans ?_, r1.trans ?_, r2.trans ?_, r3.trans ?_, hargs⟩
    · rw [a1]
    · rw [a0, a1, a2, a3]; exact step _ _ _ _
    · rw [a1, a2]; exact mom _ _
    · rw [a1, a3]; exact sq _ _

end Cert.Adam12

end
-- ==== Proof.AdamPack.lean ====
/- The gains, the forget bias and the taps packed in rows, and the optimiser's update of the packed rows. -/
module

public import proofs.«01_k».proof.Proof.AdamArr

@[expose] public section

noncomputable section

open Idealize.ShloMosaic Idealize.ShloMosaic.TcCoe

namespace Cert.Adam

open Cert.Ffn

/-- The gains, the forget bias and the taps in 24 rows: six pairs of rows, one row, three rows of zeros, a row that starts with the bias,
    three rows that start with the taps, zeros. -/
def PK (a0 a1 a2 a3 a4 a5 : Mat 2 1024) (k : Fin 1024 → EReal) (b : Fin 16 → EReal) (t : Fin 3 → Fin 256 → EReal) : Mat 24 1024 := fun i =>
  if h : (i 0).val < 2 then a0 (ix2 ⟨(i 0).val, h⟩ (i 1)) else
  if h : (i 0).val - 2 < 2 then a1 (ix2 ⟨(i 0).val - 2, h⟩ (i 1)) else
  if h : (i 0).val - 2 - 2 < 2 then a2 (ix2 ⟨(i 0).val - 2 - 2, h⟩ (i 1)) else
  if h : (i 0).val - 2 - 2 - 2 < 2 then a3 (ix2 ⟨(i 0).val - 2 - 2 - 2, h⟩ (i 1)) else
  if h : (i 0).val - 2 - 2 - 2 - 2 < 2 then a4 (ix2 ⟨(i 0).val - 2 - 2 - 2 - 2, h⟩ (i 1)) else
  if h : (i 0).val - 2 - 2 - 2 - 2 - 2 < 2 then a5 (ix2 ⟨(i 0).val - 2 - 2 - 2 - 2 - 2, h⟩ (i 1)) else
  if h : (i 0).val - 2 - 2 - 2 - 2 - 2 - 2 < 1 then k (i 1) else
  if h : (i 0).val - 2 - 2 - 2 - 2 - 2 - 2 - 1 < 3 then 0 else
  if h : (i 0).val - 2 - 2 - 2 - 2 - 2 - 2 - 1 - 3 < 1 then (if h : (i 1).val < 16 then b ⟨(i 1).val, h⟩ else 0) else
  if h : (i 0).val - 2 - 2 - 2 - 2 - 2 - 2 - 1 - 3 - 1 < 3 then (if h' : (i 1).val < 256 then t ⟨(i 0).val - 2 - 2 - 2 - 2 - 2 - 2 - 1 - 3 - 1, h⟩ ⟨(i 1).val, h'⟩ else 0) else 0

/-- Past the twenty packed rows there are zeros. -/
theorem PK_out (a0 a1 a2 a3 a4 a5 : Mat 2 1024) (k : Fin 1024 → EReal) (b : Fin 16 → EReal) (t : Fin 3 → Fin 256 → EReal) (i : (⟨2, ![24, 1024]⟩ : Shape).Idx)
    (h : ¬ (i 0).val < 20) : PK a0 a1 a2 a3 a4 a5 k b t i = 0 := by
  unfold PK
  rw [dif_neg (by omega : ¬ (i 0).val < 2), dif_neg (by omega : ¬ (i 0).val - 2 < 2), dif_neg (by omega : ¬ (i 0).val - 2 - 2 < 2), dif_neg (by omega : ¬ (i 0).val - 2 - 2 - 2 < 2), dif_neg (by omega : ¬ (i 0).val - 2 - 2 - 2 - 2 < 2), dif_neg (by omega : ¬ (i 0).val - 2 - 2 - 2 - 2 - 2 < 2), dif_neg (by omega : ¬ (i 0).val - 2 - 2 - 2 - 2 - 2 - 2 < 1), dif_neg (by omega : ¬ (i 0).val - 2 - 2 - 2 - 2 - 2 - 2 - 1 < 3), dif_neg (by omega : ¬ (i 0).val - 2 - 2 - 2 - 2 - 2 - 2 - 1 - 3 < 1), dif_neg (by omega : ¬ (i 0).val - 2 - 2 - 2 - 2 - 2 - 2 - 1 - 3 - 1 < 3)]

/-- A choice on two conditions is a choice on the one and then on the other. -/
theorem and_split {p q : Prop} [Decidable p] [Decidable q] [Decidable (p ∧ q)] (x : p → q → EReal) {z : EReal} (hz : z = 0) :
    (if h : p ∧ q then x h.1 h.2 else z) = if h : p then (if h' : q then x h h' else 0) else 0 := by
  by_cases hp : p <;> by_cases hq : q <;> simp [hp, hq, hz]

/-- A weight of zero with no gradient and no moments stays as it is. -/
theorem uM_zero : uM 0 0 = 0 := by simp [uM]
theorem uV_zero : uV 0 0 = 0 := by simp [uV]
theorem pos1 : ∃ e : ℝ, 0 < e ∧ Ideal.ofBits .f32 0x3F26BD02#32 = (e : EReal) := by
  refine ⟨_, ?_, by simp [Ideal.ofBits, Ideal.ieee, -EReal.coe_mul]; rfl⟩
  positivity
theorem pos2 : ∃ e : ℝ, 0 < e ∧ Ideal.ofBits .f32 0x3C231ACC#32 = (e : EReal) := by
  refine ⟨_, ?_, by simp [Ideal.ofBits, Ideal.ieee, -EReal.coe_mul]; rfl⟩
  positivity
theorem pos3 : ∃ e : ℝ, 0 < e ∧ Ideal.ofBits .f32 0x322BCC77#32 = (e : EReal) := by
  refine ⟨_, ?_, by simp [Ideal.ofBits, Ideal.ieee, -EReal.coe_mul]; rfl⟩
  positivity
theorem div_zero_left {x : EReal} (h : ∃ e : ℝ, 0 < e ∧ x = (e : EReal)) : Ideal.div 0 x = 0 := by
  obtain ⟨e, he, rfl⟩ := h
  rw [Ideal.div, if_neg (by exact_mod_cast he.ne'), zero_mul]
theorem uD_zero : uD 0 0 0 0 = 0 := by
  have e : Ideal.sqrt 0 = 0 := by
    show Ideal.sqrt ((0 : ℝ) : EReal) = 0
    show (if (0 : ℝ) < 0 then (⊥ : EReal) else (Real.sqrt 0 : EReal)) = 0
    simp
  rw [uD, uM_zero, uV_zero, div_zero_left pos1, div_zero_left pos2, e, zero_add, div_zero_left pos3, mul_zero, zero_add, mul_zero]

/-- A function of choices that are made alike is the choice of the function. -/
theorem dite2 {p : Prop} [Decidable p] (f : EReal → EReal → EReal) (a b : p → EReal) (a' b' : ¬p → EReal) :
    f (dite p a a') (dite p b b') = dite p (fun h => f (a h) (b h)) (fun h => f (a' h) (b' h)) := by
  by_cases h : p <;> simp only [h, dite_true, dite_false, not_true_eq_false, not_false_eq_true]
theorem dite4 {p : Prop} [Decidable p] (f : EReal → EReal → EReal → EReal → EReal) (a b c d : p → EReal) (a' b' c' d' : ¬p → EReal) :
    f (dite p a a') (dite p b b') (dite p c c') (dite p d d') = dite p (fun h => f (a h) (b h) (c h) (d h)) (fun h => f (a' h) (b' h) (c' h) (d' h)) := by
  by_cases h : p <;> simp only [h, dite_true, dite_false, not_true_eq_false, not_false_eq_true]

section
variable (w0 w1 w2 w3 w4 w5 g0 g1 g2 g3 g4 g5 m0 m1 m2 m3 m4 m5 v0 v1 v2 v3 v4 v5 : Mat 2 1024)
  (wk gk mk vk : Fin 1024 → EReal) (wb gb mb vb : Fin 16 → EReal) (wt gt mt vt : Fin 3 → Fin 256 → EReal)

/-- The update of the packed rows is the packed rows of the updates. -/
theorem GM_PK : GM (PK g0 g1 g2 g3 g4 g5 gk gb gt) (PK m0 m1 m2 m3 m4 m5 mk mb mt)
    = PK (GM g0 m0) (GM g1 m1) (GM g2 m2) (GM g3 m3) (GM g4 m4) (GM g5 m5) (fun j => uM (gk j) (mk j)) (fun j => uM (gb j) (mb j))
        (fun r j => uM (gt r j) (mt r j)) := by
  funext i
  unfold GM PK
  refine (dite2 uM _ _ _ _).trans (dite_congr rfl (fun _ => rfl) fun _ => ?_)
  refine (dite2 uM _ _ _ _).trans (dite_congr rfl (fun _ => rfl) fun _ => ?_)
  refine (dite2 uM _ _ _ _).trans (dite_congr rfl (fun _ => rfl) fun _ => ?_)
  refine (dite2 uM _ _ _ _).trans (dite_congr rfl (fun _ => rfl) fun _ => ?_)
  refine (dite2 uM _ _ _ _).trans (dite_congr rfl (fun _ => rfl) fun _ => ?_)
  refine (dite2 uM _ _ _ _).trans (dite_congr rfl (fun _ => rfl) fun _ => ?_)
  refine (dite2 uM _ _ _ _).trans (dite_congr rfl (fun _ => rfl) fun _ => ?_)
  refine (dite2 uM _ _ _ _).trans (dite_congr rfl (fun _ => uM_zero) fun _ => ?_)
  refine (dite2 uM _ _ _ _).trans (dite_congr rfl (fun _ => (dite2 uM _ _ _ _).trans (dite_congr rfl (fun _ => rfl) fun _ => uM_zero)) fun _ => ?_)
  exact (dite2 uM _ _ _ _).trans (dite_congr rfl (fun _ => (dite2 uM _ _ _ _).trans (dite_congr rfl (fun _ => rfl) fun _ => uM_zero)) fun _ => uM_zero)
theorem GV_PK : GV (PK g0 g1 g2 g3 g4 g5 gk gb gt) (PK v0 v1 v2 v3 v4 v5 vk vb vt)
    = PK (GV g0 v0) (GV g1 v1) (GV g2 v2) (GV g3 v3) (GV g4 v4) (GV g5 v5) (fun j => uV (gk j) (vk j)) (fun j => uV (gb j) (vb j))
        (fun r j => uV (gt r j) (vt r j)) := by
  funext i
  unfold GV PK
  refine (dite2 uV _ _ _ _).trans (dite_congr rfl (fun _ => rfl) fun _ => ?_)
  refine (dite2 uV _ _ _ _).trans (dite_congr rfl (fun _ => rfl) fun _ => ?_)
  refine (dite2 uV _ _ _ _).trans (dite_congr rfl (fun _ => rfl) fun _ => ?_)
  refine (dite2 uV _ _ _ _).trans (dite_congr rfl (fun _ => rfl) fun _ => ?_)
  refine (dite2 uV _ _ _ _).trans (dite_congr rfl (fun _ => rfl) fun _ => ?_)
  refine (dite2 uV _ _ _ _).trans (dite_congr rfl (fun _ => rfl) fun _ => ?_)
  refine (dite2 uV _ _ _ _).trans (dite_congr rfl (fun _ => rfl) fun _ => ?_)
  refine (dite2 uV _ _ _ _).trans (dite_congr rfl (fun _ => uV_zero) fun _ => ?_)
  refine (dite2 uV _ _ _ _).trans (dite_congr rfl (fun _ => (dite2 uV _ _ _ _).trans (dite_congr rfl (fun _ => rfl) fun _ => uV_zero)) fun _ => ?_)
  exact (dite2 uV _ _ _ _).trans (dite_congr rfl (fun _ => (dite2 uV _ _ _ _).trans (dite_congr rfl (fun _ => rfl) fun _ => uV_zero)) fun _ => uV_zero)
theorem GD_PK : GD (PK w0 w1 w2 w3 w4 w5 wk wb wt) (PK g0 g1 g2 g3 g4 g5 gk gb gt) (PK m0 m1 m2 m3 m4 m5 mk mb mt) (PK v0 v1 v2 v3 v4 v5 vk vb vt)
    = PK (GD w0 g0 m0 v0) (GD w1 g1 m1 v1) (GD w2 g2 m2 v2) (GD w3 g3 m3 v3) (GD w4 g4 m4 v4) (GD w5 g5 m5 v5)
        (fun j => uD (wk j) (gk j) (mk j) (vk j)) (fun j => uD (wb j) (gb j) (mb j) (vb j))
        (fun r j => uD (wt r j) (gt r j) (mt r j) (vt r j)) := by
  funext i
  unfold GD PK
  refine (dite4 uD _ _ _ _ _ _ _ _).trans (dite_congr rfl (fun _ => rfl) fun _ => ?_)
  refine (dite4 uD _ _ _ _ _ _ _ _).trans (dite_congr rfl (fun _ => rfl) fun _ => ?_)
  refine (dite4 uD _ _ _ _ _ _ _ _).trans (dite_congr rfl (fun _ => rfl) fun _ => ?_)
  refine (dite4 uD _ _ _ _ _ _ _ _).trans (dite_congr rfl (fun _ => rfl) fun _ => ?_)
  refine (dite4 uD _ _ _ _ _ _ _ _).trans (dite_congr rfl (fun _ => rfl) fun _ => ?_)
  refine (dite4 uD _ _ _ _ _ _ _ _).trans (dite_congr rfl (fun _ => rfl) fun _ => ?_)
  refine (dite4 uD _ _ _ _ _ _ _ _).trans (dite_congr rfl (fun _ => rfl) fun _ => ?_)
  refine (dite4 uD _ _ _ _ _ _ _ _).trans (dite_congr rfl (fun _ => uD_zero) fun _ => ?_)
  refine (dite4 uD _ _ _ _ _ _ _ _).trans (dite_congr rfl (fun _ => (dite4 uD _ _ _ _ _ _ _ _).trans (dite_congr rfl (fun _ => rfl) fun _ => uD_zero)) fun _ => ?_)
  exact (dite4 uD _ _ _ _ _ _ _ _).trans (dite_congr rfl (fun _ => (dite4 uD _ _ _ _ _ _ _ _).trans (dite_congr rfl (fun _ => rfl) fun _ => uD_zero)) fun _ => uD_zero)
end

end Cert.Adam

end
-- ==== Proof.Adam13Host.lean ====
/- The optimiser of the gains, the taps and the forget bias: the packed arrays that the launch reads. -/
module

public import proofs.«01_k».proof.Proof.AdamPack
public import proofs.«01_k».proof.Proof.Gen.Kernel13Ideal.Value

@[expose] public section

set_option maxRecDepth 16384

noncomputable section

open Idealize.ShloMosaic Idealize.ShloMosaic.TcCoe Idealize.SL.Sem Idealize.ShloMosaic.StableHlo
open Idealize.ShloMosaic.Pipeline (Dat)

namespace Cert.Kernel13Ideal.Adam

open Cert.Kernel13Ideal Cert.Kernel13Ideal.Gen Cert.Ffn Cert.Adam

/-- The value a pad fills with. -/
theorem fill : (FloatOps.sitofp .f32 0#32 : Ideal .f32) = (0 : EReal) := by
  show (((0#32 : BitVec 32).toInt : ℝ) : EReal) = 0
  simp

set_option maxHeartbeats 2000000 in
/-- The packing on the host: the pads and the join, as packed rows. -/
theorem pack_at (a0 a1 a2 a3 a4 a5 : FVec Ideal S2x1024 .f32) (k : FVec Ideal S1024 .f32) (b : FVec Ideal S16 .f32) (t : FVec Ideal S1x3x256 .f32) :
    (pad S24x1024 ![0, 0] ![4, 0] ![0, 0] (concatenate S20x1024 0 [⟨S2x1024, a0⟩, ⟨S2x1024, a1⟩, ⟨S2x1024, a2⟩, ⟨S2x1024, a3⟩, ⟨S2x1024, a4⟩, ⟨S2x1024, a5⟩,
        ⟨S1x1024, shapeCast _ (pad S1024 ![0] ![0] ![0] k (sitofp (F := Ideal) .f32 (constantI S_ 32 0#32)) Facts₀.pads_S1024_S1024_000 Facts₀.h_S_) Facts₀.shapeCasts_S1024_S1x1024⟩,
        ⟨S3x1024, broadcastInDim S3x1024 ![] Facts₀.bcast_S_S3x1024 (constant (F := Ideal) S_ .f32 0x00000000#32)⟩,
        ⟨S1x1024, shapeCast _ (pad S1024 ![0] ![1008] ![0] b (sitofp (F := Ideal) .f32 (constantI S_ 32 0#32)) Facts₀.pads_S16_S1024_010080 Facts₀.h_S_) Facts₀.shapeCasts_S1024_S1x1024⟩,
        ⟨S3x1024, pad S3x1024 ![0, 0] ![0, 768] ![0, 0] (shapeCast _ t Facts₀.shapeCasts_S1x3x256_S3x256) (sitofp (F := Ideal) .f32 (constantI S_ 32 0#32)) Facts₀.pads_S3x256_S3x1024_000_07680 Facts₀.h_S_⟩]
        Facts₀.concatenates_S2x1024_S2x1024_S2x1024_S2x1024_S2x1024_S2x1024_S1x1024_S3x1024_S1x1024_S3x1024_S20x1024_d0) (sitofp (F := Ideal) .f32 (constantI S_ 32 0#32)) Facts₀.pads_S20x1024_S24x1024_040_000 Facts₀.h_S_ : Mat 24 1024)
    = PK a0 a1 a2 a3 a4 a5 (fun j => k (ix1 j)) (fun j => b (ix1 j)) (fun r j => t (ix3 0 r j)) := by
  funext i
  pointwise [PK]
  by_cases h : (i 0).val < 20
  · rw [dif_pos h]
    refine dite_congr rfl (fun _ => rfl) fun _ => ?_
    refine dite_congr rfl (fun _ => rfl) fun _ => ?_
    refine dite_congr rfl (fun _ => rfl) fun _ => ?_
    refine dite_congr rfl (fun _ => rfl) fun _ => ?_
    refine dite_congr rfl (fun _ => rfl) fun _ => ?_
    refine dite_congr rfl (fun _ => rfl) fun _ => ?_
    refine dite_congr rfl (fun _ => rfl) fun _ => ?_
    refine dite_congr rfl (fun _ => rfl) fun _ => ?_
    refine dite_congr rfl (fun _ => dite_congr rfl (fun _ => rfl) fun _ => fill) fun _ => ?_
    exact and_split (fun p q => t (ix3 0 ⟨_, p⟩ ⟨_, q⟩)) fill
  · rw [dif_neg h]
    exact fill.trans (PK_out a0 a1 a2 a3 a4 a5 (fun j => k (ix1 j)) (fun j => b (ix1 j)) (fun r j => t (ix3 0 r j)) i h).symm

variable (m : (ℓ : Loc nD τ sig) → Buf (Elt Ideal) ℓ) (c : Dev nD)

/-- The four packed arrays the launch reads, of the program's arguments. -/
abbrev fW : Mat 24 1024 := PK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (fun j => m ((c.tc : Thread nD τ).loc main_arg6) (ix1 j)) (fun j => m ((c.tc : Thread nD τ).loc main_arg7) (ix1 j)) (fun r j => m ((c.tc : Thread nD τ).loc main_arg8) (ix3 0 r j))
abbrev fG : Mat 24 1024 := PK (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (fun j => m ((c.tc : Thread nD τ).loc main_arg15) (ix1 j)) (fun j => m ((c.tc : Thread nD τ).loc main_arg16) (ix1 j)) (fun r j => m ((c.tc : Thread nD τ).loc main_arg17) (ix3 0 r j))
abbrev fM : Mat 24 1024 := PK (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (fun j => m ((c.tc : Thread nD τ).loc main_arg24) (ix1 j)) (fun j => m ((c.tc : Thread nD τ).loc main_arg25) (ix1 j)) (fun r j => m ((c.tc : Thread nD τ).loc main_arg26) (ix3 0 r j))
abbrev fV : Mat 24 1024 := PK (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (fun j => m ((c.tc : Thread nD τ).loc main_arg33) (ix1 j)) (fun j => m ((c.tc : Thread nD τ).loc main_arg34) (ix1 j)) (fun r j => m ((c.tc : Thread nD τ).loc main_arg35) (ix3 0 r j))

set_option maxHeartbeats 1000000 in
/-- The launch reads the packed weights. -/
theorem inW : (V m c main_v8 : Mat 24 1024) = fW m c := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, List.flatten_cons, List.flatten_nil, List.append_nil, List.cons_append, List.nil_append]
  after_results
  exact pack_at _ _ _ _ _ _ _ _ _
set_option maxHeartbeats 1000000 in
/-- The launch reads the packed gradients. -/
theorem inG : (V m c main_v17 : Mat 24 1024) = fG m c := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, List.flatten_cons, List.flatten_nil, List.append_nil, List.cons_append, List.nil_append]
  after_results
  exact pack_at _ _ _ _ _ _ _ _ _
set_option maxHeartbeats 1000000 in
/-- The launch reads the packed first moments. -/
theorem inM : (V m c main_v26 : Mat 24 1024) = fM m c := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, List.flatten_cons, List.flatten_nil, List.append_nil, List.cons_append, List.nil_append]
  after_results
  exact pack_at _ _ _ _ _ _ _ _ _
set_option maxHeartbeats 1000000 in
/-- The launch reads the packed second moments. -/
theorem inV : (V m c main_v35 : Mat 24 1024) = fV m c := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, List.flatten_cons, List.flatten_nil, List.append_nil, List.cons_append, List.nil_append]
  after_results
  exact pack_at _ _ _ _ _ _ _ _ _

end Cert.Kernel13Ideal.Adam

end
-- ==== Proof.Adam13Launch.lean ====
/- The optimiser of the gains, the taps and the forget bias: what the launch leaves. -/
module

public import proofs.«01_k».proof.Proof.AdamPack
public import proofs.«01_k».proof.Proof.Gen.Kernel13Ideal.Value

@[expose] public section

set_option maxRecDepth 16384

noncomputable section

open Idealize.ShloMosaic Idealize.ShloMosaic.TcCoe Idealize.SL.Sem Idealize.ShloMosaic.StableHlo
open Idealize.ShloMosaic.Pipeline (Dat)

namespace Cert.Kernel13Ideal.Adam

open Cert.Kernel13Ideal Cert.Kernel13Ideal.Gen Cert.Ffn Cert.Adam

variable (m : (ℓ : Loc nD τ sig) → Buf (Elt Ideal) ℓ) (c : Dev nD)

/-- The launch has one point, and every window is the whole array. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Result 1: the gradient, kept. -/
theorem finalGrad : (dats m 0 c).arrAt 4 cfg0.N = (V m c main_v17 : Mat 24 1024) := by
  refine (dats m 0 c).arrAt_eq_of_covers 4 _ (by decide +kernel) fun t _ y => ?_
  blk_simp
  rw [after0_4]; frame_out
  pointwise [k0_pay1]
  blk_point [iblk, idx t]

/-- Result 2: the step. -/
theorem finalStep : (dats m 0 c).arrAt 5 cfg0.N = (GD (V m c main_v8) (V m c main_v17) (V m c main_v26) (V m c main_v35) : Mat 24 1024) := by
  refine (dats m 0 c).arrAt_eq_of_covers 5 _ (by decide +kernel) fun t _ y => ?_
  blk_simp
  rw [after0_5]; frame_out
  pointwise [k0_pay4, k0_pay3, k0_pay2, k0_pay1, GD, uD, uM, uV]
  blk_point [iblk, idx t]

/-- Result 3: the first moment. -/
theorem finalMom : (dats m 0 c).arrAt 6 cfg0.N = (GM (V m c main_v17) (V m c main_v26) : Mat 24 1024) := by
  refine (dats m 0 c).arrAt_eq_of_covers 6 _ (by decide +kernel) fun t _ y => ?_
  blk_simp
  rw [after0_6]; frame_out
  pointwise [k0_pay2, k0_pay1, GM, uM]
  blk_point [iblk, idx t]

/-- Result 4: the second moment. -/
theorem finalSq : (dats m 0 c).arrAt 7 cfg0.N = (GV (V m c main_v17) (V m c main_v35) : Mat 24 1024) := by
  refine (dats m 0 c).arrAt_eq_of_covers 7 _ (by decide +kernel) fun t _ y => ?_
  blk_simp
  rw [after0_7]; frame_out
  pointwise [k0_pay3, k0_pay1, GV, uV]
  blk_point [iblk, idx t]

end Cert.Kernel13Ideal.Adam

end
-- ==== Proof.Adam13Ref.lean ====
/- The reference of the gains, the taps and the forget bias: the gradient and the moments. -/
module

public import proofs.«01_k».proof.Proof.AdamPack
public import proofs.«01_k».proof.Proof.Gen.Reference13Ideal.Run

@[expose] public section

set_option maxRecDepth 16384

noncomputable section

open Idealize.ShloMosaic Idealize.ShloMosaic.TcCoe Idealize.SL.Sem Idealize.ShloMosaic.StableHlo
open Idealize.ShloMosaic.Pipeline (Dat)

namespace Cert.Reference13Ideal.Adam

open Cert.Reference13Ideal Cert.Reference13Ideal.Value Facts₀ Facts Cert.Ffn Cert.Adam

variable (m : (ℓ : Loc nD τ sig) → Buf (Elt Ideal) ℓ) (c : Dev nD)

/-- The four packed arrays of the program's arguments. -/
abbrev fW : Mat 24 1024 := PK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (fun j => m ((c.tc : Thread nD τ).loc main_arg6) (ix1 j)) (fun j => m ((c.tc : Thread nD τ).loc main_arg7) (ix1 j)) (fun r j => m ((c.tc : Thread nD τ).loc main_arg8) (ix3 0 r j))
abbrev fG : Mat 24 1024 := PK (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (fun j => m ((c.tc : Thread nD τ).loc main_arg15) (ix1 j)) (fun j => m ((c.tc : Thread nD τ).loc main_arg16) (ix1 j)) (fun r j => m ((c.tc : Thread nD τ).loc main_arg17) (ix3 0 r j))
abbrev fM : Mat 24 1024 := PK (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (fun j => m ((c.tc : Thread nD τ).loc main_arg24) (ix1 j)) (fun j => m ((c.tc : Thread nD τ).loc main_arg25) (ix1 j)) (fun r j => m ((c.tc : Thread nD τ).loc main_arg26) (ix3 0 r j))
abbrev fV : Mat 24 1024 := PK (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (fun j => m ((c.tc : Thread nD τ).loc main_arg33) (ix1 j)) (fun j => m ((c.tc : Thread nD τ).loc main_arg34) (ix1 j)) (fun r j => m ((c.tc : Thread nD τ).loc main_arg35) (ix3 0 r j))

set_option maxHeartbeats 2000000 in
theorem grad : ((concatenate S24x1024 0 [⟨S2x1024, (((launchContents m c) (Proc.devRef .tc main_arg9)) : (⟨S2x1024, .f32⟩ : BufTy).Contents (Elt Ideal))⟩, ⟨S2x1024, (((launchContents m c) (Proc.devRef .tc main_arg10)) : (⟨S2x1024, .f32⟩ : BufTy).Contents (Elt Ideal))⟩, ⟨S2x1024, (((launchContents m c) (Proc.devRef .tc main_arg11)) : (⟨S2x1024, .f32⟩ : BufTy).Contents (Elt Ideal))⟩, ⟨S2x1024, (((launchContents m c) (Proc.devRef .tc main_arg12)) : (⟨S2x1024, .f32⟩ : BufTy).Contents (Elt Ideal))⟩, ⟨S2x1024, (((launchContents m c) (Proc.devRef .tc main_arg13)) : (⟨S2x1024, .f32⟩ : BufTy).Contents (Elt Ideal))⟩, ⟨S2x1024, (((launchContents m c) (Proc.devRef .tc main_arg14)) : (⟨S2x1024, .f32⟩ : BufTy).Contents (Elt Ideal))⟩, ⟨S1x1024, ((shapeCast _ ((launchContents m c) (Proc.devRef .tc main_arg15)) shapeCasts_S1024_S1x1024) : (⟨S1x1024, .f32⟩ : BufTy).Contents (Elt Ideal))⟩, ⟨S3x1024, ((broadcastInDim S3x1024 ![] bcast_S_S3x1024 (constant (F := Ideal) S_ .f32 0x00000000#32)) : (⟨S3x1024, .f32⟩ : BufTy).Contents (Elt Ideal))⟩, ⟨S1x1024, ((shapeCast _ (concatenate S1024 0 [⟨S16, ((launchContents m c) (Proc.devRef .tc main_arg16))⟩, ⟨S1008, (broadcastInDim S1008 ![] bcast_S_S1008 (constant (F := Ideal) S_ .f32 0x00000000#32))⟩] concatenates_S16_S1008_S1024_d0) shapeCasts_S1024_S1x1024) : (⟨S1x1024, .f32⟩ : BufTy).Contents (Elt Ideal))⟩, ⟨S3x1024, ((concatenate S3x1024 1 [⟨S3x256, (shapeCast _ ((launchContents m c) (Proc.devRef .tc main_arg17)) shapeCasts_S1x3x256_S3x256)⟩, ⟨S3x768, (broadcastInDim S3x768 ![] bcast_S_S3x768 (constant (F := Ideal) S_ .f32 0x00000000#32))⟩] concatenates_S3x256_S3x768_S3x1024_d1) : (⟨S3x1024, .f32⟩ : BufTy).Contents (Elt Ideal))⟩, ⟨S4x1024, ((broadcastInDim S4x1024 ![] bcast_S_S4x1024 (constant (F := Ideal) S_ .f32 0x00000000#32)) : (⟨S4x1024, .f32⟩ : BufTy).Contents (Elt Ideal))⟩] concatenates_S2x1024_S2x1024_S2x1024_S2x1024_S2x1024_S2x1024_S1x1024_S3x1024_S1x1024_S3x1024_S4x1024_S24x1024_d0 : (⟨S24x1024, .f32⟩ : BufTy).Contents (Elt Ideal)) : Mat 24 1024) = fG m c := by
  refine Eq.trans (b := PK (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (fun j => m ((c.tc : Thread nD τ).loc main_arg15) (ix1 j)) (fun j => m ((c.tc : Thread nD τ).loc main_arg16) (ix1 j)) (fun r j => m ((c.tc : Thread nD τ).loc main_arg17) (ix3 0 r j))) ?_ rfl
  funext i
  pointwise [PK, GD, GM, GV, uD, uM, uV, res_main_v4, res_main_v10, res_main_v28, res_main_v34, res_main_v52, res_main_v58, res_main_v76, res_main_v82, res_main_v100, res_main_v106, res_main_v124, res_main_v130, res_main_v148, res_main_v154, res_main_v172, res_main_v178, res_main_v196, res_main_v202, res_main_v235]
  all_goals rfl

set_option maxHeartbeats 2000000 in
theorem mom : ((concatenate S24x1024 0 [⟨S2x1024, ((res_main_v4 (launchContents m c)) : (⟨S2x1024, .f32⟩ : BufTy).Contents (Elt Ideal))⟩, ⟨S2x1024, ((res_main_v28 (launchContents m c)) : (⟨S2x1024, .f32⟩ : BufTy).Contents (Elt Ideal))⟩, ⟨S2x1024, ((res_main_v52 (launchContents m c)) : (⟨S2x1024, .f32⟩ : BufTy).Contents (Elt Ideal))⟩, ⟨S2x1024, ((res_main_v76 (launchContents m c)) : (⟨S2x1024, .f32⟩ : BufTy).Contents (Elt Ideal))⟩, ⟨S2x1024, ((res_main_v100 (launchContents m c)) : (⟨S2x1024, .f32⟩ : BufTy).Contents (Elt Ideal))⟩, ⟨S2x1024, ((res_main_v124 (launchContents m c)) : (⟨S2x1024, .f32⟩ : BufTy).Contents (Elt Ideal))⟩, ⟨S1x1024, ((shapeCast _ (res_main_v148 (launchContents m c)) shapeCasts_S1024_S1x1024) : (⟨S1x1024, .f32⟩ : BufTy).Contents (Elt Ideal))⟩, ⟨S3x1024, ((broadcastInDim S3x1024 ![] bcast_S_S3x1024 (constant (F := Ideal) S_ .f32 0x00000000#32)) : (⟨S3x1024, .f32⟩ : BufTy).Contents (Elt Ideal))⟩, ⟨S1x1024, ((shapeCast _ (concatenate S1024 0 [⟨S16, (res_main_v172 (launchContents m c))⟩, ⟨S1008, (broadcastInDim S1008 ![] bcast_S_S1008 (constant (F := Ideal) S_ .f32 0x00000000#32))⟩] concatenates_S16_S1008_S1024_d0) shapeCasts_S1024_S1x1024) : (⟨S1x1024, .f32⟩ : BufTy).Contents (Elt Ideal))⟩, ⟨S3x1024, ((concatenate S3x1024 1 [⟨S3x256, (shapeCast _ (res_main_v196 (launchContents m c)) shapeCasts_S1x3x256_S3x256)⟩, ⟨S3x768, (broadcastInDim S3x768 ![] bcast_S_S3x768 (constant (F := Ideal) S_ .f32 0x00000000#32))⟩] concatenates_S3x256_S3x768_S3x1024_d1) : (⟨S3x1024, .f32⟩ : BufTy).Contents (Elt Ideal))⟩, ⟨S4x1024, ((broadcastInDim S4x1024 ![] bcast_S_S4x1024 (constant (F := Ideal) S_ .f32 0x00000000#32)) : (⟨S4x1024, .f32⟩ : BufTy).Contents (Elt Ideal))⟩] concatenates_S2x1024_S2x1024_S2x1024_S2x1024_S2x1024_S2x1024_S1x1024_S3x1024_S1x1024_S3x1024_S4x1024_S24x1024_d0 : (⟨S24x1024, .f32⟩ : BufTy).Contents (Elt Ideal)) : Mat 24 1024) = GM (fG m c) (fM m c) := by
  refine Eq.trans (b := PK (GM (m ((c.tc : Thread nD τ).loc main_arg9)) (m ((c.tc : Thread nD τ).loc main_arg18))) (GM (m ((c.tc : Thread nD τ).loc main_arg10)) (m ((c.tc : Thread nD τ).loc main_arg19))) (GM (m ((c.tc : Thread nD τ).loc main_arg11)) (m ((c.tc : Thread nD τ).loc main_arg20))) (GM (m ((c.tc : Thread nD τ).loc main_arg12)) (m ((c.tc : Thread nD τ).loc main_arg21))) (GM (m ((c.tc : Thread nD τ).loc main_arg13)) (m ((c.tc : Thread nD τ).loc main_arg22))) (GM (m ((c.tc : Thread nD τ).loc main_arg14)) (m ((c.tc : Thread nD τ).loc main_arg23))) (fun j => uM (m ((c.tc : Thread nD τ).loc main_arg15) (ix1 j)) (m ((c.tc : Thread nD τ).loc main_arg24) (ix1 j))) (fun j => uM (m ((c.tc : Thread nD τ).loc main_arg16) (ix1 j)) (m ((c.tc : Thread nD τ).loc main_arg25) (ix1 j))) (fun r j => uM (m ((c.tc : Thread nD τ).loc main_arg17) (ix3 0 r j)) (m ((c.tc : Thread nD τ).loc main_arg26) (ix3 0 r j)))) ?_ (GM_PK _ _ _ _ _ _ _ _ _ _ _ _ _ _ _ _ _ _ ).symm
  funext i
  pointwise [PK, GD, GM, GV, uD, uM, uV, res_main_v4, res_main_v10, res_main_v28, res_main_v34, res_main_v52, res_main_v58, res_main_v76, res_main_v82, res_main_v100, res_main_v106, res_main_v124, res_main_v130, res_main_v148, res_main_v154, res_main_v172, res_main_v178, res_main_v196, res_main_v202, res_main_v235]
  all_goals rfl

set_option maxHeartbeats 2000000 in
theorem sq : ((concatenate S24x1024 0 [⟨S2x1024, ((res_main_v10 (launchContents m c)) : (⟨S2x1024, .f32⟩ : BufTy).Contents (Elt Ideal))⟩, ⟨S2x1024, ((res_main_v34 (launchContents m c)) : (⟨S2x1024, .f32⟩ : BufTy).Contents (Elt Ideal))⟩, ⟨S2x1024, ((res_main_v58 (launchContents m c)) : (⟨S2x1024, .f32⟩ : BufTy).Contents (Elt Ideal))⟩, ⟨S2x1024, ((res_main_v82 (launchContents m c)) : (⟨S2x1024, .f32⟩ : BufTy).Contents (Elt Ideal))⟩, ⟨S2x1024, ((res_main_v106 (launchContents m c)) : (⟨S2x1024, .f32⟩ : BufTy).Contents (Elt Ideal))⟩, ⟨S2x1024, ((res_main_v130 (launchContents m c)) : (⟨S2x1024, .f32⟩ : BufTy).Contents (Elt Ideal))⟩, ⟨S1x1024, ((shapeCast _ (res_main_v154 (launchContents m c)) shapeCasts_S1024_S1x1024) : (⟨S1x1024, .f32⟩ : BufTy).Contents (Elt Ideal))⟩, ⟨S3x1024, ((broadcastInDim S3x1024 ![] bcast_S_S3x1024 (constant (F := Ideal) S_ .f32 0x00000000#32)) : (⟨S3x1024, .f32⟩ : BufTy).Contents (Elt Ideal))⟩, ⟨S1x1024, ((shapeCast _ (concatenate S1024 0 [⟨S16, (res_main_v178 (launchContents m c))⟩, ⟨S1008, (broadcastInDim S1008 ![] bcast_S_S1008 (constant (F := Ideal) S_ .f32 0x00000000#32))⟩] concatenates_S16_S1008_S1024_d0) shapeCasts_S1024_S1x1024) : (⟨S1x1024, .f32⟩ : BufTy).Contents (Elt Ideal))⟩, ⟨S3x1024, ((concatenate S3x1024 1 [⟨S3x256, (shapeCast _ (res_main_v202 (launchContents m c)) shapeCasts_S1x3x256_S3x256)⟩, ⟨S3x768, (broadcastInDim S3x768 ![] bcast_S_S3x768 (constant (F := Ideal) S_ .f32 0x00000000#32))⟩] concatenates_S3x256_S3x768_S3x1024_d1) : (⟨S3x1024, .f32⟩ : BufTy).Contents (Elt Ideal))⟩, ⟨S4x1024, ((broadcastInDim S4x1024 ![] bcast_S_S4x1024 (constant (F := Ideal) S_ .f32 0x00000000#32)) : (⟨S4x1024, .f32⟩ : BufTy).Contents (Elt Ideal))⟩] concatenates_S2x1024_S2x1024_S2x1024_S2x1024_S2x1024_S2x1024_S1x1024_S3x1024_S1x1024_S3x1024_S4x1024_S24x1024_d0 : (⟨S24x1024, .f32⟩ : BufTy).Contents (Elt Ideal)) : Mat 24 1024) = GV (fG m c) (fV m c) := by
  refine Eq.trans (b := PK (GV (m ((c.tc : Thread nD τ).loc main_arg9)) (m ((c.tc : Thread nD τ).loc main_arg27))) (GV (m ((c.tc : Thread nD τ).loc main_arg10)) (m ((c.tc : Thread nD τ).loc main_arg28))) (GV (m ((c.tc : Thread nD τ).loc main_arg11)) (m ((c.tc : Thread nD τ).loc main_arg29))) (GV (m ((c.tc : Thread nD τ).loc main_arg12)) (m ((c.tc : Thread nD τ).loc main_arg30))) (GV (m ((c.tc : Thread nD τ).loc main_arg13)) (m ((c.tc : Thread nD τ).loc main_arg31))) (GV (m ((c.tc : Thread nD τ).loc main_arg14)) (m ((c.tc : Thread nD τ).loc main_arg32))) (fun j => uV (m ((c.tc : Thread nD τ).loc main_arg15) (ix1 j)) (m ((c.tc : Thread nD τ).loc main_arg33) (ix1 j))) (fun j => uV (m ((c.tc : Thread nD τ).loc main_arg16) (ix1 j)) (m ((c.tc : Thread nD τ).loc main_arg34) (ix1 j))) (fun r j => uV (m ((c.tc : Thread nD τ).loc main_arg17) (ix3 0 r j)) (m ((c.tc : Thread nD τ).loc main_arg35) (ix3 0 r j)))) ?_ (GV_PK _ _ _ _ _ _ _ _ _ _ _ _ _ _ _ _ _ _ ).symm
  funext i
  pointwise [PK, GD, GM, GV, uD, uM, uV, res_main_v4, res_main_v10, res_main_v28, res_main_v34, res_main_v52, res_main_v58, res_main_v76, res_main_v82, res_main_v100, res_main_v106, res_main_v124, res_main_v130, res_main_v148, res_main_v154, res_main_v172, res_main_v178, res_main_v196, res_main_v202, res_main_v235]
  all_goals rfl

end Cert.Reference13Ideal.Adam

end
-- ==== Proof.Adam13Step.lean ====
/- The reference of the gains, the taps and the forget bias: the step. -/
module

public import proofs.«01_k».proof.Proof.Adam13Ref

@[expose] public section

set_option maxRecDepth 16384

noncomputable section

open Idealize.ShloMosaic Idealize.ShloMosaic.TcCoe Idealize.SL.Sem Idealize.ShloMosaic.StableHlo
open Idealize.ShloMosaic.Pipeline (Dat)

namespace Cert.Reference13Ideal.Adam

open Cert.Reference13Ideal Cert.Reference13Ideal.Value Facts₀ Facts Cert.Ffn Cert.Adam

variable (m : (ℓ : Loc nD τ sig) → Buf (Elt Ideal) ℓ) (c : Dev nD)

set_option maxHeartbeats 2000000 in
theorem step : (res_main_v235 (launchContents m c) : Mat 24 1024) = GD (fW m c) (fG m c) (fM m c) (fV m c) := by
  refine Eq.trans (b := PK (GD (m ((c.tc : Thread nD τ).loc main_arg0)) (m ((c.tc : Thread nD τ).loc main_arg9)) (m ((c.tc : Thread nD τ).loc main_arg18)) (m ((c.tc : Thread nD τ).loc main_arg27))) (GD (m ((c.tc : Thread nD τ).loc main_arg1)) (m ((c.tc : Thread nD τ).loc main_arg10)) (m ((c.tc : Thread nD τ).loc main_arg19)) (m ((c.tc : Thread nD τ).loc main_arg28))) (GD (m ((c.tc : Thread nD τ).loc main_arg2)) (m ((c.tc : Thread nD τ).loc main_arg11)) (m ((c.tc : Thread nD τ).loc main_arg20)) (m ((c.tc : Thread nD τ).loc main_arg29))) (GD (m ((c.tc : Thread nD τ).loc main_arg3)) (m ((c.tc : Thread nD τ).loc main_arg12)) (m ((c.tc : Thread nD τ).loc main_arg21)) (m ((c.tc : Thread nD τ).loc main_arg30))) (GD (m ((c.tc : Thread nD τ).loc main_arg4)) (m ((c.tc : Thread nD τ).loc main_arg13)) (m ((c.tc : Thread nD τ).loc main_arg22)) (m ((c.tc : Thread nD τ).loc main_arg31))) (GD (m ((c.tc : Thread nD τ).loc main_arg5)) (m ((c.tc : Thread nD τ).loc main_arg14)) (m ((c.tc : Thread nD τ).loc main_arg23)) (m ((c.tc : Thread nD τ).loc main_arg32))) (fun j => uD (m ((c.tc : Thread nD τ).loc main_arg6) (ix1 j)) (m ((c.tc : Thread nD τ).loc main_arg15) (ix1 j)) (m ((c.tc : Thread nD τ).loc main_arg24) (ix1 j)) (m ((c.tc : Thread nD τ).loc main_arg33) (ix1 j))) (fun j => uD (m ((c.tc : Thread nD τ).loc main_arg7) (ix1 j)) (m ((c.tc : Thread nD τ).loc main_arg16) (ix1 j)) (m ((c.tc : Thread nD τ).loc main_arg25) (ix1 j)) (m ((c.tc : Thread nD τ).loc main_arg34) (ix1 j))) (fun r j => uD (m ((c.tc : Thread nD τ).loc main_arg8) (ix3 0 r j)) (m ((c.tc : Thread nD τ).loc main_arg17) (ix3 0 r j)) (m ((c.tc : Thread nD τ).loc main_arg26) (ix3 0 r j)) (m ((c.tc : Thread nD τ).loc main_arg35) (ix3 0 r j)))) ?_ (GD_PK _ _ _ _ _ _ _ _ _ _ _ _ _ _ _ _ _ _ _ _ _ _ _ _ _ _ _ _ _ _ _ _ _ _ _ _ ).symm
  funext i
  pointwise [PK, GD, GM, GV, uD, uM, uV, res_main_v4, res_main_v10, res_main_v28, res_main_v34, res_main_v52, res_main_v58, res_main_v76, res_main_v82, res_main_v100, res_main_v106, res_main_v124, res_main_v130, res_main_v148, res_main_v154, res_main_v172, res_main_v178, res_main_v196, res_main_v202, res_main_v235]
  all_goals rfl

end Cert.Reference13Ideal.Adam

end
-- ==== Proof.Adam13.lean ====
/- The optimiser's update of the gains, the taps and the forget bias: the launch on the packed rows and the reference on each weight compute the same update. -/
module

public import proofs.«01_k».proof.Proof.Adam13Host
public import proofs.«01_k».proof.Proof.Adam13Launch
public import proofs.«01_k».proof.Proof.Adam13Step
public import proofs.«01_k».proof.Defs

@[expose] public section

set_option maxRecDepth 16384

noncomputable section

open Idealize.ShloMosaic Idealize.ShloMosaic.TcCoe Idealize.SL.Sem Idealize.ShloMosaic.StableHlo
open Idealize.ShloMosaic.Pipeline (Dat)

namespace Cert.Adam13

open Cert.Kernel13Ideal.Adam Cert.Adam

set_option maxHeartbeats 4000000 in
/-- The four results agree with the reference's. -/
theorem algebraic : Cert.algebraic_Kernel13Ideal_Reference13Ideal (hKernel13Ideal := Cert.Kernel13Ideal.Gen.facts) (hReference13Ideal := Cert.Reference13Ideal.Gen.facts) := by
  intro m g m' g' _ hag
  refine ⟨fun c => fG m c, fun c => GD (fW m c) (fG m c) (fM m c) (fV m c), fun c => GM (fG m c) (fM m c), fun c => GV (fG m c) (fV m c),
    (θ_run _ _ _).mono (fun r hr c => ?_) (Cert.Kernel13Ideal.Value.run_blocks (F := Ideal) m g),
    (θ_run _ _ _).mono (fun r hr c => ?_) (Cert.Reference13Ideal.Value.run (F := Ideal) m' g')⟩
  · obtain ⟨r0, r1, r2, r3, hargs⟩ := hr c
    refine ⟨r0.trans ?_, r1.trans ?_, r2.trans ?_, r3.trans ?_, hargs⟩
    · exact (finalGrad m c).trans (inG m c)
    · rw [finalStep m c, inW m c, inG m c, inM m c, inV m c]
    · rw [finalMom m c, inG m c, inM m c]
    · rw [finalSq m c, inG m c, inV m c]
  · obtain ⟨r0, r1, r2, r3, hargs⟩ := hr c
    obtain ⟨a0, a1, a2, a3, a4, a5, a6, a7, a8, a9, a10, a11, a12, a13, a14, a15, a16, a17, a18, a19, a20, a21, a22, a23, a24, a25, a26, a27, a28, a29, a30, a31, a32, a33, a34, a35⟩ := hag c
    have eW : Cert.Reference13Ideal.Adam.fW m' c = fW m c := by
      delta Cert.Reference13Ideal.Adam.fW; rw [a0, a1, a2, a3, a4, a5, a6, a7, a8]
    have eG : Cert.Reference13Ideal.Adam.fG m' c = fG m c := by
      delta Cert.Reference13Ideal.Adam.fG; rw [a9, a10, a11, a12, a13, a14, a15, a16, a17]
    have eM : Cert.Reference13Ideal.Adam.fM m' c = fM m c := by
      delta Cert.Reference13Ideal.Adam.fM; rw [a18, a19, a20, a21, a22, a23, a24, a25, a26]
    have eV : Cert.Reference13Ideal.Adam.fV m' c = fV m c := by
      delta Cert.Reference13Ideal.Adam.fV; rw [a27, a28, a29, a30, a31, a32, a33, a34, a35]
    refine ⟨r0.trans ?_, r1.trans ?_, r2.trans ?_, r3.trans ?_, hargs⟩
    · exact (Cert.Reference13Ideal.Adam.grad m' c).trans eG
    · exact (Cert.Reference13Ideal.Adam.step m' c).trans (by rw [eW, eG, eM, eV])
    · exact (Cert.Reference13Ideal.Adam.mom m' c).trans (by rw [eG, eM])
    · exact (Cert.Reference13Ideal.Adam.sq m' c).trans (by rw [eG, eV])

end Cert.Adam13

end
-- ==== Proof.lean ====
/- The claims about the feed-forward sublayer, the short convolution and the projections around the mixing branches, put together. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel3Ideal.Value
public import proofs.«01_k».proof.Proof.Gen.Kernel5Ideal.Value
public import proofs.«01_k».proof.Proof.Gen.Pre_finite
public import proofs.«01_k».proof.Proof.Gen.Pre_finite2
public import proofs.«01_k».proof.Proof.Gen.Pre_finite4
public import proofs.«01_k».proof.Proof.Gen.Pre_finite6
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel7Ideal.Value
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel8Ideal.Value
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel9Ideal.Value
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel10Ideal.Value
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel11Ideal.Value
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel12Ideal.Value
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel13Ideal.Value
public import proofs.«01_k».proof.Proof.FfnClaim
public import proofs.«01_k».proof.Proof.ConvInClaim
public import proofs.«01_k».proof.Proof.QgInClaim
public import proofs.«01_k».proof.Proof.MixOutClaim
public import proofs.«01_k».proof.Proof.ConvFwdClaim
public import proofs.«01_k».proof.Proof.ConvBwdClaim
public import proofs.«01_k».proof.Proof.Adam7
public import proofs.«01_k».proof.Proof.Adam8
public import proofs.«01_k».proof.Proof.Adam9
public import proofs.«01_k».proof.Proof.Adam10
public import proofs.«01_k».proof.Proof.Adam11
public import proofs.«01_k».proof.Proof.Adam12
public import proofs.«01_k».proof.Proof.Adam13
public import Idealize.ShloMosaic.Lib.Quiescent

@[expose] public section

noncomputable section

namespace Cert.Proof

open Idealize.ShloMosaic Idealize.ShloMosaic.TcCoe Idealize.SL.Sem

/-- The reference ReferenceIdeal runs, leaves its arguments alone, and declares no semaphore. -/
theorem frame_ReferenceIdeal (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0) ∧
      r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1) ∧
      r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2) ∧
      r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3) ∧
      r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4) ∧
      r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run _ _ _).mono (fun r h => ⟨fun c => (h c).2.2.2.2.2.2, sem_eq_zero_of_no_sems rfl r.2⟩) (Cert.ReferenceIdeal.Value.run (F := Ideal) m g)

/-- The reference Reference2Ideal runs, leaves its arguments alone, and declares no semaphore. -/
theorem frame_Reference2Ideal (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0) ∧
      r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1) ∧
      r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2) ∧
      r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3) ∧
      r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0) :=
  (θ_run _ _ _).mono (fun r h => ⟨fun c => (h c).2.2.2.2, sem_eq_zero_of_no_sems rfl r.2⟩) (Cert.Reference2Ideal.Value.run (F := Ideal) m g)

/-- The reference Reference3Ideal runs, leaves its arguments alone, and declares no semaphore. -/
theorem frame_Reference3Ideal (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0) ∧
      r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1) ∧
      r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0) :=
  (θ_run _ _ _).mono (fun r h => ⟨fun c => (h c).2.2.2.2, sem_eq_zero_of_no_sems rfl r.2⟩) (Cert.Reference3Ideal.Value.run (F := Ideal) m g)

/-- The reference Reference4Ideal runs, leaves its arguments alone, and declares no semaphore. -/
theorem frame_Reference4Ideal (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0) ∧
      r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1) ∧
      r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2) ∧
      r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3) ∧
      r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0) :=
  (θ_run _ _ _).mono (fun r h => ⟨fun c => (h c).2.2.2.2, sem_eq_zero_of_no_sems rfl r.2⟩) (Cert.Reference4Ideal.Value.run (F := Ideal) m g)

/-- The reference Reference5Ideal runs, leaves its arguments alone, and declares no semaphore. -/
theorem frame_Reference5Ideal (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0) ∧
      r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0) :=
  (θ_run _ _ _).mono (fun r h => ⟨fun c => (h c).2, sem_eq_zero_of_no_sems rfl r.2⟩) (Cert.Reference5Ideal.Value.run (F := Ideal) m g)

/-- The reference Reference6Ideal runs, leaves its arguments alone, and declares no semaphore. -/
theorem frame_Reference6Ideal (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0) ∧
      r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1) ∧
      r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2) ∧
      r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3) ∧
      r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0) :=
  (θ_run _ _ _).mono (fun r h => ⟨fun c => (h c).2.2.2.2, sem_eq_zero_of_no_sems rfl r.2⟩) (Cert.Reference6Ideal.Value.run (F := Ideal) m g)

/-- The reference Reference7Ideal runs, leaves its arguments alone, and declares no semaphore. -/
theorem frame_Reference7Ideal (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0) ∧
      r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1) ∧
      r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2) ∧
      r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0) :=
  (θ_run _ _ _).mono (fun r h => ⟨fun c => (h c).2.2.2.2, sem_eq_zero_of_no_sems rfl r.2⟩) (Cert.Reference7Ideal.Value.run (F := Ideal) m g)

/-- The reference Reference8Ideal runs, leaves its arguments alone, and declares no semaphore. -/
theorem frame_Reference8Ideal (m : (ℓ : Loc Cert.Reference8Ideal.nD Cert.Reference8Ideal.τ Cert.Reference8Ideal.sig) → Buf (Elt Ideal) ℓ) (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0) ∧
      r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1) ∧
      r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2) ∧
      r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0) :=
  (θ_run _ _ _).mono (fun r h => ⟨fun c => (h c).2.2.2.2, sem_eq_zero_of_no_sems rfl r.2⟩) (Cert.Reference8Ideal.Value.run (F := Ideal) m g)

/-- The reference Reference9Ideal runs, leaves its arguments alone, and declares no semaphore. -/
theorem frame_Reference9Ideal (m : (ℓ : Loc Cert.Reference9Ideal.nD Cert.Reference9Ideal.τ Cert.Reference9Ideal.sig) → Buf (Elt Ideal) ℓ) (g : Dev Cert.Reference9Ideal.nD → PrngReg) :
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0) ∧
      r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1) ∧
      r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2) ∧
      r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0) :=
  (θ_run _ _ _).mono (fun r h => ⟨fun c => (h c).2.2.2.2, sem_eq_zero_of_no_sems rfl r.2⟩) (Cert.Reference9Ideal.Value.run (F := Ideal) m g)

/-- The reference Reference10Ideal runs, leaves its arguments alone, and declares no semaphore. -/
theorem frame_Reference10Ideal (m : (ℓ : Loc Cert.Reference10Ideal.nD Cert.Reference10Ideal.τ Cert.Reference10Ideal.sig) → Buf (Elt Ideal) ℓ) (g : Dev Cert.Reference10Ideal.nD → PrngReg) :
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0) ∧
      r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1) ∧
      r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2) ∧
      r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0) :=
  (θ_run _ _ _).mono (fun r h => ⟨fun c => (h c).2.2.2.2, sem_eq_zero_of_no_sems rfl r.2⟩) (Cert.Reference10Ideal.Value.run (F := Ideal) m g)

/-- The reference Reference11Ideal runs, leaves its arguments alone, and declares no semaphore. -/
theorem frame_Reference11Ideal (m : (ℓ : Loc Cert.Reference11Ideal.nD Cert.Reference11Ideal.τ Cert.Reference11Ideal.sig) → Buf (Elt Ideal) ℓ) (g : Dev Cert.Reference11Ideal.nD → PrngReg) :
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0) ∧
      r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1) ∧
      r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2) ∧
      r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0) :=
  (θ_run _ _ _).mono (fun r h => ⟨fun c => (h c).2.2.2.2, sem_eq_zero_of_no_sems rfl r.2⟩) (Cert.Reference11Ideal.Value.run (F := Ideal) m g)

/-- The reference Reference12Ideal runs, leaves its arguments alone, and declares no semaphore. -/
theorem frame_Reference12Ideal (m : (ℓ : Loc Cert.Reference12Ideal.nD Cert.Reference12Ideal.τ Cert.Reference12Ideal.sig) → Buf (Elt Ideal) ℓ) (g : Dev Cert.Reference12Ideal.nD → PrngReg) :
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0) ∧
      r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1) ∧
      r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2) ∧
      r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0) :=
  (θ_run _ _ _).mono (fun r h => ⟨fun c => (h c).2.2.2.2, sem_eq_zero_of_no_sems rfl r.2⟩) (Cert.Reference12Ideal.Value.run (F := Ideal) m g)

/-- The reference Reference13Ideal runs, leaves its arguments alone, and declares no semaphore. -/
theorem frame_Reference13Ideal (m : (ℓ : Loc Cert.Reference13Ideal.nD Cert.Reference13Ideal.τ Cert.Reference13Ideal.sig) → Buf (Elt Ideal) ℓ) (g : Dev Cert.Reference13Ideal.nD → PrngReg) :
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0) ∧
      r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1) ∧
      r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2) ∧
      r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3) ∧
      r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4) ∧
      r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5) ∧
      r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6) ∧
      r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7) ∧
      r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8) ∧
      r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9) ∧
      r.2.mem ((c.tc : Thread Cert.Reference13Ideal.nD Cert.Reference13Ideal.τ).loc Cert.Reference13Ideal.main_arg10) = m ((c.tc : Thread Cert.Reference13Ideal.nD Cert.Reference13Ideal.τ).loc Cert.Reference13Ideal.main_arg10) ∧
      r.2.mem ((c.tc : Thread Cert.Reference13Ideal.nD Cert.Reference13Ideal.τ).loc Cert.Reference13Ideal.main_arg11) = m ((c.tc : Thread Cert.Reference13Ideal.nD Cert.Reference13Ideal.τ).loc Cert.Reference13Ideal.main_arg11) ∧
      r.2.mem ((c.tc : Thread Cert.Reference13Ideal.nD Cert.Reference13Ideal.τ).loc Cert.Reference13Ideal.main_arg12) = m ((c.tc : Thread Cert.Reference13Ideal.nD Cert.Reference13Ideal.τ).loc Cert.Reference13Ideal.main_arg12) ∧
      r.2.mem ((c.tc : Thread Cert.Reference13Ideal.nD Cert.Reference13Ideal.τ).loc Cert.Reference13Ideal.main_arg13) = m ((c.tc : Thread Cert.Reference13Ideal.nD Cert.Reference13Ideal.τ).loc Cert.Reference13Ideal.main_arg13) ∧
      r.2.mem ((c.tc : Thread Cert.Reference13Ideal.nD Cert.Reference13Ideal.τ).loc Cert.Reference13Ideal.main_arg14) = m ((c.tc : Thread Cert.Reference13Ideal.nD Cert.Reference13Ideal.τ).loc Cert.Reference13Ideal.main_arg14) ∧
      r.2.mem ((c.tc : Thread Cert.Reference13Ideal.nD Cert.Reference13Ideal.τ).loc Cert.Reference13Ideal.main_arg15) = m ((c.tc : Thread Cert.Reference13Ideal.nD Cert.Reference13Ideal.τ).loc Cert.Reference13Ideal.main_arg15) ∧
      r.2.mem ((c.tc : Thread Cert.Reference13Ideal.nD Cert.Reference13Ideal.τ).loc Cert.Reference13Ideal.main_arg16) = m ((c.tc : Thread Cert.Reference13Ideal.nD Cert.Reference13Ideal.τ).loc Cert.Reference13Ideal.main_arg16) ∧
      r.2.mem ((c.tc : Thread Cert.Reference13Ideal.nD Cert.Reference13Ideal.τ).loc Cert.Reference13Ideal.main_arg17) = m ((c.tc : Thread Cert.Reference13Ideal.nD Cert.Reference13Ideal.τ).loc Cert.Reference13Ideal.main_arg17) ∧
      r.2.mem ((c.tc : Thread Cert.Reference13Ideal.nD Cert.Reference13Ideal.τ).loc Cert.Reference13Ideal.main_arg18) = m ((c.tc : Thread Cert.Reference13Ideal.nD Cert.Reference13Ideal.τ).loc Cert.Reference13Ideal.main_arg18) ∧
      r.2.mem ((c.tc : Thread Cert.Reference13Ideal.nD Cert.Reference13Ideal.τ).loc Cert.Reference13Ideal.main_arg19) = m ((c.tc : Thread Cert.Reference13Ideal.nD Cert.Reference13Ideal.τ).loc Cert.Reference13Ideal.main_arg19) ∧
      r.2.mem ((c.tc : Thread Cert.Reference13Ideal.nD Cert.Reference13Ideal.τ).loc Cert.Reference13Ideal.main_arg20) = m ((c.tc : Thread Cert.Reference13Ideal.nD Cert.Reference13Ideal.τ).loc Cert.Reference13Ideal.main_arg20) ∧
      r.2.mem ((c.tc : Thread Cert.Reference13Ideal.nD Cert.Reference13Ideal.τ).loc Cert.Reference13Ideal.main_arg21) = m ((c.tc : Thread Cert.Reference13Ideal.nD Cert.Reference13Ideal.τ).loc Cert.Reference13Ideal.main_arg21) ∧
      r.2.mem ((c.tc : Thread Cert.Reference13Ideal.nD Cert.Reference13Ideal.τ).loc Cert.Reference13Ideal.main_arg22) = m ((c.tc : Thread Cert.Reference13Ideal.nD Cert.Reference13Ideal.τ).loc Cert.Reference13Ideal.main_arg22) ∧
      r.2.mem ((c.tc : Thread Cert.Reference13Ideal.nD Cert.Reference13Ideal.τ).loc Cert.Reference13Ideal.main_arg23) = m ((c.tc : Thread Cert.Reference13Ideal.nD Cert.Reference13Ideal.τ).loc Cert.Reference13Ideal.main_arg23) ∧
      r.2.mem ((c.tc : Thread Cert.Reference13Ideal.nD Cert.Reference13Ideal.τ).loc Cert.Reference13Ideal.main_arg24) = m ((c.tc : Thread Cert.Reference13Ideal.nD Cert.Reference13Ideal.τ).loc Cert.Reference13Ideal.main_arg24) ∧
      r.2.mem ((c.tc : Thread Cert.Reference13Ideal.nD Cert.Reference13Ideal.τ).loc Cert.Reference13Ideal.main_arg25) = m ((c.tc : Thread Cert.Reference13Ideal.nD Cert.Reference13Ideal.τ).loc Cert.Reference13Ideal.main_arg25) ∧
      r.2.mem ((c.tc : Thread Cert.Reference13Ideal.nD Cert.Reference13Ideal.τ).loc Cert.Reference13Ideal.main_arg26) = m ((c.tc : Thread Cert.Reference13Ideal.nD Cert.Reference13Ideal.τ).loc Cert.Reference13Ideal.main_arg26) ∧
      r.2.mem ((c.tc : Thread Cert.Reference13Ideal.nD Cert.Reference13Ideal.τ).loc Cert.Reference13Ideal.main_arg27) = m ((c.tc : Thread Cert.Reference13Ideal.nD Cert.Reference13Ideal.τ).loc Cert.Reference13Ideal.main_arg27) ∧
      r.2.mem ((c.tc : Thread Cert.Reference13Ideal.nD Cert.Reference13Ideal.τ).loc Cert.Reference13Ideal.main_arg28) = m ((c.tc : Thread Cert.Reference13Ideal.nD Cert.Reference13Ideal.τ).loc Cert.Reference13Ideal.main_arg28) ∧
      r.2.mem ((c.tc : Thread Cert.Reference13Ideal.nD Cert.Reference13Ideal.τ).loc Cert.Reference13Ideal.main_arg29) = m ((c.tc : Thread Cert.Reference13Ideal.nD Cert.Reference13Ideal.τ).loc Cert.Reference13Ideal.main_arg29) ∧
      r.2.mem ((c.tc : Thread Cert.Reference13Ideal.nD Cert.Reference13Ideal.τ).loc Cert.Reference13Ideal.main_arg30) = m ((c.tc : Thread Cert.Reference13Ideal.nD Cert.Reference13Ideal.τ).loc Cert.Reference13Ideal.main_arg30) ∧
      r.2.mem ((c.tc : Thread Cert.Reference13Ideal.nD Cert.Reference13Ideal.τ).loc Cert.Reference13Ideal.main_arg31) = m ((c.tc : Thread Cert.Reference13Ideal.nD Cert.Reference13Ideal.τ).loc Cert.Reference13Ideal.main_arg31) ∧
      r.2.mem ((c.tc : Thread Cert.Reference13Ideal.nD Cert.Reference13Ideal.τ).loc Cert.Reference13Ideal.main_arg32) = m ((c.tc : Thread Cert.Reference13Ideal.nD Cert.Reference13Ideal.τ).loc Cert.Reference13Ideal.main_arg32) ∧
      r.2.mem ((c.tc : Thread Cert.Reference13Ideal.nD Cert.Reference13Ideal.τ).loc Cert.Reference13Ideal.main_arg33) = m ((c.tc : Thread Cert.Reference13Ideal.nD Cert.Reference13Ideal.τ).loc Cert.Reference13Ideal.main_arg33) ∧
      r.2.mem ((c.tc : Thread Cert.Reference13Ideal.nD Cert.Reference13Ideal.τ).loc Cert.Reference13Ideal.main_arg34) = m ((c.tc : Thread Cert.Reference13Ideal.nD Cert.Reference13Ideal.τ).loc Cert.Reference13Ideal.main_arg34) ∧
      r.2.mem ((c.tc : Thread Cert.Reference13Ideal.nD Cert.Reference13Ideal.τ).loc Cert.Reference13Ideal.main_arg35) = m ((c.tc : Thread Cert.Reference13Ideal.nD Cert.Reference13Ideal.τ).loc Cert.Reference13Ideal.main_arg35))
      ∧ r.2.sem = fun _ => 0) :=
  (θ_run _ _ _).mono (fun r h => ⟨fun c => (h c).2.2.2.2, sem_eq_zero_of_no_sems rfl r.2⟩) (Cert.Reference13Ideal.Value.run (F := Ideal) m g)

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Ffn.pre_facts,
  Cert.Pre_finite2.Gen.facts,
  Cert.Pre_finite4.Gen.facts,
  Cert.Pre_finite6.Gen.facts,
  fun m g _ => Cert.Kernel.Gen.frame m g,
  fun m g _ => Cert.KernelIdeal.Gen.frame m g,
  fun m g _ => Cert.KernelIdeal.Gen.frame m g,
  fun m g _ => frame_ReferenceIdeal m g,
  fun m g _ => frame_ReferenceIdeal m g,
  fun m g _ => Cert.Kernel2.Gen.frame m g,
  fun m g _ => Cert.Kernel2Ideal.Gen.frame m g,
  fun m g _ => Cert.Kernel2Ideal.Gen.frame m g,
  fun m g _ => frame_Reference2Ideal m g,
  fun m g _ => frame_Reference2Ideal m g,
  fun m g _ => Cert.Kernel3.Gen.frame m g,
  fun m g _ => Cert.Kernel3Ideal.Gen.frame m g,
  fun m g _ => frame_Reference3Ideal m g,
  fun m g _ => Cert.Kernel4.Gen.frame m g,
  fun m g _ => Cert.Kernel4Ideal.Gen.frame m g,
  fun m g _ => Cert.Kernel4Ideal.Gen.frame m g,
  fun m g _ => frame_Reference4Ideal m g,
  fun m g _ => frame_Reference4Ideal m g,
  fun m g _ => Cert.Kernel5.Gen.frame m g,
  fun m g _ => Cert.Kernel5Ideal.Gen.frame m g,
  fun m g _ => frame_Reference5Ideal m g,
  fun m g _ => Cert.Kernel6.Gen.frame m g,
  fun m g _ => Cert.Kernel6Ideal.Gen.frame m g,
  fun m g _ => Cert.Kernel6Ideal.Gen.frame m g,
  fun m g _ => frame_Reference6Ideal m g,
  fun m g _ => frame_Reference6Ideal m g,
  fun m g _ => Cert.Kernel7.Gen.frame m g,
  fun m g _ => Cert.Kernel7Ideal.Gen.frame m g,
  fun m g _ => frame_Reference7Ideal m g,
  fun m g _ => Cert.Kernel8.Gen.frame m g,
  fun m g _ => Cert.Kernel8Ideal.Gen.frame m g,
  fun m g _ => frame_Reference8Ideal m g,
  fun m g _ => Cert.Kernel9.Gen.frame m g,
  fun m g _ => Cert.Kernel9Ideal.Gen.frame m g,
  fun m g _ => frame_Reference9Ideal m g,
  fun m g _ => Cert.Kernel10.Gen.frame m g,
  fun m g _ => Cert.Kernel10Ideal.Gen.frame m g,
  fun m g _ => frame_Reference10Ideal m g,
  fun m g _ => Cert.Kernel11.Gen.frame m g,
  fun m g _ => Cert.Kernel11Ideal.Gen.frame m g,
  fun m g _ => frame_Reference11Ideal m g,
  fun m g _ => Cert.Kernel12.Gen.frame m g,
  fun m g _ => Cert.Kernel12Ideal.Gen.frame m g,
  fun m g _ => frame_Reference12Ideal m g,
  fun m g _ => Cert.Kernel13.Gen.frame m g,
  fun m g _ => Cert.Kernel13Ideal.Gen.frame m g,
  fun m g _ => frame_Reference13Ideal m g,
  trivial,
  Cert.Ffn.algebraic,
  trivial,
  Cert.ConvIn.algebraic,
  trivial,
  Cert.ConvBwd.algebraic,
  trivial,
  Cert.MixOut.algebraic,
  trivial,
  Cert.ConvFwd.algebraic,
  trivial,
  Cert.QgIn.algebraic,
  trivial,
  Cert.Adam7.algebraic,
  trivial,
  Cert.Adam8.algebraic,
  trivial,
  Cert.Adam9.algebraic,
  trivial,
  Cert.Adam10.algebraic,
  trivial,
  Cert.Adam11.algebraic,
  trivial,
  Cert.Adam12.algebraic,
  trivial,
  Cert.Adam13.algebraic⟩

end Cert.Proof

end
